-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate [hPre_finite_gate : Cert.Pre_finite_gate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate [hPre_finite_gate : Cert.Pre_finite_gate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_gate [hKernel2Ideal : Cert.Kernel2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_gate [hReference2Ideal : Cert.Reference2Ideal.Facts] [hPre_finite_gate : Cert.Pre_finite_gate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)) (v3 : (c : Dev Cert.KernelIdeal.nD) → Buf (Elt Ideal) ((c.tc : Thread Cert.KernelIdeal.nD Cert.KernelIdeal.τ).loc Cert.KernelIdeal.main_v57_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v57_0) i = v0 c i)
          ∧ (∀ i : (⟨2, ![4096, 1536]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v57_1) i = v1 c i)
          ∧ (∀ i : (⟨2, ![4096, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v57_2) i = v2 c i)
          ∧ (∀ i : (⟨2, ![4096, 1536]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.KernelIdeal.nD Cert.KernelIdeal.τ).loc Cert.KernelIdeal.main_v57_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v79) i = v0 c i)
          ∧ (∀ i : (⟨2, ![4096, 1536]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v83) i = v1 c i)
          ∧ (∀ i : (⟨2, ![4096, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v86) i = v2 c i)
          ∧ (∀ i : (⟨2, ![4096, 1536]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.ReferenceIdeal.nD Cert.ReferenceIdeal.τ).loc Cert.ReferenceIdeal.main_v90) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_on_written_gate_pre_finite_gate [hKernel2Ideal : Cert.Kernel2Ideal.Facts] [hReference2Ideal : Cert.Reference2Ideal.Facts] [hPre_finite_gate : Cert.Pre_finite_gate.Facts] [hOn_written_gate : Cert.On_written_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![4096, 2048]⟩ : Shape).Idx, (Cert.On_written_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 i = 1#1 → r.2.mem ((c.tc : Thread Cert.Kernel2Ideal.nD Cert.Kernel2Ideal.τ).loc Cert.Kernel2Ideal.main_v1_0) i = v0 c i)
          ∧ (∀ i : (⟨2, ![4096, 5632]⟩ : Shape).Idx, (Cert.On_written_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2 i = 1#1 → r.2.mem ((c.tc : Thread Cert.Kernel2Ideal.nD Cert.Kernel2Ideal.τ).loc Cert.Kernel2Ideal.main_v1_1) i = v1 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![4096, 2048]⟩ : Shape).Idx, (Cert.On_written_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 i = 1#1 → r.2.mem ((c.tc : Thread Cert.Reference2Ideal.nD Cert.Reference2Ideal.τ).loc Cert.Reference2Ideal.main_v6) i = v0 c i)
          ∧ (∀ i : (⟨2, ![4096, 5632]⟩ : Shape).Idx, (Cert.On_written_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2 i = 1#1 → r.2.mem ((c.tc : Thread Cert.Reference2Ideal.nD Cert.Reference2Ideal.τ).loc Cert.Reference2Ideal.main_v9) i = v1 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite_gate : Cert.Pre_finite_gate.Facts) (hOn_written : Cert.On_written.Facts) (hOn_written_gate : Cert.On_written_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_gate (hKernel2Ideal := hKernel2Ideal) (hPre_finite_gate := hPre_finite_gate)
    ∧ quiescent_Reference2Ideal (hReference2Ideal := hReference2Ideal)
    ∧ quiescent_Reference2Ideal_pre_finite_gate (hReference2Ideal := hReference2Ideal) (hPre_finite_gate := hPre_finite_gate)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal_on_written_gate_pre_finite_gate (hKernel2Ideal := hKernel2Ideal) (hReference2Ideal := hReference2Ideal) (hPre_finite_gate := hPre_finite_gate) (hOn_written_gate := hOn_written_gate)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== On_written.lean ====
abbrev S2x2048x12x128 : Shape := ⟨4, ![2, 2048, 12, 128]⟩
abbrev S2x2048x12x64 : Shape := ⟨4, ![2, 2048, 12, 64]⟩
abbrev S2x2048x64 : Shape := ⟨3, ![2, 2048, 64]⟩
abbrev S4096x2048 : Shape := ⟨2, ![4096, 2048]⟩
abbrev S4096x3072 : Shape := ⟨2, ![4096, 3072]⟩
abbrev S_ : Shape := ⟨0, ![]⟩
abbrev S4096x1536 : Shape := ⟨2, ![4096, 1536]⟩

class Facts : Prop where
  bcast_S_S4096x3072 : S_.BroadcastsInDim S4096x3072 (![] : Fin 0 → Fin S4096x3072.rank)
  bcast_S_S4096x1536 : S_.BroadcastsInDim S4096x1536 (![] : Fin 0 → Fin S4096x1536.rank)

variable [Facts]

def fn {F : FTy → Type} [FloatOps F] (main_arg0 : FVec F S2x2048x12x128 .f32) (main_arg1 : FVec F S2x2048x12x64 .f32) (main_arg2 : FVec F S2x2048x12x128 .f32) (main_arg3 : FVec F S2x2048x64 .f32) (main_arg4 : FVec F S2x2048x12x128 .f32) (main_arg5 : FVec F S4096x2048 .f32) : IVec S4096x3072 1 × IVec S4096x1536 1 × IVec S4096x3072 1 × IVec S4096x1536 1 :=
  let main_v0 : IVec S4096x3072 32 := iotaInDim S4096x3072 32 1
  let main_c : IVec S_ 32 := constantI S_ 32 1536#32
  let main_v1 : IVec S4096x3072 32 := broadcastInDim S4096x3072 ![] bcast_S_S4096x3072 main_c
  let main_v2 : IVec S4096x3072 1 := cmpi .slt main_v0 main_v1
  let main_c_0 : IVec S_ 1 := constantI S_ 1 1#1
  let main_v3 : IVec S4096x1536 1 := broadcastInDim S4096x1536 ![] bcast_S_S4096x1536 main_c_0
  let main_c_1 : IVec S_ 1 := constantI S_ 1 1#1
  let main_v4 : IVec S4096x3072 1 := broadcastInDim S4096x3072 ![] bcast_S_S4096x3072 main_c_1
  let main_c_2 : IVec S_ 1 := constantI S_ 1 1#1
  let main_v5 : IVec S4096x1536 1 := broadcastInDim S4096x1536 ![] bcast_S_S4096x1536 main_c_2
  (main_v2, main_v3, main_v4, main_v5)
-- ==== On_written_gate.lean ====
abbrev S4096x1024 : Shape := ⟨2, ![4096, 1024]⟩
abbrev S2048x1024 : Shape := ⟨2, ![2048, 1024]⟩
abbrev S4096x2048 : Shape := ⟨2, ![4096, 2048]⟩
abbrev S4096x5632 : Shape := ⟨2, ![4096, 5632]⟩
abbrev S_ : Shape := ⟨0, ![]⟩

class Facts : Prop where
  bcast_S_S4096x2048 : S_.BroadcastsInDim S4096x2048 (![] : Fin 0 → Fin S4096x2048.rank)
  bcast_S_S4096x5632 : S_.BroadcastsInDim S4096x5632 (![] : Fin 0 → Fin S4096x5632.rank)

variable [Facts]

def fn {F : FTy → Type} [FloatOps F] (main_arg0 : FVec F S4096x1024 .f32) (main_arg1 : FVec F S2048x1024 .f32) (main_arg2 : FVec F S4096x2048 .f32) (main_arg3 : FVec F S4096x5632 .f32) : IVec S4096x2048 1 × IVec S4096x5632 1 :=
  let main_c : IVec S_ 1 := constantI S_ 1 1#1
  let main_v0 : IVec S4096x2048 1 := broadcastInDim S4096x2048 ![] bcast_S_S4096x2048 main_c
  let main_v1 : IVec S4096x5632 32 := iotaInDim S4096x5632 32 1
  let main_c_0 : IVec S_ 32 := constantI S_ 32 3584#32
  let main_v2 : IVec S4096x5632 32 := broadcastInDim S4096x5632 ![] bcast_S_S4096x5632 main_c_0
  let main_v3 : IVec S4096x5632 1 := cmpi .sge main_v1 main_v2
  (main_v0, main_v3)
-- ==== Pre_finite.lean ====
abbrev S2x2048x12x128 : Shape := ⟨4, ![2, 2048, 12, 128]⟩
abbrev S2x2048x12x64 : Shape := ⟨4, ![2, 2048, 12, 64]⟩
abbrev S2x2048x64 : Shape := ⟨3, ![2, 2048, 64]⟩
abbrev S4096x2048 : Shape := ⟨2, ![4096, 2048]⟩
abbrev S_ : Shape := ⟨0, ![]⟩

class Facts : Prop where
  bcast_S_S2x2048x12x128 : S_.BroadcastsInDim S2x2048x12x128 (![] : Fin 0 → Fin S2x2048x12x128.rank)
  bcast_S_S2x2048x12x64 : S_.BroadcastsInDim S2x2048x12x64 (![] : Fin 0 → Fin S2x2048x12x64.rank)
  bcast_S_S2x2048x64 : S_.BroadcastsInDim S2x2048x64 (![] : Fin 0 → Fin S2x2048x64.rank)
  bcast_S_S4096x2048 : S_.BroadcastsInDim S4096x2048 (![] : Fin 0 → Fin S4096x2048.rank)

variable [Facts]

def fn {F : FTy → Type} [FloatOps F] (main_arg0 : FVec F S2x2048x12x128 .f32) (main_arg1 : FVec F S2x2048x12x64 .f32) (main_arg2 : FVec F S2x2048x12x128 .f32) (main_arg3 : FVec F S2x2048x64 .f32) (main_arg4 : FVec F S2x2048x12x128 .f32) (main_arg5 : FVec F S4096x2048 .f32) : IVec S2x2048x12x128 1 × IVec S2x2048x12x64 1 × IVec S2x2048x12x128 1 × IVec S2x2048x64 1 × IVec S2x2048x12x128 1 × IVec S4096x2048 1 :=
  let main_v0 : FVec F S2x2048x12x128 .f32 := Host.absf main_arg0
  let main_cst : FVec F S_ .f32 := constant S_ .f32 0x7F800000#32
  let main_v1 : FVec F S2x2048x12x128 .f32 := broadcastInDim S2x2048x12x128 ![] bcast_S_S2x2048x12x128 main_cst
  let main_v2 : IVec S2x2048x12x128 1 := cmpf .olt main_v0 main_v1
  let main_v3 : FVec F S2x2048x12x64 .f32 := Host.absf main_arg1
  let main_cst_0 : FVec F S_ .f32 := constant S_ .f32 0x7F800000#32
  let main_v4 : FVec F S2x2048x12x64 .f32 := broadcastInDim S2x2048x12x64 ![] bcast_S_S2x2048x12x64 main_cst_0
  let main_v5 : IVec S2x2048x12x64 1 := cmpf .olt main_v3 main_v4
  let main_v6 : FVec F S2x2048x12x128 .f32 := Host.absf main_arg2
  let main_cst_1 : FVec F S_ .f32 := constant S_ .f32 0x7F800000#32
  let main_v7 : FVec F S2x2048x12x128 .f32 := broadcastInDim S2x2048x12x128 ![] bcast_S_S2x2048x12x128 main_cst_1
  let main_v8 : IVec S2x2048x12x128 1 := cmpf .olt main_v6 main_v7
  let main_v9 : FVec F S2x2048x64 .f32 := Host.absf main_arg3
  let main_cst_2 : FVec F S_ .f32 := constant S_ .f32 0x7F800000#32
  let main_v10 : FVec F S2x2048x64 .f32 := broadcastInDim S2x2048x64 ![] bcast_S_S2x2048x64 main_cst_2
  let main_v11 : IVec S2x2048x64 1 := cmpf .olt main_v9 main_v10
  let main_v12 : FVec F S2x2048x12x128 .f32 := Host.absf main_arg4
  let main_cst_3 : FVec F S_ .f32 := constant S_ .f32 0x7F800000#32
  let main_v13 : FVec F S2x2048x12x128 .f32 := broadcastInDim S2x2048x12x128 ![] bcast_S_S2x2048x12x128 main_cst_3
  let main_v14 : IVec S2x2048x12x128 1 := cmpf .olt main_v12 main_v13
  let main_v15 : FVec F S4096x2048 .f32 := Host.absf main_arg5
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  (main_v2, main_v5, main_v8, main_v11, main_v14, main_v17)
-- ==== Pre_finite_gate.lean ====
abbrev S4096x1024 : Shape := ⟨2, ![4096, 1024]⟩
abbrev S2048x1024 : Shape := ⟨2, ![2048, 1024]⟩
abbrev S4096x2048 : Shape := ⟨2, ![4096, 2048]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S2048x1024 : S_.BroadcastsInDim S2048x1024 (![] : Fin 0 → Fin S2048x1024.rank)
  bcast_S_S4096x2048 : S_.BroadcastsInDim S4096x2048 (![] : Fin 0 → Fin S4096x2048.rank)

variable [Facts]

def fn {F : FTy → Type} [FloatOps F] (main_arg0 : FVec F S4096x1024 .f32) (main_arg1 : FVec F S2048x1024 .f32) (main_arg2 : FVec F S4096x2048 .f32) (main_arg3 : FVec F S4096x5632 .f32) : IVec S4096x1024 1 × IVec S2048x1024 1 × IVec S4096x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Kernel.lean ====
abbrev S2x2048x12x128 : Shape := ⟨4, ![2, 2048, 12, 128]⟩
abbrev S2x2048x12x64 : Shape := ⟨4, ![2, 2048, 12, 64]⟩
abbrev S2x2048x64 : Shape := ⟨3, ![2, 2048, 64]⟩
abbrev S4096x2048 : Shape := ⟨2, ![4096, 2048]⟩
abbrev S2x2048x1x64 : Shape := ⟨4, ![2, 2048, 1, 64]⟩
abbrev S2x12x2048x2048 : Shape := ⟨4, ![2, 12, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x12x2048 : Shape := ⟨3, ![2, 12, 2048]⟩
abbrev S2x12x2048x1 : Shape := ⟨4, ![2, 12, 2048, 1]⟩
abbrev S24x2048x1 : Shape := ⟨3, ![24, 2048, 1]⟩
abbrev S2x12x128x2048 : Shape := ⟨4, ![2, 12, 128, 2048]⟩
abbrev S4096x1536 : Shape := ⟨2, ![4096, 1536]⟩
abbrev S4096x512 : Shape := ⟨2, ![4096, 512]⟩
abbrev S2x2048x12x32 : Shape := ⟨4, ![2, 2048, 12, 32]⟩
abbrev S4096x3072 : Shape := ⟨2, ![4096, 3072]⟩
abbrev S2x2048x32 : Shape := ⟨3, ![2, 2048, 32]⟩
abbrev S2x2048x128 : Shape := ⟨3, ![2, 2048, 128]⟩
abbrev S4096x128 : Shape := ⟨2, ![4096, 128]⟩
abbrev S2x2048x12x256 : Shape := ⟨4, ![2, 2048, 12, 256]⟩
abbrev S2048x128 : Shape := ⟨2, ![2048, 128]⟩
abbrev S1024x128 : Shape := ⟨2, ![1024, 128]⟩
abbrev S1x2048x1 : Shape := ⟨3, ![1, 2048, 1]⟩
abbrev S1024x256 : Shape := ⟨2, ![1024, 256]⟩
abbrev S2048x256 : Shape := ⟨2, ![2048, 256]⟩
abbrev S512x512 : Shape := ⟨2, ![512, 512]⟩
abbrev S512x256 : Shape := ⟨2, ![512, 256]⟩
abbrev S512x128 : Shape := ⟨2, ![512, 128]⟩
abbrev S1x512x1 : Shape := ⟨3, ![1, 512, 1]⟩
abbrev S512x1 : Shape := ⟨2, ![512, 1]⟩
abbrev S512x1024 : Shape := ⟨2, ![512, 1024]⟩

abbrev nBuf : Space → Nat
  | .hbm => 80
  | .vmem => 30
  | .smem => 0
  | _ => 0

abbrev bufTy : (tb : Table) → Fin (tcTables nBuf tb) → BufTy
  | .hbm, ⟨0, _⟩ => ⟨S2x2048x12x128, .f32⟩
  | .hbm, ⟨1, _⟩ => ⟨S2x2048x12x64, .f32⟩
  | .hbm, ⟨2, _⟩ => ⟨S2x2048x12x128, .f32⟩
  | .hbm, ⟨3, _⟩ => ⟨S2x2048x64, .f32⟩
  | .hbm, ⟨4, _⟩ => ⟨S2x2048x12x128, .f32⟩
  | .hbm, ⟨5, _⟩ => ⟨S4096x2048, .f32⟩
  | .hbm, ⟨6, _⟩ => ⟨S2x2048x1x64, .f32⟩
  | .hbm, ⟨7, _⟩ => ⟨S2x2048x12x64, .f32⟩
  | .hbm, ⟨8, _⟩ => ⟨S2x12x2048x2048, .f32⟩
  | .hbm, ⟨9, _⟩ => ⟨S2x12x2048x2048, .f32⟩
  | .hbm, ⟨10, _⟩ => ⟨S2x12x2048x2048, .f32⟩
  | .hbm, ⟨11, _⟩ => ⟨S_, .f32⟩
  | .hbm, ⟨12, _⟩ => ⟨S2x12x2048x2048, .f32⟩
  | .hbm, ⟨13, _⟩ => ⟨S2x12x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S2x12x2048x2048, .i1⟩
  | .hbm, ⟨23, _⟩ => ⟨S2x12x2048x2048, .f32⟩
  | .hbm, ⟨24, _⟩ => ⟨S2x12x2048x2048, .f32⟩
  | .hbm, ⟨25, _⟩ => ⟨S_, .f32⟩
  | .hbm, ⟨26, _⟩ => ⟨S2x12x2048, .f32⟩
  | .hbm, ⟨27, _⟩ => ⟨S2x12x2048x1, .f32⟩
  | .hbm, ⟨28, _⟩ => ⟨S2x12x2048x2048, .f32⟩
  | .hbm, ⟨29, _⟩ => ⟨S2x12x2048x2048, .f32⟩
  | .hbm, ⟨30, _⟩ => ⟨S2x12x2048x2048, .f32⟩
  | .hbm, ⟨31, _⟩ => ⟨S_, .f32⟩
  | .hbm, ⟨32, _⟩ => ⟨S2x12x2048, .f32⟩
  | .hbm, ⟨33, _⟩ => ⟨S2x12x2048x1, .f32⟩
  | .hbm, ⟨34, _⟩ => ⟨S2x12x2048x1, .f32⟩
  | .hbm, ⟨35, _⟩ => ⟨S2x12x2048x1, .f32⟩
  | .hbm, ⟨36, _⟩ => ⟨S24x2048x1, .f32⟩
  | .hbm, ⟨37, _⟩ => ⟨S_, .f32⟩
  | .hbm, ⟨38, _⟩ => ⟨S2x12x2048, .f32⟩
  | .hbm, ⟨39, _⟩ => ⟨S_, .f32⟩
  | .hbm, ⟨40, _⟩ => ⟨S2x12x2048, .f32⟩
  | .hbm, ⟨41, _⟩ => ⟨S2x12x2048, .f32⟩
  | .hbm, ⟨42, _⟩ => ⟨S2x12x2048x1, .f32⟩
  | .hbm, ⟨43, _⟩ => ⟨S2x12x2048x2048, .f32⟩
  | .hbm, ⟨44, _⟩ => ⟨S2x12x2048x2048, .f32⟩
  | .hbm, ⟨45, _⟩ => ⟨S2x12x2048x2048, .f32⟩
  | .hbm, ⟨46, _⟩ => ⟨S_, .f32⟩
  | .hbm, ⟨47, _⟩ => ⟨S2x12x2048, .f32⟩
  | .hbm, ⟨48, _⟩ => ⟨S2x12x2048x1, .f32⟩
  | .hbm, ⟨49, _⟩ => ⟨S2x12x2048x2048, .f32⟩
  | .hbm, ⟨50, _⟩ => ⟨S2x12x2048x2048, .f32⟩
  | .hbm, ⟨51, _⟩ => ⟨S2x12x128x2048, .f32⟩
  | .hbm, ⟨52, _⟩ => ⟨S2x2048x12x128, .f32⟩
  | .hbm, ⟨53, _⟩ => ⟨S4096x1536, .f32⟩
  | .hbm, ⟨54, _⟩ => ⟨S_, .f32⟩
  | .hbm, ⟨55, _⟩ => ⟨S4096x512, .f32⟩
  | .hbm, ⟨56, _⟩ => ⟨S4096x2048, .f32⟩
  | .hbm, ⟨57, _⟩ => ⟨S_, .f32⟩
  | .hbm, ⟨58, _⟩ => ⟨S2x2048x12x32, .f32⟩
  | .hbm, ⟨59, _⟩ => ⟨S2x2048x12x32, .f32⟩
  | .hbm, ⟨60, _⟩ => ⟨S2x2048x12x32, .f32⟩
  | .hbm, ⟨61, _⟩ => ⟨S2x2048x12x128, .f32⟩
  | .hbm, ⟨62, _⟩ => ⟨S4096x1536, .f32⟩
  | .hbm, ⟨63, _⟩ => ⟨S4096x1536, .f32⟩
  | .hbm, ⟨64, _⟩ => ⟨S4096x3072, .f32⟩
  | .hbm, ⟨65, _⟩ => ⟨S_, .f32⟩
  | .hbm, ⟨66, _⟩ => ⟨S2x2048x32, .f32⟩
  | .hbm, ⟨67, _⟩ => ⟨S2x2048x32, .f32⟩
  | .hbm, ⟨68, _⟩ => ⟨S2x2048x32, .f32⟩
  | .hbm, ⟨69, _⟩ => ⟨S2x2048x128, .f32⟩
  | .hbm, ⟨70, _⟩ => ⟨S4096x128, .f32⟩
  | .hbm, ⟨71, _⟩ => ⟨S4096x128, .bf16⟩
  | .hbm, ⟨72, _⟩ => ⟨S2x2048x12x256, .f32⟩
  | .hbm, ⟨73, _⟩ => ⟨S4096x3072, .f32⟩
  | .hbm, ⟨74, _⟩ => ⟨S4096x3072, .bf16⟩
  | .hbm, ⟨75, _⟩ => ⟨S4096x1536, .bf16⟩
  | .hbm, ⟨76, _⟩ => ⟨S4096x3072, .bf16⟩
  | .hbm, ⟨77, _⟩ => ⟨S4096x1536, .f32⟩
  | .hbm, ⟨78, _⟩ => ⟨S4096x3072, .bf16⟩
  | .hbm, ⟨79, _⟩ => ⟨S4096x1536, .f32⟩
  | .local _ .vmem, ⟨0, _⟩ => ⟨S2048x128, .f32⟩
  | .local _ .vmem, ⟨1, _⟩ => ⟨S2048x128, .f32⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S1x2048x1, .f32⟩
  | .local _ .vmem, ⟨15, _⟩ => ⟨S1x2048x1, .f32⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | .local _ .vmem, ⟨20, _⟩ => ⟨S1024x256, .bf16⟩
  | .local _ .vmem, ⟨21, _⟩ => ⟨S1024x256, .bf16⟩
  | .local _ .vmem, ⟨22, _⟩ => ⟨S1024x128, .f32⟩
  | .local _ .vmem, ⟨23, _⟩ => ⟨S1024x128, .f32⟩
  | .local _ .vmem, ⟨24, _⟩ => ⟨S2048x256, .bf16⟩
  | .local _ .vmem, ⟨25, _⟩ => ⟨S2048x128, .bf16⟩
  | .local _ .vmem, ⟨26, _⟩ => ⟨S2048x1, .f32⟩
  | .local _ .vmem, ⟨27, _⟩ => ⟨S2048x256, .f32⟩
  | .local _ .vmem, ⟨28, _⟩ => ⟨S1024x256, .f32⟩
  | .local _ .vmem, ⟨29, _⟩ => ⟨S1024x128, .f32⟩
  | _, _ => ⟨S2x2048x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev main_v57_3 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 12, 2], ![false, false, false]⟩

def k0_mult1 (i : grid0.Coords) : BitVec 32 :=
  let arg2 : BitVec 32 := BitVec.ofNat 32 (i 2).val
  let c1024_i32 : BitVec 32 := 1024#32
  let v24 : BitVec 32 := Scalar.muli arg2 c1024_i32
  let c0_i32_13 : BitVec 32 := 0#32
  let v25 : BitVec 32 := Scalar.addi v24 c0_i32_13
  v25
def k0_off1 (i : grid0.Coords) (c0_i32_13 : BitVec 32) : Fin 2 → Nat :=
  let arg2 : BitVec 32 := BitVec.ofNat 32 (i 2).val
  let c1024_i32 : BitVec 32 := 1024#32
  let v24 : BitVec 32 := Scalar.muli arg2 c1024_i32
  let v25 : BitVec 32 := Scalar.addi v24 c0_i32_13
  let v26 : BitVec 32 := v25
  let v27 : Index := Scalar.indexCast v26
  let c0_14 : Index := 0#32
  ![v27.toNat, 0]
def k0_off2 (i : grid0.Coords) (c0_i32_13 : BitVec 32) : Fin 2 → Nat :=
  let arg2 : BitVec 32 := BitVec.ofNat 32 (i 2).val
  let c1024_i32 : BitVec 32 := 1024#32
  let v24 : BitVec 32 := Scalar.muli arg2 c1024_i32
  let v25 : BitVec 32 := Scalar.addi v24 c0_i32_13
  let v26 : BitVec 32 := v25
  let v29 : Index := Scalar.indexCast v26
  let c0_15 : Index := 0#32
  ![v29.toNat, 0]
def k0_off3 (i : grid0.Coords) (c0_i32_13 : BitVec 32) : Fin 3 → Nat :=
  let c0_18 : Index := 0#32
  let arg2 : BitVec 32 := BitVec.ofNat 32 (i 2).val
  let c1024_i32 : BitVec 32 := 1024#32
  let v24 : BitVec 32 := Scalar.muli arg2 c1024_i32
  let v25 : BitVec 32 := Scalar.addi v24 c0_i32_13
  let v26 : BitVec 32 := v25
  let v37 : Index := Scalar.indexCast v26
  let c0_19 : Index := 0#32
  ![0, v37.toNat, 0]
def k0_off4 (i : grid0.Coords) (c0_i32_13 : BitVec 32) : Fin 2 → Nat :=
  let arg2 : BitVec 32 := BitVec.ofNat 32 (i 2).val
  let c1024_i32 : BitVec 32 := 1024#32
  let v24 : BitVec 32 := Scalar.muli arg2 c1024_i32
  let v25 : BitVec 32 := Scalar.addi v24 c0_i32_13
  let v26 : BitVec 32 := v25
  let v44 : Index := Scalar.indexCast v26
  let c0_21 : Index := 0#32
  ![v44.toNat, 0]
def k0_mult2 (i : grid0.Coords) : BitVec 32 :=
  let arg2 : BitVec 32 := BitVec.ofNat 32 (i 2).val
  let c1024_i32_36 : BitVec 32 := 1024#32
  let v73 : BitVec 32 := Scalar.muli arg2 c1024_i32_36
  let c512_i32 : BitVec 32 := 512#32
  let v74 : BitVec 32 := Scalar.addi v73 c512_i32
  v74
@[reducible] def k0_t1_loop (i : grid0.Coords) : Scf.Loop 32 :=
  let arg2 : BitVec 32 := BitVec.ofNat 32 (i 2).val
  let c1_i32 : BitVec 32 := 1#32
  let v123 : BitVec 32 := Scalar.addi arg2 c1_i32
  let c2_i32 : BitVec 32 := 2#32
  let v124 : BitVec 32 := Scalar.subi c2_i32 v123
  let c1_i32_60 : BitVec 32 := 1#32
  let v126 : BitVec 32 := Scalar.divsi v124 c1_i32_60
  let v127 : BitVec 32 := Scalar.muli v126 c1_i32_60
  let v128 : BitVec 32 := Scalar.addi v123 v127
  let c1_i32_61 : BitVec 32 := 1#32
  ⟨v123, v128, c1_i32_61⟩
def k0_mult3 (i : grid0.Coords) (k0_t1 : Fin (k0_t1_loop i).trips) : BitVec 32 :=
  let arg2 : BitVec 32 := BitVec.ofNat 32 (i 2).val
  let c1_i32 : BitVec 32 := 1#32
  let v123 : BitVec 32 := Scalar.addi arg2 c1_i32
  let c1_i32_61 : BitVec 32 := 1#32
  let arg21 : BitVec 32 := Scf.iv v123 c1_i32_61 k0_t1
  let c1024_i32_74 : BitVec 32 := 1024#32
  let v139 : BitVec 32 := Scalar.muli arg21 c1024_i32_74
  let c0_i32_75 : BitVec 32 := 0#32
  let v140 : BitVec 32 := Scalar.addi v139 c0_i32_75
  v140
def k0_off5 (i : grid0.Coords) (k0_t1 : Fin (k0_t1_loop i).trips) (c0_i32_75 : BitVec 32) : Fin 2 → Nat :=
  let arg2 : BitVec 32 := BitVec.ofNat 32 (i 2).val
  let c1_i32 : BitVec 32 := 1#32
  let v123 : BitVec 32 := Scalar.addi arg2 c1_i32
  let c1_i32_61 : BitVec 32 := 1#32
  let arg21 : BitVec 32 := Scf.iv v123 c1_i32_61 k0_t1
  let c1024_i32_74 : BitVec 32 := 1024#32
  let v139 : BitVec 32 := Scalar.muli arg21 c1024_i32_74
  let v140 : BitVec 32 := Scalar.addi v139 c0_i32_75
  let v141 : BitVec 32 := v140
  let v142 : Index := Scalar.indexCast v141
  let c0_76 : Index := 0#32
  ![v142.toNat, 0]
def k0_off6 (i : grid0.Coords) (k0_t1 : Fin (k0_t1_loop i).trips) (c0_i32_75 : BitVec 32) : Fin 2 → Nat :=
  let arg2 : BitVec 32 := BitVec.ofNat 32 (i 2).val
  let c1_i32 : BitVec 32 := 1#32
  let v123 : BitVec 32 := Scalar.addi arg2 c1_i32
  let c1_i32_61 : BitVec 32 := 1#32
  let arg21 : BitVec 32 := Scf.iv v123 c1_i32_61 k0_t1
  let c1024_i32_74 : BitVec 32 := 1024#32
  let v139 : BitVec 32 := Scalar.muli arg21 c1024_i32_74
  let v140 : BitVec 32 := Scalar.addi v139 c0_i32_75
  let v141 : BitVec 32 := v140
  let v144 : Index := Scalar.indexCast v141
  let c0_77 : Index := 0#32
  ![v144.toNat, 0]
def k0_off7 (i : grid0.Coords) (k0_t1 : Fin (k0_t1_loop i).trips) (c0_i32_75 : BitVec 32) : Fin 3 → Nat :=
  let c0_80 : Index := 0#32
  let arg2 : BitVec 32 := BitVec.ofNat 32 (i 2).val
  let c1_i32 : BitVec 32 := 1#32
  let v123 : BitVec 32 := Scalar.addi arg2 c1_i32
  let c1_i32_61 : BitVec 32 := 1#32
  let arg21 : BitVec 32 := Scf.iv v123 c1_i32_61 k0_t1
  let c1024_i32_74 : BitVec 32 := 1024#32
  let v139 : BitVec 32 := Scalar.muli arg21 c1024_i32_74
  let v140 : BitVec 32 := Scalar.addi v139 c0_i32_75
  let v141 : BitVec 32 := v140
  let v149 : Index := Scalar.indexCast v141
  let c0_81 : Index := 0#32
  ![0, v149.toNat, 0]
def k0_off8 (i : grid0.Coords) (k0_t1 : Fin (k0_t1_loop i).trips) (c0_i32_75 : BitVec 32) : Fin 2 → Nat :=
  let arg2 : BitVec 32 := BitVec.ofNat 32 (i 2).val
  let c1_i32 : BitVec 32 := 1#32
  let v123 : BitVec 32 := Scalar.addi arg2 c1_i32
  let c1_i32_61 : BitVec 32 := 1#32
  let arg21 : BitVec 32 := Scf.iv v123 c1_i32_61 k0_t1
  let c1024_i32_74 : BitVec 32 := 1024#32
  let v139 : BitVec 32 := Scalar.muli arg21 c1024_i32_74
  let v140 : BitVec 32 := Scalar.addi v139 c0_i32_75
  let v141 : BitVec 32 := v140
  let v156 : Index := Scalar.indexCast v141
  let c0_83 : Index := 0#32
  ![v156.toNat, 0]
def k0_mult4 (i : grid0.Coords) (k0_t1 : Fin (k0_t1_loop i).trips) : BitVec 32 :=
  let arg2 : BitVec 32 := BitVec.ofNat 32 (i 2).val
  let c1_i32 : BitVec 32 := 1#32
  let v123 : BitVec 32 := Scalar.addi arg2 c1_i32
  let c1_i32_61 : BitVec 32 := 1#32
  let arg21 : BitVec 32 := Scf.iv v123 c1_i32_61 k0_t1
  let c1024_i32_98 : BitVec 32 := 1024#32
  let v185 : BitVec 32 := Scalar.muli arg21 c1024_i32_98
  let c512_i32_99 : BitVec 32 := 512#32
  let v186 : BitVec 32 := Scalar.addi v185 c512_i32_99
  v186
@[reducible] def k0_t2_loop (i : grid0.Coords) : Scf.Loop 32 :=
  let arg2 : BitVec 32 := BitVec.ofNat 32 (i 2).val
  let c1_i32 : BitVec 32 := 1#32
  let v123 : BitVec 32 := Scalar.addi arg2 c1_i32
  let c2_i32 : BitVec 32 := 2#32
  let v124 : BitVec 32 := Scalar.subi c2_i32 v123
  let c1_i32_60 : BitVec 32 := 1#32
  let v126 : BitVec 32 := Scalar.divsi v124 c1_i32_60
  let v127 : BitVec 32 := Scalar.muli v126 c1_i32_60
  let v128 : BitVec 32 := Scalar.addi v123 v127
  let v125 : BitVec 32 := Scalar.addi v123 v124
  let c1_i32_62 : BitVec 32 := 1#32
  ⟨v128, v125, c1_i32_62⟩
def k0_mult5 (i : grid0.Coords) (k0_t2 : Fin (k0_t2_loop i).trips) : BitVec 32 :=
  let arg2 : BitVec 32 := BitVec.ofNat 32 (i 2).val
  let c1_i32 : BitVec 32 := 1#32
  let v123 : BitVec 32 := Scalar.addi arg2 c1_i32
  let c2_i32 : BitVec 32 := 2#32
  let v124 : BitVec 32 := Scalar.subi c2_i32 v123
  let c1_i32_60 : BitVec 32 := 1#32
  let v126 : BitVec 32 := Scalar.divsi v124 c1_i32_60
  let v127 : BitVec 32 := Scalar.muli v126 c1_i32_60
  let v128 : BitVec 32 := Scalar.addi v123 v127
  let c1_i32_62 : BitVec 32 := 1#32
  let arg21 : BitVec 32 := Scf.iv v128 c1_i32_62 k0_t2
  let c1024_i32_74 : BitVec 32 := 1024#32
  let v139 : BitVec 32 := Scalar.muli arg21 c1024_i32_74
  let c0_i32_75 : BitVec 32 := 0#32
  let v140 : BitVec 32 := Scalar.addi v139 c0_i32_75
  v140
def k0_off9 (i : grid0.Coords) (k0_t2 : Fin (k0_t2_loop i).trips) (c0_i32_75 : BitVec 32) : Fin 2 → Nat :=
  let arg2 : BitVec 32 := BitVec.ofNat 32 (i 2).val
  let c1_i32 : BitVec 32 := 1#32
  let v123 : BitVec 32 := Scalar.addi arg2 c1_i32
  let c2_i32 : BitVec 32 := 2#32
  let v124 : BitVec 32 := Scalar.subi c2_i32 v123
  let c1_i32_60 : BitVec 32 := 1#32
  let v126 : BitVec 32 := Scalar.divsi v124 c1_i32_60
  let v127 : BitVec 32 := Scalar.muli v126 c1_i32_60
  let v128 : BitVec 32 := Scalar.addi v123 v127
  let c1_i32_62 : BitVec 32 := 1#32
  let arg21 : BitVec 32 := Scf.iv v128 c1_i32_62 k0_t2
  let c1024_i32_74 : BitVec 32 := 1024#32
  let v139 : BitVec 32 := Scalar.muli arg21 c1024_i32_74
  let v140 : BitVec 32 := Scalar.addi v139 c0_i32_75
  let v141 : BitVec 32 := v140
  let v142 : Index := Scalar.indexCast v141
  let c0_76 : Index := 0#32
  ![v142.toNat, 0]
def k0_off10 (i : grid0.Coords) (k0_t2 : Fin (k0_t2_loop i).trips) (c0_i32_75 : BitVec 32) : Fin 2 → Nat :=
  let arg2 : BitVec 32 := BitVec.ofNat 32 (i 2).val
  let c1_i32 : BitVec 32 := 1#32
  let v123 : BitVec 32 := Scalar.addi arg2 c1_i32
  let c2_i32 : BitVec 32 := 2#32
  let v124 : BitVec 32 := Scalar.subi c2_i32 v123
  let c1_i32_60 : BitVec 32 := 1#32
  let v126 : BitVec 32 := Scalar.divsi v124 c1_i32_60
  let v127 : BitVec 32 := Scalar.muli v126 c1_i32_60
  let v128 : BitVec 32 := Scalar.addi v123 v127
  let c1_i32_62 : BitVec 32 := 1#32
  let arg21 : BitVec 32 := Scf.iv v128 c1_i32_62 k0_t2
  let c1024_i32_74 : BitVec 32 := 1024#32
  let v139 : BitVec 32 := Scalar.muli arg21 c1024_i32_74
  let v140 : BitVec 32 := Scalar.addi v139 c0_i32_75
  let v141 : BitVec 32 := v140
  let v144 : Index := Scalar.indexCast v141
  let c0_77 : Index := 0#32
  ![v144.toNat, 0]
def k0_off11 (i : grid0.Coords) (k0_t2 : Fin (k0_t2_loop i).trips) (c0_i32_75 : BitVec 32) : Fin 3 → Nat :=
  let c0_80 : Index := 0#32
  let arg2 : BitVec 32 := BitVec.ofNat 32 (i 2).val
  let c1_i32 : BitVec 32 := 1#32
  let v123 : BitVec 32 := Scalar.addi arg2 c1_i32
  let c2_i32 : BitVec 32 := 2#32
  let v124 : BitVec 32 := Scalar.subi c2_i32 v123
  let c1_i32_60 : BitVec 32 := 1#32
  let v126 : BitVec 32 := Scalar.divsi v124 c1_i32_60
  let v127 : BitVec 32 := Scalar.muli v126 c1_i32_60
  let v128 : BitVec 32 := Scalar.addi v123 v127
  let c1_i32_62 : BitVec 32 := 1#32
  let arg21 : BitVec 32 := Scf.iv v128 c1_i32_62 k0_t2
  let c1024_i32_74 : BitVec 32 := 1024#32
  let v139 : BitVec 32 := Scalar.muli arg21 c1024_i32_74
  let v140 : BitVec 32 := Scalar.addi v139 c0_i32_75
  let v141 : BitVec 32 := v140
  let v149 : Index := Scalar.indexCast v141
  let c0_81 : Index := 0#32
  ![0, v149.toNat, 0]
def k0_off12 (i : grid0.Coords) (k0_t2 : Fin (k0_t2_loop i).trips) (c0_i32_75 : BitVec 32) : Fin 2 → Nat :=
  let arg2 : BitVec 32 := BitVec.ofNat 32 (i 2).val
  let c1_i32 : BitVec 32 := 1#32
  let v123 : BitVec 32 := Scalar.addi arg2 c1_i32
  let c2_i32 : BitVec 32 := 2#32
  let v124 : BitVec 32 := Scalar.subi c2_i32 v123
  let c1_i32_60 : BitVec 32 := 1#32
  let v126 : BitVec 32 := Scalar.divsi v124 c1_i32_60
  let v127 : BitVec 32 := Scalar.muli v126 c1_i32_60
  let v128 : BitVec 32 := Scalar.addi v123 v127
  let c1_i32_62 : BitVec 32 := 1#32
  let arg21 : BitVec 32 := Scf.iv v128 c1_i32_62 k0_t2
  let c1024_i32_74 : BitVec 32 := 1024#32
  let v139 : BitVec 32 := Scalar.muli arg21 c1024_i32_74
  let v140 : BitVec 32 := Scalar.addi v139 c0_i32_75
  let v141 : BitVec 32 := v140
  let v156 : Index := Scalar.indexCast v141
  let c0_83 : Index := 0#32
  ![v156.toNat, 0]
def k0_mult6 (i : grid0.Coords) (k0_t2 : Fin (k0_t2_loop i).trips) : BitVec 32 :=
  let arg2 : BitVec 32 := BitVec.ofNat 32 (i 2).val
  let c1_i32 : BitVec 32 := 1#32
  let v123 : BitVec 32 := Scalar.addi arg2 c1_i32
  let c2_i32 : BitVec 32 := 2#32
  let v124 : BitVec 32 := Scalar.subi c2_i32 v123
  let c1_i32_60 : BitVec 32 := 1#32
  let v126 : BitVec 32 := Scalar.divsi v124 c1_i32_60
  let v127 : BitVec 32 := Scalar.muli v126 c1_i32_60
  let v128 : BitVec 32 := Scalar.addi v123 v127
  let c1_i32_62 : BitVec 32 := 1#32
  let arg21 : BitVec 32 := Scf.iv v128 c1_i32_62 k0_t2
  let c1024_i32_98 : BitVec 32 := 1024#32
  let v185 : BitVec 32 := Scalar.muli arg21 c1024_i32_98
  let c512_i32_99 : BitVec 32 := 512#32
  let v186 : BitVec 32 := Scalar.addi v185 c512_i32_99
  v186
def k0_cond2 (i : grid0.Coords) : BitVec 1 :=
  let arg2 : BitVec 32 := BitVec.ofNat 32 (i 2).val
  let c1_i32_72 : BitVec 32 := 1#32
  let v136 : BitVec 1 := Scalar.cmpi .eq arg2 c1_i32_72
  let v137 : BitVec 32 := Scalar.extui v136
  let c0_i32_73 : BitVec 32 := 0#32
  let v138 : BitVec 1 := Scalar.cmpi .ne v137 c0_i32_73
  v138

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c2_i32_0 : BitVec 32 := 2#32
  let v2 : BitVec 32 := Scalar.muli c2_i32_0 arg1
  let c0_i32 : BitVec 32 := 0#32
  let v3 : BitVec 32 := Scalar.addi c0_i32 v2
  let c0_i32_1 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c2_i32_0 : BitVec 32 := 2#32
  let v2 : BitVec 32 := Scalar.muli c2_i32_0 arg1
  let c1_i32 : BitVec 32 := 1#32
  let v3 : BitVec 32 := Scalar.addi c1_i32 v2
  let c0_i32 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x2048x12x128 : Shape := ⟨4, ![2, 2048, 12, 128]⟩
abbrev S2x2048x12x64 : Shape := ⟨4, ![2, 2048, 12, 64]⟩
abbrev S2x2048x64 : Shape := ⟨3, ![2, 2048, 64]⟩
abbrev S4096x2048 : Shape := ⟨2, ![4096, 2048]⟩
abbrev S4096x1536 : Shape := ⟨2, ![4096, 1536]⟩
abbrev S2x2048x1536 : Shape := ⟨3, ![2, 2048, 1536]⟩
abbrev S2x2048x1x64 : Shape := ⟨4, ![2, 2048, 1, 64]⟩
abbrev S2x12x2048x2048 : Shape := ⟨4, ![2, 12, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x12x2048 : Shape := ⟨3, ![2, 12, 2048]⟩
abbrev S2x12x2048x1 : Shape := ⟨4, ![2, 12, 2048, 1]⟩
abbrev S2x12x128x2048 : Shape := ⟨4, ![2, 12, 128, 2048]⟩
abbrev S2x12x2048x64 : Shape := ⟨4, ![2, 12, 2048, 64]⟩
abbrev S2x12x2048x128 : Shape := ⟨4, ![2, 12, 2048, 128]⟩
abbrev S2x2048x12x32 : Shape := ⟨4, ![2, 2048, 12, 32]⟩
abbrev S4096x3072 : Shape := ⟨2, ![4096, 3072]⟩
abbrev S2x2048x12x256 : Shape := ⟨4, ![2, 2048, 12, 256]⟩

abbrev nBuf : Space → Nat
  | .hbm => 121
  | .vmem => 0
  | .smem => 0
  | _ => 0

abbrev bufTy : (tb : Table) → Fin (tcTables nBuf tb) → BufTy
  | .hbm, ⟨0, _⟩ => ⟨S2x2048x12x128, .f32⟩
  | .hbm, ⟨1, _⟩ => ⟨S2x2048x12x64, .f32⟩
  | .hbm, ⟨2, _⟩ => ⟨S2x2048x12x128, .f32⟩
  | .hbm, ⟨3, _⟩ => ⟨S2x2048x64, .f32⟩
  | .hbm, ⟨4, _⟩ => ⟨S2x2048x12x128, .f32⟩
  | .hbm, ⟨5, _⟩ => ⟨S4096x2048, .f32⟩
  | .hbm, ⟨6, _⟩ => ⟨S4096x1536, .f32⟩
  | .hbm, ⟨7, _⟩ => ⟨S2x2048x1536, .f32⟩
  | .hbm, ⟨8, _⟩ => ⟨S2x2048x1x64, .f32⟩
  | .hbm, ⟨9, _⟩ => ⟨S2x2048x12x64, .f32⟩
  | .hbm, ⟨10, _⟩ => ⟨S2x12x2048x2048, .f32⟩
  | .hbm, ⟨11, _⟩ => ⟨S2x12x2048x2048, .f32⟩
  | .hbm, ⟨12, _⟩ => ⟨S2x12x2048x2048, .f32⟩
  | .hbm, ⟨13, _⟩ => ⟨S_, .f32⟩
  | .hbm, ⟨14, _⟩ => ⟨S2x12x2048x2048, .f32⟩
  | .hbm, ⟨15, _⟩ => ⟨S2x12x2048x2048, .f32⟩
  | .hbm, ⟨16, _⟩ => ⟨S2048, .i32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S2x12x2048x2048, .i1⟩
  | .hbm, ⟨25, _⟩ => ⟨S2x12x2048x2048, .f32⟩
  | .hbm, ⟨26, _⟩ => ⟨S2x12x2048x2048, .f32⟩
  | .hbm, ⟨27, _⟩ => ⟨S_, .f32⟩
  | .hbm, ⟨28, _⟩ => ⟨S2x12x2048x2048, .f32⟩
  | .hbm, ⟨29, _⟩ => ⟨S_, .f32⟩
  | .hbm, ⟨30, _⟩ => ⟨S2x12x2048, .f32⟩
  | .hbm, ⟨31, _⟩ => ⟨S2x12x2048x1, .f32⟩
  | .hbm, ⟨32, _⟩ => ⟨S2x12x2048x2048, .f32⟩
  | .hbm, ⟨33, _⟩ => ⟨S2x12x2048x2048, .i1⟩
  | .hbm, ⟨34, _⟩ => ⟨S2x12x2048x2048, .f32⟩
  | .hbm, ⟨35, _⟩ => ⟨S_, .f32⟩
  | .hbm, ⟨36, _⟩ => ⟨S2x12x2048, .f32⟩
  | .hbm, ⟨37, _⟩ => ⟨S_, .f32⟩
  | .hbm, ⟨38, _⟩ => ⟨S2x12x2048, .f32⟩
  | .hbm, ⟨39, _⟩ => ⟨S2x12x2048, .f32⟩
  | .hbm, ⟨40, _⟩ => ⟨S_, .f32⟩
  | .hbm, ⟨41, _⟩ => ⟨S2x12x2048, .f32⟩
  | .hbm, ⟨42, _⟩ => ⟨S2x12x2048, .i1⟩
  | .hbm, ⟨43, _⟩ => ⟨S_, .f32⟩
  | .hbm, ⟨44, _⟩ => ⟨S2x12x2048, .f32⟩
  | .hbm, ⟨45, _⟩ => ⟨S2x12x2048, .i1⟩
  | .hbm, ⟨46, _⟩ => ⟨S_, .f32⟩
  | .hbm, ⟨47, _⟩ => ⟨S2x12x2048, .f32⟩
  | .hbm, ⟨48, _⟩ => ⟨S_, .f32⟩
  | .hbm, ⟨49, _⟩ => ⟨S2x12x2048, .f32⟩
  | .hbm, ⟨50, _⟩ => ⟨S_, .f32⟩
  | .hbm, ⟨51, _⟩ => ⟨S2x12x2048, .f32⟩
  | .hbm, ⟨52, _⟩ => ⟨S2x12x2048, .f32⟩
  | .hbm, ⟨53, _⟩ => ⟨S2x12x2048, .f32⟩
  | .hbm, ⟨54, _⟩ => ⟨S2x12x2048x1, .f32⟩
  | .hbm, ⟨55, _⟩ => ⟨S2x12x2048x2048, .f32⟩
  | .hbm, ⟨56, _⟩ => ⟨S2x12x2048x2048, .f32⟩
  | .hbm, ⟨57, _⟩ => ⟨S2x12x2048x2048, .f32⟩
  | .hbm, ⟨58, _⟩ => ⟨S_, .f32⟩
  | .hbm, ⟨59, _⟩ => ⟨S2x12x2048, .f32⟩
  | .hbm, ⟨60, _⟩ => ⟨S2x12x2048x1, .f32⟩
  | .hbm, ⟨61, _⟩ => ⟨S2x12x2048x2048, .f32⟩
  | .hbm, ⟨62, _⟩ => ⟨S2x12x2048x2048, .f32⟩
  | .hbm, ⟨63, _⟩ => ⟨S2x12x2048x1, .f32⟩
  | .hbm, ⟨64, _⟩ => ⟨S_, .f32⟩
  | .hbm, ⟨65, _⟩ => ⟨S2x12x2048x1, .f32⟩
  | .hbm, ⟨66, _⟩ => ⟨S2x12x2048x1, .f32⟩
  | .hbm, ⟨67, _⟩ => ⟨S2x12x128x2048, .f32⟩
  | .hbm, ⟨68, _⟩ => ⟨S2x2048x12x128, .f32⟩
  | .hbm, ⟨69, _⟩ => ⟨S2x2048x1536, .f32⟩
  | .hbm, ⟨70, _⟩ => ⟨S2x2048x12x128, .f32⟩
  | .hbm, ⟨71, _⟩ => ⟨S2x12x128x2048, .f32⟩
  | .hbm, ⟨72, _⟩ => ⟨S2x12x2048x2048, .f32⟩
  | .hbm, ⟨73, _⟩ => ⟨S2x12x128x2048, .f32⟩
  | .hbm, ⟨74, _⟩ => ⟨S2x2048x12x128, .f32⟩
  | .hbm, ⟨75, _⟩ => ⟨S2x12x2048x2048, .f32⟩
  | .hbm, ⟨76, _⟩ => ⟨S2x12x2048x2048, .f32⟩
  | .hbm, ⟨77, _⟩ => ⟨S2x12x2048x2048, .f32⟩
  | .hbm, ⟨78, _⟩ => ⟨S_, .f32⟩
  | .hbm, ⟨79, _⟩ => ⟨S2x12x2048, .f32⟩
  | .hbm, ⟨80, _⟩ => ⟨S2x12x2048x1, .f32⟩
  | .hbm, ⟨81, _⟩ => ⟨S2x12x2048x1, .f32⟩
  | .hbm, ⟨82, _⟩ => ⟨S2x12x2048x2048, .f32⟩
  | .hbm, ⟨83, _⟩ => ⟨S2x12x2048x2048, .f32⟩
  | .hbm, ⟨84, _⟩ => ⟨S_, .f32⟩
  | .hbm, ⟨85, _⟩ => ⟨S2x12x2048, .f32⟩
  | .hbm, ⟨86, _⟩ => ⟨S2x12x2048x2048, .f32⟩
  | .hbm, ⟨87, _⟩ => ⟨S2x12x2048x2048, .f32⟩
  | .hbm, ⟨88, _⟩ => ⟨S2x12x2048x2048, .f32⟩
  | .hbm, ⟨89, _⟩ => ⟨S_, .f32⟩
  | .hbm, ⟨90, _⟩ => ⟨S2x12x2048x2048, .f32⟩
  | .hbm, ⟨91, _⟩ => ⟨S2x12x2048x2048, .f32⟩
  | .hbm, ⟨92, _⟩ => ⟨S_, .f32⟩
  | .hbm, ⟨93, _⟩ => ⟨S2x12x2048x2048, .f32⟩
  | .hbm, ⟨94, _⟩ => ⟨S2x12x2048x2048, .f32⟩
  | .hbm, ⟨95, _⟩ => ⟨S2x12x2048x64, .f32⟩
  | .hbm, ⟨96, _⟩ => ⟨S2x2048x12x64, .f32⟩
  | .hbm, ⟨97, _⟩ => ⟨S2x12x2048x64, .f32⟩
  | .hbm, ⟨98, _⟩ => ⟨S2x2048x12x64, .f32⟩
  | .hbm, ⟨99, _⟩ => ⟨S2x12x2048x128, .f32⟩
  | .hbm, ⟨100, _⟩ => ⟨S2x2048x12x128, .f32⟩
  | .hbm, ⟨101, _⟩ => ⟨S2x12x2048x128, .f32⟩
  | .hbm, ⟨102, _⟩ => ⟨S2x2048x12x128, .f32⟩
  | .hbm, ⟨103, _⟩ => ⟨S_, .f32⟩
  | .hbm, ⟨104, _⟩ => ⟨S2x2048x12x32, .f32⟩
  | .hbm, ⟨105, _⟩ => ⟨S4096x1536, .f32⟩
  | .hbm, ⟨106, _⟩ => ⟨S_, .f32⟩
  | .hbm, ⟨107, _⟩ => ⟨S4096x1536, .f32⟩
  | .hbm, ⟨108, _⟩ => ⟨S4096x3072, .f32⟩
  | .hbm, ⟨109, _⟩ => ⟨S4096x3072, .bf16⟩
  | .hbm, ⟨110, _⟩ => ⟨S2x2048x12x32, .f32⟩
  | .hbm, ⟨111, _⟩ => ⟨S2x2048x12x32, .f32⟩
  | .hbm, ⟨112, _⟩ => ⟨S2x2048x12x128, .f32⟩
  | .hbm, ⟨113, _⟩ => ⟨S4096x1536, .f32⟩
  | .hbm, ⟨114, _⟩ => ⟨S2x2048x12x256, .f32⟩
  | .hbm, ⟨115, _⟩ => ⟨S4096x3072, .f32⟩
  | .hbm, ⟨116, _⟩ => ⟨S4096x3072, .bf16⟩
  | .hbm, ⟨117, _⟩ => ⟨S2x2048x12x32, .f32⟩
  | .hbm, ⟨118, _⟩ => ⟨S2x2048x12x32, .f32⟩
  | .hbm, ⟨119, _⟩ => ⟨S2x2048x12x128, .f32⟩
  | .hbm, ⟨120, _⟩ => ⟨S4096x1536, .f32⟩
  | _, _ => ⟨S2x2048x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_v15_1 : Ref sig .tc := ⟨.hbm, 24, rfl⟩
abbrev main_call0_v2 : Ref sig .tc := ⟨.hbm, 25, rfl⟩
abbrev main_v15_0 : Ref sig .tc := ⟨.hbm, 26, rfl⟩
abbrev main_call0_cst : Ref sig .tc := ⟨.hbm, 27, rfl⟩
abbrev main_v15_2 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_cst : Ref sig .tc := ⟨.hbm, 89, rfl⟩
abbrev main_call1_v0 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]
-- ==== Kernel2.lean ====
abbrev S4096x1024 : Shape := ⟨2, ![4096, 1024]⟩
abbrev S2048x1024 : Shape := ⟨2, ![2048, 1024]⟩
abbrev S4096x2048 : Shape := ⟨2, ![4096, 2048]⟩
abbrev S4096x5632 : Shape := ⟨2, ![4096, 5632]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S4096x2048, .f32⟩
  | .hbm, ⟨3, _⟩ => ⟨S4096x5632, .f32⟩
  | .hbm, ⟨4, _⟩ => ⟨S2048x1024, .bf16⟩
  | .hbm, ⟨5, _⟩ => ⟨S4096x2048, .f32⟩
  | .hbm, ⟨6, _⟩ => ⟨S4096x5632, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x1024 : Shape := ⟨2, ![4096, 1024]⟩
abbrev S2048x1024 : Shape := ⟨2, ![2048, 1024]⟩
abbrev S4096x2048 : Shape := ⟨2, ![4096, 2048]⟩
abbrev S4096x5632 : Shape := ⟨2, ![4096, 5632]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S4096x2048, .f32⟩
  | .hbm, ⟨3, _⟩ => ⟨S4096x5632, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x1024, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .i32⟩
  | .hbm, ⟨28, _⟩ => ⟨S_, .f32⟩
  | .hbm, ⟨29, _⟩ => ⟨S4096x5632, .f32⟩
  | .hbm, ⟨30, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_c : Ref sig .tc := ⟨.hbm, 27, rfl⟩
abbrev main_call2_v0 : Ref sig .tc := ⟨.hbm, 28, rfl⟩
abbrev main_v8 : Ref sig .tc := ⟨.hbm, 29, rfl⟩
abbrev main_v9 : Ref sig .tc := ⟨.hbm, 30, rfl⟩

abbrev nD : Nat := 1
abbrev τ : Topo := Topo.v7x

variable {F : FTy → Type} [FloatOps F]
-- ==== Kernel3.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S512x1408 : Shape := ⟨2, ![512, 1408]⟩
abbrev S1024x1408 : Shape := ⟨2, ![1024, 1408]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x5632, .bf16⟩
  | .hbm, ⟨6, _⟩ => ⟨S1024x5632, .bf16⟩
  | .hbm, ⟨7, _⟩ => ⟨S4096x1024, .f32⟩
  | .hbm, ⟨8, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_9 : BitVec 32 := 0#32
  let v18 : BitVec 1 := Scalar.cmpi .ne v17 c0_i32_9
  v18

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_3 : BitVec 32 := 0#32
  let v6 : BitVec 1 := Scalar.cmpi .eq arg1 c0_i32_3
  let v7 : BitVec 1 := Scalar.andi v5 v6
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference3Ideal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S4096x3456 : Shape := ⟨2, ![4096, 3456]⟩
abbrev S1024x3456 : Shape := ⟨2, ![1024, 3456]⟩
abbrev S4096x1024 : Shape := ⟨2, ![4096, 1024]⟩
abbrev S1x1024 : Shape := ⟨2, ![1, 1024]⟩
abbrev S512x1152 : Shape := ⟨2, ![512, 1152]⟩
abbrev S1024x1152 : Shape := ⟨2, ![1024, 1152]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x3456, .f32⟩
  | .hbm, ⟨1, _⟩ => ⟨S1024x3456, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x3456, .bf16⟩
  | .hbm, ⟨6, _⟩ => ⟨S1024x3456, .bf16⟩
  | .hbm, ⟨7, _⟩ => ⟨S4096x1024, .f32⟩
  | .hbm, ⟨8, _⟩ => ⟨S1x1024, .f32⟩
  | .local _ .vmem, ⟨0, _⟩ => ⟨S512x1152, .bf16⟩
  | .local _ .vmem, ⟨1, _⟩ => ⟨S512x1152, .bf16⟩
  | .local _ .vmem, ⟨2, _⟩ => ⟨S1024x1152, .bf16⟩
  | .local _ .vmem, ⟨3, _⟩ => ⟨S1024x1152, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 3], ![false, false]⟩

def k0_cond4 (i : grid0.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_9 : BitVec 32 := 0#32
  let v18 : BitVec 1 := Scalar.cmpi .ne v17 c0_i32_9
  v18

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_3 : BitVec 32 := 0#32
  let v6 : BitVec 1 := Scalar.cmpi .eq arg1 c0_i32_3
  let v7 : BitVec 1 := Scalar.andi v5 v6
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference4Ideal.lean ====
abbrev S4096x3456 : Shape := ⟨2, ![4096, 3456]⟩
abbrev S1024x3456 : Shape := ⟨2, ![1024, 3456]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x3456, .f32⟩
  | .hbm, ⟨1, _⟩ => ⟨S1024x3456, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x3456, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S4096x1024 : Shape := ⟨2, ![4096, 1024]⟩
abbrev S1024x3456 : Shape := ⟨2, ![1024, 3456]⟩
abbrev S4096x3456 : Shape := ⟨2, ![4096, 3456]⟩
abbrev S1024x1024 : Shape := ⟨2, ![1024, 1024]⟩
abbrev S1024x1152 : Shape := ⟨2, ![1024, 1152]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3456, .f32⟩
  | .hbm, ⟨2, _⟩ => ⟨S4096x1024, .bf16⟩
  | .hbm, ⟨3, _⟩ => ⟨S1024x3456, .bf16⟩
  | .hbm, ⟨4, _⟩ => ⟨S4096x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x3456 : Shape := ⟨2, ![1024, 3456]⟩
abbrev S4096x3456 : Shape := ⟨2, ![4096, 3456]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3456, .f32⟩
  | .hbm, ⟨2, _⟩ => ⟨S4096x3456, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S4096x512 : Shape := ⟨2, ![4096, 512]⟩
abbrev S512x3072 : Shape := ⟨2, ![512, 3072]⟩
abbrev S4096x3072 : Shape := ⟨2, ![4096, 3072]⟩
abbrev S1024x512 : Shape := ⟨2, ![1024, 512]⟩
abbrev S512x1536 : Shape := ⟨2, ![512, 1536]⟩
abbrev S1024x1536 : Shape := ⟨2, ![1024, 1536]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x3072, .f32⟩
  | .hbm, ⟨2, _⟩ => ⟨S4096x512, .bf16⟩
  | .hbm, ⟨3, _⟩ => ⟨S512x3072, .bf16⟩
  | .hbm, ⟨4, _⟩ => ⟨S4096x3072, .f32⟩
  | .local _ .vmem, ⟨0, _⟩ => ⟨S1024x512, .bf16⟩
  | .local _ .vmem, ⟨1, _⟩ => ⟨S1024x512, .bf16⟩
  | .local _ .vmem, ⟨2, _⟩ => ⟨S512x1536, .bf16⟩
  | .local _ .vmem, ⟨3, _⟩ => ⟨S512x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x512 : Shape := ⟨2, ![4096, 512]⟩
abbrev S512x3072 : Shape := ⟨2, ![512, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x3072, .f32⟩
  | .hbm, ⟨2, _⟩ => ⟨S4096x3072, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S4096x256 : Shape := ⟨2, ![4096, 256]⟩
abbrev S256x3072 : Shape := ⟨2, ![256, 3072]⟩
abbrev S4096x3072 : Shape := ⟨2, ![4096, 3072]⟩
abbrev S1024x256 : Shape := ⟨2, ![1024, 256]⟩
abbrev S256x1536 : Shape := ⟨2, ![256, 1536]⟩
abbrev S1024x1536 : Shape := ⟨2, ![1024, 1536]⟩

abbrev nBuf : Space → Nat
  | .hbm => 5
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x3072, .f32⟩
  | .hbm, ⟨2, _⟩ => ⟨S4096x256, .bf16⟩
  | .hbm, ⟨3, _⟩ => ⟨S256x3072, .bf16⟩
  | .hbm, ⟨4, _⟩ => ⟨S4096x3072, .bf16⟩
  | .local _ .vmem, ⟨0, _⟩ => ⟨S1024x256, .bf16⟩
  | .local _ .vmem, ⟨1, _⟩ => ⟨S1024x256, .bf16⟩
  | .local _ .vmem, ⟨2, _⟩ => ⟨S256x1536, .bf16⟩
  | .local _ .vmem, ⟨3, _⟩ => ⟨S256x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x256 : Shape := ⟨2, ![4096, 256]⟩
abbrev S256x3072 : Shape := ⟨2, ![256, 3072]⟩
abbrev S4096x3072 : Shape := ⟨2, ![4096, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x3072, .f32⟩
  | .hbm, ⟨2, _⟩ => ⟨S4096x3072, .f32⟩
  | .hbm, ⟨3, _⟩ => ⟨S4096x3072, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S4096x3072 : Shape := ⟨2, ![4096, 3072]⟩
abbrev S512x3072 : Shape := ⟨2, ![512, 3072]⟩
abbrev S4096x512 : Shape := ⟨2, ![4096, 512]⟩
abbrev S1024x1536 : Shape := ⟨2, ![1024, 1536]⟩
abbrev S512x1536 : Shape := ⟨2, ![512, 1536]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S512x3072, .f32⟩
  | .hbm, ⟨2, _⟩ => ⟨S4096x3072, .bf16⟩
  | .hbm, ⟨3, _⟩ => ⟨S512x3072, .bf16⟩
  | .hbm, ⟨4, _⟩ => ⟨S4096x512, .f32⟩
  | .local _ .vmem, ⟨0, _⟩ => ⟨S1024x1536, .bf16⟩
  | .local _ .vmem, ⟨1, _⟩ => ⟨S1024x1536, .bf16⟩
  | .local _ .vmem, ⟨2, _⟩ => ⟨S512x1536, .bf16⟩
  | .local _ .vmem, ⟨3, _⟩ => ⟨S512x1536, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x3072 : Shape := ⟨2, ![4096, 3072]⟩
abbrev S512x3072 : Shape := ⟨2, ![512, 3072]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S512x3072, .f32⟩
  | .hbm, ⟨2, _⟩ => ⟨S_, .f32⟩
  | .hbm, ⟨3, _⟩ => ⟨S4096x512, .f32⟩
  | .hbm, ⟨4, _⟩ => ⟨S4096x3072, .f32⟩
  | .hbm, ⟨5, _⟩ => ⟨S4096x512, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S4096x3072 : Shape := ⟨2, ![4096, 3072]⟩
abbrev S256x3072 : Shape := ⟨2, ![256, 3072]⟩
abbrev S4096x256 : Shape := ⟨2, ![4096, 256]⟩
abbrev S1024x1536 : Shape := ⟨2, ![1024, 1536]⟩
abbrev S256x1536 : Shape := ⟨2, ![256, 1536]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S256x3072, .f32⟩
  | .hbm, ⟨2, _⟩ => ⟨S4096x3072, .bf16⟩
  | .hbm, ⟨3, _⟩ => ⟨S256x3072, .bf16⟩
  | .hbm, ⟨4, _⟩ => ⟨S4096x256, .f32⟩
  | .local _ .vmem, ⟨0, _⟩ => ⟨S1024x1536, .bf16⟩
  | .local _ .vmem, ⟨1, _⟩ => ⟨S1024x1536, .bf16⟩
  | .local _ .vmem, ⟨2, _⟩ => ⟨S256x1536, .bf16⟩
  | .local _ .vmem, ⟨3, _⟩ => ⟨S256x1536, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x3072 : Shape := ⟨2, ![4096, 3072]⟩
abbrev S256x3072 : Shape := ⟨2, ![256, 3072]⟩
abbrev S_ : Shape := ⟨0, ![]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S256x3072, .f32⟩
  | .hbm, ⟨2, _⟩ => ⟨S_, .f32⟩
  | .hbm, ⟨3, _⟩ => ⟨S4096x256, .f32⟩
  | .hbm, ⟨4, _⟩ => ⟨S4096x3072, .f32⟩
  | .hbm, ⟨5, _⟩ => ⟨S4096x256, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x5632, .bf16⟩
  | .hbm, ⟨4, _⟩ => ⟨S1024x4096, .bf16⟩
  | .hbm, ⟨5, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x1024 : Shape := ⟨2, ![4096, 1024]⟩
abbrev S4096x3456 : Shape := ⟨2, ![4096, 3456]⟩
abbrev S1024x4096 : Shape := ⟨2, ![1024, 4096]⟩
abbrev S1024x3456 : Shape := ⟨2, ![1024, 3456]⟩
abbrev S1024x1024 : Shape := ⟨2, ![1024, 1024]⟩
abbrev S1024x1152 : Shape := ⟨2, ![1024, 1152]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3456, .f32⟩
  | .hbm, ⟨2, _⟩ => ⟨S4096x1024, .bf16⟩
  | .hbm, ⟨3, _⟩ => ⟨S4096x3456, .bf16⟩
  | .hbm, ⟨4, _⟩ => ⟨S1024x4096, .bf16⟩
  | .hbm, ⟨5, _⟩ => ⟨S1024x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S4096x3456 : Shape := ⟨2, ![4096, 3456]⟩
abbrev S_ : Shape := ⟨0, ![]⟩
abbrev S1024x3456 : Shape := ⟨2, ![1024, 3456]⟩
abbrev S3456x1024 : Shape := ⟨2, ![3456, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3456, .f32⟩
  | .hbm, ⟨2, _⟩ => ⟨S_, .f32⟩
  | .hbm, ⟨3, _⟩ => ⟨S1024x3456, .f32⟩
  | .hbm, ⟨4, _⟩ => ⟨S4096x3456, .f32⟩
  | .hbm, ⟨5, _⟩ => ⟨S3456x1024, .f32⟩
  | .hbm, ⟨6, _⟩ => ⟨S1024x3456, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x512 : Shape := ⟨2, ![4096, 512]⟩
abbrev S4096x3072 : Shape := ⟨2, ![4096, 3072]⟩
abbrev S512x4096 : Shape := ⟨2, ![512, 4096]⟩
abbrev S512x3072 : Shape := ⟨2, ![512, 3072]⟩
abbrev S512x1024 : Shape := ⟨2, ![512, 1024]⟩
abbrev S1024x1536 : Shape := ⟨2, ![1024, 1536]⟩
abbrev S512x1536 : Shape := ⟨2, ![512, 1536]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x3072, .f32⟩
  | .hbm, ⟨2, _⟩ => ⟨S4096x512, .bf16⟩
  | .hbm, ⟨3, _⟩ => ⟨S4096x3072, .bf16⟩
  | .hbm, ⟨4, _⟩ => ⟨S512x4096, .bf16⟩
  | .hbm, ⟨5, _⟩ => ⟨S512x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | .local _ .vmem, ⟨6, _⟩ => ⟨S512x1536, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x512 : Shape := ⟨2, ![4096, 512]⟩
abbrev S4096x3072 : Shape := ⟨2, ![4096, 3072]⟩
abbrev S_ : Shape := ⟨0, ![]⟩
abbrev S512x3072 : Shape := ⟨2, ![512, 3072]⟩
abbrev S3072x512 : Shape := ⟨2, ![3072, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x3072, .f32⟩
  | .hbm, ⟨2, _⟩ => ⟨S_, .f32⟩
  | .hbm, ⟨3, _⟩ => ⟨S512x3072, .f32⟩
  | .hbm, ⟨4, _⟩ => ⟨S4096x3072, .f32⟩
  | .hbm, ⟨5, _⟩ => ⟨S3072x512, .f32⟩
  | .hbm, ⟨6, _⟩ => ⟨S512x3072, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x256 : Shape := ⟨2, ![4096, 256]⟩
abbrev S4096x3072 : Shape := ⟨2, ![4096, 3072]⟩
abbrev S256x4096 : Shape := ⟨2, ![256, 4096]⟩
abbrev S256x3072 : Shape := ⟨2, ![256, 3072]⟩
abbrev S256x1024 : Shape := ⟨2, ![256, 1024]⟩
abbrev S1024x1536 : Shape := ⟨2, ![1024, 1536]⟩
abbrev S256x1536 : Shape := ⟨2, ![256, 1536]⟩

abbrev nBuf : Space → Nat
  | .hbm => 6
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x3072, .f32⟩
  | .hbm, ⟨2, _⟩ => ⟨S4096x256, .bf16⟩
  | .hbm, ⟨3, _⟩ => ⟨S4096x3072, .bf16⟩
  | .hbm, ⟨4, _⟩ => ⟨S256x4096, .bf16⟩
  | .hbm, ⟨5, _⟩ => ⟨S256x3072, .f32⟩
  | .local _ .vmem, ⟨0, _⟩ => ⟨S256x1024, .bf16⟩
  | .local _ .vmem, ⟨1, _⟩ => ⟨S256x1024, .bf16⟩
  | .local _ .vmem, ⟨2, _⟩ => ⟨S1024x1536, .bf16⟩
  | .local _ .vmem, ⟨3, _⟩ => ⟨S1024x1536, .bf16⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x256 : Shape := ⟨2, ![4096, 256]⟩
abbrev S4096x3072 : Shape := ⟨2, ![4096, 3072]⟩
abbrev S_ : Shape := ⟨0, ![]⟩
abbrev S256x3072 : Shape := ⟨2, ![256, 3072]⟩
abbrev S3072x256 : Shape := ⟨2, ![3072, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x3072, .f32⟩
  | .hbm, ⟨2, _⟩ => ⟨S_, .f32⟩
  | .hbm, ⟨3, _⟩ => ⟨S256x3072, .f32⟩
  | .hbm, ⟨4, _⟩ => ⟨S4096x3072, .f32⟩
  | .hbm, ⟨5, _⟩ => ⟨S3072x256, .f32⟩
  | .hbm, ⟨6, _⟩ => ⟨S256x3072, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x2048 : Shape := ⟨2, ![4096, 2048]⟩
abbrev S4096x1024 : Shape := ⟨2, ![4096, 1024]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S2048x4096, .f32⟩
  | .hbm, ⟨3, _⟩ => ⟨S2048x4096, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.KI.Model.lean ====
/-
  What one grid point of the attention gradient's kernel leaves in its buffers, as pure functions of the blocks it reads: the printed payloads
  over windows of the arrays. No memory operation stands here.
-/
module

public import proofs.«01_k».proof.Proof.Gen.KernelIdeal.Skeleton
public import Idealize.ShloMosaic.Lib.VecWindow

@[expose] public section
noncomputable section
namespace Cert.KernelIdeal.Hand
open Cert.KernelIdeal Cert.KernelIdeal.Gen
open Idealize.ShloMosaic Idealize.ShloMosaic.TcCoe
open Idealize.SL Idealize.SL.Sem

variable {F : FTy → Type} [FloatOps F] [Named F]

/-- The window of `x` of sizes `size` at offsets `off`, as an array of the window's own shape. -/
def win {α : Type} {s : Shape} (x : s.Idx → α) (off size : Fin s.rank → ℕ) (inb : ∀ a, off a + size a ≤ s.size a) : (⟨s.rank, size⟩ : Shape).Idx → α :=
  fun y => x ((Rect.unit off size inb).emb y)

/-- 512 rows from row `r` stay inside 2048. -/
theorem inbQ (r : ℕ) (h : r ≤ 1536) : ∀ a, (![r, 0] : Fin 2 → ℕ) a + S512x256.size a ≤ S2048x256.size a := by
  intro a; fin_cases a <;> simp [S512x256, S2048x256] <;> omega
theorem inbD (r : ℕ) (h : r ≤ 1536) : ∀ a, (![r, 0] : Fin 2 → ℕ) a + S512x128.size a ≤ S2048x128.size a := by
  intro a; fin_cases a <;> simp [S512x128, S2048x128] <;> omega
theorem inb1 (r : ℕ) (h : r ≤ 1536) : ∀ a, (![r, 0] : Fin 2 → ℕ) a + S512x1.size a ≤ S2048x1.size a := by
  intro a; fin_cases a <;> simp [S512x1, S2048x1] <;> omega
theorem inbL (r : ℕ) (h : r ≤ 1536) : ∀ a, (![0, r, 0] : Fin 3 → ℕ) a + S1x512x1.size a ≤ S1x2048x1.size a := by
  intro a; fin_cases a <;> simp [S1x512x1, S1x2048x1] <;> omega

/-- Rows `r … r+511` of the joined queries (`bf16`). -/
def rq (X : Vec F S2048x256 .bf16) (r : ℕ) (h : r ≤ 1536) : Vec F S512x256 .bf16 := win X ![r, 0] S512x256.size (inbQ r h)
/-- Rows `r … r+511` of the gradient's accumulator. -/
def ra (X : Vec F S2048x256 .f32) (r : ℕ) (h : r ≤ 1536) : Vec F S512x256 .f32 := win X ![r, 0] S512x256.size (inbQ r h)
/-- Rows `r … r+511` of the output's gradient. -/
def rd (X : Vec F S2048x128 .bf16) (r : ℕ) (h : r ≤ 1536) : Vec F S512x128 .bf16 := win X ![r, 0] S512x128.size (inbD r h)
/-- Rows `r … r+511` of the row sums `do·o`. -/
def rs (X : Vec F S2048x1 .f32) (r : ℕ) (h : r ≤ 1536) : Vec F S512x1 .f32 := win X ![r, 0] S512x1.size (inb1 r h)
/-- Rows `r … r+511` of the log-sum-exps. -/
def rl (X : Vec F S1x2048x1 .f32) (r : ℕ) (h : r ≤ 1536) : Vec F S1x512x1 .f32 := win X ![0, r, 0] S1x512x1.size (inbL r h)
/-- The first 512 keys of an accumulator. -/
def hk (X : Vec F S1024x256 .f32) : Vec F S512x256 .f32 := win X ![0, 0] S512x256.size inb_S1024x256_S512x256_0_0
def hv (X : Vec F S1024x128 .f32) : Vec F S512x128 .f32 := win X ![0, 0] S512x128.size inb_S1024x128_S512x128_0_0

/-- Rows `r … r+511` of the accumulator replaced. -/
def pa (X : Vec F S2048x256 .f32) (r : ℕ) (w : Vec F S512x256 .f32) : Vec F S2048x256 .f32 := VecWindow.put X ![r, 0] S512x256.size w

section
variable (q : Vec F S2048x256 .bf16) (d : Vec F S2048x128 .bf16) (D : Vec F S2048x1 .f32) (l : Vec F S1x2048x1 .f32)
  (kn kr v : Vec F S1024x128 .bf16)

/-- The masked step: 512 rows from `r` against the first 512 keys, the diagonal block. -/
def dvA (r : ℕ) (h : r ≤ 1536) : Vec F S1024x128 .f32 :=
  VecWindow.put (s := S1024x128) (k0_pay28 (F := F)) ![0, 0] S512x128.size
    (k0_pay33 k0_pay26 (rq q r h) (rd d r h) (k0_pay29 kn kr) (constant S512x512 .f32 0x00000000#32) (rl l r h) (hv k0_pay28))
def dkA (r : ℕ) (h : r ≤ 1536) : Vec F S1024x256 .f32 :=
  VecWindow.put (s := S1024x256) (k0_pay27 (F := F)) ![0, 0] S512x256.size
    (k0_pay34 k0_pay26 (rq q r h) (rd d r h) (k0_pay29 kn kr) (k0_pay30 v) (constant S512x512 .f32 0x00000000#32) (rl l r h) (rs D r h) (hk k0_pay27))
def daA (r : ℕ) (h : r ≤ 1536) (acc : Vec F S2048x256 .f32) : Vec F S512x256 .f32 :=
  k0_pay36 (k0_pay35 k0_pay26 (rq q r h) (rd d r h) (k0_pay29 kn kr) (k0_pay30 v) (constant S512x512 .f32 0x00000000#32) (rl l r h) (rs D r h) (ra acc r h))

/-- The half-masked step: 512 rows from `r` against all 1024 keys, the last 512 of them the diagonal block. -/
def dvB (r : ℕ) (h : r ≤ 1536) (dv : Vec F S1024x128 .f32) : Vec F S1024x128 .f32 :=
  k0_pay39 (k0_pay24 kn kr) k0_pay26 (rq q r h) (rd d r h) (rl l r h) dv
def dkB (r : ℕ) (h : r ≤ 1536) (dk : Vec F S1024x256 .f32) : Vec F S1024x256 .f32 :=
  k0_pay41 dk (k0_pay40 (k0_pay24 kn kr) (k0_pay25 v) k0_pay26 (rq q r h) (rd d r h) (rl l r h) (rs D r h))
def daB (r : ℕ) (h : r ≤ 1536) (acc : Vec F S2048x256 .f32) : Vec F S512x256 .f32 :=
  k0_pay42 (k0_pay24 kn kr) (k0_pay38 (k0_pay24 kn kr) (k0_pay25 v) k0_pay26 (rq q r h) (rd d r h) (rl l r h) (rs D r h)) (ra acc r h)

/-- The full step: 512 rows from `r` against all 1024 keys, nothing masked. -/
def dvC (r : ℕ) (h : r ≤ 1536) (dv : Vec F S1024x128 .f32) : Vec F S1024x128 .f32 :=
  k0_pay4 (k0_pay24 kn kr) (rq q r h) (rd d r h) (rl l r h) dv
def dkC (r : ℕ) (h : r ≤ 1536) (dk : Vec F S1024x256 .f32) : Vec F S1024x256 .f32 :=
  k0_pay6 (k0_pay5 (k0_pay24 kn kr) (k0_pay25 v) (rq q r h) (rd d r h) (rl l r h) (rs D r h) dk)
def daC (r : ℕ) (h : r ≤ 1536) (acc : Vec F S2048x256 .f32) : Vec F S512x256 .f32 :=
  k0_pay7 (k0_pay24 kn kr) (k0_pay3 (k0_pay24 kn kr) (k0_pay25 v) (rq q r h) (rd d r h) (rl l r h) (rs D r h)) (ra acc r h)

/-- What the second key block (the last point of a head) leaves. -/
def acc1 (acc : Vec F S2048x256 .f32) : Vec F S2048x256 .f32 :=
  pa (pa acc 1024 (daA q d D l kn kr v 1024 (by decide) acc)) 1536 (daB q d D l kn kr v 1536 (by decide) acc)
def dk1 : Vec F S1024x256 .f32 := dkB q d D l kn kr v 1536 (by decide) (dkA q d D l kn kr v 1024 (by decide))
def dv1 : Vec F S1024x128 .f32 := dvB q d l kn kr 1536 (by decide) (dvA q d l kn kr 1024 (by decide))

/-- What the first key block leaves. -/
def acc0 : Vec F S2048x256 .f32 :=
  pa (pa (pa (pa k0_pay23 0 (daA q d D l kn kr v 0 (by decide) k0_pay23)) 512 (daB q d D l kn kr v 512 (by decide) k0_pay23))
    1024 (daC q d D l kn kr v 1024 (by decide) k0_pay23)) 1536 (daC q d D l kn kr v 1536 (by decide) k0_pay23)
def dk0 : Vec F S1024x256 .f32 :=
  dkC q d D l kn kr v 1536 (by decide) (dkC q d D l kn kr v 1024 (by decide) (dkB q d D l kn kr v 512 (by decide) (dkA q d D l kn kr v 0 (by decide))))
def dv0 : Vec F S1024x128 .f32 :=
  dvC q d l kn kr 1536 (by decide) (dvC q d l kn kr 1024 (by decide) (dvB q d l kn kr 512 (by decide) (dvA q d l kn kr 0 (by decide))))
end

/-- The three kinds of block a point writes out. -/
def outQn (acc : Vec F S2048x256 .f32) : Vec F S2048x128 .bf16 :=
  k0_pay1 (win acc ![0, 0] S2048x128.size inb_S2048x256_S2048x128_0_0)
def outQr (acc : Vec F S2048x256 .f32) : Vec F S2048x128 .f32 :=
  win acc ![0, 128] S2048x128.size inb_S2048x256_S2048x128_0_128
def outKV (dk : Vec F S1024x256 .f32) (dv : Vec F S1024x128 .f32) : Vec F S1024x256 .bf16 :=
  k0_pay49 (win dk ![0, 0] S1024x128.size inb_S1024x256_S1024x128_0_0) dv
def outKr (dk : Vec F S1024x256 .f32) : Vec F S1024x128 .f32 :=
  win dk ![0, 128] S1024x128.size inb_S1024x256_S1024x128_0_128

/-! ## Loads and stores, read as windows and replacements -/

section
variable {sig' : RefSig} {κ' : Kind} {sp : Space} {s : Shape} {e : EltTy} {Val : EltTy → Type}

theorem read_put (v : View sig' κ' sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl
theorem readAt_win (v : View sig' κ' sp s e) (f : v.ty.Contents Val) {off size : Fin s.rank → ℕ} (inb : ∀ a, off a + size a ≤ s.size a) :
    v.readAt Val (Rect.unit off size inb).toLoadRect f = win (v.read Val f) off size inb := rfl
theorem readCov_win [∀ e, Nonempty (Val e)] (v : View sig' κ' sp s e) (L : List (View.Piece Val s e)) {off size : Fin s.rank → ℕ}
    (inb : ∀ a, off a + size a ≤ s.size a) :
    v.readCov L (Rect.unit off size inb).toLoadRect = win (View.canon L) off size inb :=
  View.readCov_eq_canon' v L _
theorem canon_put [∀ e, Nonempty (Val e)] {off size : Fin s.rank → ℕ} (inb : ∀ a, off a + size a ≤ s.size a)
    (w : (Rect.unit off size inb).shape.Idx → Val e) (L : List (View.Piece Val s e)) :
    View.canon ((⟨Rect.unit off size inb, w⟩ : View.Piece Val s e) :: L) = VecWindow.put (View.canon L) off size w := by
  funext y
  by_cases h : ∀ a, off a ≤ (y a).val ∧ (y a).val < off a + size a
  · have hy : (Rect.unit off size inb).emb (Rect.unitLocal (s := s) (off := off) (size := size) y h) = y := funext fun a => Fin.ext (by
      show off a + 1 * ((y a).val - off a) = (y a).val
      have := h a; omega)
    have e1 := View.canon_cons_emb (Val := Val) (e := e) (Rect.unit off size inb) w L (Rect.unitLocal (s := s) (off := off) (size := size) y h)
    rw [hy] at e1
    rw [e1]; unfold VecWindow.put; rw [dif_pos h]
  · rw [View.canon_cons_of_not_mem _ _ (by rw [Rect.mem_set_unit]; exact h)]
    unfold VecWindow.put; rw [dif_neg h]
theorem put_full_any {α : Type} {s : Shape} (x w : s.Idx → α) (off : Fin s.rank → ℕ) (inb : ∀ a, off a + s.size a ≤ s.size a) :
    VecWindow.put x off s.size w = w := by
  have h0 : off = fun _ => 0 := funext fun a => by have := inb a; omega
  subst h0
  funext y
  unfold VecWindow.put
  rw [dif_pos fun a => ⟨Nat.zero_le _, by simpa using (y a).isLt⟩]
  rfl
theorem win_full_any {α : Type} {s : Shape} (x : s.Idx → α) (off : Fin s.rank → ℕ) (inb : ∀ a, off a + s.size a ≤ s.size a) :
    win x off s.size inb = x := by
  funext y; exact congrArg x (Rect.emb_unit_full inb y)
/-- A window that lies apart from a replacement reads what was there before. -/
theorem win_put {α : Type} {s : Shape} (x : s.Idx → α) (off size off' size' : Fin s.rank → ℕ) (inb' : ∀ a, off' a + size' a ≤ s.size a)
    (w : ((a : Fin s.rank) → Fin (size a)) → α) (a : Fin s.rank) (ha : off' a + size' a ≤ off a ∨ off a + size a ≤ off' a) :
    win (VecWindow.put x off size w) off' size' inb' = win x off' size' inb' :=
  VecWindow.window_put_of_disjoint x off size off' size' inb' w a ha
end

/-- Two blocks of 512 columns side by side. -/
def cat2 (a b : FVec F S512x512 .f32) : FVec F S512x1024 .f32 :=
  concatenate S512x1024 1 [⟨S512x512, a⟩, ⟨S512x512, b⟩] concatenates_S512x512_S512x512_S512x1024_d1
theorem cat2_eq (a b : FVec F S512x512 .f32) (h : Shape.Concatenates [S512x512, S512x512] S512x1024 1) :
    concatenate S512x1024 1 [⟨S512x512, a⟩, ⟨S512x512, b⟩] h = cat2 a b := rfl
theorem win_off {α : Type} {s : Shape} {off off' : Fin s.rank → ℕ} (h : off = off') (x : s.Idx → α) (size : Fin s.rank → ℕ)
    (inb : ∀ a, off a + size a ≤ s.size a) : win x off size inb = win x off' size (h ▸ inb) := by
  subst h; rfl
/-- Rows of the accumulator read apart from the rows just replaced. -/
theorem win_put_rows {α : Type} (x : S2048x256.Idx → α) (r r' : ℕ) (inb : ∀ a, (![r', 0] : Fin 2 → ℕ) a + S512x256.size a ≤ S2048x256.size a)
    (w : ((a : Fin S2048x256.rank) → Fin (S512x256.size a)) → α) (h : r + 512 ≤ r') :
    win (VecWindow.put (s := S2048x256) x ![r, 0] ![512, 256] w) ![r', 0] ![512, 256] inb = win x ![r', 0] ![512, 256] inb :=
  win_put (s := S2048x256) x _ _ _ _ _ w 0 (Or.inr h)

/-! The same for the buffers' own shapes, sizes written out. -/

theorem put_full_2048x256 {α : Type} (x : S2048x256.Idx → α) (w : ((a : Fin S2048x256.rank) → Fin ((![2048, 256] : Fin 2 → ℕ) a)) → α) :
    VecWindow.put (s := S2048x256) x ![0, 0] ![2048, 256] w = w := put_full_any (s := S2048x256) x w _ inb_S2048x256_S2048x256_0_0
theorem win_full_2048x256 {α : Type} (x : S2048x256.Idx → α) (inb : ∀ a, (![0, 0] : Fin 2 → ℕ) a + (![2048, 256] : Fin 2 → ℕ) a ≤ S2048x256.size a) :
    win (s := S2048x256) x ![0, 0] ![2048, 256] inb = x := win_full_any (s := S2048x256) x _ inb
theorem put_full_2048x128 {α : Type} (x : S2048x128.Idx → α) (w : ((a : Fin S2048x128.rank) → Fin ((![2048, 128] : Fin 2 → ℕ) a)) → α) :
    VecWindow.put (s := S2048x128) x ![0, 0] ![2048, 128] w = w := put_full_any (s := S2048x128) x w _ inb_S2048x128_S2048x128_0_0
theorem win_full_2048x128 {α : Type} (x : S2048x128.Idx → α) (inb : ∀ a, (![0, 0] : Fin 2 → ℕ) a + (![2048, 128] : Fin 2 → ℕ) a ≤ S2048x128.size a) :
    win (s := S2048x128) x ![0, 0] ![2048, 128] inb = x := win_full_any (s := S2048x128) x _ inb
theorem put_full_2048x1 {α : Type} (x : S2048x1.Idx → α) (w : ((a : Fin S2048x1.rank) → Fin ((![2048, 1] : Fin 2 → ℕ) a)) → α) :
    VecWindow.put (s := S2048x1) x ![0, 0] ![2048, 1] w = w := put_full_any (s := S2048x1) x w _ inb_S2048x1_S2048x1_0_0
theorem win_full_2048x1 {α : Type} (x : S2048x1.Idx → α) (inb : ∀ a, (![0, 0] : Fin 2 → ℕ) a + (![2048, 1] : Fin 2 → ℕ) a ≤ S2048x1.size a) :
    win (s := S2048x1) x ![0, 0] ![2048, 1] inb = x := win_full_any (s := S2048x1) x _ inb
theorem put_full_1024x256 {α : Type} (x : S1024x256.Idx → α) (w : ((a : Fin S1024x256.rank) → Fin ((![1024, 256] : Fin 2 → ℕ) a)) → α) :
    VecWindow.put (s := S1024x256) x ![0, 0] ![1024, 256] w = w := put_full_any (s := S1024x256) x w _ inb_S1024x256_S1024x256_0_0
theorem win_full_1024x256 {α : Type} (x : S1024x256.Idx → α) (inb : ∀ a, (![0, 0] : Fin 2 → ℕ) a + (![1024, 256] : Fin 2 → ℕ) a ≤ S1024x256.size a) :
    win (s := S1024x256) x ![0, 0] ![1024, 256] inb = x := win_full_any (s := S1024x256) x _ inb
theorem put_full_1024x128 {α : Type} (x : S1024x128.Idx → α) (w : ((a : Fin S1024x128.rank) → Fin ((![1024, 128] : Fin 2 → ℕ) a)) → α) :
    VecWindow.put (s := S1024x128) x ![0, 0] ![1024, 128] w = w := put_full_any (s := S1024x128) x w _ inb_S1024x128_S1024x128_0_0
theorem win_full_1024x128 {α : Type} (x : S1024x128.Idx → α) (inb : ∀ a, (![0, 0] : Fin 2 → ℕ) a + (![1024, 128] : Fin 2 → ℕ) a ≤ S1024x128.size a) :
    win (s := S1024x128) x ![0, 0] ![1024, 128] inb = x := win_full_any (s := S1024x128) x _ inb

end Cert.KernelIdeal.Hand
-- ==== Proof.KI.Run0.lean ====
module

public import proofs.«01_k».proof.Proof.KI.Model
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.Pipeline.TableIdle

@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

set_option maxHeartbeats 0 in
set_option maxRecDepth 8192 in
theorem run0 (c : Dev nD) (i : grid0.Coords) (hi : (i 2).val = 0)
    (hc1 : (Scalar.cmpi .ne (Scalar.extui (Scalar.cmpi .eq (BitVec.ofNat 32 (i 2).val) 0#32) : BitVec 32) 0#32 = 1#1)) (hc2 : ¬ (k0_cond2 i = 1#1))
    (ht1 : (k0_t1_loop i).trips = 1) (ht2 : (k0_t2_loop i).trips = 0)
    (arg3 : Memref sig .tc .vmem S2048x128 .f32) (harg3 : arg3.IsWhole)
    (arg4 : Memref sig .tc .vmem S2048x128 .bf16) (harg4 : arg4.IsWhole)
    (arg5 : Memref sig .tc .vmem S1024x128 .bf16) (harg5 : arg5.IsWhole)
    (arg6 : Memref sig .tc .vmem S1024x128 .bf16) (harg6 : arg6.IsWhole)
    (arg7 : Memref sig .tc .vmem S1024x128 .bf16) (harg7 : arg7.IsWhole)
    (arg8 : Memref sig .tc .vmem S2048x128 .f32) (harg8 : arg8.IsWhole)
    (arg9 : Memref sig .tc .vmem S2048x128 .f32) (harg9 : arg9.IsWhole)
    (arg10 : Memref sig .tc .vmem S1x2048x1 .f32) (harg10 : arg10.IsWhole)
    (arg11 : Memref sig .tc .vmem S2048x128 .bf16) (harg11 : arg11.IsWhole)
    (arg12 : Memref sig .tc .vmem S2048x128 .f32) (harg12 : arg12.IsWhole)
    (arg13 : Memref sig .tc .vmem S1024x256 .bf16) (harg13 : arg13.IsWhole)
    (arg14 : Memref sig .tc .vmem S1024x128 .f32) (harg14 : arg14.IsWhole)
    (arg15 : Memref sig .tc .vmem S2048x256 .bf16) (harg15 : arg15.IsWhole)
    (arg16 : Memref sig .tc .vmem S2048x128 .bf16) (harg16 : arg16.IsWhole)
    (arg17 : Memref sig .tc .vmem S2048x1 .f32) (harg17 : arg17.IsWhole)
    (arg18 : Memref sig .tc .vmem S2048x256 .f32) (harg18 : arg18.IsWhole)
    (arg19 : Memref sig .tc .vmem S1024x256 .f32) (harg19 : arg19.IsWhole)
    (arg20 : Memref sig .tc .vmem S1024x128 .f32) (harg20 : arg20.IsWhole)
    (xqn : Vec F S2048x128 .f32) (xqr : Vec F S2048x128 .bf16) (xkn : Vec F S1024x128 .bf16) (xkr : Vec F S1024x128 .bf16) (xv : Vec F S1024x128 .bf16) (xo : Vec F S2048x128 .f32) (xdo : Vec F S2048x128 .f32) (xl : Vec F S1x2048x1 .f32) (d11 : Vec F S2048x128 .bf16) (d12 : Vec F S2048x128 .f32) (K : PUnit → sProp 𝕄) :
    (iprop(owns (c : Thread nD τ) arg3 fullShare xqn ∗ owns (c : Thread nD τ) arg4 fullShare xqr ∗ owns (c : Thread nD τ) arg5 fullShare xkn ∗ owns (c : Thread nD τ) arg6 fullShare xkr ∗ owns (c : Thread nD τ) arg7 fullShare xv ∗ owns (c : Thread nD τ) arg8 fullShare xo ∗ owns (c : Thread nD τ) arg9 fullShare xdo ∗ owns (c : Thread nD τ) arg10 fullShare xl ∗ owns (c : Thread nD τ) arg11 fullShare d11 ∗ owns (c : Thread nD τ) arg12 fullShare d12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg3 fullShare xqn ∗ owns (c : Thread nD τ) arg4 fullShare xqr ∗ owns (c : Thread nD τ) arg5 fullShare xkn ∗ owns (c : Thread nD τ) arg6 fullShare xkr ∗ owns (c : Thread nD τ) arg7 fullShare xv ∗ owns (c : Thread nD τ) arg8 fullShare xo ∗ owns (c : Thread nD τ) arg9 fullShare xdo ∗ owns (c : Thread nD τ) arg10 fullShare xl ∗ owns (c : Thread nD τ) arg11 fullShare d11 ∗ owns (c : Thread nD τ) arg12 fullShare d12 ∗ owns (c : Thread nD τ) arg13 fullShare (outKV (dk0 (k0_pay20 xqn xqr) (k0_pay21 xdo) (k0_pay22 xdo xo) xl xkn xkr xv) (dv0 (k0_pay20 xqn xqr) (k0_pay21 xdo) xl xkn xkr)) ∗ owns (c : Thread nD τ) arg14 fullShare (outKr (dk0 (k0_pay20 xqn xqr) (k0_pay21 xdo) (k0_pay22 xdo xo) xl xkn xkr xv)) ∗ owns (c : Thread nD τ) arg15 fullShare (k0_pay20 xqn xqr) ∗ owns (c : Thread nD τ) arg16 fullShare (k0_pay21 xdo) ∗ owns (c : Thread nD τ) arg17 fullShare (k0_pay22 xdo xo) ∗ owns (c : Thread nD τ) arg18 fullShare (acc0 (k0_pay20 xqn xqr) (k0_pay21 xdo) (k0_pay22 xdo xo) xl xkn xkr xv) ∗ (∃ d, owns (c : Thread nD τ) arg19 fullShare d) ∗ (∃ d, owns (c : Thread nD τ) arg20 fullShare d)) -∗ K ⟨⟩)) : sProp 𝕄)
      ⊢ wp frame (wpE (defs₀ (F := F)) Variants.none c none) Set.univ
          (cc0_l1_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_l1_attn_bwd_eq_skeleton]; unfold cc0_l1_attn_bwd_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13x, %f13, %e13, H13⟩, ⟨%d14x, %f14, %e14, H14⟩, ⟨%d15x, %f15, %e15, H15⟩, ⟨%d16x, %f16, %e16, H16⟩, ⟨%d17x, %f17, %e17, H17⟩, ⟨%d18x, %f18, %e18, H18⟩, ⟨%d19x, %f19, %e19, H19⟩, ⟨%d20x, %f20, %e20, H20⟩, HK⟩
  have o1a : k0_off1 i 0#32 = ![0, 0] := (k0_off1_eq i 0).trans (by rw [hi]; rfl)
  have o2a : k0_off2 i 0#32 = ![0, 0] := (k0_off2_eq i 0).trans (by rw [hi]; rfl)
  have o3a : k0_off3 i 0#32 = ![0, 0, 0] := (k0_off3_eq i 0).trans (by rw [hi]; rfl)
  have o4a : k0_off4 i 0#32 = ![0, 0] := (k0_off4_eq i 0).trans (by rw [hi]; rfl)
  have o1b : k0_off1 i 512#32 = ![512, 0] := (k0_off1_eq i 1).trans (by rw [hi]; rfl)
  have o2b : k0_off2 i 512#32 = ![512, 0] := (k0_off2_eq i 1).trans (by rw [hi]; rfl)
  have o3b : k0_off3 i 512#32 = ![0, 512, 0] := (k0_off3_eq i 1).trans (by rw [hi]; rfl)
  have o4b : k0_off4 i 512#32 = ![512, 0] := (k0_off4_eq i 1).trans (by rw [hi]; rfl)
  have hk0 : ∀ k : Fin (k0_t1_loop i).trips, k.val = 0 := fun k => by have := k.isLt; omega
  have o5a : ∀ k, k0_off5 i k 0#32 = ![1024, 0] := fun k => (k0_off5_eq i k 0).trans (by rw [hi, hk0 k]; rfl)
  have o6a : ∀ k, k0_off6 i k 0#32 = ![1024, 0] := fun k => (k0_off6_eq i k 0).trans (by rw [hi, hk0 k]; rfl)
  have o7a : ∀ k, k0_off7 i k 0#32 = ![0, 1024, 0] := fun k => (k0_off7_eq i k 0).trans (by rw [hi, hk0 k]; rfl)
  have o8a : ∀ k, k0_off8 i k 0#32 = ![1024, 0] := fun k => (k0_off8_eq i k 0).trans (by rw [hi, hk0 k]; rfl)
  have o5b : ∀ k, k0_off5 i k 512#32 = ![1536, 0] := fun k => (k0_off5_eq i k 1).trans (by rw [hi, hk0 k]; rfl)
  have o6b : ∀ k, k0_off6 i k 512#32 = ![1536, 0] := fun k => (k0_off6_eq i k 1).trans (by rw [hi, hk0 k]; rfl)
  have o7b : ∀ k, k0_off7 i k 512#32 = ![0, 1536, 0] := fun k => (k0_off7_eq i k 1).trans (by rw [hi, hk0 k]; rfl)
  have o8b : ∀ k, k0_off8 i k 512#32 = ![1536, 0] := fun k => (k0_off8_eq i k 1).trans (by rw [hi, hk0 k]; rfl)
  sl_exec
  rw [Scf.for_trips1_bind _ _ ht1]
  unfold k0_t1_body
  sl_exec
  sl_step
  iapply HK
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists _; isplitr; rotate_left; · iexact H13
    ipureintro
    delta run0.sl.H15_1 run0.sl.H16_1 run0.sl.H17_1 run0.sl.H18_1 run0.sl.H18_2 run0.sl.H18_4 run0.sl.H19_1 run0.sl.H19_2 run0.sl.H19_3 run0.sl.H19_4 run0.sl.H20_1 run0.sl.H20_2 run0.sl.H20_3 run0.sl.H20_4 run0.sl.arg21 run0.sl.cst_16 run0.sl.cst_17 run0.sl.cst_25 run0.sl.cst_30 run0.sl.cst_39 run0.sl.cst_48 run0.sl.cst_53 run0.sl.cst_78 run0.sl.cst_79 run0.sl.cst_87 run0.sl.cst_92 run0.sl.cst_96 run0.sl.r run0.sl.r_1 run0.sl.r_2 run0.sl.r_3 run0.sl.v0 run0.sl.v1 run0.sl.v100 run0.sl.v101 run0.sl.v102 run0.sl.v103 run0.sl.v104 run0.sl.v105 run0.sl.v107 run0.sl.v108 run0.sl.v109 run0.sl.v110 run0.sl.v116 run0.sl.v123 run0.sl.v124 run0.sl.v126 run0.sl.v127 run0.sl.v128 run0.sl.v129 run0.sl.v130 run0.sl.v134 run0.sl.v139 run0.sl.v140 run0.sl.v142 run0.sl.v143 run0.sl.v145 run0.sl.v146 run0.sl.v147 run0.sl.v148 run0.sl.v151 run0.sl.v152 run0.sl.v153 run0.sl.v154 run0.sl.v155 run0.sl.v157 run0.sl.v158 run0.sl.v159 run0.sl.v160 run0.sl.v162 run0.sl.v163 run0.sl.v164 run0.sl.v165 run0.sl.v166 run0.sl.v167 run0.sl.v169 run0.sl.v170 run0.sl.v171 run0.sl.v172 run0.sl.v173 run0.sl.v175 run0.sl.v176 run0.sl.v178 run0.sl.v179 run0.sl.v180 run0.sl.v183 run0.sl.v184 run0.sl.v186 run0.sl.v188 run0.sl.v189 run0.sl.v191 run0.sl.v192 run0.sl.v194 run0.sl.v197 run0.sl.v198 run0.sl.v199 run0.sl.v2 run0.sl.v200 run0.sl.v201 run0.sl.v203 run0.sl.v204 run0.sl.v205 run0.sl.v206 run0.sl.v208 run0.sl.v209 run0.sl.v210 run0.sl.v211 run0.sl.v212 run0.sl.v213 run0.sl.v217 run0.sl.v224 run0.sl.v24 run0.sl.v25 run0.sl.v28 run0.sl.v30 run0.sl.v33 run0.sl.v34 run0.sl.v35 run0.sl.v36 run0.sl.v37 run0.sl.v39 run0.sl.v40 run0.sl.v41 run0.sl.v42 run0.sl.v43 run0.sl.v45 run0.sl.v46 run0.sl.v47 run0.sl.v48 run0.sl.v50 run0.sl.v51 run0.sl.v52 run0.sl.v53 run0.sl.v54 run0.sl.v55 run0.sl.v57 run0.sl.v58 run0.sl.v59 run0.sl.v60 run0.sl.v61 run0.sl.v63 run0.sl.v64 run0.sl.v66 run0.sl.v67 run0.sl.v68 run0.sl.v71 run0.sl.v72 run0.sl.v74 run0.sl.v76 run0.sl.v77 run0.sl.v79 run0.sl.v80 run0.sl.v81 run0.sl.v82 run0.sl.v83 run0.sl.v84 run0.sl.v85 run0.sl.v86 run0.sl.v89 run0.sl.v90 run0.sl.v91 run0.sl.v92 run0.sl.v93 run0.sl.v95 run0.sl.v96 run0.sl.v97 run0.sl.v98
    simp (disch := omega) only [cat2_eq, read_put, View.writes_nil, readAt_win, readCov_win, canon_put, put_full_2048x256, win_full_2048x256, put_full_2048x128, win_full_2048x128, put_full_2048x1, win_full_2048x1, put_full_1024x256, win_full_1024x256, put_full_1024x128, win_full_1024x128, win_put_rows, e3, e4, e5, e6, e7, e8, e9, e10, win_off (s := S2048x256) (o1a), o1a, win_off (s := S2048x128) (o2a), win_off (s := S1x2048x1) (o3a), win_off (s := S2048x1) (o4a), win_off (s := S2048x256) (o1b), o1b, win_off (s := S2048x128) (o2b), win_off (s := S1x2048x1) (o3b), win_off (s := S2048x1) (o4b), win_off (s := S2048x256) (o5a _), o5a, win_off (s := S2048x128) (o6a _), win_off (s := S1x2048x1) (o7a _), win_off (s := S2048x1) (o8a _), win_off (s := S2048x256) (o5b _), o5b, win_off (s := S2048x128) (o6b _), win_off (s := S1x2048x1) (o7b _), win_off (s := S2048x1) (o8b _)]
    first | done | rfl
  isplitl [H14]
  · iexists _; isplitr; rotate_left; · iexact H14
    ipureintro
    delta run0.sl.H15_1 run0.sl.H16_1 run0.sl.H17_1 run0.sl.H18_1 run0.sl.H18_2 run0.sl.H18_4 run0.sl.H19_1 run0.sl.H19_2 run0.sl.H19_3 run0.sl.H19_4 run0.sl.H20_1 run0.sl.H20_2 run0.sl.H20_3 run0.sl.H20_4 run0.sl.arg21 run0.sl.cst_16 run0.sl.cst_17 run0.sl.cst_25 run0.sl.cst_30 run0.sl.cst_39 run0.sl.cst_48 run0.sl.cst_53 run0.sl.cst_78 run0.sl.cst_79 run0.sl.cst_87 run0.sl.cst_92 run0.sl.cst_96 run0.sl.r run0.sl.r_1 run0.sl.r_2 run0.sl.r_3 run0.sl.v0 run0.sl.v1 run0.sl.v100 run0.sl.v101 run0.sl.v102 run0.sl.v103 run0.sl.v104 run0.sl.v105 run0.sl.v107 run0.sl.v108 run0.sl.v109 run0.sl.v110 run0.sl.v116 run0.sl.v123 run0.sl.v124 run0.sl.v126 run0.sl.v127 run0.sl.v128 run0.sl.v129 run0.sl.v130 run0.sl.v134 run0.sl.v139 run0.sl.v140 run0.sl.v142 run0.sl.v143 run0.sl.v145 run0.sl.v146 run0.sl.v147 run0.sl.v148 run0.sl.v151 run0.sl.v152 run0.sl.v153 run0.sl.v154 run0.sl.v155 run0.sl.v157 run0.sl.v158 run0.sl.v159 run0.sl.v160 run0.sl.v162 run0.sl.v163 run0.sl.v164 run0.sl.v165 run0.sl.v166 run0.sl.v167 run0.sl.v169 run0.sl.v170 run0.sl.v171 run0.sl.v172 run0.sl.v173 run0.sl.v175 run0.sl.v176 run0.sl.v178 run0.sl.v179 run0.sl.v180 run0.sl.v183 run0.sl.v184 run0.sl.v186 run0.sl.v188 run0.sl.v189 run0.sl.v191 run0.sl.v192 run0.sl.v194 run0.sl.v197 run0.sl.v198 run0.sl.v199 run0.sl.v2 run0.sl.v200 run0.sl.v201 run0.sl.v203 run0.sl.v204 run0.sl.v205 run0.sl.v206 run0.sl.v208 run0.sl.v209 run0.sl.v210 run0.sl.v211 run0.sl.v212 run0.sl.v213 run0.sl.v217 run0.sl.v224 run0.sl.v24 run0.sl.v25 run0.sl.v28 run0.sl.v30 run0.sl.v33 run0.sl.v34 run0.sl.v35 run0.sl.v36 run0.sl.v37 run0.sl.v39 run0.sl.v40 run0.sl.v41 run0.sl.v42 run0.sl.v43 run0.sl.v45 run0.sl.v46 run0.sl.v47 run0.sl.v48 run0.sl.v50 run0.sl.v51 run0.sl.v52 run0.sl.v53 run0.sl.v54 run0.sl.v55 run0.sl.v57 run0.sl.v58 run0.sl.v59 run0.sl.v60 run0.sl.v61 run0.sl.v63 run0.sl.v64 run0.sl.v66 run0.sl.v67 run0.sl.v68 run0.sl.v71 run0.sl.v72 run0.sl.v74 run0.sl.v76 run0.sl.v77 run0.sl.v79 run0.sl.v80 run0.sl.v81 run0.sl.v82 run0.sl.v83 run0.sl.v84 run0.sl.v85 run0.sl.v86 run0.sl.v89 run0.sl.v90 run0.sl.v91 run0.sl.v92 run0.sl.v93 run0.sl.v95 run0.sl.v96 run0.sl.v97 run0.sl.v98
    simp (disch := omega) only [cat2_eq, read_put, View.writes_nil, readAt_win, readCov_win, canon_put, put_full_2048x256, win_full_2048x256, put_full_2048x128, win_full_2048x128, put_full_2048x1, win_full_2048x1, put_full_1024x256, win_full_1024x256, put_full_1024x128, win_full_1024x128, win_put_rows, e3, e4, e5, e6, e7, e8, e9, e10, win_off (s := S2048x256) (o1a), o1a, win_off (s := S2048x128) (o2a), win_off (s := S1x2048x1) (o3a), win_off (s := S2048x1) (o4a), win_off (s := S2048x256) (o1b), o1b, win_off (s := S2048x128) (o2b), win_off (s := S1x2048x1) (o3b), win_off (s := S2048x1) (o4b), win_off (s := S2048x256) (o5a _), o5a, win_off (s := S2048x128) (o6a _), win_off (s := S1x2048x1) (o7a _), win_off (s := S2048x1) (o8a _), win_off (s := S2048x256) (o5b _), o5b, win_off (s := S2048x128) (o6b _), win_off (s := S1x2048x1) (o7b _), win_off (s := S2048x1) (o8b _)]
    first | done | rfl
  isplitl [H15]
  · iexists _; isplitr; rotate_left; · iexact H15
    ipureintro
    delta run0.sl.H15_1 run0.sl.H16_1 run0.sl.H17_1 run0.sl.H18_1 run0.sl.H18_2 run0.sl.H18_4 run0.sl.H19_1 run0.sl.H19_2 run0.sl.H19_3 run0.sl.H19_4 run0.sl.H20_1 run0.sl.H20_2 run0.sl.H20_3 run0.sl.H20_4 run0.sl.arg21 run0.sl.cst_16 run0.sl.cst_17 run0.sl.cst_25 run0.sl.cst_30 run0.sl.cst_39 run0.sl.cst_48 run0.sl.cst_53 run0.sl.cst_78 run0.sl.cst_79 run0.sl.cst_87 run0.sl.cst_92 run0.sl.cst_96 run0.sl.r run0.sl.r_1 run0.sl.r_2 run0.sl.r_3 run0.sl.v0 run0.sl.v1 run0.sl.v100 run0.sl.v101 run0.sl.v102 run0.sl.v103 run0.sl.v104 run0.sl.v105 run0.sl.v107 run0.sl.v108 run0.sl.v109 run0.sl.v110 run0.sl.v116 run0.sl.v123 run0.sl.v124 run0.sl.v126 run0.sl.v127 run0.sl.v128 run0.sl.v129 run0.sl.v130 run0.sl.v134 run0.sl.v139 run0.sl.v140 run0.sl.v142 run0.sl.v143 run0.sl.v145 run0.sl.v146 run0.sl.v147 run0.sl.v148 run0.sl.v151 run0.sl.v152 run0.sl.v153 run0.sl.v154 run0.sl.v155 run0.sl.v157 run0.sl.v158 run0.sl.v159 run0.sl.v160 run0.sl.v162 run0.sl.v163 run0.sl.v164 run0.sl.v165 run0.sl.v166 run0.sl.v167 run0.sl.v169 run0.sl.v170 run0.sl.v171 run0.sl.v172 run0.sl.v173 run0.sl.v175 run0.sl.v176 run0.sl.v178 run0.sl.v179 run0.sl.v180 run0.sl.v183 run0.sl.v184 run0.sl.v186 run0.sl.v188 run0.sl.v189 run0.sl.v191 run0.sl.v192 run0.sl.v194 run0.sl.v197 run0.sl.v198 run0.sl.v199 run0.sl.v2 run0.sl.v200 run0.sl.v201 run0.sl.v203 run0.sl.v204 run0.sl.v205 run0.sl.v206 run0.sl.v208 run0.sl.v209 run0.sl.v210 run0.sl.v211 run0.sl.v212 run0.sl.v213 run0.sl.v217 run0.sl.v224 run0.sl.v24 run0.sl.v25 run0.sl.v28 run0.sl.v30 run0.sl.v33 run0.sl.v34 run0.sl.v35 run0.sl.v36 run0.sl.v37 run0.sl.v39 run0.sl.v40 run0.sl.v41 run0.sl.v42 run0.sl.v43 run0.sl.v45 run0.sl.v46 run0.sl.v47 run0.sl.v48 run0.sl.v50 run0.sl.v51 run0.sl.v52 run0.sl.v53 run0.sl.v54 run0.sl.v55 run0.sl.v57 run0.sl.v58 run0.sl.v59 run0.sl.v60 run0.sl.v61 run0.sl.v63 run0.sl.v64 run0.sl.v66 run0.sl.v67 run0.sl.v68 run0.sl.v71 run0.sl.v72 run0.sl.v74 run0.sl.v76 run0.sl.v77 run0.sl.v79 run0.sl.v80 run0.sl.v81 run0.sl.v82 run0.sl.v83 run0.sl.v84 run0.sl.v85 run0.sl.v86 run0.sl.v89 run0.sl.v90 run0.sl.v91 run0.sl.v92 run0.sl.v93 run0.sl.v95 run0.sl.v96 run0.sl.v97 run0.sl.v98
    simp (disch := omega) only [cat2_eq, read_put, View.writes_nil, readAt_win, readCov_win, canon_put, put_full_2048x256, win_full_2048x256, put_full_2048x128, win_full_2048x128, put_full_2048x1, win_full_2048x1, put_full_1024x256, win_full_1024x256, put_full_1024x128, win_full_1024x128, win_put_rows, e3, e4, e5, e6, e7, e8, e9, e10, win_off (s := S2048x256) (o1a), o1a, win_off (s := S2048x128) (o2a), win_off (s := S1x2048x1) (o3a), win_off (s := S2048x1) (o4a), win_off (s := S2048x256) (o1b), o1b, win_off (s := S2048x128) (o2b), win_off (s := S1x2048x1) (o3b), win_off (s := S2048x1) (o4b), win_off (s := S2048x256) (o5a _), o5a, win_off (s := S2048x128) (o6a _), win_off (s := S1x2048x1) (o7a _), win_off (s := S2048x1) (o8a _), win_off (s := S2048x256) (o5b _), o5b, win_off (s := S2048x128) (o6b _), win_off (s := S1x2048x1) (o7b _), win_off (s := S2048x1) (o8b _)]
    first | done | rfl
  isplitl [H16]
  · iexists _; isplitr; rotate_left; · iexact H16
    ipureintro
    delta run0.sl.H15_1 run0.sl.H16_1 run0.sl.H17_1 run0.sl.H18_1 run0.sl.H18_2 run0.sl.H18_4 run0.sl.H19_1 run0.sl.H19_2 run0.sl.H19_3 run0.sl.H19_4 run0.sl.H20_1 run0.sl.H20_2 run0.sl.H20_3 run0.sl.H20_4 run0.sl.arg21 run0.sl.cst_16 run0.sl.cst_17 run0.sl.cst_25 run0.sl.cst_30 run0.sl.cst_39 run0.sl.cst_48 run0.sl.cst_53 run0.sl.cst_78 run0.sl.cst_79 run0.sl.cst_87 run0.sl.cst_92 run0.sl.cst_96 run0.sl.r run0.sl.r_1 run0.sl.r_2 run0.sl.r_3 run0.sl.v0 run0.sl.v1 run0.sl.v100 run0.sl.v101 run0.sl.v102 run0.sl.v103 run0.sl.v104 run0.sl.v105 run0.sl.v107 run0.sl.v108 run0.sl.v109 run0.sl.v110 run0.sl.v116 run0.sl.v123 run0.sl.v124 run0.sl.v126 run0.sl.v127 run0.sl.v128 run0.sl.v129 run0.sl.v130 run0.sl.v134 run0.sl.v139 run0.sl.v140 run0.sl.v142 run0.sl.v143 run0.sl.v145 run0.sl.v146 run0.sl.v147 run0.sl.v148 run0.sl.v151 run0.sl.v152 run0.sl.v153 run0.sl.v154 run0.sl.v155 run0.sl.v157 run0.sl.v158 run0.sl.v159 run0.sl.v160 run0.sl.v162 run0.sl.v163 run0.sl.v164 run0.sl.v165 run0.sl.v166 run0.sl.v167 run0.sl.v169 run0.sl.v170 run0.sl.v171 run0.sl.v172 run0.sl.v173 run0.sl.v175 run0.sl.v176 run0.sl.v178 run0.sl.v179 run0.sl.v180 run0.sl.v183 run0.sl.v184 run0.sl.v186 run0.sl.v188 run0.sl.v189 run0.sl.v191 run0.sl.v192 run0.sl.v194 run0.sl.v197 run0.sl.v198 run0.sl.v199 run0.sl.v2 run0.sl.v200 run0.sl.v201 run0.sl.v203 run0.sl.v204 run0.sl.v205 run0.sl.v206 run0.sl.v208 run0.sl.v209 run0.sl.v210 run0.sl.v211 run0.sl.v212 run0.sl.v213 run0.sl.v217 run0.sl.v224 run0.sl.v24 run0.sl.v25 run0.sl.v28 run0.sl.v30 run0.sl.v33 run0.sl.v34 run0.sl.v35 run0.sl.v36 run0.sl.v37 run0.sl.v39 run0.sl.v40 run0.sl.v41 run0.sl.v42 run0.sl.v43 run0.sl.v45 run0.sl.v46 run0.sl.v47 run0.sl.v48 run0.sl.v50 run0.sl.v51 run0.sl.v52 run0.sl.v53 run0.sl.v54 run0.sl.v55 run0.sl.v57 run0.sl.v58 run0.sl.v59 run0.sl.v60 run0.sl.v61 run0.sl.v63 run0.sl.v64 run0.sl.v66 run0.sl.v67 run0.sl.v68 run0.sl.v71 run0.sl.v72 run0.sl.v74 run0.sl.v76 run0.sl.v77 run0.sl.v79 run0.sl.v80 run0.sl.v81 run0.sl.v82 run0.sl.v83 run0.sl.v84 run0.sl.v85 run0.sl.v86 run0.sl.v89 run0.sl.v90 run0.sl.v91 run0.sl.v92 run0.sl.v93 run0.sl.v95 run0.sl.v96 run0.sl.v97 run0.sl.v98
    simp (disch := omega) only [cat2_eq, read_put, View.writes_nil, readAt_win, readCov_win, canon_put, put_full_2048x256, win_full_2048x256, put_full_2048x128, win_full_2048x128, put_full_2048x1, win_full_2048x1, put_full_1024x256, win_full_1024x256, put_full_1024x128, win_full_1024x128, win_put_rows, e3, e4, e5, e6, e7, e8, e9, e10, win_off (s := S2048x256) (o1a), o1a, win_off (s := S2048x128) (o2a), win_off (s := S1x2048x1) (o3a), win_off (s := S2048x1) (o4a), win_off (s := S2048x256) (o1b), o1b, win_off (s := S2048x128) (o2b), win_off (s := S1x2048x1) (o3b), win_off (s := S2048x1) (o4b), win_off (s := S2048x256) (o5a _), o5a, win_off (s := S2048x128) (o6a _), win_off (s := S1x2048x1) (o7a _), win_off (s := S2048x1) (o8a _), win_off (s := S2048x256) (o5b _), o5b, win_off (s := S2048x128) (o6b _), win_off (s := S1x2048x1) (o7b _), win_off (s := S2048x1) (o8b _)]
    first | done | rfl
  isplitl [H17]
  · iexists _; isplitr; rotate_left; · iexact H17
    ipureintro
    delta run0.sl.H15_1 run0.sl.H16_1 run0.sl.H17_1 run0.sl.H18_1 run0.sl.H18_2 run0.sl.H18_4 run0.sl.H19_1 run0.sl.H19_2 run0.sl.H19_3 run0.sl.H19_4 run0.sl.H20_1 run0.sl.H20_2 run0.sl.H20_3 run0.sl.H20_4 run0.sl.arg21 run0.sl.cst_16 run0.sl.cst_17 run0.sl.cst_25 run0.sl.cst_30 run0.sl.cst_39 run0.sl.cst_48 run0.sl.cst_53 run0.sl.cst_78 run0.sl.cst_79 run0.sl.cst_87 run0.sl.cst_92 run0.sl.cst_96 run0.sl.r run0.sl.r_1 run0.sl.r_2 run0.sl.r_3 run0.sl.v0 run0.sl.v1 run0.sl.v100 run0.sl.v101 run0.sl.v102 run0.sl.v103 run0.sl.v104 run0.sl.v105 run0.sl.v107 run0.sl.v108 run0.sl.v109 run0.sl.v110 run0.sl.v116 run0.sl.v123 run0.sl.v124 run0.sl.v126 run0.sl.v127 run0.sl.v128 run0.sl.v129 run0.sl.v130 run0.sl.v134 run0.sl.v139 run0.sl.v140 run0.sl.v142 run0.sl.v143 run0.sl.v145 run0.sl.v146 run0.sl.v147 run0.sl.v148 run0.sl.v151 run0.sl.v152 run0.sl.v153 run0.sl.v154 run0.sl.v155 run0.sl.v157 run0.sl.v158 run0.sl.v159 run0.sl.v160 run0.sl.v162 run0.sl.v163 run0.sl.v164 run0.sl.v165 run0.sl.v166 run0.sl.v167 run0.sl.v169 run0.sl.v170 run0.sl.v171 run0.sl.v172 run0.sl.v173 run0.sl.v175 run0.sl.v176 run0.sl.v178 run0.sl.v179 run0.sl.v180 run0.sl.v183 run0.sl.v184 run0.sl.v186 run0.sl.v188 run0.sl.v189 run0.sl.v191 run0.sl.v192 run0.sl.v194 run0.sl.v197 run0.sl.v198 run0.sl.v199 run0.sl.v2 run0.sl.v200 run0.sl.v201 run0.sl.v203 run0.sl.v204 run0.sl.v205 run0.sl.v206 run0.sl.v208 run0.sl.v209 run0.sl.v210 run0.sl.v211 run0.sl.v212 run0.sl.v213 run0.sl.v217 run0.sl.v224 run0.sl.v24 run0.sl.v25 run0.sl.v28 run0.sl.v30 run0.sl.v33 run0.sl.v34 run0.sl.v35 run0.sl.v36 run0.sl.v37 run0.sl.v39 run0.sl.v40 run0.sl.v41 run0.sl.v42 run0.sl.v43 run0.sl.v45 run0.sl.v46 run0.sl.v47 run0.sl.v48 run0.sl.v50 run0.sl.v51 run0.sl.v52 run0.sl.v53 run0.sl.v54 run0.sl.v55 run0.sl.v57 run0.sl.v58 run0.sl.v59 run0.sl.v60 run0.sl.v61 run0.sl.v63 run0.sl.v64 run0.sl.v66 run0.sl.v67 run0.sl.v68 run0.sl.v71 run0.sl.v72 run0.sl.v74 run0.sl.v76 run0.sl.v77 run0.sl.v79 run0.sl.v80 run0.sl.v81 run0.sl.v82 run0.sl.v83 run0.sl.v84 run0.sl.v85 run0.sl.v86 run0.sl.v89 run0.sl.v90 run0.sl.v91 run0.sl.v92 run0.sl.v93 run0.sl.v95 run0.sl.v96 run0.sl.v97 run0.sl.v98
    simp (disch := omega) only [cat2_eq, read_put, View.writes_nil, readAt_win, readCov_win, canon_put, put_full_2048x256, win_full_2048x256, put_full_2048x128, win_full_2048x128, put_full_2048x1, win_full_2048x1, put_full_1024x256, win_full_1024x256, put_full_1024x128, win_full_1024x128, win_put_rows, e3, e4, e5, e6, e7, e8, e9, e10, win_off (s := S2048x256) (o1a), o1a, win_off (s := S2048x128) (o2a), win_off (s := S1x2048x1) (o3a), win_off (s := S2048x1) (o4a), win_off (s := S2048x256) (o1b), o1b, win_off (s := S2048x128) (o2b), win_off (s := S1x2048x1) (o3b), win_off (s := S2048x1) (o4b), win_off (s := S2048x256) (o5a _), o5a, win_off (s := S2048x128) (o6a _), win_off (s := S1x2048x1) (o7a _), win_off (s := S2048x1) (o8a _), win_off (s := S2048x256) (o5b _), o5b, win_off (s := S2048x128) (o6b _), win_off (s := S1x2048x1) (o7b _), win_off (s := S2048x1) (o8b _)]
    first | done | rfl
  isplitl [H18]
  · iexists _; isplitr; rotate_left; · iexact H18
    ipureintro
    delta run0.sl.H15_1 run0.sl.H16_1 run0.sl.H17_1 run0.sl.H18_1 run0.sl.H18_2 run0.sl.H18_4 run0.sl.H19_1 run0.sl.H19_2 run0.sl.H19_3 run0.sl.H19_4 run0.sl.H20_1 run0.sl.H20_2 run0.sl.H20_3 run0.sl.H20_4 run0.sl.arg21 run0.sl.cst_16 run0.sl.cst_17 run0.sl.cst_25 run0.sl.cst_30 run0.sl.cst_39 run0.sl.cst_48 run0.sl.cst_53 run0.sl.cst_78 run0.sl.cst_79 run0.sl.cst_87 run0.sl.cst_92 run0.sl.cst_96 run0.sl.r run0.sl.r_1 run0.sl.r_2 run0.sl.r_3 run0.sl.v0 run0.sl.v1 run0.sl.v100 run0.sl.v101 run0.sl.v102 run0.sl.v103 run0.sl.v104 run0.sl.v105 run0.sl.v107 run0.sl.v108 run0.sl.v109 run0.sl.v110 run0.sl.v116 run0.sl.v123 run0.sl.v124 run0.sl.v126 run0.sl.v127 run0.sl.v128 run0.sl.v129 run0.sl.v130 run0.sl.v134 run0.sl.v139 run0.sl.v140 run0.sl.v142 run0.sl.v143 run0.sl.v145 run0.sl.v146 run0.sl.v147 run0.sl.v148 run0.sl.v151 run0.sl.v152 run0.sl.v153 run0.sl.v154 run0.sl.v155 run0.sl.v157 run0.sl.v158 run0.sl.v159 run0.sl.v160 run0.sl.v162 run0.sl.v163 run0.sl.v164 run0.sl.v165 run0.sl.v166 run0.sl.v167 run0.sl.v169 run0.sl.v170 run0.sl.v171 run0.sl.v172 run0.sl.v173 run0.sl.v175 run0.sl.v176 run0.sl.v178 run0.sl.v179 run0.sl.v180 run0.sl.v183 run0.sl.v184 run0.sl.v186 run0.sl.v188 run0.sl.v189 run0.sl.v191 run0.sl.v192 run0.sl.v194 run0.sl.v197 run0.sl.v198 run0.sl.v199 run0.sl.v2 run0.sl.v200 run0.sl.v201 run0.sl.v203 run0.sl.v204 run0.sl.v205 run0.sl.v206 run0.sl.v208 run0.sl.v209 run0.sl.v210 run0.sl.v211 run0.sl.v212 run0.sl.v213 run0.sl.v217 run0.sl.v224 run0.sl.v24 run0.sl.v25 run0.sl.v28 run0.sl.v30 run0.sl.v33 run0.sl.v34 run0.sl.v35 run0.sl.v36 run0.sl.v37 run0.sl.v39 run0.sl.v40 run0.sl.v41 run0.sl.v42 run0.sl.v43 run0.sl.v45 run0.sl.v46 run0.sl.v47 run0.sl.v48 run0.sl.v50 run0.sl.v51 run0.sl.v52 run0.sl.v53 run0.sl.v54 run0.sl.v55 run0.sl.v57 run0.sl.v58 run0.sl.v59 run0.sl.v60 run0.sl.v61 run0.sl.v63 run0.sl.v64 run0.sl.v66 run0.sl.v67 run0.sl.v68 run0.sl.v71 run0.sl.v72 run0.sl.v74 run0.sl.v76 run0.sl.v77 run0.sl.v79 run0.sl.v80 run0.sl.v81 run0.sl.v82 run0.sl.v83 run0.sl.v84 run0.sl.v85 run0.sl.v86 run0.sl.v89 run0.sl.v90 run0.sl.v91 run0.sl.v92 run0.sl.v93 run0.sl.v95 run0.sl.v96 run0.sl.v97 run0.sl.v98
    simp (disch := omega) only [cat2_eq, read_put, View.writes_nil, readAt_win, readCov_win, canon_put, put_full_2048x256, win_full_2048x256, put_full_2048x128, win_full_2048x128, put_full_2048x1, win_full_2048x1, put_full_1024x256, win_full_1024x256, put_full_1024x128, win_full_1024x128, win_put_rows, e3, e4, e5, e6, e7, e8, e9, e10, win_off (s := S2048x256) (o1a), o1a, win_off (s := S2048x128) (o2a), win_off (s := S1x2048x1) (o3a), win_off (s := S2048x1) (o4a), win_off (s := S2048x256) (o1b), o1b, win_off (s := S2048x128) (o2b), win_off (s := S1x2048x1) (o3b), win_off (s := S2048x1) (o4b), win_off (s := S2048x256) (o5a _), o5a, win_off (s := S2048x128) (o6a _), win_off (s := S1x2048x1) (o7a _), win_off (s := S2048x1) (o8a _), win_off (s := S2048x256) (o5b _), o5b, win_off (s := S2048x128) (o6b _), win_off (s := S1x2048x1) (o7b _), win_off (s := S2048x1) (o8b _)]
    first | done | rfl
  isplitl [H19]
  · iexists _, _; isplitr; rotate_left; · iexact H19
    any_goals (ipureintro; exact rfl)
  · iexists _, _; isplitr; rotate_left; · iexact H20
    any_goals (ipureintro; exact rfl)

end Cert.KernelIdeal.Hand
-- ==== Proof.KI.Run1.lean ====
module

public import proofs.«01_k».proof.Proof.KI.Model
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.Pipeline.TableIdle

@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

set_option maxHeartbeats 0 in
set_option maxRecDepth 8192 in
theorem run1 (c : Dev nD) (i : grid0.Coords) (hi : (i 2).val = 1)
    (hc1 : ¬ (Scalar.cmpi .ne (Scalar.extui (Scalar.cmpi .eq (BitVec.ofNat 32 (i 2).val) 0#32) : BitVec 32) 0#32 = 1#1)) (hc2 : (k0_cond2 i = 1#1))
    (ht1 : (k0_t1_loop i).trips = 0) (ht2 : (k0_t2_loop i).trips = 0)
    (arg3 : Memref sig .tc .vmem S2048x128 .f32) (harg3 : arg3.IsWhole)
    (arg4 : Memref sig .tc .vmem S2048x128 .bf16) (harg4 : arg4.IsWhole)
    (arg5 : Memref sig .tc .vmem S1024x128 .bf16) (harg5 : arg5.IsWhole)
    (arg6 : Memref sig .tc .vmem S1024x128 .bf16) (harg6 : arg6.IsWhole)
    (arg7 : Memref sig .tc .vmem S1024x128 .bf16) (harg7 : arg7.IsWhole)
    (arg8 : Memref sig .tc .vmem S2048x128 .f32) (harg8 : arg8.IsWhole)
    (arg9 : Memref sig .tc .vmem S2048x128 .f32) (harg9 : arg9.IsWhole)
    (arg10 : Memref sig .tc .vmem S1x2048x1 .f32) (harg10 : arg10.IsWhole)
    (arg11 : Memref sig .tc .vmem S2048x128 .bf16) (harg11 : arg11.IsWhole)
    (arg12 : Memref sig .tc .vmem S2048x128 .f32) (harg12 : arg12.IsWhole)
    (arg13 : Memref sig .tc .vmem S1024x256 .bf16) (harg13 : arg13.IsWhole)
    (arg14 : Memref sig .tc .vmem S1024x128 .f32) (harg14 : arg14.IsWhole)
    (arg15 : Memref sig .tc .vmem S2048x256 .bf16) (harg15 : arg15.IsWhole)
    (arg16 : Memref sig .tc .vmem S2048x128 .bf16) (harg16 : arg16.IsWhole)
    (arg17 : Memref sig .tc .vmem S2048x1 .f32) (harg17 : arg17.IsWhole)
    (arg18 : Memref sig .tc .vmem S2048x256 .f32) (harg18 : arg18.IsWhole)
    (arg19 : Memref sig .tc .vmem S1024x256 .f32) (harg19 : arg19.IsWhole)
    (arg20 : Memref sig .tc .vmem S1024x128 .f32) (harg20 : arg20.IsWhole)
    (xqn : Vec F S2048x128 .f32) (xqr : Vec F S2048x128 .bf16) (xkn : Vec F S1024x128 .bf16) (xkr : Vec F S1024x128 .bf16) (xv : Vec F S1024x128 .bf16) (xo : Vec F S2048x128 .f32) (xdo : Vec F S2048x128 .f32) (xl : Vec F S1x2048x1 .f32) (st_q : Vec F S2048x256 .bf16) (st_d : Vec F S2048x128 .bf16) (st_D : Vec F S2048x1 .f32) (st_acc : Vec F S2048x256 .f32) (K : PUnit → sProp 𝕄) :
    (iprop(owns (c : Thread nD τ) arg3 fullShare xqn ∗ owns (c : Thread nD τ) arg4 fullShare xqr ∗ owns (c : Thread nD τ) arg5 fullShare xkn ∗ owns (c : Thread nD τ) arg6 fullShare xkr ∗ owns (c : Thread nD τ) arg7 fullShare xv ∗ owns (c : Thread nD τ) arg8 fullShare xo ∗ owns (c : Thread nD τ) arg9 fullShare xdo ∗ owns (c : Thread nD τ) arg10 fullShare xl ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare st_q ∗ owns (c : Thread nD τ) arg16 fullShare st_d ∗ owns (c : Thread nD τ) arg17 fullShare st_D ∗ owns (c : Thread nD τ) arg18 fullShare st_acc ∗ (∃ d, owns (c : Thread nD τ) arg19 fullShare d) ∗ (∃ d, owns (c : Thread nD τ) arg20 fullShare d)
        ∗ (iprop(owns (c : Thread nD τ) arg3 fullShare xqn ∗ owns (c : Thread nD τ) arg4 fullShare xqr ∗ owns (c : Thread nD τ) arg5 fullShare xkn ∗ owns (c : Thread nD τ) arg6 fullShare xkr ∗ owns (c : Thread nD τ) arg7 fullShare xv ∗ owns (c : Thread nD τ) arg8 fullShare xo ∗ owns (c : Thread nD τ) arg9 fullShare xdo ∗ owns (c : Thread nD τ) arg10 fullShare xl ∗ owns (c : Thread nD τ) arg11 fullShare (outQn (acc1 st_q st_d st_D xl xkn xkr xv st_acc)) ∗ owns (c : Thread nD τ) arg12 fullShare (outQr (acc1 st_q st_d st_D xl xkn xkr xv st_acc)) ∗ owns (c : Thread nD τ) arg13 fullShare (outKV (dk1 st_q st_d st_D xl xkn xkr xv) (dv1 st_q st_d xl xkn xkr)) ∗ owns (c : Thread nD τ) arg14 fullShare (outKr (dk1 st_q st_d st_D xl xkn xkr xv)) ∗ owns (c : Thread nD τ) arg15 fullShare st_q ∗ owns (c : Thread nD τ) arg16 fullShare st_d ∗ owns (c : Thread nD τ) arg17 fullShare st_D ∗ owns (c : Thread nD τ) arg18 fullShare (acc1 st_q st_d st_D xl xkn xkr xv st_acc) ∗ (∃ d, owns (c : Thread nD τ) arg19 fullShare d) ∗ (∃ d, owns (c : Thread nD τ) arg20 fullShare d)) -∗ K ⟨⟩)) : sProp 𝕄)
      ⊢ wp frame (wpE (defs₀ (F := F)) Variants.none c none) Set.univ
          (cc0_l1_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_l1_attn_bwd_eq_skeleton]; unfold cc0_l1_attn_bwd_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11x, %f11, %e11, H11⟩, ⟨%d12x, %f12, %e12, H12⟩, ⟨%d13x, %f13, %e13, H13⟩, ⟨%d14x, %f14, %e14, H14⟩, ⟨%f15, %e15, H15⟩, ⟨%f16, %e16, H16⟩, ⟨%f17, %e17, H17⟩, ⟨%f18, %e18, H18⟩, ⟨%d19x, %f19, %e19, H19⟩, ⟨%d20x, %f20, %e20, H20⟩, HK⟩
  have o1a : k0_off1 i 0#32 = ![1024, 0] := (k0_off1_eq i 0).trans (by rw [hi]; rfl)
  have o2a : k0_off2 i 0#32 = ![1024, 0] := (k0_off2_eq i 0).trans (by rw [hi]; rfl)
  have o3a : k0_off3 i 0#32 = ![0, 1024, 0] := (k0_off3_eq i 0).trans (by rw [hi]; rfl)
  have o4a : k0_off4 i 0#32 = ![1024, 0] := (k0_off4_eq i 0).trans (by rw [hi]; rfl)
  have o1b : k0_off1 i 512#32 = ![1536, 0] := (k0_off1_eq i 1).trans (by rw [hi]; rfl)
  have o2b : k0_off2 i 512#32 = ![1536, 0] := (k0_off2_eq i 1).trans (by rw [hi]; rfl)
  have o3b : k0_off3 i 512#32 = ![0, 1536, 0] := (k0_off3_eq i 1).trans (by rw [hi]; rfl)
  have o4b : k0_off4 i 512#32 = ![1536, 0] := (k0_off4_eq i 1).trans (by rw [hi]; rfl)
  sl_exec
  sl_step
  iapply HK
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists _; isplitr; rotate_left; · iexact H11
    ipureintro
    delta run1.sl.H19_1 run1.sl.H19_2 run1.sl.H19_3 run1.sl.H20_1 run1.sl.H20_2 run1.sl.H20_3 run1.sl.cst_16 run1.sl.cst_17 run1.sl.cst_25 run1.sl.cst_30 run1.sl.cst_39 run1.sl.cst_48 run1.sl.cst_53 run1.sl.r run1.sl.r_1 run1.sl.r_2 run1.sl.r_3 run1.sl.r_4 run1.sl.r_5 run1.sl.v0 run1.sl.v1 run1.sl.v100 run1.sl.v101 run1.sl.v102 run1.sl.v103 run1.sl.v104 run1.sl.v105 run1.sl.v107 run1.sl.v108 run1.sl.v109 run1.sl.v110 run1.sl.v116 run1.sl.v123 run1.sl.v124 run1.sl.v126 run1.sl.v127 run1.sl.v128 run1.sl.v129 run1.sl.v130 run1.sl.v134 run1.sl.v139 run1.sl.v142 run1.sl.v2 run1.sl.v24 run1.sl.v25 run1.sl.v33 run1.sl.v34 run1.sl.v35 run1.sl.v36 run1.sl.v37 run1.sl.v39 run1.sl.v40 run1.sl.v41 run1.sl.v42 run1.sl.v43 run1.sl.v46 run1.sl.v47 run1.sl.v48 run1.sl.v50 run1.sl.v51 run1.sl.v52 run1.sl.v53 run1.sl.v54 run1.sl.v55 run1.sl.v57 run1.sl.v58 run1.sl.v59 run1.sl.v60 run1.sl.v61 run1.sl.v63 run1.sl.v64 run1.sl.v67 run1.sl.v68 run1.sl.v71 run1.sl.v72 run1.sl.v74 run1.sl.v76 run1.sl.v80 run1.sl.v81 run1.sl.v82 run1.sl.v83 run1.sl.v84 run1.sl.v85 run1.sl.v86 run1.sl.v89 run1.sl.v90 run1.sl.v91 run1.sl.v92 run1.sl.v93 run1.sl.v96 run1.sl.v97 run1.sl.v98
    simp (disch := omega) only [cat2_eq, read_put, View.writes_nil, readAt_win, readCov_win, canon_put, put_full_2048x256, win_full_2048x256, put_full_2048x128, win_full_2048x128, put_full_2048x1, win_full_2048x1, put_full_1024x256, win_full_1024x256, put_full_1024x128, win_full_1024x128, win_put_rows, e3, e4, e5, e6, e7, e8, e9, e10, win_off (s := S2048x256) (o1a), o1a, win_off (s := S2048x128) (o2a), win_off (s := S1x2048x1) (o3a), win_off (s := S2048x1) (o4a), win_off (s := S2048x256) (o1b), o1b, win_off (s := S2048x128) (o2b), win_off (s := S1x2048x1) (o3b), win_off (s := S2048x1) (o4b), e15, e16, e17, e18]
    first | done | rfl
  isplitl [H12]
  · iexists _; isplitr; rotate_left; · iexact H12
    ipureintro
    delta run1.sl.H19_1 run1.sl.H19_2 run1.sl.H19_3 run1.sl.H20_1 run1.sl.H20_2 run1.sl.H20_3 run1.sl.cst_16 run1.sl.cst_17 run1.sl.cst_25 run1.sl.cst_30 run1.sl.cst_39 run1.sl.cst_48 run1.sl.cst_53 run1.sl.r run1.sl.r_1 run1.sl.r_2 run1.sl.r_3 run1.sl.r_4 run1.sl.r_5 run1.sl.v0 run1.sl.v1 run1.sl.v100 run1.sl.v101 run1.sl.v102 run1.sl.v103 run1.sl.v104 run1.sl.v105 run1.sl.v107 run1.sl.v108 run1.sl.v109 run1.sl.v110 run1.sl.v116 run1.sl.v123 run1.sl.v124 run1.sl.v126 run1.sl.v127 run1.sl.v128 run1.sl.v129 run1.sl.v130 run1.sl.v134 run1.sl.v139 run1.sl.v142 run1.sl.v2 run1.sl.v24 run1.sl.v25 run1.sl.v33 run1.sl.v34 run1.sl.v35 run1.sl.v36 run1.sl.v37 run1.sl.v39 run1.sl.v40 run1.sl.v41 run1.sl.v42 run1.sl.v43 run1.sl.v46 run1.sl.v47 run1.sl.v48 run1.sl.v50 run1.sl.v51 run1.sl.v52 run1.sl.v53 run1.sl.v54 run1.sl.v55 run1.sl.v57 run1.sl.v58 run1.sl.v59 run1.sl.v60 run1.sl.v61 run1.sl.v63 run1.sl.v64 run1.sl.v67 run1.sl.v68 run1.sl.v71 run1.sl.v72 run1.sl.v74 run1.sl.v76 run1.sl.v80 run1.sl.v81 run1.sl.v82 run1.sl.v83 run1.sl.v84 run1.sl.v85 run1.sl.v86 run1.sl.v89 run1.sl.v90 run1.sl.v91 run1.sl.v92 run1.sl.v93 run1.sl.v96 run1.sl.v97 run1.sl.v98
    simp (disch := omega) only [cat2_eq, read_put, View.writes_nil, readAt_win, readCov_win, canon_put, put_full_2048x256, win_full_2048x256, put_full_2048x128, win_full_2048x128, put_full_2048x1, win_full_2048x1, put_full_1024x256, win_full_1024x256, put_full_1024x128, win_full_1024x128, win_put_rows, e3, e4, e5, e6, e7, e8, e9, e10, win_off (s := S2048x256) (o1a), o1a, win_off (s := S2048x128) (o2a), win_off (s := S1x2048x1) (o3a), win_off (s := S2048x1) (o4a), win_off (s := S2048x256) (o1b), o1b, win_off (s := S2048x128) (o2b), win_off (s := S1x2048x1) (o3b), win_off (s := S2048x1) (o4b), e15, e16, e17, e18]
    first | done | rfl
  isplitl [H13]
  · iexists _; isplitr; rotate_left; · iexact H13
    ipureintro
    delta run1.sl.H19_1 run1.sl.H19_2 run1.sl.H19_3 run1.sl.H20_1 run1.sl.H20_2 run1.sl.H20_3 run1.sl.cst_16 run1.sl.cst_17 run1.sl.cst_25 run1.sl.cst_30 run1.sl.cst_39 run1.sl.cst_48 run1.sl.cst_53 run1.sl.r run1.sl.r_1 run1.sl.r_2 run1.sl.r_3 run1.sl.r_4 run1.sl.r_5 run1.sl.v0 run1.sl.v1 run1.sl.v100 run1.sl.v101 run1.sl.v102 run1.sl.v103 run1.sl.v104 run1.sl.v105 run1.sl.v107 run1.sl.v108 run1.sl.v109 run1.sl.v110 run1.sl.v116 run1.sl.v123 run1.sl.v124 run1.sl.v126 run1.sl.v127 run1.sl.v128 run1.sl.v129 run1.sl.v130 run1.sl.v134 run1.sl.v139 run1.sl.v142 run1.sl.v2 run1.sl.v24 run1.sl.v25 run1.sl.v33 run1.sl.v34 run1.sl.v35 run1.sl.v36 run1.sl.v37 run1.sl.v39 run1.sl.v40 run1.sl.v41 run1.sl.v42 run1.sl.v43 run1.sl.v46 run1.sl.v47 run1.sl.v48 run1.sl.v50 run1.sl.v51 run1.sl.v52 run1.sl.v53 run1.sl.v54 run1.sl.v55 run1.sl.v57 run1.sl.v58 run1.sl.v59 run1.sl.v60 run1.sl.v61 run1.sl.v63 run1.sl.v64 run1.sl.v67 run1.sl.v68 run1.sl.v71 run1.sl.v72 run1.sl.v74 run1.sl.v76 run1.sl.v80 run1.sl.v81 run1.sl.v82 run1.sl.v83 run1.sl.v84 run1.sl.v85 run1.sl.v86 run1.sl.v89 run1.sl.v90 run1.sl.v91 run1.sl.v92 run1.sl.v93 run1.sl.v96 run1.sl.v97 run1.sl.v98
    simp (disch := omega) only [cat2_eq, read_put, View.writes_nil, readAt_win, readCov_win, canon_put, put_full_2048x256, win_full_2048x256, put_full_2048x128, win_full_2048x128, put_full_2048x1, win_full_2048x1, put_full_1024x256, win_full_1024x256, put_full_1024x128, win_full_1024x128, win_put_rows, e3, e4, e5, e6, e7, e8, e9, e10, win_off (s := S2048x256) (o1a), o1a, win_off (s := S2048x128) (o2a), win_off (s := S1x2048x1) (o3a), win_off (s := S2048x1) (o4a), win_off (s := S2048x256) (o1b), o1b, win_off (s := S2048x128) (o2b), win_off (s := S1x2048x1) (o3b), win_off (s := S2048x1) (o4b), e15, e16, e17, e18]
    first | done | rfl
  isplitl [H14]
  · iexists _; isplitr; rotate_left; · iexact H14
    ipureintro
    delta run1.sl.H19_1 run1.sl.H19_2 run1.sl.H19_3 run1.sl.H20_1 run1.sl.H20_2 run1.sl.H20_3 run1.sl.cst_16 run1.sl.cst_17 run1.sl.cst_25 run1.sl.cst_30 run1.sl.cst_39 run1.sl.cst_48 run1.sl.cst_53 run1.sl.r run1.sl.r_1 run1.sl.r_2 run1.sl.r_3 run1.sl.r_4 run1.sl.r_5 run1.sl.v0 run1.sl.v1 run1.sl.v100 run1.sl.v101 run1.sl.v102 run1.sl.v103 run1.sl.v104 run1.sl.v105 run1.sl.v107 run1.sl.v108 run1.sl.v109 run1.sl.v110 run1.sl.v116 run1.sl.v123 run1.sl.v124 run1.sl.v126 run1.sl.v127 run1.sl.v128 run1.sl.v129 run1.sl.v130 run1.sl.v134 run1.sl.v139 run1.sl.v142 run1.sl.v2 run1.sl.v24 run1.sl.v25 run1.sl.v33 run1.sl.v34 run1.sl.v35 run1.sl.v36 run1.sl.v37 run1.sl.v39 run1.sl.v40 run1.sl.v41 run1.sl.v42 run1.sl.v43 run1.sl.v46 run1.sl.v47 run1.sl.v48 run1.sl.v50 run1.sl.v51 run1.sl.v52 run1.sl.v53 run1.sl.v54 run1.sl.v55 run1.sl.v57 run1.sl.v58 run1.sl.v59 run1.sl.v60 run1.sl.v61 run1.sl.v63 run1.sl.v64 run1.sl.v67 run1.sl.v68 run1.sl.v71 run1.sl.v72 run1.sl.v74 run1.sl.v76 run1.sl.v80 run1.sl.v81 run1.sl.v82 run1.sl.v83 run1.sl.v84 run1.sl.v85 run1.sl.v86 run1.sl.v89 run1.sl.v90 run1.sl.v91 run1.sl.v92 run1.sl.v93 run1.sl.v96 run1.sl.v97 run1.sl.v98
    simp (disch := omega) only [cat2_eq, read_put, View.writes_nil, readAt_win, readCov_win, canon_put, put_full_2048x256, win_full_2048x256, put_full_2048x128, win_full_2048x128, put_full_2048x1, win_full_2048x1, put_full_1024x256, win_full_1024x256, put_full_1024x128, win_full_1024x128, win_put_rows, e3, e4, e5, e6, e7, e8, e9, e10, win_off (s := S2048x256) (o1a), o1a, win_off (s := S2048x128) (o2a), win_off (s := S1x2048x1) (o3a), win_off (s := S2048x1) (o4a), win_off (s := S2048x256) (o1b), o1b, win_off (s := S2048x128) (o2b), win_off (s := S1x2048x1) (o3b), win_off (s := S2048x1) (o4b), e15, e16, e17, e18]
    first | done | rfl
  isplitl [H15]
  · iexists f15; isplitr; · ipureintro; exact e15
    iexact H15
  isplitl [H16]
  · iexists f16; isplitr; · ipureintro; exact e16
    iexact H16
  isplitl [H17]
  · iexists f17; isplitr; · ipureintro; exact e17
    iexact H17
  isplitl [H18]
  · iexists _; isplitr; rotate_left; · iexact H18
    ipureintro
    delta run1.sl.H19_1 run1.sl.H19_2 run1.sl.H19_3 run1.sl.H20_1 run1.sl.H20_2 run1.sl.H20_3 run1.sl.cst_16 run1.sl.cst_17 run1.sl.cst_25 run1.sl.cst_30 run1.sl.cst_39 run1.sl.cst_48 run1.sl.cst_53 run1.sl.r run1.sl.r_1 run1.sl.r_2 run1.sl.r_3 run1.sl.r_4 run1.sl.r_5 run1.sl.v0 run1.sl.v1 run1.sl.v100 run1.sl.v101 run1.sl.v102 run1.sl.v103 run1.sl.v104 run1.sl.v105 run1.sl.v107 run1.sl.v108 run1.sl.v109 run1.sl.v110 run1.sl.v116 run1.sl.v123 run1.sl.v124 run1.sl.v126 run1.sl.v127 run1.sl.v128 run1.sl.v129 run1.sl.v130 run1.sl.v134 run1.sl.v139 run1.sl.v142 run1.sl.v2 run1.sl.v24 run1.sl.v25 run1.sl.v33 run1.sl.v34 run1.sl.v35 run1.sl.v36 run1.sl.v37 run1.sl.v39 run1.sl.v40 run1.sl.v41 run1.sl.v42 run1.sl.v43 run1.sl.v46 run1.sl.v47 run1.sl.v48 run1.sl.v50 run1.sl.v51 run1.sl.v52 run1.sl.v53 run1.sl.v54 run1.sl.v55 run1.sl.v57 run1.sl.v58 run1.sl.v59 run1.sl.v60 run1.sl.v61 run1.sl.v63 run1.sl.v64 run1.sl.v67 run1.sl.v68 run1.sl.v71 run1.sl.v72 run1.sl.v74 run1.sl.v76 run1.sl.v80 run1.sl.v81 run1.sl.v82 run1.sl.v83 run1.sl.v84 run1.sl.v85 run1.sl.v86 run1.sl.v89 run1.sl.v90 run1.sl.v91 run1.sl.v92 run1.sl.v93 run1.sl.v96 run1.sl.v97 run1.sl.v98
    simp (disch := omega) only [cat2_eq, read_put, View.writes_nil, readAt_win, readCov_win, canon_put, put_full_2048x256, win_full_2048x256, put_full_2048x128, win_full_2048x128, put_full_2048x1, win_full_2048x1, put_full_1024x256, win_full_1024x256, put_full_1024x128, win_full_1024x128, win_put_rows, e3, e4, e5, e6, e7, e8, e9, e10, win_off (s := S2048x256) (o1a), o1a, win_off (s := S2048x128) (o2a), win_off (s := S1x2048x1) (o3a), win_off (s := S2048x1) (o4a), win_off (s := S2048x256) (o1b), o1b, win_off (s := S2048x128) (o2b), win_off (s := S1x2048x1) (o3b), win_off (s := S2048x1) (o4b), e15, e16, e17, e18]
    first | done | rfl
  isplitl [H19]
  · iexists _, _; isplitr; rotate_left; · iexact H19
    any_goals (ipureintro; exact rfl)
  · iexists _, _; isplitr; rotate_left; · iexact H20
    any_goals (ipureintro; exact rfl)

end Cert.KernelIdeal.Hand
-- ==== Proof.KI.Frame.lean ====
/-
  The frame of the attention gradient's kernel: the program terminates, nothing faults, its argument arrays end unchanged and every semaphore
  counter ends at zero. The scratch buffers carry a head's queries, its gradient of the output, its row sums and the accumulator of dq from the
  head's first key block to its second, so the invariant between two points of one head names what they hold.
-/
module

public import proofs.«01_k».proof.Proof.KI.Run0
public import proofs.«01_k».proof.Proof.KI.Run1
public import proofs.«01_k».proof.Proof.Gen.KernelIdeal.Frame

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-! ## The conditions at a point -/

theorem coords_2 : ∀ t : Fin cfg0.N, ((grid0.coords t) 2).val = t.val % 2 := by decide +kernel
theorem cond1_even : ∀ t : Fin cfg0.N, t.val % 2 = 0 →
    Scalar.cmpi .ne (Scalar.extui (Scalar.cmpi .eq (BitVec.ofNat 32 ((grid0.coords t) 2).val) 0#32) : BitVec 32) 0#32 = 1#1 := by decide +kernel
theorem cond1_odd : ∀ t : Fin cfg0.N, t.val % 2 = 1 →
    ¬ (Scalar.cmpi .ne (Scalar.extui (Scalar.cmpi .eq (BitVec.ofNat 32 ((grid0.coords t) 2).val) 0#32) : BitVec 32) 0#32 = 1#1) := by decide +kernel
theorem cond2_odd : ∀ t : Fin cfg0.N, t.val % 2 = 1 → k0_cond2 (grid0.coords t) = 1#1 := by decide +kernel
theorem cond2_even : ∀ t : Fin cfg0.N, t.val % 2 = 0 → ¬ k0_cond2 (grid0.coords t) = 1#1 := by decide +kernel
theorem trips1_odd : ∀ t : Fin cfg0.N, t.val % 2 = 1 → (k0_t1_loop (grid0.coords t)).trips = 0 := by decide +kernel
theorem trips1_even : ∀ t : Fin cfg0.N, t.val % 2 = 0 → (k0_t1_loop (grid0.coords t)).trips = 1 := by decide +kernel
theorem trips2 : ∀ t : Fin cfg0.N, (k0_t2_loop (grid0.coords t)).trips = 0 := by decide +kernel
theorem idle8_even (t : Fin cfg0.N) (h : t.val % 2 = 0) : idle0 8 (grid0.coords t) = true := by
  show (!(k0_cond2 (grid0.coords t) == 1#1)) = true
  rw [Bool.not_eq_true', beq_eq_false_iff_ne]; exact cond2_even t h
theorem idle9_even (t : Fin cfg0.N) (h : t.val % 2 = 0) : idle0 9 (grid0.coords t) = true := by
  show (!(k0_cond2 (grid0.coords t) == 1#1)) = true
  rw [Bool.not_eq_true', beq_eq_false_iff_ne]; exact cond2_even t h
theorem idle8_odd (t : Fin cfg0.N) (h : t.val % 2 = 1) : idle0 8 (grid0.coords t) = false := by
  show (!(k0_cond2 (grid0.coords t) == 1#1)) = false
  rw [Bool.not_eq_false', beq_iff_eq]; exact cond2_odd t h
theorem idle9_odd (t : Fin cfg0.N) (h : t.val % 2 = 1) : idle0 9 (grid0.coords t) = false := by
  show (!(k0_cond2 (grid0.coords t) == 1#1)) = false
  rw [Bool.not_eq_false', beq_iff_eq]; exact cond2_odd t h
theorem flush8_even (t : Fin cfg0.N) (h : t.val % 2 = 0) : (cfg0.win 8).flush t = false := by
  rw [← Bool.not_eq_true, flush0_8 t]; omega
theorem flush9_even (t : Fin cfg0.N) (h : t.val % 2 = 0) : (cfg0.win 9).flush t = false := by
  rw [← Bool.not_eq_true, flush0_9 t]; omega

/-! ## What the buffers hold -/

/-- The point before. -/
def prev (t : Fin cfg0.N) : Fin cfg0.N := ⟨t.val - 1, Nat.lt_of_le_of_lt (Nat.sub_le _ _) t.isLt⟩

/-- The blocks a point reads. -/
def bqn (c : Dev nD) (t : Fin cfg0.N) : Vec F S2048x128 .f32 := iblk m c 0 t
def bqr (c : Dev nD) (t : Fin cfg0.N) : Vec F S2048x128 .bf16 := iblk m c 1 t
def bkn (c : Dev nD) (t : Fin cfg0.N) : Vec F S1024x128 .bf16 := iblk m c 2 t
def bkr (c : Dev nD) (t : Fin cfg0.N) : Vec F S1024x128 .bf16 := iblk m c 3 t
def bv (c : Dev nD) (t : Fin cfg0.N) : Vec F S1024x128 .bf16 := iblk m c 4 t
def bo (c : Dev nD) (t : Fin cfg0.N) : Vec F S2048x128 .f32 := iblk m c 5 t
def bdo (c : Dev nD) (t : Fin cfg0.N) : Vec F S2048x128 .f32 := iblk m c 6 t
def bl (c : Dev nD) (t : Fin cfg0.N) : Vec F S1x2048x1 .f32 := iblk m c 7 t

/-- What the scratch holds after a head's first point `t`. -/
def Qs (c : Dev nD) (t : Fin cfg0.N) : Vec F S2048x256 .bf16 := k0_pay20 (bqn m c t) (bqr m c t)
def Ds (c : Dev nD) (t : Fin cfg0.N) : Vec F S2048x128 .bf16 := k0_pay21 (bdo m c t)
def Ss (c : Dev nD) (t : Fin cfg0.N) : Vec F S2048x1 .f32 := k0_pay22 (bdo m c t) (bo m c t)
def Acc0 (c : Dev nD) (t : Fin cfg0.N) : Vec F S2048x256 .f32 :=
  acc0 (Qs m c t) (Ds m c t) (Ss m c t) (bl m c t) (bkn m c t) (bkr m c t) (bv m c t)
def Dk0 (c : Dev nD) (t : Fin cfg0.N) : Vec F S1024x256 .f32 :=
  dk0 (Qs m c t) (Ds m c t) (Ss m c t) (bl m c t) (bkn m c t) (bkr m c t) (bv m c t)
def Dv0 (c : Dev nD) (t : Fin cfg0.N) : Vec F S1024x128 .f32 := dv0 (Qs m c t) (Ds m c t) (bl m c t) (bkn m c t) (bkr m c t)
/-- What a head's second point `t` computes. -/
def Acc1 (c : Dev nD) (t : Fin cfg0.N) : Vec F S2048x256 .f32 :=
  acc1 (Qs m c (prev t)) (Ds m c (prev t)) (Ss m c (prev t)) (bl m c t) (bkn m c t) (bkr m c t) (bv m c t) (Acc0 m c (prev t))
def Dk1 (c : Dev nD) (t : Fin cfg0.N) : Vec F S1024x256 .f32 :=
  dk1 (Qs m c (prev t)) (Ds m c (prev t)) (Ss m c (prev t)) (bl m c t) (bkn m c t) (bkr m c t) (bv m c t)
def Dv1 (c : Dev nD) (t : Fin cfg0.N) : Vec F S1024x128 .f32 :=
  dv1 (Qs m c (prev t)) (Ds m c (prev t)) (bl m c t) (bkn m c t) (bkr m c t)
/-- What a point leaves in the four result windows. -/
def oQn (c : Dev nD) (t : Fin cfg0.N) : Vec F S2048x128 .bf16 := outQn (Acc1 m c t)
def oQr (c : Dev nD) (t : Fin cfg0.N) : Vec F S2048x128 .f32 := outQr (Acc1 m c t)
def oKV (c : Dev nD) (t : Fin cfg0.N) : Vec F S1024x256 .bf16 :=
  if t.val % 2 = 0 then outKV (Dk0 m c t) (Dv0 m c t) else outKV (Dk1 m c t) (Dv1 m c t)
def oKr (c : Dev nD) (t : Fin cfg0.N) : Vec F S1024x128 .f32 :=
  if t.val % 2 = 0 then outKr (Dk0 m c t) else outKr (Dk1 m c t)

/-- The scratch buffers and the two others: held at anything. -/
def scrAny (c : Dev nD) : sProp 𝕄 :=
  iprop((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d) ∗ (∃ d, owns (c : Thread nD τ) (Memref.whole cc0_scratch3) fullShare d)
    ∗ (∃ d, owns (c : Thread nD τ) (Memref.whole cc0_scratch4) fullShare d) ∗ (∃ d, owns (c : Thread nD τ) (Memref.whole cc0_scratch5) fullShare d))
/-- The scratch buffers after a head's first point `t`. -/
def scrAt (c : Dev nD) (t : Fin cfg0.N) : sProp 𝕄 :=
  iprop(owns (c : Thread nD τ) (Memref.whole cc0_scratch0) fullShare (Qs m c t) ∗ owns (c : Thread nD τ) (Memref.whole cc0_scratch1) fullShare (Ds m c t)
    ∗ owns (c : Thread nD τ) (Memref.whole cc0_scratch2) fullShare (Ss m c t) ∗ owns (c : Thread nD τ) (Memref.whole cc0_scratch3) fullShare (Acc0 m c t)
    ∗ (∃ d, owns (c : Thread nD τ) (Memref.whole cc0_scratch4) fullShare d) ∗ (∃ d, owns (c : Thread nD τ) (Memref.whole cc0_scratch5) fullShare d))
/-- The invariant before point `n`. -/
def PhiS (c : Dev nD) (n : ℕ) (h : n ≤ cfg0.N) : sProp 𝕄 :=
  if ho : n % 2 = 1 then iprop(scrAt m c ⟨n - 1, by omega⟩ ∗ ∃ r, prngReg c r) else iprop(scrAny c ∗ ∃ r, prngReg c r)
theorem PhiS_even (c : Dev nD) (n : ℕ) (h : n ≤ cfg0.N) (he : n % 2 = 0) : PhiS m c n h = iprop(scrAny c ∗ ∃ r, prngReg c r) := by
  unfold PhiS; rw [dif_neg (by omega)]
theorem PhiS_odd (c : Dev nD) (n : ℕ) (h : n ≤ cfg0.N) (ho : n % 2 = 1) : PhiS m c n h = iprop(scrAt m c ⟨n - 1, by omega⟩ ∗ ∃ r, prngReg c r) := by
  unfold PhiS; rw [dif_pos ho]

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => bqn m c t
    | ⟨1, _⟩ => bqr m c t
    | ⟨2, _⟩ => bkn m c t
    | ⟨3, _⟩ => bkr m c t
    | ⟨4, _⟩ => bv m c t
    | ⟨5, _⟩ => bo m c t
    | ⟨6, _⟩ => bdo m c t
    | ⟨7, _⟩ => bl m c t
    | ⟨8, _⟩ => oQn m c t
    | ⟨9, _⟩ => oQr m c t
    | ⟨10, _⟩ => oKV m c t
    | ⟨11, _⟩ => oKr m c t
  Φ t := PhiS m c t.val (Nat.le_of_lt_succ t.isLt)
  q := Pipeline.shareOf spec0
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = bqn m c t := by dsimp only [dats]
theorem after0_1 (c : Dev nD) (t : Fin cfg0.N) : (dats m 0 c).after 1 t = bqr m c t := by dsimp only [dats]
theorem after0_2 (c : Dev nD) (t : Fin cfg0.N) : (dats m 0 c).after 2 t = bkn m c t := by dsimp only [dats]
theorem after0_3 (c : Dev nD) (t : Fin cfg0.N) : (dats m 0 c).after 3 t = bkr m c t := by dsimp only [dats]
theorem after0_4 (c : Dev nD) (t : Fin cfg0.N) : (dats m 0 c).after 4 t = bv m c t := by dsimp only [dats]
theorem after0_5 (c : Dev nD) (t : Fin cfg0.N) : (dats m 0 c).after 5 t = bo m c t := by dsimp only [dats]
theorem after0_6 (c : Dev nD) (t : Fin cfg0.N) : (dats m 0 c).after 6 t = bdo m c t := by dsimp only [dats]
theorem after0_7 (c : Dev nD) (t : Fin cfg0.N) : (dats m 0 c).after 7 t = bl m c t := by dsimp only [dats]
theorem after0_8 (c : Dev nD) (t : Fin cfg0.N) : (dats m 0 c).after 8 t = oQn m c t := by dsimp only [dats]
theorem after0_9 (c : Dev nD) (t : Fin cfg0.N) : (dats m 0 c).after 9 t = oQr m c t := by dsimp only [dats]
theorem after0_10 (c : Dev nD) (t : Fin cfg0.N) : (dats m 0 c).after 10 t = oKV m c t := by dsimp only [dats]
theorem after0_11 (c : Dev nD) (t : Fin cfg0.N) : (dats m 0 c).after 11 t = oKr m c t := by dsimp only [dats]
theorem before0_0 (c : Dev nD) (t : Fin cfg0.N) (d) : (dats m 0 c).before 0 t d = bqn m c t :=
  before0_0_of m (dats m 0 c) (A_eq m c 0) (fun t => after0_0 m c t) t d
theorem before0_1 (c : Dev nD) (t : Fin cfg0.N) (d) : (dats m 0 c).before 1 t d = bqr m c t :=
  before0_1_of m (dats m 0 c) (A_eq m c 1) (fun t => after0_1 m c t) t d
theorem before0_2 (c : Dev nD) (t : Fin cfg0.N) (d) : (dats m 0 c).before 2 t d = bkn m c t :=
  before0_2_of m (dats m 0 c) (A_eq m c 2) (fun t => after0_2 m c t) t d
theorem before0_3 (c : Dev nD) (t : Fin cfg0.N) (d) : (dats m 0 c).before 3 t d = bkr m c t :=
  before0_3_of m (dats m 0 c) (A_eq m c 3) (fun t => after0_3 m c t) t d
theorem before0_4 (c : Dev nD) (t : Fin cfg0.N) (d) : (dats m 0 c).before 4 t d = bv m c t :=
  before0_4_of m (dats m 0 c) (A_eq m c 4) (fun t => after0_4 m c t) t d
theorem before0_5 (c : Dev nD) (t : Fin cfg0.N) (d) : (dats m 0 c).before 5 t d = bo m c t :=
  before0_5_of m (dats m 0 c) (A_eq m c 5) (fun t => after0_5 m c t) t d
theorem before0_6 (c : Dev nD) (t : Fin cfg0.N) (d) : (dats m 0 c).before 6 t d = bdo m c t :=
  before0_6_of m (dats m 0 c) (A_eq m c 6) (fun t => after0_6 m c t) t d
theorem before0_7 (c : Dev nD) (t : Fin cfg0.N) (d) : (dats m 0 c).before 7 t d = bl m c t :=
  before0_7_of m (dats m 0 c) (A_eq m c 7) (fun t => after0_7 m c t) t d
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

set_option maxHeartbeats 1000000 in
theorem sound_even (c : Dev nD) (t : Fin cfg0.N) (ht : t.val % 2 = 0) :
    (iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d))) : sProp 𝕄)
      ⊢ wp frame (wpE (defs₀ (F := F)) Variants.none c none) Set.univ (bodyAt0 t)
        (fun _ => iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ (∃ d, owns (c : Thread nD τ) (st0_8 t) fullShare ((dats m 0 c).before 8 t d)) ∗ (∃ d, owns (c : Thread nD τ) (st0_9 t) fullShare ((dats m 0 c).before 9 t d)) ∗ owns (c : Thread nD τ) (st0_10 t) fullShare ((dats m 0 c).after 10 t) ∗ owns (c : Thread nD τ) (st0_11 t) fullShare ((dats m 0 c).after 11 t))) := by
  unfold bodyAt0
  rw [Phi_castSucc, Phi_succ, PhiS_even m c t.val _ ht, PhiS_odd m c (t.val + 1) _ (by omega)]
  rw [after0_0, after0_1, after0_2, after0_3, after0_4, after0_5, after0_6, after0_7, after0_10, after0_11]
  rw [show (⟨t.val + 1 - 1, by omega⟩ : Fin cfg0.N) = t from Fin.ext (by simp)]
  simp only [before0_0, before0_1, before0_2, before0_3, before0_4, before0_5, before0_6, before0_7]
  rw [show oKV m c t = outKV (Dk0 m c t) (Dv0 m c t) from if_pos ht, show oKr m c t = outKr (Dk0 m c t) from if_pos ht]
  unfold Dat.owesAt Pipeline.owesWithin
  rw [show (dats m 0 c).owed t.castSucc = 0 from rfl, show (dats m 0 c).owed t.succ = 0 from rfl]
  unfold scrAny scrAt
  iintro ⟨⟨⟨S0, S1, S2, S3, S4, S5⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run0 c (grid0.coords t) ((coords_2 t).trans ht) (cond1_even t ht) (cond2_even t ht) (trips1_even t ht) (trips2 t) _ _ _ _ _ _ _ _ _ _ _ _ _ _ _ _ _ _ _ _ _ _ _ _ _ _ _ _ _ _ _ _ _ _ _ _ (bqn m c t) (bqr m c t) (bkn m c t) (bkr m c t) (bv m c t) (bo m c t) (bdo m c t) (bl m c t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  iexact H11

set_option maxHeartbeats 1000000 in
theorem sound_odd (c : Dev nD) (t : Fin cfg0.N) (ht : t.val % 2 = 1) :
    (iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d))) : sProp 𝕄)
      ⊢ wp frame (wpE (defs₀ (F := F)) Variants.none c none) Set.univ (bodyAt0 t)
        (fun _ => iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t))) := by
  unfold bodyAt0
  rw [Phi_castSucc, Phi_succ, PhiS_odd m c t.val _ ht, PhiS_even m c (t.val + 1) _ (by omega)]
  rw [after0_0, after0_1, after0_2, after0_3, after0_4, after0_5, after0_6, after0_7, after0_8, after0_9, after0_10, after0_11]
  rw [show (⟨t.val - 1, by omega⟩ : Fin cfg0.N) = prev t from rfl]
  simp only [before0_0, before0_1, before0_2, before0_3, before0_4, before0_5, before0_6, before0_7]
  rw [show oKV m c t = outKV (Dk1 m c t) (Dv1 m c t) from if_neg (by omega), show oKr m c t = outKr (Dk1 m c t) from if_neg (by omega)]
  unfold Dat.owesAt Pipeline.owesWithin
  rw [show (dats m 0 c).owed t.castSucc = 0 from rfl, show (dats m 0 c).owed t.succ = 0 from rfl]
  unfold scrAny scrAt
  iintro ⟨⟨⟨S0, S1, S2, S3, S4, S5⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run1 c (grid0.coords t) ((coords_2 t).trans ht) (cond1_odd t ht) (cond2_odd t ht) (trips1_odd t ht) (trips2 t) _ _ _ _ _ _ _ _ _ _ _ _ _ _ _ _ _ _ _ _ _ _ _ _ _ _ _ _ _ _ _ _ _ _ _ _ (bqn m c t) (bqr m c t) (bkn m c t) (bkr m c t) (bv m c t) (bo m c t) (bdo m c t) (bl m c t) (Qs m c (prev t)) (Ds m c (prev t)) (Ss m c (prev t)) (Acc0 m c (prev t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, S0, S1, S2, S3, S4, S5⟩
  isplitl [S0 S1 S2 S3 S4 S5 Hg]
  · isplitl [S0 S1 S2 S3 S4 S5]
    · isplitl [S0]; · iexists _; iexact S0
      isplitl [S1]; · iexists _; iexact S1
      isplitl [S2]; · iexists _; iexact S2
      isplitl [S3]; · iexists _; iexact S3
      isplitl [S4]; · iexact S4
      iexact S5
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  rcases Nat.mod_two_eq_zero_or_one t.val with h | h
  · have e8 := idle8_even t h
    have e9 := idle9_even t h
    have g8 := flush8_even t h
    have g9 := flush9_even t h
    simp only [show cfg0.grid.coords t = grid0.coords t from rfl, e8, e9, g8, g9]
    exact triple_restated (sound_even m c t h) rfl .rfl fun _ => .rfl
  · have e8 := idle8_odd t h
    have e9 := idle9_odd t h
    simp only [show cfg0.grid.coords t = grid0.coords t from rfl, e8, e9]
    exact triple_restated (sound_odd m c t h) rfl .rfl fun _ => .rfl

/-! ## The run and the frame -/

theorem scrAny_eq (c : Dev nD) : (Pipeline.ΦA spec0 c : sProp 𝕄) = iprop(scrAny c ∗ ∃ r, prngReg c r) := by
  unfold Pipeline.ΦA scrAny
  rw [scopedRest0_eq]
  simp only [owns_whole]; try rfl

theorem hin (c : Dev nD) : (Pipeline.ΦA spec0 c : sProp 𝕄) ⊢ (dats m 0 c).Φ 0 := by
  rw [scrAny_eq, show (dats m 0 c).Φ 0 = PhiS m c 0 (Nat.zero_le _) from by dsimp only [dats]; rfl, PhiS_even m c 0 _ rfl]
theorem hout (c : Dev nD) : (dats m 0 c).Φ (Fin.last cfg0.N) ⊢ (Pipeline.ΦA spec0 c : sProp 𝕄) := by
  rw [scrAny_eq, show (dats m 0 c).Φ (Fin.last cfg0.N) = PhiS m c cfg0.N le_rfl from by dsimp only [dats]; rfl,
    PhiS_even m c cfg0.N _ (by rw [show cfg0.N = 48 from N_0])]

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := hin m) (hout := hout m) (Q' := fun r => Pipeline.FramePost cfgs (dats m) 0 (V m) r ∧ r.2.sem = fun _ => 0)

/-- The frame: the run terminates without a fault, the six arguments end unchanged, every semaphore counter ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 6).trans (((dats m 0 c).arrAt_in 6 rfl _).trans ((A_eq m c 6).trans (V_main_arg5 m c)))⟩, h.2⟩) (run_main m ρ)

end Cert.KernelIdeal.Hand
-- ==== Proof.KI.Cond.lean ====
/- The side conditions of the precondition's and the mask's texts. -/
module

public import proofs.«01_k».proof.Defs

@[expose] public section

namespace Cert.KernelIdeal.Hand
open Idealize.ShloMosaic

instance preFacts : Cert.Pre_finite.Facts where
  bcast_S_S2x2048x12x128 := by decide
  bcast_S_S2x2048x12x64 := by decide
  bcast_S_S2x2048x64 := by decide
  bcast_S_S4096x2048 := by decide
instance onFacts : Cert.On_written.Facts where
  bcast_S_S4096x3072 := by decide
  bcast_S_S4096x1536 := by decide

end Cert.KernelIdeal.Hand
-- ==== Proof.KI.Real.lean ====
/-
  Arrays of real numbers among the arrays of extended reals: `R2 f` is the matrix whose element at row `i`, column `j` is the real `f i j`.
  The kernel's operations take such matrices to such matrices, and each lemma here says to which.
-/
module

public import proofs.«01_k».proof.Proof.KI.Model
public import Idealize.ShloMosaic.Lib.Pipeline.Value
public import Idealize.ShloMosaic.Lib.ValueIdx
public import Idealize.ShloMosaic.PureOps.Ideal.Laws

@[expose] public section
noncomputable section
namespace Cert.KernelIdeal.Hand
open Cert.KernelIdeal Cert.KernelIdeal.Gen
open Idealize.ShloMosaic Idealize.ShloMosaic.TcCoe

/-- The matrix of extended reals that holds the reals `f i j`. -/
def R2 {n m : ℕ} (φ : FTy) (f : Fin n → Fin m → ℝ) : FVec Ideal ⟨2, ![n, m]⟩ φ := fun i => ((f (i 0) (i 1) : ℝ) : EReal)
theorem R2_apply {n m : ℕ} (φ : FTy) (f : Fin n → Fin m → ℝ) (i : (⟨2, ![n, m]⟩ : Shape).Idx) : R2 φ f i = ((f (i 0) (i 1) : ℝ) : EReal) := rfl

/-- The scale, as a real. -/
def sc : ℝ := (Ideal.ofBits .f32 0x3D93CD3A#32).toReal
theorem sc_eq : Ideal.ofBits .f32 0x3D93CD3A#32 = ((sc : ℝ) : EReal) := by
  unfold sc
  rw [show Ideal.ofBits .f32 0x3D93CD3A#32 = (((1 : ℝ) * ((2 ^ 23 + 1297722 : ℕ) : ℝ) * (2 : ℝ) ^ ((123 : ℤ) - 127 - 23) : ℝ) : EReal) from by
    simp [Ideal.ofBits, Ideal.ieee], EReal.toReal_coe]

section
variable {n m : ℕ} {φ : FTy}

theorem mulf_R2 (f g : Fin n → Fin m → ℝ) : mulf (R2 φ f) (R2 φ g) = R2 φ fun i j => f i j * g i j := by
  funext i; exact (EReal.coe_mul _ _).symm
theorem addf_R2 (f g : Fin n → Fin m → ℝ) : addf (R2 φ f) (R2 φ g) = R2 φ fun i j => f i j + g i j := by
  funext i; exact (EReal.coe_add _ _).symm
theorem subf_R2 (f g : Fin n → Fin m → ℝ) : subf (R2 φ f) (R2 φ g) = R2 φ fun i j => f i j - g i j := by
  funext i; exact (EReal.coe_sub _ _).symm
theorem exp_R2 (f : Fin n → Fin m → ℝ) : exp (R2 φ f) = R2 φ fun i j => Real.exp (f i j) := by
  funext i; rfl
theorem truncf_R2 {ψ : FTy} (f : Fin n → Fin m → ℝ) (h : ψ.bits < φ.bits) : truncf ψ (R2 φ f) h = R2 ψ f := rfl
theorem scale_R2 : broadcast (⟨2, ![n, m]⟩ : Shape) (Scalar.ofBits (F := Ideal) .f32 0x3D93CD3A#32) = R2 .f32 fun _ _ => sc := by
  funext i; exact sc_eq
theorem zero_R2 : broadcast (⟨2, ![n, m]⟩ : Shape) (Scalar.ofBits (F := Ideal) .f32 0x00000000#32) = R2 .f32 fun _ _ => 0 := by
  funext i; exact Ideal.ofBits_zero_f32

/-- A window of a matrix. -/
theorem win_R2 {a b : ℕ} (f : Fin n → Fin m → ℝ) (r c : ℕ)
    (inb : ∀ x, (![r, c] : Fin 2 → ℕ) x + (![a, b] : Fin 2 → ℕ) x ≤ (⟨2, ![n, m]⟩ : Shape).size x) (hr : r + a ≤ n) (hc : c + b ≤ m) :
    win (s := ⟨2, ![n, m]⟩) (R2 φ f) ![r, c] ![a, b] inb = R2 φ (n := a) (m := b) fun i j => f ⟨r + i.val, by omega⟩ ⟨c + j.val, by omega⟩ := by
  funext i
  show ((f _ _ : ℝ) : EReal) = ((f _ _ : ℝ) : EReal)
  congr 2
  · exact Fin.ext (show r + 1 * (i 0).val = r + (i 0).val by omega)
  · exact Fin.ext (show c + 1 * (i 1).val = c + (i 1).val by omega)
theorem put_R2 {a b : ℕ} (f : Fin n → Fin m → ℝ) (g : Fin a → Fin b → ℝ) (r : ℕ) (hb : b = m) :
    VecWindow.put (s := ⟨2, ![n, m]⟩) (R2 φ f) ![r, 0] ![a, b] (R2 φ g)
      = R2 φ fun i j => if h : r ≤ i.val ∧ i.val < r + a then g ⟨i.val - r, by omega⟩ (j.cast hb.symm) else f i j := by
  subst hb
  funext i
  unfold VecWindow.put
  show dite _ _ _ = ((dite _ _ _ : ℝ) : EReal)
  by_cases h : r ≤ (i 0).val ∧ (i 0).val < r + a
  · have h' : ∀ x : Fin 2, (![r, 0] : Fin 2 → ℕ) x ≤ (i x).val ∧ (i x).val < (![r, 0] : Fin 2 → ℕ) x + (![a, b] : Fin 2 → ℕ) x := by
      intro x; match x with
      | ⟨0, _⟩ => exact h
      | ⟨1, _⟩ => exact ⟨Nat.zero_le _, by simpa using (i 1).isLt⟩
    rw [dif_pos h', dif_pos h]
    show ((g _ _ : ℝ) : EReal) = ((g _ _ : ℝ) : EReal)
    rfl
  · rw [dif_neg h, dif_neg]
    · rfl
    · intro h'; exact h (h' 0)
end

/-! ## Products -/

section
variable {a b k : ℕ} {φ₁ φ₂ : FTy}

theorem coe_sum {ι : Type*} (s : Finset ι) (f : ι → ℝ) : ((∑ i ∈ s, f i : ℝ) : EReal) = ∑ i ∈ s, ((f i : ℝ) : EReal) := by
  classical
  refine Finset.induction_on s (by simp) fun i s hi ih => ?_
  rw [Finset.sum_insert hi, Finset.sum_insert hi, EReal.coe_add, ih]

theorem mm_nt (D : DotDims ⟨2, ![a, k]⟩ ⟨2, ![b, k]⟩ ⟨2, ![a, b]⟩) (h1 : D.lhsContracting = [1]) (h2 : D.rhsContracting = [1])
    (h3 : D.lhsNonContracting = [0]) (h4 : D.rhsNonContracting = [0]) (h5 : D.lhsBatch = []) (h6 : D.rhsBatch = [])
    (f : Fin a → Fin k → ℝ) (g : Fin b → Fin k → ℝ) :
    matmul D none (R2 φ₁ f) (R2 φ₂ g) (constant ⟨2, ![a, b]⟩ .f32 0x00000000#32) = R2 .f32 fun i j => ∑ x : Fin k, f i x * g j x := by
  obtain ⟨_, _, _, _, _, _, wf⟩ := D
  dsimp only at h1 h2 h3 h4 h5 h6
  subst h1 h2 h3 h4 h5 h6
  funext i
  rw [show matmul _ none (R2 φ₁ f) (R2 φ₂ g) (constant ⟨2, ![a, b]⟩ .f32 0x00000000#32) i = _ from Ideal.matmul_constant_zero_apply _ none (R2 φ₁ f) (R2 φ₂ g) i,
    ← Equiv.sum_comp (ValueIdx.contrEquiv1 _ k rfl rfl).symm, R2_apply, coe_sum]
  refine Finset.sum_congr rfl fun x _ => ?_
  rw [EReal.coe_mul, R2_apply, R2_apply]
  have hk := ValueIdx.contrEquiv1_symm_val (⟨[1], [1], [0], [0], [], [], wf⟩ : DotDims ⟨2, ![a, k]⟩ ⟨2, ![b, k]⟩ ⟨2, ![a, b]⟩) k rfl rfl x
  congr 2

theorem mm_tn (D : DotDims ⟨2, ![k, a]⟩ ⟨2, ![k, b]⟩ ⟨2, ![a, b]⟩) (h1 : D.lhsContracting = [0]) (h2 : D.rhsContracting = [0])
    (h3 : D.lhsNonContracting = [1]) (h4 : D.rhsNonContracting = [1]) (h5 : D.lhsBatch = []) (h6 : D.rhsBatch = [])
    (f : Fin k → Fin a → ℝ) (g : Fin k → Fin b → ℝ) :
    matmul D none (R2 φ₁ f) (R2 φ₂ g) (constant ⟨2, ![a, b]⟩ .f32 0x00000000#32) = R2 .f32 fun i j => ∑ x : Fin k, f x i * g x j := by
  obtain ⟨_, _, _, _, _, _, wf⟩ := D
  dsimp only at h1 h2 h3 h4 h5 h6
  subst h1 h2 h3 h4 h5 h6
  funext i
  rw [show matmul _ none (R2 φ₁ f) (R2 φ₂ g) (constant ⟨2, ![a, b]⟩ .f32 0x00000000#32) i = _ from Ideal.matmul_constant_zero_apply _ none (R2 φ₁ f) (R2 φ₂ g) i,
    ← Equiv.sum_comp (ValueIdx.contrEquiv1 _ k rfl rfl).symm, R2_apply, coe_sum]
  refine Finset.sum_congr rfl fun x _ => ?_
  rw [EReal.coe_mul, R2_apply, R2_apply]
  have hk := ValueIdx.contrEquiv1_symm_val (⟨[0], [0], [1], [1], [], [], wf⟩ : DotDims ⟨2, ![k, a]⟩ ⟨2, ![k, b]⟩ ⟨2, ![a, b]⟩) k rfl rfl x
  congr 2

theorem mm_nn (D : DotDims ⟨2, ![a, k]⟩ ⟨2, ![k, b]⟩ ⟨2, ![a, b]⟩) (h1 : D.lhsContracting = [1]) (h2 : D.rhsContracting = [0])
    (h3 : D.lhsNonContracting = [0]) (h4 : D.rhsNonContracting = [1]) (h5 : D.lhsBatch = []) (h6 : D.rhsBatch = [])
    (f : Fin a → Fin k → ℝ) (g : Fin k → Fin b → ℝ) :
    matmul D none (R2 φ₁ f) (R2 φ₂ g) (constant ⟨2, ![a, b]⟩ .f32 0x00000000#32) = R2 .f32 fun i j => ∑ x : Fin k, f i x * g x j := by
  obtain ⟨_, _, _, _, _, _, wf⟩ := D
  dsimp only at h1 h2 h3 h4 h5 h6
  subst h1 h2 h3 h4 h5 h6
  funext i
  rw [show matmul _ none (R2 φ₁ f) (R2 φ₂ g) (constant ⟨2, ![a, b]⟩ .f32 0x00000000#32) i = _ from Ideal.matmul_constant_zero_apply _ none (R2 φ₁ f) (R2 φ₂ g) i,
    ← Equiv.sum_comp (ValueIdx.contrEquiv1 _ k rfl rfl).symm, R2_apply, coe_sum]
  refine Finset.sum_congr rfl fun x _ => ?_
  rw [EReal.coe_mul, R2_apply, R2_apply]
  have hk := ValueIdx.contrEquiv1_symm_val (⟨[1], [0], [0], [1], [], [], wf⟩ : DotDims ⟨2, ![a, k]⟩ ⟨2, ![k, b]⟩ ⟨2, ![a, b]⟩) k rfl rfl x
  congr 2
end

end Cert.KernelIdeal.Hand
-- ==== Proof.KI.Spec.lean ====
/-
  The backward pass of causal attention as plain real mathematics: scores, their exponentials under the mask, the softmax, and the gradients.
  Indices: `b` the batch, `h` the head, `i` the query's position, `j` the key's, `x` the lane.
-/
module

public import proofs.«01_k».proof.Proof.KI.Real

@[expose] public section
noncomputable section
namespace Cert.KernelIdeal.Hand

/-- The arguments, as reals. -/
structure Args where
  qn : Fin 2 → Fin 2048 → Fin 12 → Fin 128 → ℝ
  qr : Fin 2 → Fin 2048 → Fin 12 → Fin 64 → ℝ
  kn : Fin 2 → Fin 2048 → Fin 12 → Fin 128 → ℝ
  kr : Fin 2 → Fin 2048 → Fin 64 → ℝ
  v : Fin 2 → Fin 2048 → Fin 12 → Fin 128 → ℝ
  dy : Fin 4096 → Fin 2048 → ℝ

namespace Args
variable (a : Args) (b : Fin 2) (h : Fin 12)

/-- The gradient of the attention's output. -/
def ct (i : Fin 2048) (x : Fin 128) : ℝ := a.dy ⟨b.val * 2048 + i.val, by omega⟩ ⟨h.val * 128 + x.val, by omega⟩
/-- The score of query `i` against key `j`. -/
def S (i j : Fin 2048) : ℝ := ((∑ x, a.qn b i h x * a.kn b j h x) + ∑ x, a.qr b i h x * a.kr b j x) * sc
/-- The exponential of the score, zero above the diagonal. -/
def E (i j : Fin 2048) : ℝ := if j.val ≤ i.val then Real.exp (a.S b h i j) else 0
/-- The softmax's denominator. -/
def Z (i : Fin 2048) : ℝ := ∑ j, a.E b h i j
/-- The softmax. -/
def P (i j : Fin 2048) : ℝ := a.E b h i j / a.Z b h i
/-- The attention's output. -/
def O (i : Fin 2048) (x : Fin 128) : ℝ := ∑ j, a.v b j h x * a.P b h i j
/-- The gradient of the softmax. -/
def DP (i j : Fin 2048) : ℝ := ∑ x, a.ct b h i x * a.v b j h x
/-- The row sums the softmax's gradient subtracts. -/
def Dl (i : Fin 2048) : ℝ := ∑ j, a.DP b h i j * a.P b h i j
/-- The gradient of the scores, scaled. -/
def DS (i j : Fin 2048) : ℝ := a.P b h i j * (a.DP b h i j - a.Dl b h i) * sc
def dqn (i : Fin 2048) (x : Fin 128) : ℝ := ∑ j, a.DS b h i j * a.kn b j h x
def dqr (i : Fin 2048) (x : Fin 64) : ℝ := ∑ j, a.DS b h i j * a.kr b j x
def dkn (j : Fin 2048) (x : Fin 128) : ℝ := ∑ i, a.DS b h i j * a.qn b i h x
def dkr (j : Fin 2048) (x : Fin 64) : ℝ := ∑ i, a.DS b h i j * a.qr b i h x
def dv (j : Fin 2048) (x : Fin 128) : ℝ := ∑ i, a.ct b h i x * a.P b h i j

theorem E_nonneg (i j : Fin 2048) : 0 ≤ a.E b h i j := by
  unfold E; split_ifs <;> positivity
theorem Z_pos (i : Fin 2048) : 0 < a.Z b h i := by
  refine Finset.sum_pos' (fun j _ => a.E_nonneg b h i j) ⟨i, Finset.mem_univ _, ?_⟩
  unfold E; rw [if_pos le_rfl]; positivity

/-- The row sums are also those of the output times its gradient. -/
theorem Dl_eq (i : Fin 2048) : a.Dl b h i = ∑ x, a.O b h i x * a.ct b h i x := by
  unfold Dl DP O
  simp only [Finset.sum_mul]
  rw [Finset.sum_comm]
  refine Finset.sum_congr rfl fun x _ => Finset.sum_congr rfl fun j _ => by ring

/-- Head `h`'s 64 rotary lanes `f` spread over 128: lanes 0 to 31 hold the first half, lanes 64 to 95 the second, the rest is zero. -/
def spread (f : Fin 64 → ℝ) (x : Fin 128) : ℝ :=
  if h : x.val < 32 then f ⟨x.val, by omega⟩ else if h : 64 ≤ x.val ∧ x.val < 96 then f ⟨x.val - 32, by omega⟩ else 0

/-- The kernel's first result: the gradient of `q_nope`, the heads side by side (nothing is said of the columns past the last head's). -/
def res0 (r : Fin 4096) (c : Fin 3072) : ℝ :=
  if h : c.val < 1536 then a.dqn ⟨r.val / 2048, by omega⟩ ⟨c.val / 128, by omega⟩ ⟨r.val % 2048, by omega⟩ ⟨c.val % 128, by omega⟩ else 0
/-- The second: the gradient of `q_rope`, each head's lanes spread. -/
def res1 (r : Fin 4096) (c : Fin 1536) : ℝ :=
  spread (a.dqr ⟨r.val / 2048, by omega⟩ ⟨c.val / 128, by omega⟩ ⟨r.val % 2048, by omega⟩) ⟨c.val % 128, by omega⟩
/-- The third: per head the gradient of `k_nope`, then that of `v`. -/
def res2 (r : Fin 4096) (c : Fin 3072) : ℝ :=
  if h : c.val % 256 < 128 then a.dkn ⟨r.val / 2048, by omega⟩ ⟨c.val / 256, by omega⟩ ⟨r.val % 2048, by omega⟩ ⟨c.val % 256, h⟩
  else a.dv ⟨r.val / 2048, by omega⟩ ⟨c.val / 256, by omega⟩ ⟨r.val % 2048, by omega⟩ ⟨c.val % 256 - 128, by omega⟩
/-- The fourth: each head's part of the gradient of `k_rope`, the lanes spread. -/
def res3 (r : Fin 4096) (c : Fin 1536) : ℝ :=
  spread (a.dkr ⟨r.val / 2048, by omega⟩ ⟨c.val / 128, by omega⟩ ⟨r.val % 2048, by omega⟩) ⟨c.val % 128, by omega⟩

end Args

/-- The arrays of reals of rank three and four, among those of extended reals. -/
def R3 {k n m : ℕ} (φ : Idealize.ShloMosaic.FTy) (f : Fin k → Fin n → Fin m → ℝ) : Idealize.ShloMosaic.FVec Idealize.ShloMosaic.Ideal ⟨3, ![k, n, m]⟩ φ :=
  fun i => ((f (i 0) (i 1) (i 2) : ℝ) : EReal)
def R4 {k n m l : ℕ} (φ : Idealize.ShloMosaic.FTy) (f : Fin k → Fin n → Fin m → Fin l → ℝ) : Idealize.ShloMosaic.FVec Idealize.ShloMosaic.Ideal ⟨4, ![k, n, m, l]⟩ φ :=
  fun i => ((f (i 0) (i 1) (i 2) (i 3) : ℝ) : EReal)

end Cert.KernelIdeal.Hand
-- ==== Proof.KI.Pay.lean ====
/-
  The kernel's payloads on real matrices. `pf` is the probability of one query and one key from the saved log-sum-exp, `pm` the same under the causal
  mask, `dsf` the gradient of one scaled score; every payload is one of these or a product of one of these with the queries, the keys or the
  gradient of the output.
-/
module

public import proofs.«01_k».proof.Proof.KI.Real

@[expose] public section
noncomputable section
namespace Cert.KernelIdeal.Hand
open Cert.KernelIdeal Cert.KernelIdeal.Gen
open Idealize.ShloMosaic Idealize.ShloMosaic.TcCoe

/-! ## Layout -/

theorem slice_R2 {n m a b : ℕ} {φ : FTy} (f : Fin n → Fin m → ℝ) (c : ℕ) (h : (⟨2, ![n, m]⟩ : Shape).Slices ![0, c] ⟨2, ![a, b]⟩)
    (hn : a ≤ n) (hm : c + b ≤ m) :
    extractStridedSlice ⟨2, ![a, b]⟩ ![0, c] (R2 φ f) h = R2 φ fun i j => f ⟨i.val, by omega⟩ ⟨c + j.val, by omega⟩ := by
  funext i
  exact extractStridedSlice_apply ![0, c] (R2 φ f) h i (ValueIdx.ix2 ⟨(i 0).val, by have := ValueIdx.idx2_lt0 i; omega⟩ ⟨c + (i 1).val, by have := ValueIdx.idx2_lt1 i; omega⟩) (fun x => match x with
    | ⟨0, _⟩ => by show (i 0).val = 0 + (i 0).val; omega
    | ⟨1, _⟩ => by show c + (i 1).val = c + (i 1).val; rfl)
theorem bcast_R2 {n m : ℕ} {φ : FTy} (f : Fin n → Fin 1 → ℝ) (h : (⟨2, ![n, 1]⟩ : Shape).Broadcasts ⟨2, ![n, m]⟩) :
    broadcastTo ⟨2, ![n, m]⟩ (R2 φ f) h = R2 φ fun i _ => f i 0 := by
  funext i
  exact broadcastTo_apply (R2 φ f) h i (ValueIdx.ix2 (i 0) 0) (fun x => match x with
    | ⟨0, _⟩ => by
      show (i 0).val = if (n : Nat) = 1 then 0 else (i 0).val
      have := ValueIdx.idx2_lt0 i
      split_ifs <;> omega
    | ⟨1, _⟩ => by show 0 = if (1 : Nat) = 1 then 0 else _; rw [if_pos rfl])

/-- Two matrices side by side. -/
def sbs {n : ℕ} (a b m : ℕ) (hm : a + b = m) (f : Fin n → Fin a → ℝ) (g : Fin n → Fin b → ℝ) (i : Fin n) (j : Fin m) : ℝ :=
  if h : j.val < a then f i ⟨j.val, h⟩ else g i ⟨j.val - a, by omega⟩
theorem concat_apply {n a b m : ℕ} {φ : FTy} (hm : a + b = m) (f : FVec Ideal ⟨2, ![n, a]⟩ φ) (g : FVec Ideal ⟨2, ![n, b]⟩ φ)
    (h : Shape.Concatenates [(⟨2, ![n, a]⟩ : Shape), ⟨2, ![n, b]⟩] ⟨2, ![n, m]⟩ 1) (i : (⟨2, ![n, m]⟩ : Shape).Idx) :
    concatenate ⟨2, ![n, m]⟩ 1 [⟨⟨2, ![n, a]⟩, f⟩, ⟨⟨2, ![n, b]⟩, g⟩] h i
      = if hh : (i 1).val < a then f (ValueIdx.ix2 (i 0) ⟨(i 1).val, hh⟩)
        else g (ValueIdx.ix2 (i 0) ⟨(i 1).val - a, by have := ValueIdx.idx2_lt1 i; omega⟩) := by
  by_cases hh : (i 1).val < a
  · rw [dif_pos hh]
    exact concatenate_pair_apply_left (t := ⟨2, ![n, m]⟩) (s₁ := ⟨2, ![n, a]⟩) (s₂ := ⟨2, ![n, b]⟩) 1 f g h i rfl (ValueIdx.ix2 (i 0) ⟨(i 1).val, hh⟩) (fun x => match x with
      | ⟨0, _⟩ => rfl
      | ⟨1, _⟩ => rfl)
  · rw [dif_neg hh]
    exact concatenate_pair_apply_right (t := ⟨2, ![n, m]⟩) (s₁ := ⟨2, ![n, a]⟩) (s₂ := ⟨2, ![n, b]⟩) 1 f g h i rfl rfl (ValueIdx.ix2 (i 0) ⟨(i 1).val - a, by have := ValueIdx.idx2_lt1 i; omega⟩) (fun x => match x with
      | ⟨0, _⟩ => fun _ => rfl
      | ⟨1, _⟩ => fun hx => absurd rfl hx) (by show (i 1).val - a + a = (i 1).val; omega)
theorem concat_R2 {n a b m : ℕ} {φ : FTy} (hm : a + b = m) (f : Fin n → Fin a → ℝ) (g : Fin n → Fin b → ℝ)
    (h : Shape.Concatenates [(⟨2, ![n, a]⟩ : Shape), ⟨2, ![n, b]⟩] ⟨2, ![n, m]⟩ 1) :
    concatenate ⟨2, ![n, m]⟩ 1 [⟨⟨2, ![n, a]⟩, R2 φ f⟩, ⟨⟨2, ![n, b]⟩, R2 φ g⟩] h = R2 φ (sbs a b m hm f g) := by
  funext i
  rw [concat_apply hm, R2_apply]
  unfold sbs
  split_ifs <;> rfl

/-- The array of one log-sum-exp per row. -/
def L3 {n : ℕ} (l : Fin n → ℝ) : FVec Ideal ⟨3, ![1, n, 1]⟩ .f32 := fun i => ((l (i 1) : ℝ) : EReal)
theorem cast_L3 {n : ℕ} (l : Fin n → ℝ) (h : (⟨3, ![1, n, 1]⟩ : Shape).ShapeCasts ⟨2, ![n, 1]⟩) :
    shapeCast ⟨2, ![n, 1]⟩ (L3 l) h = R2 .f32 fun i _ => l i := by
  funext i
  refine shapeCast_apply (L3 l) h i (ValueIdx.ix3 0 (i 0) 0) ?_
  rw [Shape.rowMajor_val_two, Shape.rowMajor_val_three]
  have := ValueIdx.idx2_lt1 i
  show (0 * n + (i 0).val) * 1 + 0 = (i 0).val * 1 + (i 1).val
  omega

/-! ## The mask -/

theorem sle_ofNat (a b : ℕ) (ha : a < 2 ^ 31) (hb : b < 2 ^ 31) :
    IntOp.cmpi .sle (BitVec.ofNat 32 a) (BitVec.ofNat 32 b) = if a ≤ b then 1#1 else 0#1 := by
  have e : (BitVec.ofNat 32 a).sle (BitVec.ofNat 32 b) = decide (a ≤ b) := by
    have ha' : (BitVec.ofNat 32 a).toInt = a := by rw [BitVec.toInt_eq_toNat_of_lt] <;> simp <;> omega
    have hb' : (BitVec.ofNat 32 b).toInt = b := by rw [BitVec.toInt_eq_toNat_of_lt] <;> simp <;> omega
    rw [BitVec.sle_eq_decide, ha', hb']; simp
  show BitVec.ofBool _ = _
  rw [e]
  split_ifs with h <;> simp [h]

theorem bias_apply (i : S512x512.Idx) : k0_pay26 (F := Ideal) i = if (i 1).val ≤ (i 0).val then (0 : EReal) else ⊥ := by
  have h0 := ValueIdx.idx2_lt0 i
  have h1 := ValueIdx.idx2_lt1 i
  unfold k0_pay26
  show Scalar.select (IntOp.cmpi .sle (iota .tc S512x512 32 [1] iota_S512x512_d1_w32 i) (iota .tc S512x512 32 [0] iota_S512x512_d0_w32 i))
    (Ideal.ofBits .f32 0x00000000#32) (⊥ : EReal) = _
  rw [iota_single_apply, iota_single_apply, sle_ofNat _ _ (by omega) (by omega), Ideal.ofBits_zero_f32]
  split_ifs <;> rfl

/-! ## Products of the printed shapes -/

theorem dot_a {φ₁ φ₂ : FTy} (f : Fin 512 → Fin 256 → ℝ) (g : Fin 1024 → Fin 256 → ℝ) :
    matmul dot_S512x256_S1024x256_S512x1024_1_1_0_0_n_n none (R2 φ₁ f) (R2 φ₂ g) (constant S512x1024 .f32 0x00000000#32) = R2 .f32 fun i j => ∑ x, f i x * g j x :=
  mm_nt _ rfl rfl rfl rfl rfl rfl f g
theorem dot_b {φ₁ φ₂ : FTy} (f : Fin 512 → Fin 128 → ℝ) (g : Fin 1024 → Fin 128 → ℝ) :
    matmul dot_S512x128_S1024x128_S512x1024_1_1_0_0_n_n none (R2 φ₁ f) (R2 φ₂ g) (constant S512x1024 .f32 0x00000000#32) = R2 .f32 fun i j => ∑ x, f i x * g j x :=
  mm_nt _ rfl rfl rfl rfl rfl rfl f g
theorem dot_c {φ₁ φ₂ : FTy} (f : Fin 512 → Fin 256 → ℝ) (g : Fin 512 → Fin 256 → ℝ) :
    matmul dot_S512x256_S512x256_S512x512_1_1_0_0_n_n none (R2 φ₁ f) (R2 φ₂ g) (constant S512x512 .f32 0x00000000#32) = R2 .f32 fun i j => ∑ x, f i x * g j x :=
  mm_nt _ rfl rfl rfl rfl rfl rfl f g
theorem dot_d {φ₁ φ₂ : FTy} (f : Fin 512 → Fin 128 → ℝ) (g : Fin 512 → Fin 128 → ℝ) :
    matmul dot_S512x128_S512x128_S512x512_1_1_0_0_n_n none (R2 φ₁ f) (R2 φ₂ g) (constant S512x512 .f32 0x00000000#32) = R2 .f32 fun i j => ∑ x, f i x * g j x :=
  mm_nt _ rfl rfl rfl rfl rfl rfl f g
theorem dot_e {φ₁ φ₂ : FTy} (f : Fin 512 → Fin 1024 → ℝ) (g : Fin 512 → Fin 128 → ℝ) :
    matmul dot_S512x1024_S512x128_S1024x128_0_0_1_1_n_n none (R2 φ₁ f) (R2 φ₂ g) (constant S1024x128 .f32 0x00000000#32) = R2 .f32 fun i j => ∑ x, f x i * g x j :=
  mm_tn _ rfl rfl rfl rfl rfl rfl f g
theorem dot_f {φ₁ φ₂ : FTy} (f : Fin 512 → Fin 1024 → ℝ) (g : Fin 512 → Fin 256 → ℝ) :
    matmul dot_S512x1024_S512x256_S1024x256_0_0_1_1_n_n none (R2 φ₁ f) (R2 φ₂ g) (constant S1024x256 .f32 0x00000000#32) = R2 .f32 fun i j => ∑ x, f x i * g x j :=
  mm_tn _ rfl rfl rfl rfl rfl rfl f g
theorem dot_g {φ₁ φ₂ : FTy} (f : Fin 512 → Fin 512 → ℝ) (g : Fin 512 → Fin 128 → ℝ) :
    matmul dot_S512x512_S512x128_S512x128_0_0_1_1_n_n none (R2 φ₁ f) (R2 φ₂ g) (constant S512x128 .f32 0x00000000#32) = R2 .f32 fun i j => ∑ x, f x i * g x j :=
  mm_tn _ rfl rfl rfl rfl rfl rfl f g
theorem dot_h {φ₁ φ₂ : FTy} (f : Fin 512 → Fin 512 → ℝ) (g : Fin 512 → Fin 256 → ℝ) :
    matmul dot_S512x512_S512x256_S512x256_0_0_1_1_n_n none (R2 φ₁ f) (R2 φ₂ g) (constant S512x256 .f32 0x00000000#32) = R2 .f32 fun i j => ∑ x, f x i * g x j :=
  mm_tn _ rfl rfl rfl rfl rfl rfl f g
theorem dot_i {φ₁ φ₂ : FTy} (f : Fin 512 → Fin 1024 → ℝ) (g : Fin 1024 → Fin 256 → ℝ) :
    matmul dot_S512x1024_S1024x256_S512x256_1_0_0_1_n_n none (R2 φ₁ f) (R2 φ₂ g) (constant S512x256 .f32 0x00000000#32) = R2 .f32 fun i j => ∑ x, f i x * g x j :=
  mm_nn _ rfl rfl rfl rfl rfl rfl f g
theorem dot_j {φ₁ φ₂ : FTy} (f : Fin 512 → Fin 512 → ℝ) (g : Fin 512 → Fin 256 → ℝ) :
    matmul dot_S512x512_S512x256_S512x256_1_0_0_1_n_n none (R2 φ₁ f) (R2 φ₂ g) (constant S512x256 .f32 0x00000000#32) = R2 .f32 fun i j => ∑ x, f i x * g x j :=
  mm_nn _ rfl rfl rfl rfl rfl rfl f g

/-! ## The payloads -/

section
variable {n m : ℕ}
/-- The probability of key `j` under query `i`, from the query's log-sum-exp. -/
def pf (q : Fin n → Fin 256 → ℝ) (K : Fin m → Fin 256 → ℝ) (l : Fin n → ℝ) (i : Fin n) (j : Fin m) : ℝ :=
  Real.exp ((∑ x, q i x * K j x) * sc - l i)
/-- The same where key `j` is at most `o` places after query `i`, and nothing elsewhere. -/
def pm (o : ℕ) (q : Fin n → Fin 256 → ℝ) (K : Fin m → Fin 256 → ℝ) (l : Fin n → ℝ) (i : Fin n) (j : Fin m) : ℝ :=
  if j.val ≤ o + i.val then pf q K l i j else 0
/-- The gradient of one score. -/
def dsf (p : Fin n → Fin m → ℝ) (d : Fin n → Fin 128 → ℝ) (v : Fin m → Fin 128 → ℝ) (D : Fin n → ℝ) (i : Fin n) (j : Fin m) : ℝ :=
  p i j * ((∑ x, d i x * v j x) - D i) * sc
end

theorem pay2_R2 (K : Fin 1024 → Fin 256 → ℝ) (q : Fin 512 → Fin 256 → ℝ) (l : Fin 512 → ℝ) :
    k0_pay2 (F := Ideal) (R2 .bf16 K) (R2 .bf16 q) (L3 l) = R2 .f32 (pf q K l) := by
  unfold k0_pay2
  dsimp only
  rw [dot_a, scale_R2, mulf_R2, cast_L3, bcast_R2, subf_R2, exp_R2]
  rfl
theorem pay3_R2 (K : Fin 1024 → Fin 256 → ℝ) (v : Fin 1024 → Fin 128 → ℝ) (q : Fin 512 → Fin 256 → ℝ) (d : Fin 512 → Fin 128 → ℝ) (l D : Fin 512 → ℝ) :
    k0_pay3 (F := Ideal) (R2 .bf16 K) (R2 .bf16 v) (R2 .bf16 q) (R2 .bf16 d) (L3 l) (R2 .f32 fun i _ => D i) = R2 .bf16 (dsf (pf q K l) d v D) := by
  unfold k0_pay3
  dsimp only
  rw [pay2_R2, dot_b, bcast_R2, subf_R2, mulf_R2, scale_R2, mulf_R2, truncf_R2]
  rfl
theorem pay31_R2 (K : Fin 512 → Fin 256 → ℝ) (q : Fin 512 → Fin 256 → ℝ) (l : Fin 512 → ℝ) :
    k0_pay31 (F := Ideal) k0_pay26 (R2 .bf16 q) (R2 .bf16 K) (constant S512x512 .f32 0x00000000#32) (L3 l) = R2 .f32 (pm 0 q K l) := by
  unfold k0_pay31
  dsimp only
  rw [dot_c, scale_R2, mulf_R2, cast_L3, bcast_R2]
  funext i
  show Ideal.exp (((((∑ x, q (i 0) x * K (i 1) x) * sc : ℝ) : EReal) + k0_pay26 (F := Ideal) i) - ((l (i 0) : ℝ) : EReal)) = _
  rw [bias_apply, R2_apply]
  unfold pm
  by_cases h : (i 1).val ≤ (i 0).val
  · rw [if_pos h, if_pos (by omega), add_zero, ← EReal.coe_sub]; rfl
  · rw [if_neg h, if_neg (by omega), EReal.add_bot, EReal.bot_sub]; rfl
theorem pay37_R2 (K : Fin 1024 → Fin 256 → ℝ) (q : Fin 512 → Fin 256 → ℝ) (l : Fin 512 → ℝ) :
    k0_pay37 (F := Ideal) (R2 .bf16 K) k0_pay26 (R2 .bf16 q) (L3 l) = R2 .f32 (pm 512 q K l) := by
  unfold k0_pay37
  dsimp only
  rw [dot_a, scale_R2, mulf_R2, cast_L3, bcast_R2, slice_R2 _ _ _ (by decide) (by decide), slice_R2 _ _ _ (by decide) (by decide)]
  funext i
  have h1 := ValueIdx.idx2_lt1 i
  show Ideal.exp (concatenate _ _ _ _ i - ((l (i 0) : ℝ) : EReal)) = _
  rw [concat_apply (by decide), R2_apply]
  unfold pm
  by_cases h : (i 1).val < 512
  · rw [dif_pos h, if_pos (by omega), R2_apply, ← EReal.coe_sub]
    show (Real.exp _ : EReal) = _
    simp only [Nat.zero_add]
    rfl
  · rw [dif_neg h]
    show Ideal.exp ((R2 .f32 _ _ + k0_pay26 (F := Ideal) _) - _) = _
    rw [bias_apply, R2_apply]
    have e : (⟨512 + ((i 1).val - 512), by omega⟩ : Fin 1024) = i 1 := Fin.ext (by show 512 + ((i 1).val - 512) = _; omega)
    show Ideal.exp (((((∑ x, q (i 0) x * K ⟨512 + ((i 1).val - 512), _⟩ x) * sc : ℝ) : EReal) + if (i 1).val - 512 ≤ (i 0).val then (0 : EReal) else ⊥) - ((l (i 0) : ℝ) : EReal)) = _
    rw [e]
    by_cases h' : (i 1).val ≤ 512 + (i 0).val
    · rw [if_pos (by omega), if_pos h', add_zero, ← EReal.coe_sub]; rfl
    · rw [if_neg (by omega), if_neg h', EReal.add_bot, EReal.bot_sub]; rfl
theorem pay32_R2 (K : Fin 512 → Fin 256 → ℝ) (v : Fin 512 → Fin 128 → ℝ) (q : Fin 512 → Fin 256 → ℝ) (d : Fin 512 → Fin 128 → ℝ) (l D : Fin 512 → ℝ) :
    k0_pay32 (F := Ideal) k0_pay26 (R2 .bf16 q) (R2 .bf16 d) (R2 .bf16 K) (R2 .bf16 v) (constant S512x512 .f32 0x00000000#32) (L3 l) (R2 .f32 fun i _ => D i)
      = R2 .bf16 (dsf (pm 0 q K l) d v D) := by
  unfold k0_pay32
  dsimp only
  rw [pay31_R2, dot_d, bcast_R2, subf_R2, mulf_R2, scale_R2, mulf_R2, truncf_R2]
  rfl
theorem pay38_R2 (K : Fin 1024 → Fin 256 → ℝ) (v : Fin 1024 → Fin 128 → ℝ) (q : Fin 512 → Fin 256 → ℝ) (d : Fin 512 → Fin 128 → ℝ) (l D : Fin 512 → ℝ) :
    k0_pay38 (F := Ideal) (R2 .bf16 K) (R2 .bf16 v) k0_pay26 (R2 .bf16 q) (R2 .bf16 d) (L3 l) (R2 .f32 fun i _ => D i) = R2 .bf16 (dsf (pm 512 q K l) d v D) := by
  unfold k0_pay38
  dsimp only
  rw [pay37_R2, dot_b, bcast_R2, subf_R2, mulf_R2, scale_R2, mulf_R2, truncf_R2]
  rfl

theorem pay4_R2 (K : Fin 1024 → Fin 256 → ℝ) (q : Fin 512 → Fin 256 → ℝ) (d : Fin 512 → Fin 128 → ℝ) (l : Fin 512 → ℝ) (a : Fin 1024 → Fin 128 → ℝ) :
    k0_pay4 (F := Ideal) (R2 .bf16 K) (R2 .bf16 q) (R2 .bf16 d) (L3 l) (R2 .f32 a) = R2 .f32 fun j x => a j x + ∑ i, pf q K l i j * d i x := by
  unfold k0_pay4
  dsimp only
  rw [pay2_R2, truncf_R2, dot_e, addf_R2, shapeCast_self]
theorem pay39_R2 (K : Fin 1024 → Fin 256 → ℝ) (q : Fin 512 → Fin 256 → ℝ) (d : Fin 512 → Fin 128 → ℝ) (l : Fin 512 → ℝ) (a : Fin 1024 → Fin 128 → ℝ) :
    k0_pay39 (F := Ideal) (R2 .bf16 K) k0_pay26 (R2 .bf16 q) (R2 .bf16 d) (L3 l) (R2 .f32 a) = R2 .f32 fun j x => a j x + ∑ i, pm 512 q K l i j * d i x := by
  unfold k0_pay39
  dsimp only
  rw [pay37_R2, truncf_R2, dot_e, addf_R2, shapeCast_self]
theorem pay33_R2 (K : Fin 512 → Fin 256 → ℝ) (q : Fin 512 → Fin 256 → ℝ) (d : Fin 512 → Fin 128 → ℝ) (l : Fin 512 → ℝ) (a : Fin 512 → Fin 128 → ℝ) :
    k0_pay33 (F := Ideal) k0_pay26 (R2 .bf16 q) (R2 .bf16 d) (R2 .bf16 K) (constant S512x512 .f32 0x00000000#32) (L3 l) (R2 .f32 a)
      = R2 .f32 fun j x => a j x + ∑ i, pm 0 q K l i j * d i x := by
  unfold k0_pay33
  dsimp only
  rw [pay31_R2, truncf_R2, dot_g, addf_R2, shapeCast_self]
section
variable (v : Fin 1024 → Fin 128 → ℝ) (v' : Fin 512 → Fin 128 → ℝ) (K : Fin 1024 → Fin 256 → ℝ) (K' : Fin 512 → Fin 256 → ℝ) (q : Fin 512 → Fin 256 → ℝ)
  (d : Fin 512 → Fin 128 → ℝ) (l D : Fin 512 → ℝ) (a : Fin 1024 → Fin 256 → ℝ) (c : Fin 512 → Fin 256 → ℝ)
theorem pay6_R2 : k0_pay6 (F := Ideal) (k0_pay5 (R2 .bf16 K) (R2 .bf16 v) (R2 .bf16 q) (R2 .bf16 d) (L3 l) (R2 .f32 fun i _ => D i) (R2 .f32 a))
      = R2 .f32 fun j x => a j x + ∑ i, dsf (pf q K l) d v D i j * q i x := by
  unfold k0_pay6 k0_pay5
  dsimp only
  rw [pay3_R2, dot_f, addf_R2, shapeCast_self]
theorem pay41_R2 : k0_pay41 (F := Ideal) (R2 .f32 a) (k0_pay40 (R2 .bf16 K) (R2 .bf16 v) k0_pay26 (R2 .bf16 q) (R2 .bf16 d) (L3 l) (R2 .f32 fun i _ => D i))
      = R2 .f32 fun j x => a j x + ∑ i, dsf (pm 512 q K l) d v D i j * q i x := by
  unfold k0_pay41 k0_pay40
  dsimp only
  rw [pay38_R2, dot_f, addf_R2, shapeCast_self]
theorem pay34_R2 : k0_pay34 (F := Ideal) k0_pay26 (R2 .bf16 q) (R2 .bf16 d) (R2 .bf16 K') (R2 .bf16 v') (constant S512x512 .f32 0x00000000#32) (L3 l)
      (R2 .f32 fun i _ => D i) (R2 .f32 c) = R2 .f32 fun j x => c j x + ∑ i, dsf (pm 0 q K' l) d v' D i j * q i x := by
  unfold k0_pay34
  dsimp only
  rw [pay32_R2, dot_h, addf_R2, shapeCast_self]
theorem pay7_R2 : k0_pay7 (F := Ideal) (R2 .bf16 K) (k0_pay3 (R2 .bf16 K) (R2 .bf16 v) (R2 .bf16 q) (R2 .bf16 d) (L3 l) (R2 .f32 fun i _ => D i)) (R2 .f32 c)
      = R2 .f32 fun i x => c i x + ∑ j, dsf (pf q K l) d v D i j * K j x := by
  unfold k0_pay7
  dsimp only
  rw [pay3_R2, dot_i, addf_R2, shapeCast_self]
theorem pay42_R2 : k0_pay42 (F := Ideal) (R2 .bf16 K) (k0_pay38 (R2 .bf16 K) (R2 .bf16 v) k0_pay26 (R2 .bf16 q) (R2 .bf16 d) (L3 l) (R2 .f32 fun i _ => D i)) (R2 .f32 c)
      = R2 .f32 fun i x => c i x + ∑ j, dsf (pm 512 q K l) d v D i j * K j x := by
  unfold k0_pay42
  dsimp only
  rw [pay38_R2, dot_i, addf_R2, shapeCast_self]
theorem pay36_R2 : k0_pay36 (F := Ideal) (k0_pay35 k0_pay26 (R2 .bf16 q) (R2 .bf16 d) (R2 .bf16 K') (R2 .bf16 v') (constant S512x512 .f32 0x00000000#32) (L3 l)
      (R2 .f32 fun i _ => D i) (R2 .f32 c)) = R2 .f32 fun i x => c i x + ∑ j, dsf (pm 0 q K' l) d v' D i j * K' j x := by
  unfold k0_pay36 k0_pay35
  dsimp only
  rw [pay32_R2, dot_j, addf_R2, shapeCast_self]
end

/-! ## The payloads around the steps -/

theorem pay20_R2 (f g : Fin 2048 → Fin 128 → ℝ) : k0_pay20 (F := Ideal) (R2 .f32 f) (R2 .bf16 g) = R2 .bf16 (sbs 128 128 256 rfl f g) := by
  unfold k0_pay20
  dsimp only
  rw [shapeCast_self, shapeCast_self, shapeCast_self, truncf_R2, concat_R2]
theorem pay21_R2 (f : Fin 2048 → Fin 128 → ℝ) : k0_pay21 (F := Ideal) (R2 .f32 f) = R2 .bf16 f := by
  unfold k0_pay21
  dsimp only
  rw [shapeCast_self, truncf_R2]
theorem pay22_R2 (f g : Fin 2048 → Fin 128 → ℝ) : k0_pay22 (F := Ideal) (R2 .f32 f) (R2 .f32 g) = R2 .f32 fun i _ => ∑ x, f i x * g i x := by
  unfold k0_pay22
  dsimp only
  rw [shapeCast_self, shapeCast_self, mulf_R2]
  funext i
  rw [shapeCast_apply _ shapeCasts_S2048_S2048x1 i (ValueIdx.ix1 (i 0)) (by
    rw [Shape.rowMajor_val_two, Shape.rowMajor_val_one]
    have := ValueIdx.idx2_lt1 i
    show (i 0).val = (i 0).val * 1 + (i 1).val
    omega)]
  refine (Ideal.multiReduction_add_single (R2 .f32 fun i j => f i j * g i j) _ reduces_S2048x128_S2048 _ _ (ValueIdx.ix1 (i 0))).trans ?_
  rw [R2_apply, coe_sum]
  refine Finset.sum_congr rfl fun x _ => ?_
  have e : reduces_S2048x128_S2048.lift (ValueIdx.ix1 (i 0)) x = ValueIdx.ix2 (i 0) x := funext fun a => Fin.ext (by
    match a with
    | ⟨0, _⟩ => rfl
    | ⟨1, _⟩ => rfl)
  rw [e]; rfl
theorem pay23_R2 : k0_pay23 (F := Ideal) = R2 .f32 fun _ _ => 0 := by
  unfold k0_pay23
  dsimp only
  rw [shapeCast_self, zero_R2]
theorem pay27_R2 : k0_pay27 (F := Ideal) = R2 .f32 fun _ _ => 0 := by
  unfold k0_pay27
  dsimp only
  rw [shapeCast_self, zero_R2]
theorem pay28_R2 : k0_pay28 (F := Ideal) = R2 .f32 fun _ _ => 0 := by
  unfold k0_pay28
  dsimp only
  rw [shapeCast_self, zero_R2]
theorem pay24_R2 (f g : Fin 1024 → Fin 128 → ℝ) : k0_pay24 (F := Ideal) (R2 .bf16 f) (R2 .bf16 g) = R2 .bf16 (sbs 128 128 256 rfl f g) := by
  unfold k0_pay24
  dsimp only
  rw [shapeCast_self, shapeCast_self, concat_R2]
theorem pay25_R2 (f : Fin 1024 → Fin 128 → ℝ) : k0_pay25 (F := Ideal) (R2 .bf16 f) = R2 .bf16 f := by
  unfold k0_pay25
  dsimp only
  rw [shapeCast_self]
theorem pay29_R2 (f g : Fin 1024 → Fin 128 → ℝ) : k0_pay29 (F := Ideal) (R2 .bf16 f) (R2 .bf16 g)
      = R2 .bf16 fun (j : Fin 512) x => sbs 128 128 256 rfl f g ⟨j.val, by omega⟩ x := by
  unfold k0_pay29
  dsimp only
  rw [pay24_R2, slice_R2 _ _ _ (by decide) (by decide)]
  simp only [Nat.zero_add]
theorem pay30_R2 (f : Fin 1024 → Fin 128 → ℝ) : k0_pay30 (F := Ideal) (R2 .bf16 f) = R2 .bf16 fun (j : Fin 512) x => f ⟨j.val, by omega⟩ x := by
  unfold k0_pay30
  dsimp only
  rw [pay25_R2, slice_R2 _ _ _ (by decide) (by decide)]
  simp only [Nat.zero_add]
theorem pay49_R2 (f g : Fin 1024 → Fin 128 → ℝ) : k0_pay49 (F := Ideal) (R2 .f32 f) (R2 .f32 g) = R2 .bf16 (sbs 128 128 256 rfl f g) := by
  unfold k0_pay49
  dsimp only
  rw [concat_R2, truncf_R2]

end Cert.KernelIdeal.Hand
-- ==== Proof.KI.Ref.lean ====
/-
  The reference program on arrays of reals: each of its operations, read as real mathematics.
-/
module

public import proofs.«01_k».proof.Proof.KI.Spec
public import proofs.«01_k».proof.Proof.KI.Pay
public import proofs.«01_k».proof.Proof.Gen.ReferenceIdeal.Read

@[expose] public section
set_option maxRecDepth 100000
noncomputable section
namespace Cert.KernelIdeal.Hand.Ref
open Cert.KernelIdeal.Hand Cert.ReferenceIdeal Cert.ReferenceIdeal.Gen Cert.ReferenceIdeal.Read
open Idealize.ShloMosaic Idealize.ShloMosaic.TcCoe

variable (a : Args)

theorem s_v8 (i : S2x12x2048x2048.Idx) : val_main_v8 (F := Ideal) (R4 .f32 a.qn) (R4 .f32 a.qr) (R4 .f32 a.kn) (R3 .f32 a.kr) i = ((a.S (i 0) (i 1) (i 2) (i 3) : ℝ) : EReal) := by
  rw [val_main_v8_apply, val_main_v6_apply, val_main_v4_apply, val_main_v5_apply, val_main_v7_apply, val_main_cst_apply]
  simp only [val_main_v3_apply, val_main_v2_apply]
  show ((∑ k : Fin 128, ((a.qn (i 0) (i 2) (i 1) k : ℝ) : EReal) * ((a.kn (i 0) (i 3) (i 1) k : ℝ) : EReal)) + ∑ k : Fin 64, ((a.qr (i 0) (i 2) (i 1) k : ℝ) : EReal) * ((a.kr (i 0) (i 3) k : ℝ) : EReal)) * Ideal.ofBits .f32 0x3D93CD3A#32 = _
  simp only [← EReal.coe_mul, ← coe_sum, sc_eq, ← EReal.coe_add]
  rfl

/-- The mask: query `i` sees key `j` when `j ≤ i`. -/
theorem s_mask (i : S2x12x2048x2048.Idx) : val_main_v15_1 (F := Ideal) i = if (i 3).val ≤ (i 2).val then 1#1 else 0#1 := by
  rw [val_main_v15_1_apply, val_main_v14_apply, val_main_v12_apply, val_main_v13_apply, val_main_v10_apply, val_main_v11_apply, val_main_v9_apply, val_main_v9_apply]
  have h2 : (i 2).val < 2048 := (i 2).isLt
  have h3 : (i 3).val < 2048 := (i 3).isLt
  exact sle_ofNat (i 3).val (i 2).val (by omega) (by omega)

theorem neg_inf : Ideal.ofBits .f32 0xFF800000#32 = (⊥ : EReal) := by simp [Ideal.ofBits, Ideal.ieee]

theorem s_v15 (i : S2x12x2048x2048.Idx) : val_main_v15_0 (F := Ideal) (R4 .f32 a.qn) (R4 .f32 a.qr) (R4 .f32 a.kn) (R3 .f32 a.kr) i
    = if (i 3).val ≤ (i 2).val then ((a.S (i 0) (i 1) (i 2) (i 3) : ℝ) : EReal) else ⊥ := by
  rw [val_main_v15_0_apply, s_mask, s_v8, val_main_call0_v2_apply]
  have e : val_main_call0_v0 (F := Ideal) (idx_main_call0_v2 i) = ⊥ := neg_inf
  rw [e]
  split_ifs <;> rfl

/-- A largest of finitely many, none the greatest element and one a real, is a real. -/
theorem fold_max_real {n : ℕ} (f : Fin n → EReal) (k : Fin n) (h1 : ∀ k, f k ≠ ⊤) (h2 : f k ≠ ⊥) :
    ∃ M : ℝ, (Finset.univ : Finset (Fin n)).fold max (⊥ : EReal) f = ((M : ℝ) : EReal) := by
  have ht : (Finset.univ : Finset (Fin n)).fold max (⊥ : EReal) f < ⊤ :=
    (Finset.fold_max_lt _).2 ⟨bot_lt_top, fun x _ => lt_of_le_of_ne le_top (h1 x)⟩
  have hb : ⊥ < (Finset.univ : Finset (Fin n)).fold max (⊥ : EReal) f :=
    (Finset.lt_fold_max _).2 (Or.inr ⟨k, Finset.mem_univ _, bot_lt_iff_ne_bot.2 h2⟩)
  exact ⟨_, (EReal.coe_toReal ht.ne hb.ne').symm⟩

/-- Every row's largest score is a real. -/
theorem s_v23 (i : S2x12x2048.Idx) : ∃ M : ℝ, val_main_v23 (F := Ideal) (R4 .f32 a.qn) (R4 .f32 a.qr) (R4 .f32 a.kn) (R3 .f32 a.kr) i = ((M : ℝ) : EReal) := by
  have hr : Shape.Reduces S2x12x2048x2048 [3] S2x12x2048 := by decide
  have e16 : val_main_v16 (F := Ideal) (R4 .f32 a.qn) (R4 .f32 a.qr) (R4 .f32 a.kn) (R3 .f32 a.kr) i
      = (Finset.univ : Finset (Fin 2048)).fold max (⊥ : EReal) (val_main_v15_0 (F := Ideal) (R4 .f32 a.qn) (R4 .f32 a.qr) (R4 .f32 a.kn) (R3 .f32 a.kr) ∘ hr.lift i) := by
    unfold val_main_v16
    refine (Host.reduce_eq_fold_single _ _ _ _ hr _ i).trans ?_
    rw [show val_main_cst_1 (F := Ideal) (Shape.Idx.first h_S_) = (⊥ : EReal) from neg_inf]
    rfl
  have h1 : ∀ k : Fin (S2x12x2048x2048.size 3), val_main_v15_0 (F := Ideal) (R4 .f32 a.qn) (R4 .f32 a.qr) (R4 .f32 a.kn) (R3 .f32 a.kr) (hr.lift i k) ≠ (⊤ : EReal) := fun k => by
    rw [s_v15]
    split_ifs
    · exact EReal.coe_ne_top _
    · exact bot_ne_top
  have h2 : ∀ k : Fin (S2x12x2048x2048.size 3), k.val = 0 → val_main_v15_0 (F := Ideal) (R4 .f32 a.qn) (R4 .f32 a.qr) (R4 .f32 a.kn) (R3 .f32 a.kr) (hr.lift i k) ≠ (⊥ : EReal) := fun k hk => by
    rw [s_v15, if_pos]
    · exact EReal.coe_ne_bot _
    · have e : (hr.lift i k 3).val = 0 := by rw [hr.lift_val i k 3]; exact hk
      omega
  obtain ⟨M, hM⟩ := fold_max_real (n := 2048) (val_main_v15_0 (F := Ideal) (R4 .f32 a.qn) (R4 .f32 a.qr) (R4 .f32 a.kn) (R3 .f32 a.kr) ∘ hr.lift i) (0 : Fin 2048) h1 (h2 (0 : Fin 2048) rfl)
  refine ⟨M, ?_⟩
  rw [val_main_v23_apply, val_main_v22_apply]
  refine (congrArg (max (Ideal.ofBits .f32 0xFF800000#32)) (e16.trans hM)).trans ?_
  rw [neg_inf, max_eq_right bot_le]

/-- The largest score of row `i`. -/
def M (b : Fin 2) (h : Fin 12) (i : Fin 2048) : ℝ := (s_v23 a (ValueIdx.ix3 b h i)).choose
theorem s_v23_eq (i : S2x12x2048.Idx) : val_main_v23 (F := Ideal) (R4 .f32 a.qn) (R4 .f32 a.qr) (R4 .f32 a.kn) (R3 .f32 a.kr) i = ((M a (i 0) (i 1) (i 2) : ℝ) : EReal) := by
  have e := ValueIdx.eq_ix3 i
  exact (congrArg _ e).trans (s_v23 a (ValueIdx.ix3 (i 0) (i 1) (i 2))).choose_spec

theorem s_v16_eq (i : S2x12x2048.Idx) : val_main_v16 (F := Ideal) (R4 .f32 a.qn) (R4 .f32 a.qr) (R4 .f32 a.kn) (R3 .f32 a.kr) i = ((M a (i 0) (i 1) (i 2) : ℝ) : EReal) := by
  rw [← s_v23_eq, val_main_v23_apply, val_main_v22_apply]
  exact (max_eq_right (by rw [show val_main_cst_3 (F := Ideal) (idx_main_v22 i) = (⊥ : EReal) from neg_inf]; exact bot_le)).symm

theorem s_v36 (i : S2x12x2048x2048.Idx) : val_main_v36 (F := Ideal) (R4 .f32 a.qn) (R4 .f32 a.qr) (R4 .f32 a.kn) (R3 .f32 a.kr) i
    = ((a.E (i 0) (i 1) (i 2) (i 3) * Real.exp (-M a (i 0) (i 1) (i 2)) : ℝ) : EReal) := by
  rw [val_main_v36_apply, val_main_v35_apply, s_v15, val_main_v34_apply, val_main_v33_apply, s_v23_eq]
  unfold Args.E
  show Ideal.exp ((if _ then _ else _) - ((M a (i 0) (i 1) (i 2) : ℝ) : EReal)) = _
  split_ifs
  · rw [← EReal.coe_sub, ← Real.exp_add]; rfl
  · rw [EReal.bot_sub, zero_mul]; rfl

theorem s_v37 (i : S2x12x2048.Idx) : val_main_v37 (F := Ideal) (R4 .f32 a.qn) (R4 .f32 a.qr) (R4 .f32 a.kn) (R3 .f32 a.kr) i
    = ((a.Z (i 0) (i 1) (i 2) * Real.exp (-M a (i 0) (i 1) (i 2)) : ℝ) : EReal) := by
  rw [val_main_v37_apply]
  rw [show val_main_cst_9 (F := Ideal) (Shape.Idx.first h_S_) = (0 : EReal) from Ideal.ofBits_zero_f32, zero_add]
  simp only [s_v36]
  show (∑ k : Fin 2048, ((a.E (i 0) (i 1) (i 2) k * Real.exp (-M a (i 0) (i 1) (i 2)) : ℝ) : EReal)) = _
  rw [← coe_sum, ← Finset.sum_mul]
  rfl

/-- The quotient of two reals, the divisor not zero. -/
theorem div_coe (x y : ℝ) (h : y ≠ 0) : Ideal.div ((x : ℝ) : EReal) ((y : ℝ) : EReal) = ((x / y : ℝ) : EReal) := by
  unfold Ideal.div
  rw [if_neg (by exact_mod_cast h), ← EReal.coe_inv, ← EReal.coe_mul, div_eq_mul_inv]

theorem s_v40 (i : S2x12x2048x2048.Idx) : val_main_v40 (F := Ideal) (R4 .f32 a.qn) (R4 .f32 a.qr) (R4 .f32 a.kn) (R3 .f32 a.kr) i
    = ((a.P (i 0) (i 1) (i 2) (i 3) : ℝ) : EReal) := by
  rw [val_main_v40_apply, val_main_v39_apply, val_main_v38_apply, s_v36, s_v37]
  have hz := (a.Z_pos (i 0) (i 1) (i 2)).ne'
  have he := (Real.exp_pos (-M a (i 0) (i 1) (i 2))).ne'
  refine (div_coe _ _ (mul_ne_zero hz he)).trans ?_
  show (((a.E (i 0) (i 1) (i 2) (i 3) * Real.exp (-M a (i 0) (i 1) (i 2))) / (a.Z (i 0) (i 1) (i 2) * Real.exp (-M a (i 0) (i 1) (i 2))) : ℝ) : EReal) = _
  rw [mul_div_mul_right _ _ he]
  rfl

theorem s_v48 (i : S2x12x128x2048.Idx) : val_main_v48 (F := Ideal) (R2 .f32 a.dy) i = ((a.ct (i 0) (i 1) (i 3) (i 2) : ℝ) : EReal) := by
  rw [val_main_v48_apply, val_main_v47_apply, val_main_v1_apply, val_main_v0_apply]
  have h0 : (i 0).val < 2 := (i 0).isLt
  have h1 : (i 1).val < 12 := (i 1).isLt
  have h2 : (i 2).val < 128 := (i 2).isLt
  have h3 : (i 3).val < 2048 := (i 3).isLt
  show ((a.dy _ _ : ℝ) : EReal) = ((a.dy _ _ : ℝ) : EReal)
  congr 2
  · refine Fin.ext ?_
    show _ = (i 0).val * 2048 + (i 3).val
    simp [idx_main_v0, idx_main_v1, idx_main_v47, idx_main_v48]
    omega
  · refine Fin.ext ?_
    show _ = (i 1).val * 128 + (i 2).val
    simp [idx_main_v0, idx_main_v1, idx_main_v47, idx_main_v48]
    omega

theorem s_v49 (i : S2x12x2048x2048.Idx) : val_main_v49 (F := Ideal) (R4 .f32 a.v) (R2 .f32 a.dy) i = ((a.DP (i 0) (i 1) (i 2) (i 3) : ℝ) : EReal) := by
  rw [val_main_v49_apply]
  simp only [s_v48]
  show (∑ k : Fin 128, ((a.ct (i 0) (i 1) (i 2) k : ℝ) : EReal) * ((a.v (i 0) (i 3) (i 1) k : ℝ) : EReal)) = _
  simp only [← EReal.coe_mul, ← coe_sum]
  rfl

theorem s_v51 (i : S2x2048x12x128.Idx) : val_main_v51 (F := Ideal) (R4 .f32 a.qn) (R4 .f32 a.qr) (R4 .f32 a.kn) (R3 .f32 a.kr) (R2 .f32 a.dy) i = ((a.dv (i 0) (i 2) (i 1) (i 3) : ℝ) : EReal) := by
  rw [val_main_v51_apply, val_main_v50_apply]
  simp only [s_v48, s_v40]
  show (∑ k : Fin 2048, ((a.ct (i 0) (i 2) k (i 3) : ℝ) : EReal) * ((a.P (i 0) (i 2) k (i 1) : ℝ) : EReal)) = _
  simp only [← EReal.coe_mul, ← coe_sum]
  rfl

theorem s_v43 (i : S2x12x2048x1.Idx) : val_main_v43 (F := Ideal) (R4 .f32 a.qn) (R4 .f32 a.qr) (R4 .f32 a.kn) (R3 .f32 a.kr) i
    = ((1 / ((a.Z (i 0) (i 1) (i 2) * Real.exp (-M a (i 0) (i 1) (i 2))) * (a.Z (i 0) (i 1) (i 2) * Real.exp (-M a (i 0) (i 1) (i 2)))) : ℝ) : EReal) := by
  rw [val_main_v43_apply, val_main_v42_apply, val_main_v41_apply, val_main_v38_apply, s_v37]
  have hz := (a.Z_pos (i 0) (i 1) (i 2)).ne'
  have he := (Real.exp_pos (-M a (i 0) (i 1) (i 2))).ne'
  have h1 : val_main_cst_10 (F := Ideal) (idx_main_v42 i) = ((1 : ℝ) : EReal) := by
    show Ideal.ofBits .f32 0x3F800000#32 = _
    rw [show Ideal.ofBits .f32 0x3F800000#32 = (((1 : ℝ) * ((2 ^ 23 + 0 : ℕ) : ℝ) * (2 : ℝ) ^ ((127 : ℤ) - 127 - 23) : ℝ) : EReal) from by
      simp [Ideal.ofBits, Ideal.ieee]]
    congr 1
    norm_num
  rw [h1]
  refine Eq.trans ?_ (div_coe 1 _ (mul_ne_zero (mul_ne_zero hz he) (mul_ne_zero hz he)))
  exact congrArg (Ideal.div ((1 : ℝ) : EReal)) (EReal.coe_mul _ _).symm

theorem s_v55 (i : S2x12x2048.Idx) : val_main_v55 (F := Ideal) (R4 .f32 a.qn) (R4 .f32 a.qr) (R4 .f32 a.kn) (R3 .f32 a.kr) (R4 .f32 a.v) (R2 .f32 a.dy) i
    = ((a.Dl (i 0) (i 1) (i 2) / (a.Z (i 0) (i 1) (i 2) * Real.exp (-M a (i 0) (i 1) (i 2))) : ℝ) : EReal) := by
  rw [val_main_v55_apply]
  rw [show val_main_cst_11 (F := Ideal) (Shape.Idx.first h_S_) = (0 : EReal) from Ideal.ofBits_zero_f32, zero_add]
  simp only [val_main_v54_apply, val_main_v53_apply, val_main_v52_apply, s_v49, s_v43, s_v36]
  have hz := (a.Z_pos (i 0) (i 1) (i 2)).ne'
  have he := (Real.exp_pos (-M a (i 0) (i 1) (i 2))).ne'
  show (∑ k : Fin 2048, ((a.DP (i 0) (i 1) (i 2) k : ℝ) : EReal) * ((1 / ((a.Z (i 0) (i 1) (i 2) * Real.exp (-M a (i 0) (i 1) (i 2))) * (a.Z (i 0) (i 1) (i 2) * Real.exp (-M a (i 0) (i 1) (i 2)))) : ℝ) : EReal)
    * ((a.E (i 0) (i 1) (i 2) k * Real.exp (-M a (i 0) (i 1) (i 2)) : ℝ) : EReal)) = _
  simp only [← EReal.coe_mul, ← coe_sum]
  congr 1
  unfold Args.Dl
  rw [Finset.sum_div]
  refine Finset.sum_congr rfl fun k _ => ?_
  unfold Args.P
  field_simp

theorem alg (E d Z e l : ℝ) (hz : Z ≠ 0) (he : e ≠ 0) : (d / (Z * e) + -(l / (Z * e))) * (E * e) = E / Z * (d - l) := by
  field_simp
  ring

theorem fused (x y z : ℝ) : FloatOps.mulf (F := Ideal) (φ := .f32) (FloatOps.addf (F := Ideal) (φ := .f32) ((x : ℝ) : EReal) ((y : ℝ) : EReal)) ((z : ℝ) : EReal)
    = (((x + y) * z : ℝ) : EReal) := by
  rw [EReal.coe_mul, EReal.coe_add]; rfl
theorem s_v57 (i : S2x12x2048x1.Idx) : val_main_v57 (F := Ideal) (R4 .f32 a.qn) (R4 .f32 a.qr) (R4 .f32 a.kn) (R3 .f32 a.kr) (R4 .f32 a.v) (R2 .f32 a.dy) i
    = ((-(a.Dl (i 0) (i 1) (i 2) / (a.Z (i 0) (i 1) (i 2) * Real.exp (-M a (i 0) (i 1) (i 2)))) : ℝ) : EReal) := by
  rw [val_main_v57_apply, val_main_v56_apply, s_v55]
  have h0 : (i 0).val < 2 := (i 0).isLt
  have h1 : (i 1).val < 12 := (i 1).isLt
  have h2 : (i 2).val < 2048 := (i 2).isLt
  have h3 : (i 3).val < 1 := (i 3).isLt
  have e0 : idx_main_v56 i 0 = i 0 := Fin.ext (by simp [idx_main_v56]; omega)
  have e1 : idx_main_v56 i 1 = i 1 := Fin.ext (by simp [idx_main_v56]; omega)
  have e2 : idx_main_v56 i 2 = i 2 := Fin.ext (by simp [idx_main_v56]; omega)
  rw [e0, e1, e2]
  exact (EReal.coe_neg _).symm
theorem s_v61 (i : S2x12x2048x2048.Idx) : val_main_v61 (F := Ideal) (R4 .f32 a.qn) (R4 .f32 a.qr) (R4 .f32 a.kn) (R3 .f32 a.kr) (R4 .f32 a.v) (R2 .f32 a.dy) i
    = ((-(a.Dl (i 0) (i 1) (i 2) / (a.Z (i 0) (i 1) (i 2) * Real.exp (-M a (i 0) (i 1) (i 2)))) : ℝ) : EReal) := by
  rw [val_main_v61_apply, val_main_v60_apply]
  rw [show val_main_cst_12 (F := Ideal) (Shape.Idx.first h_S_) = (0 : EReal) from Ideal.ofBits_zero_f32, zero_add]
  rw [Fin.sum_univ_one, s_v57]
  rfl
theorem s_v59 (i : S2x12x2048x2048.Idx) : val_main_v59 (F := Ideal) (R4 .f32 a.qn) (R4 .f32 a.qr) (R4 .f32 a.kn) (R3 .f32 a.kr) (R4 .f32 a.v) (R2 .f32 a.dy) i
    = ((a.DP (i 0) (i 1) (i 2) (i 3) / (a.Z (i 0) (i 1) (i 2) * Real.exp (-M a (i 0) (i 1) (i 2))) : ℝ) : EReal) := by
  rw [val_main_v59_apply, val_main_v58_apply, val_main_v38_apply, s_v49, s_v37]
  exact div_coe _ _ (mul_ne_zero (a.Z_pos (i 0) (i 1) (i 2)).ne' (Real.exp_pos (-M a (i 0) (i 1) (i 2))).ne')

/-- Where the mask holds, the gradient of the scores before the scale. -/
theorem s_v63 (i : S2x12x2048x2048.Idx) : val_main_v63 (F := Ideal) (R4 .f32 a.qn) (R4 .f32 a.qr) (R4 .f32 a.kn) (R3 .f32 a.kr) (R4 .f32 a.v) (R2 .f32 a.dy) i
    = ((a.P (i 0) (i 1) (i 2) (i 3) * (a.DP (i 0) (i 1) (i 2) (i 3) - a.Dl (i 0) (i 1) (i 2)) : ℝ) : EReal) := by
  rw [val_main_v63_apply, val_main_v62_apply, s_v59, s_v61, s_v36]
  unfold Args.P
  rw [← alg _ _ _ _ _ (a.Z_pos (i 0) (i 1) (i 2)).ne' (Real.exp_pos (-M a (i 0) (i 1) (i 2))).ne']
  exact fused _ _ _

theorem s_v66 (i : S2x12x2048x2048.Idx) : val_main_v66 (F := Ideal) (R4 .f32 a.qn) (R4 .f32 a.qr) (R4 .f32 a.kn) (R3 .f32 a.kr) (R4 .f32 a.v) (R2 .f32 a.dy) i = ((a.DS (i 0) (i 1) (i 2) (i 3) : ℝ) : EReal) := by
  rw [val_main_v66_apply, val_main_v64_apply, s_mask, s_v63, val_main_call1_v0_apply, val_main_v65_apply]
  rw [show val_main_cst_13 (F := Ideal) (idx_main_v65 i) = ((sc : ℝ) : EReal) from sc_eq,
    show val_main_call1_cst (F := Ideal) (idx_main_call1_v0 i) = ((0 : ℝ) : EReal) from Ideal.ofBits_zero_f32]
  unfold Args.DS
  by_cases h : (i 3).val ≤ (i 2).val
  · rw [if_pos h]
    exact (EReal.coe_mul _ _).symm
  · rw [if_neg h]
    have e : a.P (i 0) (i 1) (i 2) (i 3) = 0 := by
      unfold Args.P Args.E
      rw [if_neg h, zero_div]
    rw [e, zero_mul]
    exact (EReal.coe_mul _ _).symm

theorem s_v68 (i : S2x2048x12x64.Idx) : val_main_v68 (F := Ideal) (R4 .f32 a.qn) (R4 .f32 a.qr) (R4 .f32 a.kn) (R3 .f32 a.kr) (R4 .f32 a.v) (R2 .f32 a.dy) i = ((a.dkr (i 0) (i 2) (i 1) (i 3) : ℝ) : EReal) := by
  rw [val_main_v68_apply, val_main_v67_apply]
  simp only [s_v66]
  show (∑ k : Fin 2048, ((a.DS (i 0) (i 2) k (i 1) : ℝ) : EReal) * ((a.qr (i 0) k (i 2) (i 3) : ℝ) : EReal)) = _
  simp only [← EReal.coe_mul, ← coe_sum]
  rfl
theorem s_v70 (i : S2x2048x12x64.Idx) : val_main_v70 (F := Ideal) (R4 .f32 a.qn) (R4 .f32 a.qr) (R4 .f32 a.kn) (R3 .f32 a.kr) (R4 .f32 a.v) (R2 .f32 a.dy) i = ((a.dqr (i 0) (i 2) (i 1) (i 3) : ℝ) : EReal) := by
  rw [val_main_v70_apply, val_main_v69_apply]
  simp only [s_v66, val_main_v3_apply, val_main_v2_apply]
  show (∑ k : Fin 2048, ((a.DS (i 0) (i 2) (i 1) k : ℝ) : EReal) * ((a.kr (i 0) k (i 3) : ℝ) : EReal)) = _
  simp only [← EReal.coe_mul, ← coe_sum]
  rfl
theorem s_v72 (i : S2x2048x12x128.Idx) : val_main_v72 (F := Ideal) (R4 .f32 a.qn) (R4 .f32 a.qr) (R4 .f32 a.kn) (R3 .f32 a.kr) (R4 .f32 a.v) (R2 .f32 a.dy) i = ((a.dkn (i 0) (i 2) (i 1) (i 3) : ℝ) : EReal) := by
  rw [val_main_v72_apply, val_main_v71_apply]
  simp only [s_v66]
  show (∑ k : Fin 2048, ((a.DS (i 0) (i 2) k (i 1) : ℝ) : EReal) * ((a.qn (i 0) k (i 2) (i 3) : ℝ) : EReal)) = _
  simp only [← EReal.coe_mul, ← coe_sum]
  rfl
theorem s_v74 (i : S2x2048x12x128.Idx) : val_main_v74 (F := Ideal) (R4 .f32 a.qn) (R4 .f32 a.qr) (R4 .f32 a.kn) (R3 .f32 a.kr) (R4 .f32 a.v) (R2 .f32 a.dy) i = ((a.dqn (i 0) (i 2) (i 1) (i 3) : ℝ) : EReal) := by
  rw [val_main_v74_apply, val_main_v73_apply]
  simp only [s_v66]
  show (∑ k : Fin 2048, ((a.DS (i 0) (i 2) (i 1) k : ℝ) : EReal) * ((a.kn (i 0) k (i 2) (i 3) : ℝ) : EReal)) = _
  simp only [← EReal.coe_mul, ← coe_sum]
  rfl

end Cert.KernelIdeal.Hand.Ref
-- ==== Proof.KI.Ref2.lean ====
/-
  The reference program's four results on arrays of reals.
-/
module

public import proofs.«01_k».proof.Proof.KI.Ref

@[expose] public section
set_option maxRecDepth 100000
noncomputable section
namespace Cert.KernelIdeal.Hand

open Idealize.ShloMosaic Idealize.ShloMosaic.TcCoe

/-- Four pieces of 32 lanes side by side. -/
theorem cat_quarters {α : Type} {k n m : ℕ} (f1 f2 f3 f4 : (⟨4, ![k, n, m, 32]⟩ : Shape).Idx → α)
    (h : Shape.Concatenates [(⟨4, ![k, n, m, 32]⟩ : Shape), ⟨4, ![k, n, m, 32]⟩, ⟨4, ![k, n, m, 32]⟩, ⟨4, ![k, n, m, 32]⟩] ⟨4, ![k, n, m, 128]⟩ 3)
    (i : (⟨4, ![k, n, m, 128]⟩ : Shape).Idx) (h3 : (i 3).val < 128) :
    concatenate ⟨4, ![k, n, m, 128]⟩ 3 [⟨⟨4, ![k, n, m, 32]⟩, f1⟩, ⟨⟨4, ![k, n, m, 32]⟩, f2⟩, ⟨⟨4, ![k, n, m, 32]⟩, f3⟩, ⟨⟨4, ![k, n, m, 32]⟩, f4⟩] h i
      = if h1 : (i 3).val < 32 then f1 (ValueIdx.ix4 (i 0) (i 1) (i 2) ⟨(i 3).val, h1⟩)
        else if h2 : (i 3).val < 64 then f2 (ValueIdx.ix4 (i 0) (i 1) (i 2) ⟨(i 3).val - 32, by omega⟩)
        else if h4 : (i 3).val < 96 then f3 (ValueIdx.ix4 (i 0) (i 1) (i 2) ⟨(i 3).val - 64, by omega⟩)
        else f4 (ValueIdx.ix4 (i 0) (i 1) (i 2) ⟨(i 3).val - 96, by omega⟩) := by
  split_ifs with h1 h2 h4
  · exact concatenate_apply_piece (t := ⟨4, ![k, n, m, 128]⟩) 3 [⟨⟨4, ![k, n, m, 32]⟩, f1⟩, ⟨⟨4, ![k, n, m, 32]⟩, f2⟩, ⟨⟨4, ![k, n, m, 32]⟩, f3⟩, ⟨⟨4, ![k, n, m, 32]⟩, f4⟩] h i 0 (by simp) ⟨4, ![k, n, m, 32]⟩ f1 rfl rfl 0 rfl _
      (fun b => match b with | ⟨0, _⟩ => fun _ => rfl | ⟨1, _⟩ => fun _ => rfl | ⟨2, _⟩ => fun _ => rfl | ⟨3, _⟩ => fun hx => absurd rfl hx)
      (by show 0 + (i 3).val = (i 3).val; omega)
  · exact concatenate_apply_piece (t := ⟨4, ![k, n, m, 128]⟩) 3 [⟨⟨4, ![k, n, m, 32]⟩, f1⟩, ⟨⟨4, ![k, n, m, 32]⟩, f2⟩, ⟨⟨4, ![k, n, m, 32]⟩, f3⟩, ⟨⟨4, ![k, n, m, 32]⟩, f4⟩] h i 1 (by simp) ⟨4, ![k, n, m, 32]⟩ f2 rfl rfl 32 rfl _
      (fun b => match b with | ⟨0, _⟩ => fun _ => rfl | ⟨1, _⟩ => fun _ => rfl | ⟨2, _⟩ => fun _ => rfl | ⟨3, _⟩ => fun hx => absurd rfl hx)
      (by show 32 + ((i 3).val - 32) = (i 3).val; omega)
  · exact concatenate_apply_piece (t := ⟨4, ![k, n, m, 128]⟩) 3 [⟨⟨4, ![k, n, m, 32]⟩, f1⟩, ⟨⟨4, ![k, n, m, 32]⟩, f2⟩, ⟨⟨4, ![k, n, m, 32]⟩, f3⟩, ⟨⟨4, ![k, n, m, 32]⟩, f4⟩] h i 2 (by simp) ⟨4, ![k, n, m, 32]⟩ f3 rfl rfl 64 rfl _
      (fun b => match b with | ⟨0, _⟩ => fun _ => rfl | ⟨1, _⟩ => fun _ => rfl | ⟨2, _⟩ => fun _ => rfl | ⟨3, _⟩ => fun hx => absurd rfl hx)
      (by show 64 + ((i 3).val - 64) = (i 3).val; omega)
  · exact concatenate_apply_piece (t := ⟨4, ![k, n, m, 128]⟩) 3 [⟨⟨4, ![k, n, m, 32]⟩, f1⟩, ⟨⟨4, ![k, n, m, 32]⟩, f2⟩, ⟨⟨4, ![k, n, m, 32]⟩, f3⟩, ⟨⟨4, ![k, n, m, 32]⟩, f4⟩] h i 3 (by simp) ⟨4, ![k, n, m, 32]⟩ f4 rfl rfl 96 rfl _
      (fun b => match b with | ⟨0, _⟩ => fun _ => rfl | ⟨1, _⟩ => fun _ => rfl | ⟨2, _⟩ => fun _ => rfl | ⟨3, _⟩ => fun hx => absurd rfl hx)
      (by show 96 + ((i 3).val - 96) = (i 3).val; omega)

/-- Two pieces of 128 lanes side by side. -/
theorem cat_halves {α : Type} {k n m : ℕ} (f1 f2 : (⟨4, ![k, n, m, 128]⟩ : Shape).Idx → α)
    (h : Shape.Concatenates [(⟨4, ![k, n, m, 128]⟩ : Shape), ⟨4, ![k, n, m, 128]⟩] ⟨4, ![k, n, m, 256]⟩ 3)
    (i : (⟨4, ![k, n, m, 256]⟩ : Shape).Idx) (h3 : (i 3).val < 256) :
    concatenate ⟨4, ![k, n, m, 256]⟩ 3 [⟨⟨4, ![k, n, m, 128]⟩, f1⟩, ⟨⟨4, ![k, n, m, 128]⟩, f2⟩] h i
      = if h1 : (i 3).val < 128 then f1 (ValueIdx.ix4 (i 0) (i 1) (i 2) ⟨(i 3).val, h1⟩)
        else f2 (ValueIdx.ix4 (i 0) (i 1) (i 2) ⟨(i 3).val - 128, by omega⟩) := by
  split_ifs with h1
  · exact concatenate_apply_piece (t := ⟨4, ![k, n, m, 256]⟩) 3 [⟨⟨4, ![k, n, m, 128]⟩, f1⟩, ⟨⟨4, ![k, n, m, 128]⟩, f2⟩] h i 0 (by simp) ⟨4, ![k, n, m, 128]⟩ f1 rfl rfl 0 rfl _
      (fun b => match b with | ⟨0, _⟩ => fun _ => rfl | ⟨1, _⟩ => fun _ => rfl | ⟨2, _⟩ => fun _ => rfl | ⟨3, _⟩ => fun hx => absurd rfl hx)
      (by show 0 + (i 3).val = (i 3).val; omega)
  · exact concatenate_apply_piece (t := ⟨4, ![k, n, m, 256]⟩) 3 [⟨⟨4, ![k, n, m, 128]⟩, f1⟩, ⟨⟨4, ![k, n, m, 128]⟩, f2⟩] h i 1 (by simp) ⟨4, ![k, n, m, 128]⟩ f2 rfl rfl 128 rfl _
      (fun b => match b with | ⟨0, _⟩ => fun _ => rfl | ⟨1, _⟩ => fun _ => rfl | ⟨2, _⟩ => fun _ => rfl | ⟨3, _⟩ => fun hx => absurd rfl hx)
      (by show 128 + ((i 3).val - 128) = (i 3).val; omega)

namespace Ref
open Cert.ReferenceIdeal Cert.ReferenceIdeal.Gen Cert.ReferenceIdeal.Read
variable (a : Args)

theorem s_v79 (i : S4096x3072.Idx) : val_main_v79 (F := Ideal) (R4 .f32 a.qn) (R4 .f32 a.qr) (R4 .f32 a.kn) (R3 .f32 a.kr) (R4 .f32 a.v) (R2 .f32 a.dy) i = ((a.res0 (i 0) (i 1) : ℝ) : EReal) := by
  have h0 : (i 0).val < 4096 := (i 0).isLt
  have h1 : (i 1).val < 3072 := (i 1).isLt
  rw [val_main_v79_apply]
  show val_main_v78 (F := Ideal) (R4 .f32 a.qn) (R4 .f32 a.qr) (R4 .f32 a.kn) (R3 .f32 a.kr) (R4 .f32 a.v) (R2 .f32 a.dy) i = _
  unfold val_main_v78
  refine (concat_apply (φ := .f32) (n := 4096) (a := 1536) (b := 1536) (m := 3072) rfl _ _ _ i).trans ?_
  unfold Args.res0
  by_cases h : (i 1).val < 1536
  · rw [dif_pos h, dif_pos h, val_main_v76_apply, s_v74]
    congr 2
    all_goals refine Fin.ext ?_
    · show ((i 0).val * 1536 + (i 1).val) / 3145728 = (i 0).val / 2048
      omega
    · show ((i 0).val * 1536 + (i 1).val) / 128 % 12 = (i 1).val / 128
      omega
    · show ((i 0).val * 1536 + (i 1).val) / 1536 % 2048 = (i 0).val % 2048
      omega
    · show ((i 0).val * 1536 + (i 1).val) % 128 = (i 1).val % 128
      omega
  · rw [dif_neg h, dif_neg h, val_main_v77_apply]
    exact Ideal.ofBits_zero_f32

theorem s_v82 (i : S2x2048x12x128.Idx) : val_main_v82 (F := Ideal) (R4 .f32 a.qn) (R4 .f32 a.qr) (R4 .f32 a.kn) (R3 .f32 a.kr) (R4 .f32 a.v) (R2 .f32 a.dy) i = ((Args.spread (a.dqr (i 0) (i 2) (i 1)) (i 3) : ℝ) : EReal) := by
  have h3 : (i 3).val < 128 := (i 3).isLt
  unfold val_main_v82
  refine (cat_quarters (k := 2) (n := 2048) (m := 12) _ _ _ _ _ i h3).trans ?_
  unfold Args.spread
  split_ifs with h1 h2 h4 h5 h6 h7
  all_goals first | omega | skip
  · rw [val_main_v80_apply, s_v70]
    congr 2
    all_goals exact Fin.ext (by simp [ValueIdx.ix4])
  · rw [val_main_v75_apply]; exact Ideal.ofBits_zero_f32
  · rw [val_main_v81_apply, s_v70]
    congr 2
    all_goals exact Fin.ext (by simp [ValueIdx.ix4]; try omega)
  · rw [val_main_v75_apply]; exact Ideal.ofBits_zero_f32
theorem s_v83 (i : S4096x1536.Idx) : val_main_v83 (F := Ideal) (R4 .f32 a.qn) (R4 .f32 a.qr) (R4 .f32 a.kn) (R3 .f32 a.kr) (R4 .f32 a.v) (R2 .f32 a.dy) i = ((a.res1 (i 0) (i 1) : ℝ) : EReal) := by
  have h0 : (i 0).val < 4096 := (i 0).isLt
  have h1 : (i 1).val < 1536 := (i 1).isLt
  rw [val_main_v83_apply, s_v82]
  unfold Args.res1
  congr 2
  congr 1
  all_goals refine Fin.ext ?_
  · show ((i 0).val * 1536 + (i 1).val) / 3145728 = (i 0).val / 2048
    omega
  · show ((i 0).val * 1536 + (i 1).val) / 128 % 12 = (i 1).val / 128
    omega
  · show ((i 0).val * 1536 + (i 1).val) / 1536 % 2048 = (i 0).val % 2048
    omega
  · show ((i 0).val * 1536 + (i 1).val) % 128 = (i 1).val % 128
    omega

theorem s_v89 (i : S2x2048x12x128.Idx) : val_main_v89 (F := Ideal) (R4 .f32 a.qn) (R4 .f32 a.qr) (R4 .f32 a.kn) (R3 .f32 a.kr) (R4 .f32 a.v) (R2 .f32 a.dy) i = ((Args.spread (a.dkr (i 0) (i 2) (i 1)) (i 3) : ℝ) : EReal) := by
  have h3 : (i 3).val < 128 := (i 3).isLt
  unfold val_main_v89
  refine (cat_quarters (k := 2) (n := 2048) (m := 12) _ _ _ _ _ i h3).trans ?_
  unfold Args.spread
  split_ifs with h1 h2 h4 h5 h6 h7
  all_goals first | omega | skip
  · rw [val_main_v87_apply, s_v68]
    congr 2
    all_goals exact Fin.ext (by simp [ValueIdx.ix4])
  · rw [val_main_v75_apply]; exact Ideal.ofBits_zero_f32
  · rw [val_main_v88_apply, s_v68]
    congr 2
    all_goals exact Fin.ext (by simp [ValueIdx.ix4]; try omega)
  · rw [val_main_v75_apply]; exact Ideal.ofBits_zero_f32
theorem s_v90 (i : S4096x1536.Idx) : val_main_v90 (F := Ideal) (R4 .f32 a.qn) (R4 .f32 a.qr) (R4 .f32 a.kn) (R3 .f32 a.kr) (R4 .f32 a.v) (R2 .f32 a.dy) i = ((a.res3 (i 0) (i 1) : ℝ) : EReal) := by
  have h0 : (i 0).val < 4096 := (i 0).isLt
  have h1 : (i 1).val < 1536 := (i 1).isLt
  rw [val_main_v90_apply, s_v89]
  unfold Args.res3
  congr 2
  congr 1
  all_goals refine Fin.ext ?_
  · show ((i 0).val * 1536 + (i 1).val) / 3145728 = (i 0).val / 2048
    omega
  · show ((i 0).val * 1536 + (i 1).val) / 128 % 12 = (i 1).val / 128
    omega
  · show ((i 0).val * 1536 + (i 1).val) / 1536 % 2048 = (i 0).val % 2048
    omega
  · show ((i 0).val * 1536 + (i 1).val) % 128 = (i 1).val % 128
    omega

theorem s_v84 (i : S2x2048x12x256.Idx) : val_main_v84 (F := Ideal) (R4 .f32 a.qn) (R4 .f32 a.qr) (R4 .f32 a.kn) (R3 .f32 a.kr) (R4 .f32 a.v) (R2 .f32 a.dy) i
    = (((if h : (i 3).val < 128 then a.dkn (i 0) (i 2) (i 1) ⟨(i 3).val, h⟩ else a.dv (i 0) (i 2) (i 1) ⟨(i 3).val - 128, by have h3 : (i 3).val < 256 := (i 3).isLt; omega⟩) : ℝ) : EReal) := by
  have h3 : (i 3).val < 256 := (i 3).isLt
  unfold val_main_v84
  refine (cat_halves (k := 2) (n := 2048) (m := 12) _ _ _ i h3).trans ?_
  split_ifs
  · rw [s_v72]
  · rw [s_v51]
theorem s_v86 (i : S4096x3072.Idx) : val_main_v86 (F := Ideal) (R4 .f32 a.qn) (R4 .f32 a.qr) (R4 .f32 a.kn) (R3 .f32 a.kr) (R4 .f32 a.v) (R2 .f32 a.dy) i = ((a.res2 (i 0) (i 1) : ℝ) : EReal) := by
  have h0 : (i 0).val < 4096 := (i 0).isLt
  have h1 : (i 1).val < 3072 := (i 1).isLt
  rw [val_main_v86_apply]
  show val_main_v85 (F := Ideal) (R4 .f32 a.qn) (R4 .f32 a.qr) (R4 .f32 a.kn) (R3 .f32 a.kr) (R4 .f32 a.v) (R2 .f32 a.dy) i = _
  rw [val_main_v85_apply, s_v84]
  have e0 : idx_main_v85 i 0 = (⟨(i 0).val / 2048, by omega⟩ : Fin 2) := Fin.ext (by show ((i 0).val * 3072 + (i 1).val) / 6291456 = (i 0).val / 2048; omega)
  have e1 : idx_main_v85 i 1 = (⟨(i 0).val % 2048, by omega⟩ : Fin 2048) := Fin.ext (by show ((i 0).val * 3072 + (i 1).val) / 3072 % 2048 = (i 0).val % 2048; omega)
  have e2 : idx_main_v85 i 2 = (⟨(i 1).val / 256, by omega⟩ : Fin 12) := Fin.ext (by show ((i 0).val * 3072 + (i 1).val) / 256 % 12 = (i 1).val / 256; omega)
  have e3 : (idx_main_v85 i 3).val = (i 1).val % 256 := by show ((i 0).val * 3072 + (i 1).val) % 256 = _; omega
  unfold Args.res2
  by_cases h : (i 1).val % 256 < 128
  · rw [dif_pos (by omega), dif_pos h, e0, e1, e2]
    congr 2
    exact Fin.ext e3
  · rw [dif_neg (by omega), dif_neg h, e0, e1, e2]
    congr 2
    exact Fin.ext (by show (idx_main_v85 i 3).val - 128 = (i 1).val % 256 - 128; omega)

end Ref
end Cert.KernelIdeal.Hand
-- ==== Proof.KI.Host.lean ====
/-
  What the kernel's operands hold when it is launched: the host's operations before it, on arrays of reals.
-/
module

public import proofs.«01_k».proof.Proof.KI.Frame
public import proofs.«01_k».proof.Proof.KI.Ref2
public import Idealize.ShloMosaic.Lib.Claim
public import Idealize.ShloMosaic.Lib.StableHlo.RunRead

@[expose] public section
set_option maxRecDepth 100000
noncomputable section
namespace Cert.KernelIdeal.Hand
open Cert.KernelIdeal Cert.KernelIdeal.Gen
open Idealize.ShloMosaic Idealize.ShloMosaic.TcCoe Idealize.ShloMosaic.StableHlo

/-- The rotary part of the queries, each head's lanes spread over 128. -/
def hqr (x1 : FVec Ideal S2x2048x12x64 .f32) : FVec Ideal S4096x1536 .f32 :=
  shapeCast S4096x1536 (concatenate S2x2048x12x128 3 [⟨S2x2048x12x32, extractStridedSlice S2x2048x12x32 ![0, 0, 0, 0] x1 slices_S2x2048x12x64_S2x2048x12x32_0_0_0_0⟩,
    ⟨S2x2048x12x32, broadcastInDim S2x2048x12x32 ![] bcast_S_S2x2048x12x32 (constant S_ .f32 0x00000000#32)⟩,
    ⟨S2x2048x12x32, extractStridedSlice S2x2048x12x32 ![0, 0, 0, 32] x1 slices_S2x2048x12x64_S2x2048x12x32_0_0_0_32⟩,
    ⟨S2x2048x12x32, broadcastInDim S2x2048x12x32 ![] bcast_S_S2x2048x12x32 (constant S_ .f32 0x00000000#32)⟩] concatenates_S2x2048x12x32_S2x2048x12x32_S2x2048x12x32_S2x2048x12x32_S2x2048x12x128_d3) shapeCasts_S2x2048x12x128_S4096x1536
/-- The queries: the heads' plain lanes, then their rotary ones. -/
def hqf (x0 : FVec Ideal S2x2048x12x128 .f32) (x1 : FVec Ideal S2x2048x12x64 .f32) : FVec Ideal S4096x3072 .f32 :=
  concatenate S4096x3072 1 [⟨S4096x1536, shapeCast S4096x1536 x0 shapeCasts_S2x2048x12x128_S4096x1536⟩, ⟨S4096x1536, hqr x1⟩] concatenates_S4096x1536_S4096x1536_S4096x3072_d1
/-- The rotary part of the keys, shared by the heads, its lanes spread over 128. -/
def hkr (x3 : FVec Ideal S2x2048x64 .f32) : FVec Ideal S4096x128 .f32 :=
  shapeCast S4096x128 (concatenate S2x2048x128 2 [⟨S2x2048x32, extractStridedSlice S2x2048x32 ![0, 0, 0] x3 slices_S2x2048x64_S2x2048x32_0_0_0⟩,
    ⟨S2x2048x32, broadcastInDim S2x2048x32 ![] bcast_S_S2x2048x32 (constant S_ .f32 0x00000000#32)⟩,
    ⟨S2x2048x32, extractStridedSlice S2x2048x32 ![0, 0, 32] x3 slices_S2x2048x64_S2x2048x32_0_0_32⟩,
    ⟨S2x2048x32, broadcastInDim S2x2048x32 ![] bcast_S_S2x2048x32 (constant S_ .f32 0x00000000#32)⟩] concatenates_S2x2048x32_S2x2048x32_S2x2048x32_S2x2048x32_S2x2048x128_d2) shapeCasts_S2x2048x128_S4096x128
/-- Per head the keys' plain lanes, then the values. -/
def hkv (x2 x4 : FVec Ideal S2x2048x12x128 .f32) : FVec Ideal S4096x3072 .f32 :=
  shapeCast S4096x3072 (concatenate S2x2048x12x256 3 [⟨S2x2048x12x128, x2⟩, ⟨S2x2048x12x128, x4⟩] concatenates_S2x2048x12x128_S2x2048x12x128_S2x2048x12x256_d3) shapeCasts_S2x2048x12x256_S4096x3072
/-- The attention's output, then zeros. -/
def hyc (o : FVec Ideal S2x2048x12x128 .f32) : FVec Ideal S4096x2048 .f32 :=
  concatenate S4096x2048 1 [⟨S4096x1536, shapeCast S4096x1536 o shapeCasts_S2x2048x12x128_S4096x1536⟩,
    ⟨S4096x512, broadcastInDim S4096x512 ![] bcast_S_S4096x512 (constant S_ .f32 0x00000000#32)⟩] concatenates_S4096x1536_S4096x512_S4096x2048_d1
/-- The largest score plus the logarithm of the sum of the exponentials. -/
def hls (M L : FVec Ideal S2x12x2048 .f32) : FVec Ideal S24x2048x1 .f32 :=
  shapeCast S24x2048x1 (addf (broadcastInDim S2x12x2048x1 ![0, 1, 2] bcast_S2x12x2048_S2x12x2048x1_0_1_2 M)
    (Host.log (broadcastInDim S2x12x2048x1 ![0, 1, 2] bcast_S2x12x2048_S2x12x2048x1_0_1_2 L))) shapeCasts_S2x12x2048x1_S24x2048x1
/-- The sum of the exponentials of the scores `s` less their largest `M`. -/
def hsum (s : FVec Ideal S2x12x2048x2048 .f32) (M : FVec Ideal S2x12x2048 .f32) : FVec Ideal S2x12x2048 .f32 :=
  Host.reduceAdd (Host.exp (subf s (broadcastInDim S2x12x2048x2048 ![0, 1, 2, 3] bcast_S2x12x2048x1_S2x12x2048x2048_0_1_2_3
    (broadcastInDim S2x12x2048x1 ![0, 1, 2] bcast_S2x12x2048_S2x12x2048x1_0_1_2 M)))) (constant S_ .f32 0x00000000#32) reducesTo_S2x12x2048x2048_S2x12x2048_d3 h_S_

variable (m : (ℓ : Loc nD τ sig) → Buf (Elt Ideal) ℓ) (c : Dev nD)

set_option maxHeartbeats 4000000 in
theorem V_46 : V m c main_v46 = hqf (m ((c : Thread nD τ).loc main_arg0)) (m ((c : Thread nD τ).loc main_arg1)) := by
  entry_read
  rfl
set_option maxHeartbeats 4000000 in
theorem V_56 : V m c main_v56 = truncf .bf16 (hqr (m ((c : Thread nD τ).loc main_arg1))) bitsLt_bf16_f32 := by
  entry_read
  rfl
set_option maxHeartbeats 4000000 in
theorem V_52 : V m c main_v52 = truncf .bf16 (hkr (m ((c : Thread nD τ).loc main_arg3))) bitsLt_bf16_f32 := by
  entry_read
  rfl
set_option maxHeartbeats 4000000 in
theorem V_55 : V m c main_v55 = truncf .bf16 (hkv (m ((c : Thread nD τ).loc main_arg2)) (m ((c : Thread nD τ).loc main_arg4))) bitsLt_bf16_f32 := by
  entry_read
  rfl
set_option maxHeartbeats 4000000 in
theorem V_37 : V m c main_v37 = shapeCast S4096x1536 (Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S2x2048x12x128_S4096x1536 := by
  unfold V
  simp only [hostOps0, hostOps0_1, hostOps0_2, List.flatten_cons, List.flatten_nil, List.append_nil, List.cons_append, List.nil_append]
  after_reads_simp
  simp only [TRef.toBuf, TRef.ofBuf, cast_eq, id_eq]
  dsimp only [Cert.ReferenceIdeal.Read.val_main_v45, Cert.ReferenceIdeal.Read.val_main_v44, Cert.ReferenceIdeal.Read.val_main_v40, Cert.ReferenceIdeal.Read.val_main_v39, Cert.ReferenceIdeal.Read.val_main_v38, Cert.ReferenceIdeal.Read.val_main_v37, Cert.ReferenceIdeal.Read.val_main_cst_9, Cert.ReferenceIdeal.Read.val_main_v36, Cert.ReferenceIdeal.Read.val_main_v35, Cert.ReferenceIdeal.Read.val_main_v34, Cert.ReferenceIdeal.Read.val_main_v33, Cert.ReferenceIdeal.Read.val_main_v23, Cert.ReferenceIdeal.Read.val_main_v22, Cert.ReferenceIdeal.Read.val_main_cst_3, Cert.ReferenceIdeal.Read.val_main_v16, Cert.ReferenceIdeal.Read.val_main_cst_1, Cert.ReferenceIdeal.Read.val_main_v15_0, Cert.ReferenceIdeal.Read.val_main_v15_1, Cert.ReferenceIdeal.Read.val_main_call0_v2, Cert.ReferenceIdeal.Read.val_main_call0_v0, Cert.ReferenceIdeal.Read.val_main_cst_0, Cert.ReferenceIdeal.Read.val_main_v14, Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_v8, Cert.ReferenceIdeal.Read.val_main_v7, Cert.ReferenceIdeal.Read.val_main_cst, Cert.ReferenceIdeal.Read.val_main_v6, Cert.ReferenceIdeal.Read.val_main_v5, Cert.ReferenceIdeal.Read.val_main_v4, Cert.ReferenceIdeal.Read.val_main_v3, Cert.ReferenceIdeal.Read.val_main_v2]
  rfl
theorem V_38 : V m c main_v38 = broadcastInDim S4096x512 ![] bcast_S_S4096x512 (constant (F := Ideal) S_ .f32 0x00000000#32) := by
  unfold V
  simp only [hostOps0, hostOps0_1, hostOps0_2, List.flatten_cons, List.flatten_nil, List.append_nil, List.cons_append, List.nil_append]
  after_reads_simp

theorem hyc_eq (x y : FVec Ideal S4096x1536 .f32) (z w : FVec Ideal S4096x512 .f32) (hx : x = y) (hz : z = w) :
    concatenate S4096x2048 1 [⟨S4096x1536, x⟩, ⟨S4096x512, z⟩] concatenates_S4096x1536_S4096x512_S4096x2048_d1
      = concatenate S4096x2048 1 [⟨S4096x1536, y⟩, ⟨S4096x512, w⟩] concatenates_S4096x1536_S4096x512_S4096x2048_d1 := by rw [hx, hz]
set_option maxHeartbeats 4000000 in
theorem V_39 : V m c main_v39 = hyc (Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  unfold V
  simp only [hostOps0, hostOps0_1, hostOps0_2, List.flatten_cons, List.flatten_nil, List.append_nil, List.cons_append, List.nil_append]
  after_reads_simp
  exact hyc_eq _ _ _ _ (V_37 m c) (V_38 m c)
set_option maxHeartbeats 4000000 in
theorem V_23 : V m c main_v23 = hls (Cert.ReferenceIdeal.Read.val_main_v16 (F := Ideal) (m ((c : Thread nD τ).loc main_arg0)) (m ((c : Thread nD τ).loc main_arg1)) (m ((c : Thread nD τ).loc main_arg2)) (m ((c : Thread nD τ).loc main_arg3)))
    (hsum (Cert.ReferenceIdeal.Read.val_main_v15_0 (F := Ideal) (m ((c : Thread nD τ).loc main_arg0)) (m ((c : Thread nD τ).loc main_arg1)) (m ((c : Thread nD τ).loc main_arg2)) (m ((c : Thread nD τ).loc main_arg3))) (Cert.ReferenceIdeal.Read.val_main_v16 (F := Ideal) (m ((c : Thread nD τ).loc main_arg0)) (m ((c : Thread nD τ).loc main_arg1)) (m ((c : Thread nD τ).loc main_arg2)) (m ((c : Thread nD τ).loc main_arg3)))) := by
  unfold V
  simp only [hostOps0, hostOps0_1, hostOps0_2, List.flatten_cons, List.flatten_nil, List.append_nil, List.cons_append, List.nil_append]
  after_reads_simp
  simp only [TRef.toBuf, TRef.ofBuf, cast_eq, id_eq]
  unfold hls hsum
  dsimp only [Cert.ReferenceIdeal.Read.val_main_v16, Cert.ReferenceIdeal.Read.val_main_cst_1, Cert.ReferenceIdeal.Read.val_main_v15_0, Cert.ReferenceIdeal.Read.val_main_v15_1, Cert.ReferenceIdeal.Read.val_main_call0_v2, Cert.ReferenceIdeal.Read.val_main_call0_v0, Cert.ReferenceIdeal.Read.val_main_cst_0, Cert.ReferenceIdeal.Read.val_main_v14, Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_v8, Cert.ReferenceIdeal.Read.val_main_v7, Cert.ReferenceIdeal.Read.val_main_cst, Cert.ReferenceIdeal.Read.val_main_v6, Cert.ReferenceIdeal.Read.val_main_v5, Cert.ReferenceIdeal.Read.val_main_v4, Cert.ReferenceIdeal.Read.val_main_v3, Cert.ReferenceIdeal.Read.val_main_v2]
  rfl

end Cert.KernelIdeal.Hand
-- ==== Proof.KI.Host2.lean ====
/-
  The kernel's operands on arrays of reals.
-/
module

public import proofs.«01_k».proof.Proof.KI.Host

@[expose] public section
set_option maxRecDepth 100000
noncomputable section
namespace Cert.KernelIdeal.Hand
open Cert.KernelIdeal Cert.KernelIdeal.Gen
open Idealize.ShloMosaic Idealize.ShloMosaic.TcCoe

/-- The heads of an array side by side, as a matrix. -/
theorem heads_R2 (f : Fin 2 → Fin 2048 → Fin 12 → Fin 128 → ℝ) (h : S2x2048x12x128.ShapeCasts S4096x1536) :
    shapeCast S4096x1536 (R4 .f32 f) h = R2 .f32 fun (r : Fin 4096) (c : Fin 1536) => f ⟨r.val / 2048, by omega⟩ ⟨r.val % 2048, by omega⟩ ⟨c.val / 128, by omega⟩ ⟨c.val % 128, by omega⟩ := by
  funext i
  have h0 := ValueIdx.idx2_lt0 i
  have h1 := ValueIdx.idx2_lt1 i
  refine shapeCast_apply (R4 .f32 f) h i (ValueIdx.ix4 (⟨(i 0).val / 2048, by omega⟩ : Fin 2) (⟨(i 0).val % 2048, by omega⟩ : Fin 2048) (⟨(i 1).val / 128, by omega⟩ : Fin 12) (⟨(i 1).val % 128, by omega⟩ : Fin 128)) ?_
  rw [Shape.rowMajor_val_two, Shape.rowMajor_val_four]
  show (((i 0).val / 2048 * 2048 + (i 0).val % 2048) * 12 + (i 1).val / 128) * 128 + (i 1).val % 128 = (i 0).val * 1536 + (i 1).val
  omega
theorem heads256_R2 (f : Fin 2 → Fin 2048 → Fin 12 → Fin 256 → ℝ) (h : S2x2048x12x256.ShapeCasts S4096x3072) :
    shapeCast S4096x3072 (R4 .f32 f) h = R2 .f32 fun (r : Fin 4096) (c : Fin 3072) => f ⟨r.val / 2048, by omega⟩ ⟨r.val % 2048, by omega⟩ ⟨c.val / 256, by omega⟩ ⟨c.val % 256, by omega⟩ := by
  funext i
  have h0 := ValueIdx.idx2_lt0 i
  have h1 := ValueIdx.idx2_lt1 i
  refine shapeCast_apply (R4 .f32 f) h i (ValueIdx.ix4 (⟨(i 0).val / 2048, by omega⟩ : Fin 2) (⟨(i 0).val % 2048, by omega⟩ : Fin 2048) (⟨(i 1).val / 256, by omega⟩ : Fin 12) (⟨(i 1).val % 256, by omega⟩ : Fin 256)) ?_
  rw [Shape.rowMajor_val_two, Shape.rowMajor_val_four]
  show (((i 0).val / 2048 * 2048 + (i 0).val % 2048) * 12 + (i 1).val / 256) * 256 + (i 1).val % 256 = (i 0).val * 3072 + (i 1).val
  omega
theorem flat_R2 (f : Fin 2 → Fin 2048 → Fin 128 → ℝ) (h : S2x2048x128.ShapeCasts S4096x128) :
    shapeCast S4096x128 (R3 .f32 f) h = R2 .f32 fun (r : Fin 4096) (c : Fin 128) => f ⟨r.val / 2048, by omega⟩ ⟨r.val % 2048, by omega⟩ c := by
  funext i
  have h0 := ValueIdx.idx2_lt0 i
  have h1 := ValueIdx.idx2_lt1 i
  refine shapeCast_apply (R3 .f32 f) h i (ValueIdx.ix3 (⟨(i 0).val / 2048, by omega⟩ : Fin 2) (⟨(i 0).val % 2048, by omega⟩ : Fin 2048) (i 1)) ?_
  rw [Shape.rowMajor_val_two, Shape.rowMajor_val_three]
  show ((i 0).val / 2048 * 2048 + (i 0).val % 2048) * 128 + (i 1).val = (i 0).val * 128 + (i 1).val
  omega

/-- Four pieces of 32 lanes side by side, without a heads' axis. -/
theorem cat_quarters3 {α : Type} {k n : ℕ} (f1 f2 f3 f4 : (⟨3, ![k, n, 32]⟩ : Shape).Idx → α)
    (h : Shape.Concatenates [(⟨3, ![k, n, 32]⟩ : Shape), ⟨3, ![k, n, 32]⟩, ⟨3, ![k, n, 32]⟩, ⟨3, ![k, n, 32]⟩] ⟨3, ![k, n, 128]⟩ 2)
    (i : (⟨3, ![k, n, 128]⟩ : Shape).Idx) (h3 : (i 2).val < 128) :
    concatenate ⟨3, ![k, n, 128]⟩ 2 [⟨⟨3, ![k, n, 32]⟩, f1⟩, ⟨⟨3, ![k, n, 32]⟩, f2⟩, ⟨⟨3, ![k, n, 32]⟩, f3⟩, ⟨⟨3, ![k, n, 32]⟩, f4⟩] h i
      = if h1 : (i 2).val < 32 then f1 (ValueIdx.ix3 (i 0) (i 1) ⟨(i 2).val, h1⟩)
        else if h2 : (i 2).val < 64 then f2 (ValueIdx.ix3 (i 0) (i 1) ⟨(i 2).val - 32, by omega⟩)
        else if h4 : (i 2).val < 96 then f3 (ValueIdx.ix3 (i 0) (i 1) ⟨(i 2).val - 64, by omega⟩)
        else f4 (ValueIdx.ix3 (i 0) (i 1) ⟨(i 2).val - 96, by omega⟩) := by
  split_ifs with h1 h2 h4
  · exact concatenate_apply_piece (t := ⟨3, ![k, n, 128]⟩) 2 [⟨⟨3, ![k, n, 32]⟩, f1⟩, ⟨⟨3, ![k, n, 32]⟩, f2⟩, ⟨⟨3, ![k, n, 32]⟩, f3⟩, ⟨⟨3, ![k, n, 32]⟩, f4⟩] h i 0 (by simp) ⟨3, ![k, n, 32]⟩ f1 rfl rfl 0 rfl _
      (fun b => match b with | ⟨0, _⟩ => fun _ => rfl | ⟨1, _⟩ => fun _ => rfl | ⟨2, _⟩ => fun hx => absurd rfl hx)
      (by show 0 + (i 2).val = (i 2).val; omega)
  · exact concatenate_apply_piece (t := ⟨3, ![k, n, 128]⟩) 2 [⟨⟨3, ![k, n, 32]⟩, f1⟩, ⟨⟨3, ![k, n, 32]⟩, f2⟩, ⟨⟨3, ![k, n, 32]⟩, f3⟩, ⟨⟨3, ![k, n, 32]⟩, f4⟩] h i 1 (by simp) ⟨3, ![k, n, 32]⟩ f2 rfl rfl 32 rfl _
      (fun b => match b with | ⟨0, _⟩ => fun _ => rfl | ⟨1, _⟩ => fun _ => rfl | ⟨2, _⟩ => fun hx => absurd rfl hx)
      (by show 32 + ((i 2).val - 32) = (i 2).val; omega)
  · exact concatenate_apply_piece (t := ⟨3, ![k, n, 128]⟩) 2 [⟨⟨3, ![k, n, 32]⟩, f1⟩, ⟨⟨3, ![k, n, 32]⟩, f2⟩, ⟨⟨3, ![k, n, 32]⟩, f3⟩, ⟨⟨3, ![k, n, 32]⟩, f4⟩] h i 2 (by simp) ⟨3, ![k, n, 32]⟩ f3 rfl rfl 64 rfl _
      (fun b => match b with | ⟨0, _⟩ => fun _ => rfl | ⟨1, _⟩ => fun _ => rfl | ⟨2, _⟩ => fun hx => absurd rfl hx)
      (by show 64 + ((i 2).val - 64) = (i 2).val; omega)
  · exact concatenate_apply_piece (t := ⟨3, ![k, n, 128]⟩) 2 [⟨⟨3, ![k, n, 32]⟩, f1⟩, ⟨⟨3, ![k, n, 32]⟩, f2⟩, ⟨⟨3, ![k, n, 32]⟩, f3⟩, ⟨⟨3, ![k, n, 32]⟩, f4⟩] h i 3 (by simp) ⟨3, ![k, n, 32]⟩ f4 rfl rfl 96 rfl _
      (fun b => match b with | ⟨0, _⟩ => fun _ => rfl | ⟨1, _⟩ => fun _ => rfl | ⟨2, _⟩ => fun hx => absurd rfl hx)
      (by show 96 + ((i 2).val - 96) = (i 2).val; omega)

variable (a : Args)

theorem hqr_R2 : hqr (R4 .f32 a.qr) = R2 .f32 fun (r : Fin 4096) (c : Fin 1536) =>
    Args.spread (a.qr ⟨r.val / 2048, by omega⟩ ⟨r.val % 2048, by omega⟩ ⟨c.val / 128, by omega⟩) ⟨c.val % 128, by omega⟩ := by
  unfold hqr
  refine Eq.trans ?_ (heads_R2 (fun b i h x => Args.spread (a.qr b i h) x) shapeCasts_S2x2048x12x128_S4096x1536)
  refine congrArg (fun y : FVec Ideal S2x2048x12x128 .f32 => shapeCast S4096x1536 y shapeCasts_S2x2048x12x128_S4096x1536) (funext fun i => ?_)
  have h3 : (i 3).val < 128 := (i 3).isLt
  refine (cat_quarters (k := 2) (n := 2048) (m := 12) _ _ _ _ _ i h3).trans ?_
  show _ = ((Args.spread (a.qr (i 0) (i 1) (i 2)) (i 3) : ℝ) : EReal)
  unfold Args.spread
  split_ifs with h1 h2 h4 h5 h6 h7
  all_goals first | omega | skip
  · exact extractStridedSlice_apply _ _ _ _ (ValueIdx.ix4 (i 0) (i 1) (i 2) ⟨(i 3).val, by omega⟩) (fun x => match x with
      | ⟨0, _⟩ => by simp [ValueIdx.ix4] | ⟨1, _⟩ => by simp [ValueIdx.ix4] | ⟨2, _⟩ => by simp [ValueIdx.ix4] | ⟨3, _⟩ => by simp [ValueIdx.ix4])
  · exact Ideal.ofBits_zero_f32
  · exact extractStridedSlice_apply _ _ _ _ (ValueIdx.ix4 (i 0) (i 1) (i 2) ⟨(i 3).val - 32, by omega⟩) (fun x => match x with
      | ⟨0, _⟩ => by simp [ValueIdx.ix4] | ⟨1, _⟩ => by simp [ValueIdx.ix4] | ⟨2, _⟩ => by simp [ValueIdx.ix4] | ⟨3, _⟩ => by simp [ValueIdx.ix4]; omega)
  · exact Ideal.ofBits_zero_f32

theorem hkr_R2 : hkr (R3 .f32 a.kr) = R2 .f32 fun (r : Fin 4096) (c : Fin 128) => Args.spread (a.kr ⟨r.val / 2048, by omega⟩ ⟨r.val % 2048, by omega⟩) c := by
  unfold hkr
  refine Eq.trans ?_ (flat_R2 (fun b i x => Args.spread (a.kr b i) x) shapeCasts_S2x2048x128_S4096x128)
  refine congrArg (fun y : FVec Ideal S2x2048x128 .f32 => shapeCast S4096x128 y shapeCasts_S2x2048x128_S4096x128) (funext fun i => ?_)
  have h3 : (i 2).val < 128 := (i 2).isLt
  refine (cat_quarters3 (k := 2) (n := 2048) _ _ _ _ _ i h3).trans ?_
  show _ = ((Args.spread (a.kr (i 0) (i 1)) (i 2) : ℝ) : EReal)
  unfold Args.spread
  split_ifs with h1 h2 h4 h5 h6 h7
  all_goals first | omega | skip
  · exact extractStridedSlice_apply _ _ _ _ (ValueIdx.ix3 (i 0) (i 1) ⟨(i 2).val, by omega⟩) (fun x => match x with
      | ⟨0, _⟩ => by simp [ValueIdx.ix3] | ⟨1, _⟩ => by simp [ValueIdx.ix3] | ⟨2, _⟩ => by simp [ValueIdx.ix3])
  · exact Ideal.ofBits_zero_f32
  · exact extractStridedSlice_apply _ _ _ _ (ValueIdx.ix3 (i 0) (i 1) ⟨(i 2).val - 32, by omega⟩) (fun x => match x with
      | ⟨0, _⟩ => by simp [ValueIdx.ix3] | ⟨1, _⟩ => by simp [ValueIdx.ix3] | ⟨2, _⟩ => by simp [ValueIdx.ix3]; omega)
  · exact Ideal.ofBits_zero_f32

theorem hqf_R2 : hqf (R4 .f32 a.qn) (R4 .f32 a.qr) = R2 .f32 (sbs 1536 1536 3072 rfl
    (fun (r : Fin 4096) (c : Fin 1536) => a.qn ⟨r.val / 2048, by omega⟩ ⟨r.val % 2048, by omega⟩ ⟨c.val / 128, by omega⟩ ⟨c.val % 128, by omega⟩)
    (fun (r : Fin 4096) (c : Fin 1536) => Args.spread (a.qr ⟨r.val / 2048, by omega⟩ ⟨r.val % 2048, by omega⟩ ⟨c.val / 128, by omega⟩) ⟨c.val % 128, by omega⟩)) := by
  unfold hqf
  rw [hqr_R2, heads_R2]
  exact concat_R2 (φ := .f32) (n := 4096) (a := 1536) (b := 1536) (m := 3072) rfl _ _ _

theorem hkv_R2 : hkv (R4 .f32 a.kn) (R4 .f32 a.v) = R2 .f32 fun (r : Fin 4096) (c : Fin 3072) =>
    if h : c.val % 256 < 128 then a.kn ⟨r.val / 2048, by omega⟩ ⟨r.val % 2048, by omega⟩ ⟨c.val / 256, by omega⟩ ⟨c.val % 256, h⟩
    else a.v ⟨r.val / 2048, by omega⟩ ⟨r.val % 2048, by omega⟩ ⟨c.val / 256, by omega⟩ ⟨c.val % 256 - 128, by omega⟩ := by
  unfold hkv
  refine Eq.trans ?_ (heads256_R2 (fun b i h x => if hx : x.val < 128 then a.kn b i h ⟨x.val, hx⟩ else a.v b i h ⟨x.val - 128, by omega⟩) shapeCasts_S2x2048x12x256_S4096x3072)
  refine congrArg (fun y : FVec Ideal S2x2048x12x256 .f32 => shapeCast S4096x3072 y shapeCasts_S2x2048x12x256_S4096x3072) (funext fun i => ?_)
  have h3 : (i 3).val < 256 := (i 3).isLt
  refine (cat_halves (k := 2) (n := 2048) (m := 12) _ _ _ i h3).trans ?_
  show _ = ((dite _ _ _ : ℝ) : EReal)
  split_ifs <;> rfl

theorem s_v45 : Cert.ReferenceIdeal.Read.val_main_v45 (F := Ideal) (R4 .f32 a.qn) (R4 .f32 a.qr) (R4 .f32 a.kn) (R3 .f32 a.kr) (R4 .f32 a.v)
    = R4 .f32 fun b i h x => a.O b h i x := by
  funext i
  rw [Cert.ReferenceIdeal.Read.val_main_v45_apply, Cert.ReferenceIdeal.Read.val_main_v44_apply]
  simp only [Ref.s_v40]
  show (∑ k : Fin 2048, ((a.v (i 0) k (i 2) (i 3) : ℝ) : EReal) * ((a.P (i 0) (i 2) (i 1) k : ℝ) : EReal)) = _
  simp only [← EReal.coe_mul, ← coe_sum]
  rfl
theorem hyc_R2 : hyc (R4 .f32 fun b i h x => a.O b h i x) = R2 .f32 (sbs 1536 512 2048 rfl
    (fun (r : Fin 4096) (c : Fin 1536) => a.O ⟨r.val / 2048, by omega⟩ ⟨c.val / 128, by omega⟩ ⟨r.val % 2048, by omega⟩ ⟨c.val % 128, by omega⟩) (fun _ _ => 0)) := by
  unfold hyc
  rw [heads_R2]
  refine Eq.trans ?_ (concat_R2 (φ := .f32) (n := 4096) (a := 1536) (b := 512) (m := 2048) rfl _ _ concatenates_S4096x1536_S4096x512_S4096x2048_d1)
  refine hyc_eq _ _ _ _ rfl ?_
  funext i
  exact Ideal.ofBits_zero_f32

theorem hsum_v37 (x0 x1 x2 x3) : hsum (Cert.ReferenceIdeal.Read.val_main_v15_0 (F := Ideal) x0 x1 x2 x3) (Cert.ReferenceIdeal.Read.val_main_v23 (F := Ideal) x0 x1 x2 x3)
    = Cert.ReferenceIdeal.Read.val_main_v37 (F := Ideal) x0 x1 x2 x3 := by
  unfold hsum Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_cst_9
  generalize Cert.ReferenceIdeal.Read.val_main_v23 (F := Ideal) x0 x1 x2 x3 = M
  generalize Cert.ReferenceIdeal.Read.val_main_v15_0 (F := Ideal) x0 x1 x2 x3 = s
  with_reducible rfl

theorem v16_v23 (a : Args) : Cert.ReferenceIdeal.Read.val_main_v16 (F := Ideal) (R4 .f32 a.qn) (R4 .f32 a.qr) (R4 .f32 a.kn) (R3 .f32 a.kr) = Cert.ReferenceIdeal.Read.val_main_v23 (F := Ideal) (R4 .f32 a.qn) (R4 .f32 a.qr) (R4 .f32 a.kn) (R3 .f32 a.kr) :=
  funext fun j => (Ref.s_v16_eq a j).trans (Ref.s_v23_eq a j).symm
theorem hsum_fun (a : Args) : hsum (Cert.ReferenceIdeal.Read.val_main_v15_0 (F := Ideal) (R4 .f32 a.qn) (R4 .f32 a.qr) (R4 .f32 a.kn) (R3 .f32 a.kr)) (Cert.ReferenceIdeal.Read.val_main_v16 (F := Ideal) (R4 .f32 a.qn) (R4 .f32 a.qr) (R4 .f32 a.kn) (R3 .f32 a.kr))
    = Cert.ReferenceIdeal.Read.val_main_v37 (F := Ideal) (R4 .f32 a.qn) (R4 .f32 a.qr) (R4 .f32 a.kn) (R3 .f32 a.kr) :=
  (congrArg (hsum (Cert.ReferenceIdeal.Read.val_main_v15_0 (F := Ideal) (R4 .f32 a.qn) (R4 .f32 a.qr) (R4 .f32 a.kn) (R3 .f32 a.kr))) (v16_v23 a)).trans (hsum_v37 _ _ _ _)
theorem hsum_eq (a : Args) (i : S2x12x2048.Idx) : hsum (Cert.ReferenceIdeal.Read.val_main_v15_0 (F := Ideal) (R4 .f32 a.qn) (R4 .f32 a.qr) (R4 .f32 a.kn) (R3 .f32 a.kr)) (Cert.ReferenceIdeal.Read.val_main_v16 (F := Ideal) (R4 .f32 a.qn) (R4 .f32 a.qr) (R4 .f32 a.kn) (R3 .f32 a.kr)) i
    = ((a.Z (i 0) (i 1) (i 2) * Real.exp (-Ref.M a (i 0) (i 1) (i 2)) : ℝ) : EReal) :=
  (congrFun (hsum_fun a) i).trans (Ref.s_v37 a i)

theorem bc_apply (X : FVec Ideal S2x12x2048 .f32) (j : S2x12x2048x1.Idx) : broadcastInDim S2x12x2048x1 ![0, 1, 2] bcast_S2x12x2048_S2x12x2048x1_0_1_2 X j
    = X (ValueIdx.ix3 (j 0) (j 1) (j 2)) :=
  broadcastInDim_apply _ bcast_S2x12x2048_S2x12x2048x1_0_1_2 X j (ValueIdx.ix3 (j 0) (j 1) (j 2)) (fun x => match x with
    | ⟨0, _⟩ => by simp [ValueIdx.ix3] | ⟨1, _⟩ => by simp [ValueIdx.ix3] | ⟨2, _⟩ => by simp [ValueIdx.ix3])
theorem log_shift (M Z : ℝ) (hz : 0 < Z) : ((M : ℝ) : EReal) + Ideal.log ((Z * Real.exp (-M) : ℝ) : EReal) = ((Real.log Z : ℝ) : EReal) := by
  have hp : 0 < Z * Real.exp (-M) := mul_pos hz (Real.exp_pos _)
  show _ + (if Z * Real.exp (-M) ≤ 0 then (⊥ : EReal) else ((Real.log (Z * Real.exp (-M)) : ℝ) : EReal)) = _
  rw [if_neg (not_le.2 hp), ← EReal.coe_add, Real.log_mul hz.ne' (Real.exp_pos _).ne', Real.log_exp]
  congr 1
  ring
theorem hls_gen (M L : FVec Ideal S2x12x2048 .f32) (f g : Fin 2 → Fin 12 → Fin 2048 → ℝ) (hg : ∀ b h i, 0 < g b h i)
    (hM : ∀ i, M i = ((f (i 0) (i 1) (i 2) : ℝ) : EReal)) (hL : ∀ i, L i = ((g (i 0) (i 1) (i 2) * Real.exp (-f (i 0) (i 1) (i 2)) : ℝ) : EReal)) :
    hls M L = R3 .f32 fun (g' : Fin 24) (i : Fin 2048) (_ : Fin 1) => Real.log (g ⟨g'.val / 12, by omega⟩ ⟨g'.val % 12, by omega⟩ i) := by
  funext i
  have h0 : (i 0).val < 24 := (i 0).isLt
  have h1 : (i 1).val < 2048 := (i 1).isLt
  have h2 : (i 2).val < 1 := (i 2).isLt
  unfold hls
  refine (shapeCast_apply _ shapeCasts_S2x12x2048x1_S24x2048x1 i (ValueIdx.ix4 (⟨(i 0).val / 12, by omega⟩ : Fin 2) (⟨(i 0).val % 12, by omega⟩ : Fin 12) (i 1) (i 2)) ?_).trans ?_
  · rw [Shape.rowMajor_val_three, Shape.rowMajor_val_four]
    show (((i 0).val / 12 * 12 + (i 0).val % 12) * 2048 + (i 1).val) * 1 + (i 2).val = ((i 0).val * 2048 + (i 1).val) * 1 + (i 2).val
    omega
  · show broadcastInDim S2x12x2048x1 ![0, 1, 2] bcast_S2x12x2048_S2x12x2048x1_0_1_2 M _ + Ideal.log (broadcastInDim S2x12x2048x1 ![0, 1, 2] bcast_S2x12x2048_S2x12x2048x1_0_1_2 L _) = _
    rw [bc_apply, bc_apply, hM, hL]
    exact log_shift _ _ (hg _ _ _)
theorem hls_eq : hls (Cert.ReferenceIdeal.Read.val_main_v16 (F := Ideal) (R4 .f32 a.qn) (R4 .f32 a.qr) (R4 .f32 a.kn) (R3 .f32 a.kr))
    (hsum (Cert.ReferenceIdeal.Read.val_main_v15_0 (F := Ideal) (R4 .f32 a.qn) (R4 .f32 a.qr) (R4 .f32 a.kn) (R3 .f32 a.kr)) (Cert.ReferenceIdeal.Read.val_main_v16 (F := Ideal) (R4 .f32 a.qn) (R4 .f32 a.qr) (R4 .f32 a.kn) (R3 .f32 a.kr)))
    = R3 .f32 fun (g : Fin 24) (i : Fin 2048) (_ : Fin 1) => Real.log (a.Z ⟨g.val / 12, by omega⟩ ⟨g.val % 12, by omega⟩ i) :=
  hls_gen _ _ (Ref.M a) a.Z a.Z_pos (Ref.s_v16_eq a) (hsum_eq a)

end Cert.KernelIdeal.Hand
-- ==== Proof.KI.Where.lean ====
/-
  Where the blocks of a grid point stand: point `t` works on batch `t / 24`, head `t / 2 % 12` and the keys' half `t % 2`.
-/
module

public import proofs.«01_k».proof.Proof.KI.Frame
public import Idealize.ShloMosaic.Lib.Pipeline.Value

@[expose] public section
set_option maxRecDepth 100000
noncomputable section
namespace Cert.KernelIdeal.Hand
open Cert.KernelIdeal Cert.KernelIdeal.Gen
open Idealize.ShloMosaic Idealize.ShloMosaic.TcCoe

theorem lt48 (t : Fin cfg0.N) : t.val < 48 := t.isLt
/-- A point's batch, its head, and where its keys start. -/
def bt (t : Fin cfg0.N) : Fin 2 := ⟨t.val / 24, by have := lt48 t; omega⟩
def ht (t : Fin cfg0.N) : Fin 12 := ⟨t.val / 2 % 12, by omega⟩
def kt (t : Fin cfg0.N) (j : Fin 1024) : Fin 2048 := ⟨t.val % 2 * 1024 + j.val, by omega⟩

/-! ## Where the blocks stand -/

theorem ix_0 : ∀ t : Fin cfg0.N, (cfg0.win 0).index t 0 = t.val / 24 ∧ (cfg0.win 0).index t 1 = t.val / 2 % 12 :=
  (by decide +kernel : ∀ t : Fin grid0.N, win0_0.index t 0 = t.val / 24 ∧ win0_0.index t 1 = t.val / 2 % 12)
theorem emb_0 (t : Fin cfg0.N) (y : (⟨2, ![2048, 128]⟩ : Shape).Idx) : ((((cfg0.win 0).blk t).view.emb y) 0 : Nat) = (t.val / 24) * 2048 + (y 0).val
    ∧ ((((cfg0.win 0).blk t).view.emb y) 1 : Nat) = (t.val / 2 % 12) * 128 + (y 1).val :=
  ⟨(Pipeline.Window.rect_emb_val (cfg0.win 0) t y 0).trans (congrArg (· * 2048 + (y 0).val) (ix_0 t).1),
   (Pipeline.Window.rect_emb_val (cfg0.win 0) t y 1).trans (congrArg (· * 128 + (y 1).val) (ix_0 t).2)⟩
theorem ix_1 : ∀ t : Fin cfg0.N, (cfg0.win 1).index t 0 = t.val / 24 ∧ (cfg0.win 1).index t 1 = t.val / 2 % 12 :=
  (by decide +kernel : ∀ t : Fin grid0.N, win0_1.index t 0 = t.val / 24 ∧ win0_1.index t 1 = t.val / 2 % 12)
theorem emb_1 (t : Fin cfg0.N) (y : (⟨2, ![2048, 128]⟩ : Shape).Idx) : ((((cfg0.win 1).blk t).view.emb y) 0 : Nat) = (t.val / 24) * 2048 + (y 0).val
    ∧ ((((cfg0.win 1).blk t).view.emb y) 1 : Nat) = (t.val / 2 % 12) * 128 + (y 1).val :=
  ⟨(Pipeline.Window.rect_emb_val (cfg0.win 1) t y 0).trans (congrArg (· * 2048 + (y 0).val) (ix_1 t).1),
   (Pipeline.Window.rect_emb_val (cfg0.win 1) t y 1).trans (congrArg (· * 128 + (y 1).val) (ix_1 t).2)⟩
theorem ix_2 : ∀ t : Fin cfg0.N, (cfg0.win 2).index t 0 = t.val / 24 * 2 + t.val % 2 ∧ (cfg0.win 2).index t 1 = t.val / 2 % 12 * 2 :=
  (by decide +kernel : ∀ t : Fin grid0.N, win0_2.index t 0 = t.val / 24 * 2 + t.val % 2 ∧ win0_2.index t 1 = t.val / 2 % 12 * 2)
theorem emb_2 (t : Fin cfg0.N) (y : (⟨2, ![1024, 128]⟩ : Shape).Idx) : ((((cfg0.win 2).blk t).view.emb y) 0 : Nat) = (t.val / 24 * 2 + t.val % 2) * 1024 + (y 0).val
    ∧ ((((cfg0.win 2).blk t).view.emb y) 1 : Nat) = (t.val / 2 % 12 * 2) * 128 + (y 1).val :=
  ⟨(Pipeline.Window.rect_emb_val (cfg0.win 2) t y 0).trans (congrArg (· * 1024 + (y 0).val) (ix_2 t).1),
   (Pipeline.Window.rect_emb_val (cfg0.win 2) t y 1).trans (congrArg (· * 128 + (y 1).val) (ix_2 t).2)⟩
theorem ix_3 : ∀ t : Fin cfg0.N, (cfg0.win 3).index t 0 = t.val / 24 * 2 + t.val % 2 ∧ (cfg0.win 3).index t 1 = 0 :=
  (by decide +kernel : ∀ t : Fin grid0.N, win0_3.index t 0 = t.val / 24 * 2 + t.val % 2 ∧ win0_3.index t 1 = 0)
theorem emb_3 (t : Fin cfg0.N) (y : (⟨2, ![1024, 128]⟩ : Shape).Idx) : ((((cfg0.win 3).blk t).view.emb y) 0 : Nat) = (t.val / 24 * 2 + t.val % 2) * 1024 + (y 0).val
    ∧ ((((cfg0.win 3).blk t).view.emb y) 1 : Nat) = (0) * 128 + (y 1).val :=
  ⟨(Pipeline.Window.rect_emb_val (cfg0.win 3) t y 0).trans (congrArg (· * 1024 + (y 0).val) (ix_3 t).1),
   (Pipeline.Window.rect_emb_val (cfg0.win 3) t y 1).trans (congrArg (· * 128 + (y 1).val) (ix_3 t).2)⟩
theorem ix_4 : ∀ t : Fin cfg0.N, (cfg0.win 4).index t 0 = t.val / 24 * 2 + t.val % 2 ∧ (cfg0.win 4).index t 1 = t.val / 2 % 12 * 2 + 1 :=
  (by decide +kernel : ∀ t : Fin grid0.N, win0_4.index t 0 = t.val / 24 * 2 + t.val % 2 ∧ win0_4.index t 1 = t.val / 2 % 12 * 2 + 1)
theorem emb_4 (t : Fin cfg0.N) (y : (⟨2, ![1024, 128]⟩ : Shape).Idx) : ((((cfg0.win 4).blk t).view.emb y) 0 : Nat) = (t.val / 24 * 2 + t.val % 2) * 1024 + (y 0).val
    ∧ ((((cfg0.win 4).blk t).view.emb y) 1 : Nat) = (t.val / 2 % 12 * 2 + 1) * 128 + (y 1).val :=
  ⟨(Pipeline.Window.rect_emb_val (cfg0.win 4) t y 0).trans (congrArg (· * 1024 + (y 0).val) (ix_4 t).1),
   (Pipeline.Window.rect_emb_val (cfg0.win 4) t y 1).trans (congrArg (· * 128 + (y 1).val) (ix_4 t).2)⟩
theorem ix_5 : ∀ t : Fin cfg0.N, (cfg0.win 5).index t 0 = t.val / 24 ∧ (cfg0.win 5).index t 1 = t.val / 2 % 12 :=
  (by decide +kernel : ∀ t : Fin grid0.N, win0_5.index t 0 = t.val / 24 ∧ win0_5.index t 1 = t.val / 2 % 12)
theorem emb_5 (t : Fin cfg0.N) (y : (⟨2, ![2048, 128]⟩ : Shape).Idx) : ((((cfg0.win 5).blk t).view.emb y) 0 : Nat) = (t.val / 24) * 2048 + (y 0).val
    ∧ ((((cfg0.win 5).blk t).view.emb y) 1 : Nat) = (t.val / 2 % 12) * 128 + (y 1).val :=
  ⟨(Pipeline.Window.rect_emb_val (cfg0.win 5) t y 0).trans (congrArg (· * 2048 + (y 0).val) (ix_5 t).1),
   (Pipeline.Window.rect_emb_val (cfg0.win 5) t y 1).trans (congrArg (· * 128 + (y 1).val) (ix_5 t).2)⟩
theorem ix_6 : ∀ t : Fin cfg0.N, (cfg0.win 6).index t 0 = t.val / 24 ∧ (cfg0.win 6).index t 1 = t.val / 2 % 12 :=
  (by decide +kernel : ∀ t : Fin grid0.N, win0_6.index t 0 = t.val / 24 ∧ win0_6.index t 1 = t.val / 2 % 12)
theorem emb_6 (t : Fin cfg0.N) (y : (⟨2, ![2048, 128]⟩ : Shape).Idx) : ((((cfg0.win 6).blk t).view.emb y) 0 : Nat) = (t.val / 24) * 2048 + (y 0).val
    ∧ ((((cfg0.win 6).blk t).view.emb y) 1 : Nat) = (t.val / 2 % 12) * 128 + (y 1).val :=
  ⟨(Pipeline.Window.rect_emb_val (cfg0.win 6) t y 0).trans (congrArg (· * 2048 + (y 0).val) (ix_6 t).1),
   (Pipeline.Window.rect_emb_val (cfg0.win 6) t y 1).trans (congrArg (· * 128 + (y 1).val) (ix_6 t).2)⟩
theorem ix_8 : ∀ t : Fin cfg0.N, (cfg0.win 8).index t 0 = t.val / 24 ∧ (cfg0.win 8).index t 1 = t.val / 2 % 12 :=
  (by decide +kernel : ∀ t : Fin grid0.N, win0_8.index t 0 = t.val / 24 ∧ win0_8.index t 1 = t.val / 2 % 12)
theorem emb_8 (t : Fin cfg0.N) (y : (⟨2, ![2048, 128]⟩ : Shape).Idx) : ((((cfg0.win 8).blk t).view.emb y) 0 : Nat) = (t.val / 24) * 2048 + (y 0).val
    ∧ ((((cfg0.win 8).blk t).view.emb y) 1 : Nat) = (t.val / 2 % 12) * 128 + (y 1).val :=
  ⟨(Pipeline.Window.rect_emb_val (cfg0.win 8) t y 0).trans (congrArg (· * 2048 + (y 0).val) (ix_8 t).1),
   (Pipeline.Window.rect_emb_val (cfg0.win 8) t y 1).trans (congrArg (· * 128 + (y 1).val) (ix_8 t).2)⟩
theorem ix_9 : ∀ t : Fin cfg0.N, (cfg0.win 9).index t 0 = t.val / 24 ∧ (cfg0.win 9).index t 1 = t.val / 2 % 12 :=
  (by decide +kernel : ∀ t : Fin grid0.N, win0_9.index t 0 = t.val / 24 ∧ win0_9.index t 1 = t.val / 2 % 12)
theorem emb_9 (t : Fin cfg0.N) (y : (⟨2, ![2048, 128]⟩ : Shape).Idx) : ((((cfg0.win 9).blk t).view.emb y) 0 : Nat) = (t.val / 24) * 2048 + (y 0).val
    ∧ ((((cfg0.win 9).blk t).view.emb y) 1 : Nat) = (t.val / 2 % 12) * 128 + (y 1).val :=
  ⟨(Pipeline.Window.rect_emb_val (cfg0.win 9) t y 0).trans (congrArg (· * 2048 + (y 0).val) (ix_9 t).1),
   (Pipeline.Window.rect_emb_val (cfg0.win 9) t y 1).trans (congrArg (· * 128 + (y 1).val) (ix_9 t).2)⟩
theorem ix_10 : ∀ t : Fin cfg0.N, (cfg0.win 10).index t 0 = t.val / 24 * 2 + t.val % 2 ∧ (cfg0.win 10).index t 1 = t.val / 2 % 12 :=
  (by decide +kernel : ∀ t : Fin grid0.N, win0_10.index t 0 = t.val / 24 * 2 + t.val % 2 ∧ win0_10.index t 1 = t.val / 2 % 12)
theorem emb_10 (t : Fin cfg0.N) (y : (⟨2, ![1024, 256]⟩ : Shape).Idx) : ((((cfg0.win 10).blk t).view.emb y) 0 : Nat) = (t.val / 24 * 2 + t.val % 2) * 1024 + (y 0).val
    ∧ ((((cfg0.win 10).blk t).view.emb y) 1 : Nat) = (t.val / 2 % 12) * 256 + (y 1).val :=
  ⟨(Pipeline.Window.rect_emb_val (cfg0.win 10) t y 0).trans (congrArg (· * 1024 + (y 0).val) (ix_10 t).1),
   (Pipeline.Window.rect_emb_val (cfg0.win 10) t y 1).trans (congrArg (· * 256 + (y 1).val) (ix_10 t).2)⟩
theorem ix_11 : ∀ t : Fin cfg0.N, (cfg0.win 11).index t 0 = t.val / 24 * 2 + t.val % 2 ∧ (cfg0.win 11).index t 1 = t.val / 2 % 12 :=
  (by decide +kernel : ∀ t : Fin grid0.N, win0_11.index t 0 = t.val / 24 * 2 + t.val % 2 ∧ win0_11.index t 1 = t.val / 2 % 12)
theorem emb_11 (t : Fin cfg0.N) (y : (⟨2, ![1024, 128]⟩ : Shape).Idx) : ((((cfg0.win 11).blk t).view.emb y) 0 : Nat) = (t.val / 24 * 2 + t.val % 2) * 1024 + (y 0).val
    ∧ ((((cfg0.win 11).blk t).view.emb y) 1 : Nat) = (t.val / 2 % 12) * 128 + (y 1).val :=
  ⟨(Pipeline.Window.rect_emb_val (cfg0.win 11) t y 0).trans (congrArg (· * 1024 + (y 0).val) (ix_11 t).1),
   (Pipeline.Window.rect_emb_val (cfg0.win 11) t y 1).trans (congrArg (· * 128 + (y 1).val) (ix_11 t).2)⟩
theorem ix_7 : ∀ t : Fin cfg0.N, (cfg0.win 7).index t 0 = t.val / 24 * 12 + t.val / 2 % 12 ∧ (cfg0.win 7).index t 1 = 0 :=
  (by decide +kernel : ∀ t : Fin grid0.N, win0_7.index t 0 = t.val / 24 * 12 + t.val / 2 % 12 ∧ win0_7.index t 1 = 0)
theorem emb_7 (t : Fin cfg0.N) (y : S1x2048x1.Idx) : ((((cfg0.win 7).blk t).view.emb y) 0 : Nat) = (t.val / 24 * 12 + t.val / 2 % 12) * 1 + (y 0).val
    ∧ ((((cfg0.win 7).blk t).view.emb y) 1 : Nat) = 0 * 2048 + (y 1).val :=
  ⟨(Pipeline.Window.rect_emb_val (cfg0.win 7) t y 0).trans (congrArg (· * 1 + (y 0).val) (ix_7 t).1),
   (Pipeline.Window.rect_emb_val (cfg0.win 7) t y 1).trans (congrArg (· * 2048 + (y 1).val) (ix_7 t).2)⟩

end Cert.KernelIdeal.Hand
-- ==== Proof.KI.Blocks.lean ====
/-
  The blocks a grid point reads, on arrays of reals: point `t` works on batch `t / 24`, head `t / 2 % 12` and the keys' half `t % 2`.
-/
module

public import proofs.«01_k».proof.Proof.KI.Host2
public import proofs.«01_k».proof.Proof.KI.Where

@[expose] public section
set_option maxRecDepth 100000
noncomputable section
namespace Cert.KernelIdeal.Hand
open Cert.KernelIdeal Cert.KernelIdeal.Gen
open Idealize.ShloMosaic Idealize.ShloMosaic.TcCoe

/-! ## What they hold -/

theorem R2_at {n k : ℕ} {φ : FTy} (f : Fin n → Fin k → ℝ) (i : (⟨2, ![n, k]⟩ : Shape).Idx) (r c : ℕ) (h0 : (i 0).val = r) (h1 : (i 1).val = c)
    (hr : r < n) (hc : c < k) : R2 φ f i = ((f ⟨r, hr⟩ ⟨c, hc⟩ : ℝ) : EReal) :=
  congrArg (fun z : ℝ => (z : EReal)) (congrArg₂ f (Fin.ext h0) (Fin.ext h1))
theorem at4 {α : Type} {k n m l : ℕ} (f : Fin k → Fin n → Fin m → Fin l → α) {b b' : Fin k} {i i' : Fin n} {h h' : Fin m} {x x' : Fin l}
    (hb : b.val = b'.val) (hi : i.val = i'.val) (hh : h.val = h'.val) (hx : x.val = x'.val) : f b i h x = f b' i' h' x' := by
  rw [Fin.ext hb, Fin.ext hi, Fin.ext hh, Fin.ext hx]

/-- The arguments hold the reals `a`. -/
structure Holds (m : (ℓ : Loc nD τ sig) → Buf (Elt Ideal) ℓ) (c : Dev nD) (a : Args) : Prop where
  h0 : m ((c : Thread nD τ).loc main_arg0) = R4 .f32 a.qn
  h1 : m ((c : Thread nD τ).loc main_arg1) = R4 .f32 a.qr
  h2 : m ((c : Thread nD τ).loc main_arg2) = R4 .f32 a.kn
  h3 : m ((c : Thread nD τ).loc main_arg3) = R3 .f32 a.kr
  h4 : m ((c : Thread nD τ).loc main_arg4) = R4 .f32 a.v
  h5 : m ((c : Thread nD τ).loc main_arg5) = R2 .f32 a.dy

variable (m : (ℓ : Loc nD τ sig) → Buf (Elt Ideal) ℓ) (c : Dev nD) (a : Args) (H : Holds m c a)
/-- What the operands hold. -/
def gq (r : Fin 4096) (c : Fin 3072) : ℝ := sbs 1536 1536 3072 rfl
    (fun (r : Fin 4096) (c : Fin 1536) => a.qn ⟨r.val / 2048, by omega⟩ ⟨r.val % 2048, by omega⟩ ⟨c.val / 128, by omega⟩ ⟨c.val % 128, by omega⟩)
    (fun (r : Fin 4096) (c : Fin 1536) => Args.spread (a.qr ⟨r.val / 2048, by omega⟩ ⟨r.val % 2048, by omega⟩ ⟨c.val / 128, by omega⟩) ⟨c.val % 128, by omega⟩) r c
def gr (r : Fin 4096) (c : Fin 1536) : ℝ := Args.spread (a.qr ⟨r.val / 2048, by omega⟩ ⟨r.val % 2048, by omega⟩ ⟨c.val / 128, by omega⟩) ⟨c.val % 128, by omega⟩
def gk (r : Fin 4096) (c : Fin 128) : ℝ := Args.spread (a.kr ⟨r.val / 2048, by omega⟩ ⟨r.val % 2048, by omega⟩) c
def gv (r : Fin 4096) (c : Fin 3072) : ℝ :=
  if h : c.val % 256 < 128 then a.kn ⟨r.val / 2048, by omega⟩ ⟨r.val % 2048, by omega⟩ ⟨c.val / 256, by omega⟩ ⟨c.val % 256, h⟩
  else a.v ⟨r.val / 2048, by omega⟩ ⟨r.val % 2048, by omega⟩ ⟨c.val / 256, by omega⟩ ⟨c.val % 256 - 128, by omega⟩
def go (r : Fin 4096) (c : Fin 2048) : ℝ := sbs 1536 512 2048 rfl
    (fun (r : Fin 4096) (c : Fin 1536) => a.O ⟨r.val / 2048, by omega⟩ ⟨c.val / 128, by omega⟩ ⟨r.val % 2048, by omega⟩ ⟨c.val % 128, by omega⟩) (fun _ _ => 0) r c
def gz (Z : Fin 2 → Fin 12 → Fin 2048 → ℝ) (g : Fin 24) (i : Fin 2048) (_ : Fin 1) : ℝ := Real.log (Z ⟨g.val / 12, by omega⟩ ⟨g.val % 12, by omega⟩ i)
def gl : Fin 24 → Fin 2048 → Fin 1 → ℝ := gz a.Z
theorem lse_at (Z : Fin 2 → Fin 12 → Fin 2048 → ℝ) (t : Fin cfg0.N) (y : S1x2048x1.Idx) (i : S24x2048x1.Idx)
    (e0 : (i 0).val = (t.val / 24 * 12 + t.val / 2 % 12) * 1 + (y 0).val) (e1 : (i 1).val = 0 * 2048 + (y 1).val) :
    R3 .f32 (gz Z) i = L3 (fun i => Real.log (Z (bt t) (ht t) i)) y := by
  have ht48 := lt48 t
  have hy0 : (y 0).val < 1 := (y 0).isLt
  refine congrArg (fun z : ℝ => ((Real.log z : ℝ) : EReal)) ?_
  refine at4 (fun b i h (_ : Fin 1) => Z b h i) (x := 0) (x' := 0) ?_ ?_ ?_ rfl
  · show (i 0).val / 12 = t.val / 24
    omega
  · show (i 1).val = (y 1).val
    omega
  · show (i 0).val % 12 = t.val / 2 % 12
    omega
include H
theorem A_46 : V m c main_v46 = R2 .f32 (gq a) := (V_46 m c).trans ((congrArg₂ hqf H.h0 H.h1).trans (hqf_R2 a))
theorem A_56 : V m c main_v56 = R2 .bf16 (gr a) := by
  rw [V_56 m c, H.h1, hqr_R2, truncf_R2]
  rfl
theorem A_52 : V m c main_v52 = R2 .bf16 (gk a) := by
  rw [V_52 m c, H.h3, hkr_R2, truncf_R2]
  rfl
theorem A_55 : V m c main_v55 = R2 .bf16 (gv a) := by
  rw [V_55 m c, H.h2, H.h4, hkv_R2, truncf_R2]
  rfl
theorem A_39 : V m c main_v39 = R2 .f32 (go a) := by
  rw [V_39 m c, H.h0, H.h1, H.h2, H.h3, H.h4]
  exact (congrArg hyc (s_v45 a)).trans (hyc_R2 a)
theorem A_23 : V m c main_v23 = R3 .f32 (gl a) := by
  rw [V_23 m c, H.h0, H.h1, H.h2, H.h3]
  exact hls_eq a
theorem A_5 : V m c main_arg5 = R2 .f32 a.dy := (V_main_arg5 m c).trans H.h5

theorem bqn_R2 (t : Fin cfg0.N) : bqn m c t = R2 .f32 fun (i : Fin 2048) (x : Fin 128) => a.qn (bt t) i (ht t) x := by
  funext y
  have ht48 := lt48 t
  have hy0 : (y 0).val < 2048 := ValueIdx.idx2_lt0 y
  have hy1 : (y 1).val < 128 := ValueIdx.idx2_lt1 y
  obtain ⟨e0, e1⟩ := emb_0 t y
  refine (congrFun (A_46 m c a H) (((cfg0.win 0).blk t).view.emb y)).trans ((R2_at _ (((cfg0.win 0).blk t).view.emb y) _ _ e0 e1 (by omega) (by omega)).trans ?_)
  rw [R2_apply]
  refine congrArg (fun z : ℝ => (z : EReal)) ?_
  refine (dif_pos (by show (t.val / 2 % 12) * 128 + (y 1).val < 1536; omega)).trans ?_
  exact at4 a.qn (by show ((t.val / 24) * 2048 + (y 0).val) / 2048 = t.val / 24; omega) (by show ((t.val / 24) * 2048 + (y 0).val) % 2048 = (y 0).val; omega) (by show ((t.val / 2 % 12) * 128 + (y 1).val) / 128 = t.val / 2 % 12; omega) (by show ((t.val / 2 % 12) * 128 + (y 1).val) % 128 = (y 1).val; omega)

theorem bqr_R2 (t : Fin cfg0.N) : bqr m c t = R2 .bf16 fun (i : Fin 2048) (x : Fin 128) => Args.spread (a.qr (bt t) i (ht t)) x := by
  funext y
  have ht48 := lt48 t
  have hy0 : (y 0).val < 2048 := ValueIdx.idx2_lt0 y
  have hy1 : (y 1).val < 128 := ValueIdx.idx2_lt1 y
  obtain ⟨e0, e1⟩ := emb_1 t y
  refine (congrFun (A_56 m c a H) (((cfg0.win 1).blk t).view.emb y)).trans ((R2_at _ (((cfg0.win 1).blk t).view.emb y) _ _ e0 e1 (by omega) (by omega)).trans ?_)
  rw [R2_apply]
  refine congrArg (fun z : ℝ => (z : EReal)) ?_
  exact at4 (fun b i h x => Args.spread (a.qr b i h) x) (by show ((t.val / 24) * 2048 + (y 0).val) / 2048 = t.val / 24; omega) (by show ((t.val / 24) * 2048 + (y 0).val) % 2048 = (y 0).val; omega) (by show ((t.val / 2 % 12) * 128 + (y 1).val) / 128 = t.val / 2 % 12; omega) (by show ((t.val / 2 % 12) * 128 + (y 1).val) % 128 = (y 1).val; omega)

theorem bkn_R2 (t : Fin cfg0.N) : bkn m c t = R2 .bf16 fun (i : Fin 1024) (x : Fin 128) => a.kn (bt t) (kt t i) (ht t) x := by
  funext y
  have ht48 := lt48 t
  have hy0 : (y 0).val < 1024 := ValueIdx.idx2_lt0 y
  have hy1 : (y 1).val < 128 := ValueIdx.idx2_lt1 y
  obtain ⟨e0, e1⟩ := emb_2 t y
  refine (congrFun (A_55 m c a H) (((cfg0.win 2).blk t).view.emb y)).trans ((R2_at _ (((cfg0.win 2).blk t).view.emb y) _ _ e0 e1 (by omega) (by omega)).trans ?_)
  rw [R2_apply]
  refine congrArg (fun z : ℝ => (z : EReal)) ?_
  refine (dif_pos (by show ((t.val / 2 % 12 * 2) * 128 + (y 1).val) % 256 < 128; omega)).trans ?_
  exact at4 a.kn (by show ((t.val / 24 * 2 + t.val % 2) * 1024 + (y 0).val) / 2048 = t.val / 24; omega) (by show ((t.val / 24 * 2 + t.val % 2) * 1024 + (y 0).val) % 2048 = t.val % 2 * 1024 + (y 0).val; omega) (by show ((t.val / 2 % 12 * 2) * 128 + (y 1).val) / 256 = t.val / 2 % 12; omega) (by show ((t.val / 2 % 12 * 2) * 128 + (y 1).val) % 256 = (y 1).val; omega)

theorem bv_R2 (t : Fin cfg0.N) : bv m c t = R2 .bf16 fun (i : Fin 1024) (x : Fin 128) => a.v (bt t) (kt t i) (ht t) x := by
  funext y
  have ht48 := lt48 t
  have hy0 : (y 0).val < 1024 := ValueIdx.idx2_lt0 y
  have hy1 : (y 1).val < 128 := ValueIdx.idx2_lt1 y
  obtain ⟨e0, e1⟩ := emb_4 t y
  refine (congrFun (A_55 m c a H) (((cfg0.win 4).blk t).view.emb y)).trans ((R2_at _ (((cfg0.win 4).blk t).view.emb y) _ _ e0 e1 (by omega) (by omega)).trans ?_)
  rw [R2_apply]
  refine congrArg (fun z : ℝ => (z : EReal)) ?_
  refine (dif_neg (by show ¬ ((t.val / 2 % 12 * 2 + 1) * 128 + (y 1).val) % 256 < 128; omega)).trans ?_
  exact at4 a.v (by show ((t.val / 24 * 2 + t.val % 2) * 1024 + (y 0).val) / 2048 = t.val / 24; omega) (by show ((t.val / 24 * 2 + t.val % 2) * 1024 + (y 0).val) % 2048 = t.val % 2 * 1024 + (y 0).val; omega) (by show ((t.val / 2 % 12 * 2 + 1) * 128 + (y 1).val) / 256 = t.val / 2 % 12; omega) (by show ((t.val / 2 % 12 * 2 + 1) * 128 + (y 1).val) % 256 - 128 = (y 1).val; omega)

theorem bkr_R2 (t : Fin cfg0.N) : bkr m c t = R2 .bf16 fun (i : Fin 1024) (x : Fin 128) => Args.spread (a.kr (bt t) (kt t i)) x := by
  funext y
  have ht48 := lt48 t
  have hy0 : (y 0).val < 1024 := ValueIdx.idx2_lt0 y
  have hy1 : (y 1).val < 128 := ValueIdx.idx2_lt1 y
  obtain ⟨e0, e1⟩ := emb_3 t y
  refine (congrFun (A_52 m c a H) (((cfg0.win 3).blk t).view.emb y)).trans ((R2_at _ (((cfg0.win 3).blk t).view.emb y) _ _ e0 e1 (by omega) (by omega)).trans ?_)
  rw [R2_apply]
  refine congrArg (fun z : ℝ => (z : EReal)) ?_
  exact at4 (fun b i (_ : Fin 1) x => Args.spread (a.kr b i) x) (h := 0) (h' := 0) (by show ((t.val / 24 * 2 + t.val % 2) * 1024 + (y 0).val) / 2048 = t.val / 24; omega) (by show ((t.val / 24 * 2 + t.val % 2) * 1024 + (y 0).val) % 2048 = t.val % 2 * 1024 + (y 0).val; omega) rfl (by show 0 * 128 + (y 1).val = (y 1).val; omega)

theorem bo_R2 (t : Fin cfg0.N) : bo m c t = R2 .f32 fun (i : Fin 2048) (x : Fin 128) => a.O (bt t) (ht t) i x := by
  funext y
  have ht48 := lt48 t
  have hy0 : (y 0).val < 2048 := ValueIdx.idx2_lt0 y
  have hy1 : (y 1).val < 128 := ValueIdx.idx2_lt1 y
  obtain ⟨e0, e1⟩ := emb_5 t y
  refine (congrFun (A_39 m c a H) (((cfg0.win 5).blk t).view.emb y)).trans ((R2_at _ (((cfg0.win 5).blk t).view.emb y) _ _ e0 e1 (by omega) (by omega)).trans ?_)
  rw [R2_apply]
  refine congrArg (fun z : ℝ => (z : EReal)) ?_
  refine (dif_pos (by show (t.val / 2 % 12) * 128 + (y 1).val < 1536; omega)).trans ?_
  exact at4 (fun b i h x => a.O b h i x) (by show ((t.val / 24) * 2048 + (y 0).val) / 2048 = t.val / 24; omega) (by show ((t.val / 24) * 2048 + (y 0).val) % 2048 = (y 0).val; omega) (by show ((t.val / 2 % 12) * 128 + (y 1).val) / 128 = t.val / 2 % 12; omega) (by show ((t.val / 2 % 12) * 128 + (y 1).val) % 128 = (y 1).val; omega)

theorem bdo_R2 (t : Fin cfg0.N) : bdo m c t = R2 .f32 fun (i : Fin 2048) (x : Fin 128) => a.ct (bt t) (ht t) i x := by
  funext y
  have ht48 := lt48 t
  have hy0 : (y 0).val < 2048 := ValueIdx.idx2_lt0 y
  have hy1 : (y 1).val < 128 := ValueIdx.idx2_lt1 y
  obtain ⟨e0, e1⟩ := emb_6 t y
  refine (congrFun (A_5 m c a H) (((cfg0.win 6).blk t).view.emb y)).trans ((R2_at _ (((cfg0.win 6).blk t).view.emb y) _ _ e0 e1 (by omega) (by omega)).trans ?_)
  rw [R2_apply]
  refine congrArg (fun z : ℝ => (z : EReal)) ?_
  rfl

omit H
theorem read_7 (X : (b : Ref sig .tc) → Buf (Elt Ideal) ((c : Thread nD τ).loc b)) (t : Fin cfg0.N) (y : S1x2048x1.Idx) :
    (((cfg0.win 7).blk t).view.read (Elt Ideal) (X (Pipeline.arrRef spec0 7)) : S1x2048x1.Idx → Elt Ideal .f32) y = (X main_v23 : S24x2048x1.Idx → Elt Ideal .f32) (((cfg0.win 7).blk t).view.emb y) := rfl
theorem bl_at (t : Fin cfg0.N) (y : S1x2048x1.Idx) : bl m c t y = V m c main_v23 (((cfg0.win 7).blk t).view.emb y) :=
  read_7 c (V m c) t y
theorem bl_L3 (H : Holds m c a) (t : Fin cfg0.N) : bl m c t = L3 fun i => Real.log (a.Z (bt t) (ht t) i) :=
  funext fun y => (bl_at m c t y).trans ((congrFun (A_23 m c a H) (((cfg0.win 7).blk t).view.emb y)).trans (lse_at a.Z t y _ (emb_7 t y).1 (emb_7 t y).2))

end Cert.KernelIdeal.Hand
-- ==== Proof.KI.Body.lean ====
/-
  What one grid point computes, on real matrices: the sums over all of a head's queries, or all of the point's keys, that the kernel forms in
  blocks of 512 rows. The blocks it skips hold masked pairs only, which add nothing.
-/
module

public import proofs.«01_k».proof.Proof.KI.Pay

@[expose] public section
noncomputable section
namespace Cert.KernelIdeal.Hand
open Cert.KernelIdeal Cert.KernelIdeal.Gen
open Idealize.ShloMosaic Idealize.ShloMosaic.TcCoe

/-- Rows `r … r+511`. -/
def rows {α : Type} (r : ℕ) (h : r ≤ 1536) (f : Fin 2048 → α) (i : Fin 512) : α := f ⟨r + i.val, by omega⟩

theorem rq_R2 (q : Fin 2048 → Fin 256 → ℝ) (r : ℕ) (h : r ≤ 1536) : rq (F := Ideal) (R2 .bf16 q) r h = R2 .bf16 (rows r h q) := by
  unfold rq
  refine (win_R2 q r 0 (inbQ r h) (by omega) (by omega)).trans ?_
  simp only [Nat.zero_add]; rfl
theorem ra_R2 (q : Fin 2048 → Fin 256 → ℝ) (r : ℕ) (h : r ≤ 1536) : ra (F := Ideal) (R2 .f32 q) r h = R2 .f32 (rows r h q) := by
  unfold ra
  refine (win_R2 q r 0 (inbQ r h) (by omega) (by omega)).trans ?_
  simp only [Nat.zero_add]; rfl
theorem rd_R2 (d : Fin 2048 → Fin 128 → ℝ) (r : ℕ) (h : r ≤ 1536) : rd (F := Ideal) (R2 .bf16 d) r h = R2 .bf16 (rows r h d) := by
  unfold rd
  refine (win_R2 d r 0 (inbD r h) (by omega) (by omega)).trans ?_
  simp only [Nat.zero_add]; rfl
theorem rs_R2 (D : Fin 2048 → ℝ) (r : ℕ) (h : r ≤ 1536) : rs (F := Ideal) (R2 .f32 fun i _ => D i) r h = R2 .f32 fun i _ => rows r h D i := by
  unfold rs
  exact win_R2 (fun i (_ : Fin 1) => D i) r 0 (inb1 r h) (by omega) (by omega)
theorem rl_L3 (l : Fin 2048 → ℝ) (r : ℕ) (h : r ≤ 1536) : rl (F := Ideal) (L3 l) r h = L3 (rows r h l) := by
  unfold rl rows
  funext i
  show ((l _ : ℝ) : EReal) = ((l _ : ℝ) : EReal)
  congr 2
  exact Fin.ext (show r + 1 * (i 1).val = r + (i 1).val by omega)
theorem hk_R2 (f : Fin 1024 → Fin 256 → ℝ) : hk (F := Ideal) (R2 .f32 f) = R2 .f32 fun (i : Fin 512) x => f ⟨i.val, by omega⟩ x := by
  unfold hk
  refine (win_R2 f 0 0 inb_S1024x256_S512x256_0_0 (by omega) (by omega)).trans ?_
  simp only [Nat.zero_add]
theorem hv_R2 (f : Fin 1024 → Fin 128 → ℝ) : hv (F := Ideal) (R2 .f32 f) = R2 .f32 fun (i : Fin 512) x => f ⟨i.val, by omega⟩ x := by
  unfold hv
  refine (win_R2 f 0 0 inb_S1024x128_S512x128_0_0 (by omega) (by omega)).trans ?_
  simp only [Nat.zero_add]
theorem pa_R2 (f : Fin 2048 → Fin 256 → ℝ) (r : ℕ) (g : Fin 512 → Fin 256 → ℝ) :
    pa (F := Ideal) (R2 .f32 f) r (R2 .f32 g) = R2 .f32 fun i x => if h : r ≤ i.val ∧ i.val < r + 512 then g ⟨i.val - r, by omega⟩ x else f i x :=
  put_R2 f g r rfl

/-! ## One step -/

section
variable (q : Fin 2048 → Fin 256 → ℝ) (d : Fin 2048 → Fin 128 → ℝ) (D l : Fin 2048 → ℝ) (kn kr v : Fin 1024 → Fin 128 → ℝ) (o : ℕ)

/-- The point's keys: the two kinds of lanes side by side. -/
def Kc : Fin 1024 → Fin 256 → ℝ := sbs 128 128 256 rfl kn kr
/-- The probability of the point's key `j`, which stands at `o + j`, under query `i`. -/
def pt (i : Fin 2048) (j : Fin 1024) : ℝ := if o + j.val ≤ i.val then pf q (Kc kn kr) l i j else 0
/-- The gradient of the score. -/
def dt : Fin 2048 → Fin 1024 → ℝ := dsf (pt q l kn kr o) d v D

theorem pm0_eq (h : o ≤ 1536) (i j : Fin 512) : pm 0 (rows o h q) (fun (j : Fin 512) x => Kc kn kr ⟨j.val, by omega⟩ x) (rows o h l) i j
    = pt q l kn kr o ⟨o + i.val, by omega⟩ ⟨j.val, by omega⟩ := by
  unfold pm pt
  exact if_congr (by show _ ↔ o + j.val ≤ o + i.val; omega) rfl rfl
theorem pm512_eq (r : ℕ) (h : r ≤ 1536) (hr : r = o + 512) (i : Fin 512) (j : Fin 1024) : pm 512 (rows r h q) (Kc kn kr) (rows r h l) i j
    = pt q l kn kr o ⟨r + i.val, by omega⟩ j := by
  unfold pm pt
  exact if_congr (by show _ ↔ o + j.val ≤ r + i.val; omega) rfl rfl
theorem pf_eq (r : ℕ) (h : r ≤ 1536) (hr : o + 1024 ≤ r) (i : Fin 512) (j : Fin 1024) : pf (rows r h q) (Kc kn kr) (rows r h l) i j
    = pt q l kn kr o ⟨r + i.val, by omega⟩ j := by
  unfold pt
  rw [if_pos (by show o + j.val ≤ r + i.val; omega)]; rfl
theorem pt_zero (i : Fin 2048) (j : Fin 1024) (h : i.val < o + j.val) : pt q l kn kr o i j = 0 := if_neg (by omega)
theorem dt_zero (i : Fin 2048) (j : Fin 1024) (h : i.val < o + j.val) : dt q d D l kn kr v o i j = 0 := by
  unfold dt dsf; rw [pt_zero q l kn kr o i j h, zero_mul, zero_mul]
theorem ds0_eq (h : o ≤ 1536) (i j : Fin 512) : dsf (pm 0 (rows o h q) (fun (j : Fin 512) x => Kc kn kr ⟨j.val, by omega⟩ x) (rows o h l)) (rows o h d)
    (fun (j : Fin 512) x => v ⟨j.val, by omega⟩ x) (rows o h D) i j = dt q d D l kn kr v o ⟨o + i.val, by omega⟩ ⟨j.val, by omega⟩ := by
  unfold dt dsf; rw [pm0_eq]; rfl
theorem ds512_eq (r : ℕ) (h : r ≤ 1536) (hr : r = o + 512) (i : Fin 512) (j : Fin 1024) :
    dsf (pm 512 (rows r h q) (Kc kn kr) (rows r h l)) (rows r h d) v (rows r h D) i j = dt q d D l kn kr v o ⟨r + i.val, by omega⟩ j := by
  unfold dt dsf; rw [pm512_eq q l kn kr o r h hr]; rfl
theorem ds_eq (r : ℕ) (h : r ≤ 1536) (hr : o + 1024 ≤ r) (i : Fin 512) (j : Fin 1024) :
    dsf (pf (rows r h q) (Kc kn kr) (rows r h l)) (rows r h d) v (rows r h D) i j = dt q d D l kn kr v o ⟨r + i.val, by omega⟩ j := by
  unfold dt dsf; rw [pf_eq q l kn kr o r h hr]; rfl

/-- A sum over 512 rows. -/
def rsum (r : ℕ) (h : r ≤ 1536) (F : Fin 2048 → ℝ) : ℝ := ∑ i : Fin 512, F ⟨r + i.val, by omega⟩

theorem dvA_R2 (h : o ≤ 1536) : dvA (F := Ideal) (R2 .bf16 q) (R2 .bf16 d) (L3 l) (R2 .bf16 kn) (R2 .bf16 kr) o h = R2 .f32 fun j x => rsum o h fun i => pt q l kn kr o i j * d i x := by
  unfold dvA
  rw [pay28_R2, rq_R2, rd_R2, rl_L3, pay29_R2, hv_R2, pay33_R2]
  refine (put_R2 _ _ 0 rfl).trans (congrArg (R2 .f32) (funext fun j => funext fun x => ?_))
  unfold rsum
  split_ifs with hj
  · rw [zero_add]
    exact Finset.sum_congr rfl fun i _ => congrArg₂ _ (pm0_eq q l kn kr o h i ⟨j.val - 0, by omega⟩) rfl
  · exact (Finset.sum_eq_zero fun i _ => by beta_reduce; rw [pt_zero q l kn kr o _ _ (by show o + i.val < o + j.val; omega), zero_mul]).symm
theorem dkA_R2 (h : o ≤ 1536) : dkA (F := Ideal) (R2 .bf16 q) (R2 .bf16 d) (R2 .f32 fun i _ => D i) (L3 l) (R2 .bf16 kn) (R2 .bf16 kr) (R2 .bf16 v) o h = R2 .f32 fun j x => rsum o h fun i => dt q d D l kn kr v o i j * q i x := by
  unfold dkA
  rw [pay27_R2, rq_R2, rd_R2, rl_L3, rs_R2, pay29_R2, pay30_R2, hk_R2, pay34_R2]
  refine (put_R2 _ _ 0 rfl).trans (congrArg (R2 .f32) (funext fun j => funext fun x => ?_))
  unfold rsum
  split_ifs with hj
  · rw [zero_add]
    exact Finset.sum_congr rfl fun i _ => congrArg₂ _ (ds0_eq q d D l kn kr v o h i ⟨j.val - 0, by omega⟩) rfl
  · exact (Finset.sum_eq_zero fun i _ => by beta_reduce; rw [dt_zero q d D l kn kr v o _ _ (by show o + i.val < o + j.val; omega), zero_mul]).symm
theorem daA_R2 (h : o ≤ 1536) (c : Fin 2048 → Fin 256 → ℝ) : daA (F := Ideal) (R2 .bf16 q) (R2 .bf16 d) (R2 .f32 fun i _ => D i) (L3 l) (R2 .bf16 kn) (R2 .bf16 kr) (R2 .bf16 v) o h (R2 .f32 c)
    = R2 .f32 (rows o h fun i x => c i x + ∑ j, dt q d D l kn kr v o i j * Kc kn kr j x) := by
  unfold daA
  rw [rq_R2, rd_R2, rl_L3, rs_R2, ra_R2, pay29_R2, pay30_R2, pay36_R2]
  refine congrArg (R2 .f32) (funext fun i => funext fun x => congrArg₂ (· + ·) rfl ?_)
  refine ((Finset.sum_congr rfl fun j _ => congrArg₂ _ (ds0_eq q d D l kn kr v o h i j) rfl).trans ?_)
  refine Eq.trans ?_ (Fin.sum_univ_add (a := 512) (b := 512) fun j : Fin 1024 => dt q d D l kn kr v o ⟨o + i.val, by omega⟩ j * Kc kn kr j x).symm
  rw [Finset.sum_eq_zero (s := Finset.univ) (f := fun j : Fin 512 => dt q d D l kn kr v o ⟨o + i.val, by omega⟩ (Fin.natAdd 512 j) * Kc kn kr (Fin.natAdd 512 j) x)
    (fun j _ => by rw [dt_zero q d D l kn kr v o _ _ (by show o + i.val < o + (512 + j.val); omega), zero_mul]), add_zero]
  rfl

theorem dvB_R2 (r : ℕ) (h : r ≤ 1536) (hr : r = o + 512) (a : Fin 1024 → Fin 128 → ℝ) : dvB (F := Ideal) (R2 .bf16 q) (R2 .bf16 d) (L3 l) (R2 .bf16 kn) (R2 .bf16 kr) r h (R2 .f32 a)
    = R2 .f32 fun j x => a j x + rsum r h fun i => pt q l kn kr o i j * d i x := by
  unfold dvB
  rw [rq_R2, rd_R2, rl_L3, pay24_R2, pay39_R2]
  refine congrArg (R2 .f32) (funext fun j => funext fun x => congrArg₂ (· + ·) rfl ?_)
  exact Finset.sum_congr rfl fun i _ => congrArg₂ _ (pm512_eq q l kn kr o r h hr i j) rfl
theorem dkB_R2 (r : ℕ) (h : r ≤ 1536) (hr : r = o + 512) (a : Fin 1024 → Fin 256 → ℝ) : dkB (F := Ideal) (R2 .bf16 q) (R2 .bf16 d) (R2 .f32 fun i _ => D i) (L3 l) (R2 .bf16 kn) (R2 .bf16 kr) (R2 .bf16 v) r h (R2 .f32 a)
    = R2 .f32 fun j x => a j x + rsum r h fun i => dt q d D l kn kr v o i j * q i x := by
  unfold dkB
  rw [rq_R2, rd_R2, rl_L3, rs_R2, pay24_R2, pay25_R2, pay41_R2]
  refine congrArg (R2 .f32) (funext fun j => funext fun x => congrArg₂ (· + ·) rfl ?_)
  exact Finset.sum_congr rfl fun i _ => congrArg₂ _ (ds512_eq q d D l kn kr v o r h hr i j) rfl
theorem daB_R2 (r : ℕ) (h : r ≤ 1536) (hr : r = o + 512) (c : Fin 2048 → Fin 256 → ℝ) : daB (F := Ideal) (R2 .bf16 q) (R2 .bf16 d) (R2 .f32 fun i _ => D i) (L3 l) (R2 .bf16 kn) (R2 .bf16 kr) (R2 .bf16 v) r h (R2 .f32 c)
    = R2 .f32 (rows r h fun i x => c i x + ∑ j, dt q d D l kn kr v o i j * Kc kn kr j x) := by
  unfold daB
  rw [rq_R2, rd_R2, rl_L3, rs_R2, ra_R2, pay24_R2, pay25_R2, pay42_R2]
  refine congrArg (R2 .f32) (funext fun i => funext fun x => congrArg₂ (· + ·) rfl ?_)
  exact Finset.sum_congr rfl fun j _ => congrArg₂ _ (ds512_eq q d D l kn kr v o r h hr i j) rfl
theorem dvC_R2 (r : ℕ) (h : r ≤ 1536) (hr : o + 1024 ≤ r) (a : Fin 1024 → Fin 128 → ℝ) : dvC (F := Ideal) (R2 .bf16 q) (R2 .bf16 d) (L3 l) (R2 .bf16 kn) (R2 .bf16 kr) r h (R2 .f32 a)
    = R2 .f32 fun j x => a j x + rsum r h fun i => pt q l kn kr o i j * d i x := by
  unfold dvC
  rw [rq_R2, rd_R2, rl_L3, pay24_R2, pay4_R2]
  refine congrArg (R2 .f32) (funext fun j => funext fun x => congrArg₂ (· + ·) rfl ?_)
  exact Finset.sum_congr rfl fun i _ => congrArg₂ _ (pf_eq q l kn kr o r h hr i j) rfl
theorem dkC_R2 (r : ℕ) (h : r ≤ 1536) (hr : o + 1024 ≤ r) (a : Fin 1024 → Fin 256 → ℝ) : dkC (F := Ideal) (R2 .bf16 q) (R2 .bf16 d) (R2 .f32 fun i _ => D i) (L3 l) (R2 .bf16 kn) (R2 .bf16 kr) (R2 .bf16 v) r h (R2 .f32 a)
    = R2 .f32 fun j x => a j x + rsum r h fun i => dt q d D l kn kr v o i j * q i x := by
  unfold dkC
  rw [rq_R2, rd_R2, rl_L3, rs_R2, pay24_R2, pay25_R2, pay6_R2]
  refine congrArg (R2 .f32) (funext fun j => funext fun x => congrArg₂ (· + ·) rfl ?_)
  exact Finset.sum_congr rfl fun i _ => congrArg₂ _ (ds_eq q d D l kn kr v o r h hr i j) rfl
theorem daC_R2 (r : ℕ) (h : r ≤ 1536) (hr : o + 1024 ≤ r) (c : Fin 2048 → Fin 256 → ℝ) : daC (F := Ideal) (R2 .bf16 q) (R2 .bf16 d) (R2 .f32 fun i _ => D i) (L3 l) (R2 .bf16 kn) (R2 .bf16 kr) (R2 .bf16 v) r h (R2 .f32 c)
    = R2 .f32 (rows r h fun i x => c i x + ∑ j, dt q d D l kn kr v o i j * Kc kn kr j x) := by
  unfold daC
  rw [rq_R2, rd_R2, rl_L3, rs_R2, ra_R2, pay24_R2, pay25_R2, pay7_R2]
  refine congrArg (R2 .f32) (funext fun i => funext fun x => congrArg₂ (· + ·) rfl ?_)
  exact Finset.sum_congr rfl fun j _ => congrArg₂ _ (ds_eq q d D l kn kr v o r h hr i j) rfl

/-! ## All steps of a point -/

theorem rsum_all (F : Fin 2048 → ℝ) : ((rsum 0 (by decide) F + rsum 512 (by decide) F) + rsum 1024 (by decide) F) + rsum 1536 (by decide) F = ∑ i, F i := by
  have e1 := Fin.sum_univ_add (a := 1536) (b := 512) (F : Fin (1536 + 512) → ℝ)
  have e2 := Fin.sum_univ_add (a := 1024) (b := 512) (fun i : Fin (1024 + 512) => F (Fin.castAdd 512 i))
  have e3 := Fin.sum_univ_add (a := 512) (b := 512) (fun i : Fin (512 + 512) => F (Fin.castAdd 512 (Fin.castAdd 512 i)))
  have e0 : rsum 0 (by decide) F = ∑ i : Fin 512, F (Fin.castAdd 512 (Fin.castAdd 512 (Fin.castAdd 512 i))) := by
    unfold rsum; exact Finset.sum_congr rfl fun i _ => congrArg F (Fin.ext (Nat.zero_add _))
  rw [show ∑ i : Fin 2048, F i = _ from e1, e2, e3, e0]
  rfl
theorem rsum_zero (r : ℕ) (h : r ≤ 1536) (F : Fin 2048 → ℝ) (hF : ∀ i : Fin 2048, i.val < r + 512 → F i = 0) : rsum r h F = 0 :=
  Finset.sum_eq_zero fun i _ => hF _ (by show r + i.val < r + 512; omega)
theorem rsum_last (F : Fin 2048 → ℝ) (hF : ∀ i : Fin 2048, i.val < 1024 → F i = 0) : rsum 1024 (by decide) F + rsum 1536 (by decide) F = ∑ i, F i := by
  rw [← rsum_all, rsum_zero 0 (by decide) F fun i hi => hF i (by omega), rsum_zero 512 (by decide) F fun i hi => hF i (by omega), zero_add, zero_add]

theorem dv0_R2 : dv0 (F := Ideal) (R2 .bf16 q) (R2 .bf16 d) (L3 l) (R2 .bf16 kn) (R2 .bf16 kr) = R2 .f32 fun j x => ∑ i, pt q l kn kr 0 i j * d i x := by
  unfold dv0
  rw [dvA_R2, dvB_R2 q d l kn kr 0 _ _ rfl, dvC_R2 q d l kn kr 0 _ _ (by decide), dvC_R2 q d l kn kr 0 _ _ (by decide)]
  exact congrArg (R2 .f32) (funext fun j => funext fun x => rsum_all _)
theorem dk0_R2 : dk0 (F := Ideal) (R2 .bf16 q) (R2 .bf16 d) (R2 .f32 fun i _ => D i) (L3 l) (R2 .bf16 kn) (R2 .bf16 kr) (R2 .bf16 v) = R2 .f32 fun j x => ∑ i, dt q d D l kn kr v 0 i j * q i x := by
  unfold dk0
  rw [dkA_R2, dkB_R2 q d D l kn kr v 0 _ _ rfl, dkC_R2 q d D l kn kr v 0 _ _ (by decide), dkC_R2 q d D l kn kr v 0 _ _ (by decide)]
  exact congrArg (R2 .f32) (funext fun j => funext fun x => rsum_all _)
theorem dv1_R2 : dv1 (F := Ideal) (R2 .bf16 q) (R2 .bf16 d) (L3 l) (R2 .bf16 kn) (R2 .bf16 kr) = R2 .f32 fun j x => ∑ i, pt q l kn kr 1024 i j * d i x := by
  unfold dv1
  rw [dvA_R2, dvB_R2 q d l kn kr 1024 _ _ rfl]
  exact congrArg (R2 .f32) (funext fun j => funext fun x => rsum_last _ fun i hi => by rw [pt_zero q l kn kr 1024 i j (by omega), zero_mul])
theorem dk1_R2 : dk1 (F := Ideal) (R2 .bf16 q) (R2 .bf16 d) (R2 .f32 fun i _ => D i) (L3 l) (R2 .bf16 kn) (R2 .bf16 kr) (R2 .bf16 v) = R2 .f32 fun j x => ∑ i, dt q d D l kn kr v 1024 i j * q i x := by
  unfold dk1
  rw [dkA_R2, dkB_R2 q d D l kn kr v 1024 _ _ rfl]
  exact congrArg (R2 .f32) (funext fun j => funext fun x => rsum_last _ fun i hi => by rw [dt_zero q d D l kn kr v 1024 i j (by omega), zero_mul])
theorem rows_sub (f : Fin 2048 → Fin 256 → ℝ) (r : ℕ) (h : r ≤ 1536) (i : Fin 2048) (h1 : r ≤ i.val) (h2 : i.val < r + 512) (x : Fin 256) :
    rows r h f ⟨i.val - r, by omega⟩ x = f i x := by
  unfold rows
  exact congrFun (congrArg f (Fin.ext (show r + (i.val - r) = i.val by omega))) x
theorem acc0_R2 : acc0 (F := Ideal) (R2 .bf16 q) (R2 .bf16 d) (R2 .f32 fun i _ => D i) (L3 l) (R2 .bf16 kn) (R2 .bf16 kr) (R2 .bf16 v) = R2 .f32 fun i x => ∑ j, dt q d D l kn kr v 0 i j * Kc kn kr j x := by
  unfold acc0
  rw [pay23_R2, daA_R2, daB_R2 q d D l kn kr v 0 _ _ rfl, daC_R2 q d D l kn kr v 0 _ _ (by decide), daC_R2 q d D l kn kr v 0 _ _ (by decide), pa_R2, pa_R2, pa_R2, pa_R2]
  refine congrArg (R2 .f32) (funext fun i => funext fun x => ?_)
  split_ifs with h1 h2 h3 h4
  · rw [rows_sub _ _ _ i h1.1 h1.2]; exact zero_add _
  · rw [rows_sub _ _ _ i h2.1 h2.2]; exact zero_add _
  · rw [rows_sub _ _ _ i h3.1 h3.2]; exact zero_add _
  · rw [rows_sub _ _ _ i h4.1 h4.2]; exact zero_add _
  · omega
theorem acc1_R2 (c : Fin 2048 → Fin 256 → ℝ) : acc1 (F := Ideal) (R2 .bf16 q) (R2 .bf16 d) (R2 .f32 fun i _ => D i) (L3 l) (R2 .bf16 kn) (R2 .bf16 kr) (R2 .bf16 v) (R2 .f32 c) = R2 .f32 fun i x => c i x + ∑ j, dt q d D l kn kr v 1024 i j * Kc kn kr j x := by
  unfold acc1
  rw [daA_R2, daB_R2 q d D l kn kr v 1024 _ _ rfl, pa_R2, pa_R2]
  refine congrArg (R2 .f32) (funext fun i => funext fun x => ?_)
  split_ifs with h1 h2
  · exact rows_sub _ _ _ i h1.1 h1.2 x
  · exact rows_sub _ _ _ i h2.1 h2.2 x
  · rw [Finset.sum_eq_zero fun j _ => by rw [dt_zero q d D l kn kr v 1024 i j (by omega), zero_mul], add_zero]
end

end Cert.KernelIdeal.Hand
-- ==== Proof.KI.Head.lean ====
/-
  One head's arithmetic: what the 256 lanes compute on reals is the attention's gradient.
-/
module

public import proofs.«01_k».proof.Proof.KI.Spec
public import proofs.«01_k».proof.Proof.KI.Body

@[expose] public section
noncomputable section
namespace Cert.KernelIdeal.Hand

/-- A sum over the 128 lanes of something nil off the rotary ones is the sum over the 64. -/
theorem spread_sum (F : Fin 128 → ℝ) (G : Fin 64 → ℝ) (h1 : ∀ x : Fin 32, F ⟨x.val, by omega⟩ = G ⟨x.val, by omega⟩)
    (h2 : ∀ x : Fin 32, F ⟨64 + x.val, by omega⟩ = G ⟨32 + x.val, by omega⟩)
    (h3 : ∀ x : Fin 32, F ⟨32 + x.val, by omega⟩ = 0) (h4 : ∀ x : Fin 32, F ⟨96 + x.val, by omega⟩ = 0) : ∑ x, F x = ∑ x, G x := by
  have e1 := Fin.sum_univ_add (a := 96) (b := 32) (F : Fin (96 + 32) → ℝ)
  have e2 := Fin.sum_univ_add (a := 64) (b := 32) (fun i : Fin (64 + 32) => F (Fin.castAdd 32 i))
  have e3 := Fin.sum_univ_add (a := 32) (b := 32) (fun i : Fin (32 + 32) => F (Fin.castAdd 32 (Fin.castAdd 32 i)))
  have e4 := Fin.sum_univ_add (a := 32) (b := 32) (G : Fin (32 + 32) → ℝ)
  rw [show (∑ x, F x) = _ from e1, show (∑ i : Fin 96, F (Fin.castAdd 32 i)) = _ from e2, show (∑ i : Fin 64, F (Fin.castAdd 32 (Fin.castAdd 32 i))) = _ from e3,
    show (∑ x, G x) = _ from e4, Finset.sum_eq_zero (s := Finset.univ) (f := fun i : Fin 32 => F (Fin.natAdd 96 i)) fun x _ => h4 x,
    show (∑ i : Fin 32, F (Fin.castAdd 32 (Fin.castAdd 32 (Fin.natAdd 32 i)))) = 0 from Finset.sum_eq_zero fun x _ => h3 x, add_zero, add_zero]
  exact congrArg₂ (· + ·) (Finset.sum_congr rfl fun x _ => h1 x) (Finset.sum_congr rfl fun x _ => h2 x)
theorem spread_lo (f : Fin 64 → ℝ) (x : Fin 32) : Args.spread f ⟨x.val, by omega⟩ = f ⟨x.val, by omega⟩ := dif_pos x.isLt
theorem spread_hi (f : Fin 64 → ℝ) (x : Fin 32) : Args.spread f ⟨64 + x.val, by omega⟩ = f ⟨32 + x.val, by omega⟩ :=
  (dif_neg (show ¬ 64 + x.val < 32 by omega)).trans ((dif_pos (show 64 ≤ 64 + x.val ∧ 64 + x.val < 96 by omega)).trans
    (congrArg f (Fin.ext (show 64 + x.val - 32 = 32 + x.val by omega))))
theorem spread_off (f : Fin 64 → ℝ) (x : Fin 128) (h1 : 32 ≤ x.val) (h2 : x.val < 64 ∨ 96 ≤ x.val) : Args.spread f x = 0 :=
  (dif_neg (by omega)).trans (dif_neg (by omega))
theorem spread_dot (f g : Fin 64 → ℝ) : ∑ x, Args.spread f x * Args.spread g x = ∑ x, f x * g x :=
  spread_sum _ _ (fun x => by rw [spread_lo, spread_lo]) (fun x => by rw [spread_hi, spread_hi])
    (fun x => by rw [spread_off f _ (by show 32 ≤ 32 + x.val; omega) (.inl (by show 32 + x.val < 64; omega)), zero_mul])
    (fun x => by rw [spread_off f _ (by show 32 ≤ 96 + x.val; omega) (.inr (by show 96 ≤ 96 + x.val; omega)), zero_mul])
/-- Spreading is linear. -/
theorem spread_lin {n : ℕ} (w : Fin n → ℝ) (f : Fin n → Fin 64 → ℝ) (x : Fin 128) :
    ∑ j, w j * Args.spread (f j) x = Args.spread (fun y => ∑ j, w j * f j y) x := by
  unfold Args.spread
  split_ifs with h1 h2
  · rfl
  · rfl
  · simp
theorem sbs_dot {n k : ℕ} (f : Fin n → Fin 128 → ℝ) (g : Fin n → Fin 128 → ℝ) (f' g' : Fin k → Fin 128 → ℝ) (i : Fin n) (j : Fin k) :
    ∑ x, sbs 128 128 256 rfl f g i x * sbs 128 128 256 rfl f' g' j x = (∑ x, f i x * f' j x) + ∑ x, g i x * g' j x := by
  have e := Fin.sum_univ_add (a := 128) (b := 128) (fun x : Fin (128 + 128) => sbs 128 128 256 rfl f g i x * sbs 128 128 256 rfl f' g' j x)
  refine e.trans (congrArg₂ (· + ·) (Finset.sum_congr rfl fun x _ => ?_) (Finset.sum_congr rfl fun x _ => ?_))
  · rw [show sbs 128 128 256 rfl f g i (Fin.castAdd 128 x) = f i x from dif_pos x.isLt, show sbs 128 128 256 rfl f' g' j (Fin.castAdd 128 x) = f' j x from dif_pos x.isLt]
  · rw [show sbs 128 128 256 rfl f g i (Fin.natAdd 128 x) = g i x from (dif_neg (by show ¬ 128 + x.val < 128; omega)).trans (congrArg (g i) (Fin.ext (by show 128 + x.val - 128 = x.val; omega))),
      show sbs 128 128 256 rfl f' g' j (Fin.natAdd 128 x) = g' j x from (dif_neg (by show ¬ 128 + x.val < 128; omega)).trans (congrArg (g' j) (Fin.ext (by show 128 + x.val - 128 = x.val; omega)))]

/-- The lanes of the first kind and of the second, among the 256. -/
def lo (x : Fin 128) : Fin 256 := ⟨x.val, by omega⟩
def hi (x : Fin 128) : Fin 256 := ⟨128 + x.val, by omega⟩
/-- The key `j` of those from `o` on. -/
def at_ (o : ℕ) (ho : o ≤ 1024) (j : Fin 1024) : Fin 2048 := ⟨o + j.val, by omega⟩
/-- The two kinds of lanes of a weighted sum of rows. -/
theorem lanes_lo {n : ℕ} (w : Fin n → ℝ) (f g : Fin n → Fin 128 → ℝ) (x : Fin 128) :
    ∑ j, w j * sbs 128 128 256 rfl f g j (lo x) = ∑ j, w j * f j x :=
  Finset.sum_congr rfl fun j _ => congrArg (w j * ·) (dif_pos x.isLt)
theorem lanes_hi {n : ℕ} (w : Fin n → ℝ) (f g : Fin n → Fin 128 → ℝ) (x : Fin 128) :
    ∑ j, w j * sbs 128 128 256 rfl f g j (hi x) = ∑ j, w j * g j x :=
  Finset.sum_congr rfl fun j _ => congrArg (w j * ·) ((dif_neg (by show ¬ 128 + x.val < 128; omega)).trans (congrArg (g j) (Fin.ext (by show 128 + x.val - 128 = x.val; omega))))
/-- The two halves of the keys make up all. -/
theorem halves (F : Fin 2048 → ℝ) : (∑ j, F (at_ 0 (Nat.zero_le _) j)) + ∑ j, F (at_ 1024 le_rfl j) = ∑ j, F j := by
  have e := Fin.sum_univ_add (a := 1024) (b := 1024) (F : Fin (1024 + 1024) → ℝ)
  refine Eq.trans ?_ e.symm
  exact congrArg₂ (· + ·) (Finset.sum_congr rfl fun j _ => congrArg F (Fin.ext (by show 0 + j.val = j.val; omega))) (Finset.sum_congr rfl fun j _ => rfl)

section
variable (a : Args) (b : Fin 2) (h : Fin 12) (o : ℕ) (ho : o ≤ 1024)

/-- The queries and the keys of head `h`, the keys from `o` on, as the kernel holds them. -/
def hq : Fin 2048 → Fin 256 → ℝ := sbs 128 128 256 rfl (fun i x => a.qn b i h x) (fun i x => Args.spread (a.qr b i h) x)
def hkn (j : Fin 1024) (x : Fin 128) : ℝ := a.kn b (at_ o ho j) h x
def hkR (j : Fin 1024) (x : Fin 128) : ℝ := Args.spread (a.kr b (at_ o ho j)) x
def hvv (j : Fin 1024) (x : Fin 128) : ℝ := a.v b (at_ o ho j) h x
def hl (i : Fin 2048) : ℝ := Real.log (a.Z b h i)
def hD (i : Fin 2048) : ℝ := ∑ x, a.ct b h i x * a.O b h i x

theorem score_eq (i : Fin 2048) (j : Fin 1024) : (∑ x, hq a b h i x * Kc (hkn a b h o ho) (hkR a b o ho) j x) * sc = a.S b h i (at_ o ho j) := by
  unfold hq Kc
  rw [sbs_dot]
  unfold hkn hkR Args.S
  rw [spread_dot]
theorem pt_eq (i : Fin 2048) (j : Fin 1024) : pt (hq a b h) (hl a b h) (hkn a b h o ho) (hkR a b o ho) o i j = a.P b h i (at_ o ho j) := by
  unfold pt Args.P Args.E
  have hz := a.Z_pos b h i
  by_cases hc : o + j.val ≤ i.val
  · rw [if_pos hc, if_pos (show (at_ o ho j).val ≤ i.val from hc)]
    unfold pf
    rw [score_eq, Real.exp_sub, hl, Real.exp_log hz]
  · rw [if_neg hc, if_neg (show ¬ (at_ o ho j).val ≤ i.val from hc), zero_div]
theorem hD_eq (i : Fin 2048) : hD a b h i = a.Dl b h i := by
  rw [Args.Dl_eq]
  exact Finset.sum_congr rfl fun x _ => mul_comm _ _
theorem dt_eq (i : Fin 2048) (j : Fin 1024) : dt (hq a b h) (a.ct b h) (hD a b h) (hl a b h) (hkn a b h o ho) (hkR a b o ho) (hvv a b h o ho) o i j
    = a.DS b h i (at_ o ho j) := by
  unfold dt dsf
  rw [pt_eq, hD_eq]
  rfl

theorem dv_eq (j : Fin 1024) (x : Fin 128) : ∑ i, pt (hq a b h) (hl a b h) (hkn a b h o ho) (hkR a b o ho) o i j * a.ct b h i x = a.dv b h (at_ o ho j) x :=
  Finset.sum_congr rfl fun i _ => by rw [pt_eq, mul_comm]
theorem dkn_eq (j : Fin 1024) (x : Fin 128) :
    ∑ i, dt (hq a b h) (a.ct b h) (hD a b h) (hl a b h) (hkn a b h o ho) (hkR a b o ho) (hvv a b h o ho) o i j * hq a b h i (lo x) = a.dkn b h (at_ o ho j) x := by
  simp only [dt_eq]
  exact lanes_lo (fun i => a.DS b h i (at_ o ho j)) _ _ x
theorem dkr_eq (j : Fin 1024) (x : Fin 128) :
    ∑ i, dt (hq a b h) (a.ct b h) (hD a b h) (hl a b h) (hkn a b h o ho) (hkR a b o ho) (hvv a b h o ho) o i j * hq a b h i (hi x)
      = Args.spread (a.dkr b h (at_ o ho j)) x := by
  simp only [dt_eq]
  exact (lanes_hi (fun i => a.DS b h i (at_ o ho j)) _ _ x).trans (spread_lin _ _ x)

def accs (i : Fin 2048) (x : Fin 256) : ℝ :=
  ∑ j, dt (hq a b h) (a.ct b h) (hD a b h) (hl a b h) (hkn a b h o ho) (hkR a b o ho) (hvv a b h o ho) o i j * Kc (hkn a b h o ho) (hkR a b o ho) j x
theorem dqn_eq (i : Fin 2048) (x : Fin 128) : accs a b h 0 (Nat.zero_le _) i (lo x) + accs a b h 1024 le_rfl i (lo x) = a.dqn b h i x := by
  unfold accs Kc
  simp only [dt_eq]
  rw [lanes_lo, lanes_lo]
  exact halves fun j => a.DS b h i j * a.kn b j h x
theorem dqr_eq (i : Fin 2048) (x : Fin 128) : accs a b h 0 (Nat.zero_le _) i (hi x) + accs a b h 1024 le_rfl i (hi x)
    = Args.spread (a.dqr b h i) x := by
  unfold accs Kc
  simp only [dt_eq]
  rw [lanes_hi, lanes_hi]
  exact (halves fun j => a.DS b h i j * Args.spread (a.kr b j) x).trans (spread_lin _ _ x)
end

end Cert.KernelIdeal.Hand
-- ==== Proof.KI.Out.lean ====
/-
  What a grid point writes out, on arrays of reals: its head's gradients.
-/
module

public import proofs.«01_k».proof.Proof.KI.Blocks
public import proofs.«01_k».proof.Proof.KI.Head

@[expose] public section
noncomputable section
namespace Cert.KernelIdeal.Hand
open Cert.KernelIdeal Cert.KernelIdeal.Gen
open Idealize.ShloMosaic Idealize.ShloMosaic.TcCoe

variable (m : (ℓ : Loc nD τ sig) → Buf (Elt Ideal) ℓ) (c : Dev nD) (a : Args) (H : Holds m c a) (t : Fin cfg0.N) (o : ℕ) (ho : o ≤ 1024)

theorem kt_at (e : t.val % 2 * 1024 = o) (j : Fin 1024) : kt t j = at_ o ho j := Fin.ext (show t.val % 2 * 1024 + j.val = o + j.val by rw [e])
theorem bt_prev (h : t.val % 2 = 1) : bt (prev t) = bt t := Fin.ext (show (t.val - 1) / 24 = t.val / 24 by omega)
theorem ht_prev (h : t.val % 2 = 1) : ht (prev t) = ht t := Fin.ext (show (t.val - 1) / 2 % 12 = t.val / 2 % 12 by omega)

include H
theorem kn_at (e : t.val % 2 * 1024 = o) : bkn m c t = R2 .bf16 (hkn a (bt t) (ht t) o ho) :=
  (bkn_R2 m c a H t).trans (congrArg (R2 .bf16) (funext fun j => funext fun x => congrArg (fun k => a.kn (bt t) k (ht t) x) (kt_at t o ho e j)))
theorem kr_at (e : t.val % 2 * 1024 = o) : bkr m c t = R2 .bf16 (hkR a (bt t) o ho) :=
  (bkr_R2 m c a H t).trans (congrArg (R2 .bf16) (funext fun j => funext fun x => congrArg (fun k => Args.spread (a.kr (bt t) k) x) (kt_at t o ho e j)))
theorem v_at (e : t.val % 2 * 1024 = o) : bv m c t = R2 .bf16 (hvv a (bt t) (ht t) o ho) :=
  (bv_R2 m c a H t).trans (congrArg (R2 .bf16) (funext fun j => funext fun x => congrArg (fun k => a.v (bt t) k (ht t) x) (kt_at t o ho e j)))
theorem l_at : bl m c t = L3 (hl a (bt t) (ht t)) := bl_L3 m c a H t
theorem Qs_R2 : Qs m c t = R2 .bf16 (hq a (bt t) (ht t)) := by
  unfold Qs
  rw [bqn_R2 m c a H, bqr_R2 m c a H, pay20_R2]
  rfl
theorem Ds_R2 : Ds m c t = R2 .bf16 (a.ct (bt t) (ht t)) := by
  unfold Ds
  rw [bdo_R2 m c a H, pay21_R2]
theorem Ss_R2 : Ss m c t = R2 .f32 fun i _ => hD a (bt t) (ht t) i := by
  unfold Ss
  rw [bdo_R2 m c a H, bo_R2 m c a H, pay22_R2]
  rfl

/-- The head's first point. -/
theorem Dv0_R2 (h : t.val % 2 = 0) : Dv0 m c t = R2 .f32 fun j x => a.dv (bt t) (ht t) (kt t j) x := by
  have e : t.val % 2 * 1024 = 0 := by omega
  unfold Dv0
  rw [Qs_R2 m c a H, Ds_R2 m c a H, l_at m c a H, kn_at m c a H t 0 (Nat.zero_le _) e, kr_at m c a H t 0 (Nat.zero_le _) e, dv0_R2]
  exact congrArg (R2 .f32) (funext fun j => funext fun x => by rw [dv_eq, kt_at t 0 (Nat.zero_le _) e])
theorem Dk0_R2 (h : t.val % 2 = 0) : Dk0 m c t = R2 .f32 fun j x => ∑ i, dt (hq a (bt t) (ht t)) (a.ct (bt t) (ht t)) (hD a (bt t) (ht t)) (hl a (bt t) (ht t))
    (hkn a (bt t) (ht t) 0 (Nat.zero_le _)) (hkR a (bt t) 0 (Nat.zero_le _)) (hvv a (bt t) (ht t) 0 (Nat.zero_le _)) 0 i j * hq a (bt t) (ht t) i x := by
  have e : t.val % 2 * 1024 = 0 := by omega
  unfold Dk0
  rw [Qs_R2 m c a H, Ds_R2 m c a H, Ss_R2 m c a H, l_at m c a H, kn_at m c a H t 0 (Nat.zero_le _) e, kr_at m c a H t 0 (Nat.zero_le _) e,
    v_at m c a H t 0 (Nat.zero_le _) e, dk0_R2]
theorem Acc0_R2 (h : t.val % 2 = 0) : Acc0 m c t = R2 .f32 (accs a (bt t) (ht t) 0 (Nat.zero_le _)) := by
  have e : t.val % 2 * 1024 = 0 := by omega
  unfold Acc0
  rw [Qs_R2 m c a H, Ds_R2 m c a H, Ss_R2 m c a H, l_at m c a H, kn_at m c a H t 0 (Nat.zero_le _) e, kr_at m c a H t 0 (Nat.zero_le _) e,
    v_at m c a H t 0 (Nat.zero_le _) e, acc0_R2]
  rfl
/-- Its second. -/
theorem Dv1_R2 (h : t.val % 2 = 1) : Dv1 m c t = R2 .f32 fun j x => a.dv (bt t) (ht t) (kt t j) x := by
  have e : t.val % 2 * 1024 = 1024 := by omega
  unfold Dv1
  rw [Qs_R2 m c a H, Ds_R2 m c a H, l_at m c a H, kn_at m c a H t 1024 le_rfl e, kr_at m c a H t 1024 le_rfl e, bt_prev t h, ht_prev t h, dv1_R2]
  exact congrArg (R2 .f32) (funext fun j => funext fun x => by rw [dv_eq, kt_at t 1024 le_rfl e])
theorem Dk1_R2 (h : t.val % 2 = 1) : Dk1 m c t = R2 .f32 fun j x => ∑ i, dt (hq a (bt t) (ht t)) (a.ct (bt t) (ht t)) (hD a (bt t) (ht t)) (hl a (bt t) (ht t))
    (hkn a (bt t) (ht t) 1024 le_rfl) (hkR a (bt t) 1024 le_rfl) (hvv a (bt t) (ht t) 1024 le_rfl) 1024 i j * hq a (bt t) (ht t) i x := by
  have e : t.val % 2 * 1024 = 1024 := by omega
  unfold Dk1
  rw [Qs_R2 m c a H, Ds_R2 m c a H, Ss_R2 m c a H, l_at m c a H, kn_at m c a H t 1024 le_rfl e, kr_at m c a H t 1024 le_rfl e,
    v_at m c a H t 1024 le_rfl e, bt_prev t h, ht_prev t h, dk1_R2]
theorem Acc1_R2 (h : t.val % 2 = 1) : Acc1 m c t = R2 .f32 fun i x => accs a (bt t) (ht t) 0 (Nat.zero_le _) i x + accs a (bt t) (ht t) 1024 le_rfl i x := by
  have e : t.val % 2 * 1024 = 1024 := by omega
  have h' : (prev t).val % 2 = 0 := by show (t.val - 1) % 2 = 0; omega
  unfold Acc1
  rw [Qs_R2 m c a H, Ds_R2 m c a H, Ss_R2 m c a H, Acc0_R2 m c a H (prev t) h', l_at m c a H, kn_at m c a H t 1024 le_rfl e, kr_at m c a H t 1024 le_rfl e,
    v_at m c a H t 1024 le_rfl e, bt_prev t h, ht_prev t h, acc1_R2]
  rfl

omit H
theorem win_lo {n : ℕ} {φ : FTy} (f : Fin n → Fin 256 → ℝ) (inb) :
    win (s := ⟨2, ![n, 256]⟩) (R2 φ f) ![0, 0] ![n, 128] inb = R2 φ (n := n) (m := 128) fun i x => f i (lo x) :=
  (win_R2 (a := n) (b := 128) f 0 0 inb (by omega) (by omega)).trans (congrArg (R2 φ) (funext fun i => funext fun x =>
    congrArg₂ f (Fin.ext (Nat.zero_add _)) (Fin.ext (Nat.zero_add _))))
theorem win_hi {n : ℕ} {φ : FTy} (f : Fin n → Fin 256 → ℝ) (inb) :
    win (s := ⟨2, ![n, 256]⟩) (R2 φ f) ![0, 128] ![n, 128] inb = R2 φ (n := n) (m := 128) fun i x => f i (hi x) :=
  (win_R2 (a := n) (b := 128) f 0 128 inb (by omega) (by omega)).trans (congrArg (R2 φ) (funext fun i => funext fun x =>
    congrArg₂ f (Fin.ext (Nat.zero_add _)) rfl))
theorem outQn_R2 (f : Fin 2048 → Fin 256 → ℝ) : outQn (F := Ideal) (R2 .f32 f) = R2 .bf16 fun i x => f i (lo x) := by
  unfold outQn k0_pay1
  exact congrArg (fun y : FVec Ideal S2048x128 .f32 => truncf .bf16 y bitsLt_bf16_f32) (win_lo f _)
theorem outQr_R2 (f : Fin 2048 → Fin 256 → ℝ) : outQr (F := Ideal) (R2 .f32 f) = R2 .f32 fun i x => f i (hi x) := win_hi f _
theorem outKr_R2 (f : Fin 1024 → Fin 256 → ℝ) : outKr (F := Ideal) (R2 .f32 f) = R2 .f32 fun i x => f i (hi x) := win_hi f _
theorem outKV_R2 (f : Fin 1024 → Fin 256 → ℝ) (g : Fin 1024 → Fin 128 → ℝ) :
    outKV (F := Ideal) (R2 .f32 f) (R2 .f32 g) = R2 .bf16 (sbs 128 128 256 rfl (fun i x => f i (lo x)) g) := by
  unfold outKV
  exact (congrArg (fun y => k0_pay49 (F := Ideal) y (R2 .f32 g)) (win_lo f _)).trans (pay49_R2 _ _)

include H
theorem oQn_R2 (h : t.val % 2 = 1) : oQn m c t = R2 .bf16 fun i x => a.dqn (bt t) (ht t) i x := by
  unfold oQn
  rw [Acc1_R2 m c a H t h, outQn_R2]
  exact congrArg (R2 .bf16) (funext fun i => funext fun x => dqn_eq a (bt t) (ht t) i x)
theorem oQr_R2 (h : t.val % 2 = 1) : oQr m c t = R2 .f32 fun i x => Args.spread (a.dqr (bt t) (ht t) i) x := by
  unfold oQr
  rw [Acc1_R2 m c a H t h, outQr_R2]
  exact congrArg (R2 .f32) (funext fun i => funext fun x => dqr_eq a (bt t) (ht t) i x)
theorem oKV_R2 : oKV m c t = R2 .bf16 (sbs 128 128 256 rfl (fun j x => a.dkn (bt t) (ht t) (kt t j) x) fun j x => a.dv (bt t) (ht t) (kt t j) x) := by
  unfold oKV
  split_ifs with h
  · have e : t.val % 2 * 1024 = 0 := by omega
    rw [Dk0_R2 m c a H t h, Dv0_R2 m c a H t h, outKV_R2]
    exact congrArg (fun f => R2 .bf16 (sbs 128 128 256 rfl f fun j x => a.dv (bt t) (ht t) (kt t j) x))
      (funext fun j => funext fun x => by rw [dkn_eq, kt_at t 0 (Nat.zero_le _) e])
  · have h' : t.val % 2 = 1 := by omega
    have e : t.val % 2 * 1024 = 1024 := by omega
    rw [Dk1_R2 m c a H t h', Dv1_R2 m c a H t h', outKV_R2]
    exact congrArg (fun f => R2 .bf16 (sbs 128 128 256 rfl f fun j x => a.dv (bt t) (ht t) (kt t j) x))
      (funext fun j => funext fun x => by rw [dkn_eq, kt_at t 1024 le_rfl e])
theorem oKr_R2 : oKr m c t = R2 .f32 fun j x => Args.spread (a.dkr (bt t) (ht t) (kt t j)) x := by
  unfold oKr
  split_ifs with h
  · have e : t.val % 2 * 1024 = 0 := by omega
    rw [Dk0_R2 m c a H t h, outKr_R2]
    exact congrArg (R2 .f32) (funext fun j => funext fun x => by rw [dkr_eq, kt_at t 0 (Nat.zero_le _) e])
  · have h' : t.val % 2 = 1 := by omega
    have e : t.val % 2 * 1024 = 1024 := by omega
    rw [Dk1_R2 m c a H t h', outKr_R2]
    exact congrArg (R2 .f32) (funext fun j => funext fun x => by rw [dkr_eq, kt_at t 1024 le_rfl e])

end Cert.KernelIdeal.Hand
-- ==== Proof.KI.Arr.lean ====
/-
  The four results as arrays: every element lies in the block one grid point writes out.
-/
module

public import proofs.«01_k».proof.Proof.KI.Out
public import Idealize.ShloMosaic.Lib.Pipeline.Cells

@[expose] public section
set_option maxRecDepth 100000
noncomputable section
namespace Cert.KernelIdeal.Hand
open Cert.KernelIdeal Cert.KernelIdeal.Gen
open Idealize.ShloMosaic Idealize.ShloMosaic.TcCoe

variable (m : (ℓ : Loc nD τ sig) → Buf (Elt Ideal) ℓ) (c : Dev nD) (a : Args) (H : Holds m c a)

theorem cell_8 (dat : Pipeline.Dat τ (Elt Ideal) Unit ℕ (UR sig nD τ) ℕ cfg0 c) (t : Fin cfg0.N) (X : Vec Ideal ⟨2, ![2048, 128]⟩ .bf16) (h : dat.after 8 t = X)
    (y : (⟨2, ![2048, 128]⟩ : Shape).Idx) (e) : (_root_.cast e (dat.flushed 8 t y) : Elt Ideal .bf16) = X y := by
  subst h; rfl
theorem disj_8 : ∀ t t' : Fin cfg0.N, (cfg0.win 8).flush t = true → (cfg0.win 8).flush t' = true → t ≠ t' →
    Disjoint ((cfg0.win 8).blk t).view.set ((cfg0.win 8).blk t').view.set := fun t t' f f' hne =>
  (cfg0.win 8).disjoint_blk fun e => hne (by
  have e0 := (ix_8 t).1.symm.trans ((congrFun e 0).trans (ix_8 t').1)
  have e1 := (ix_8 t).2.symm.trans ((congrFun e 1).trans (ix_8 t').2)
  have l := lt48 t
  have l' := lt48 t'
  have ft : t.val % 2 = 1 := (flush0_8 t).1 f
  have ft' : t'.val % 2 = 1 := (flush0_8 t').1 f'
  exact Fin.ext (by omega))
theorem arr_8 (dat : Pipeline.Dat τ (Elt Ideal) Unit ℕ (UR sig nD τ) ℕ cfg0 c) (X : Fin cfg0.N → Vec Ideal ⟨2, ![2048, 128]⟩ .bf16)
    (h : ∀ t : Fin cfg0.N, dat.after 8 t = X t) (i : (⟨2, ![4096, 3072]⟩ : Shape).Idx) (hc : (i 1).val < 1536) :
    ∃ (t : Fin cfg0.N) (y : (⟨2, ![2048, 128]⟩ : Shape).Idx), t.val = ((i 0).val / 2048 * 12 + (i 1).val / 128) * 2 + 1 ∧ (y 0).val = (i 0).val % 2048 ∧ (y 1).val = (i 1).val % 128
      ∧ (dat.arrAt 8 cfg0.N : (⟨2, ![4096, 3072]⟩ : Shape).Idx → Elt Ideal .bf16) i = X t y := by
  have h0 := ValueIdx.idx2_lt0 i
  have h1 := ValueIdx.idx2_lt1 i
  obtain ⟨t, et⟩ : ∃ t : Fin cfg0.N, t.val = ((i 0).val / 2048 * 12 + (i 1).val / 128) * 2 + 1 := ⟨⟨_, show _ < 48 by omega⟩, rfl⟩
  obtain ⟨y, y0, y1⟩ : ∃ y : (⟨2, ![2048, 128]⟩ : Shape).Idx, (y 0).val = (i 0).val % 2048 ∧ (y 1).val = (i 1).val % 128 :=
    ⟨ValueIdx.ix2 ⟨(i 0).val % 2048, by omega⟩ ⟨(i 1).val % 128, by omega⟩, rfl, rfl⟩
  refine ⟨t, y, et, y0, y1, ?_⟩
  obtain ⟨e0, e1⟩ := emb_8 t y
  have hi : (((cfg0.win 8).blk t).view.emb y : (⟨2, ![4096, 3072]⟩ : Shape).Idx) = i := funext fun ax => Fin.ext (match ax with
    | ⟨0, _⟩ => e0.trans (show _ = (i 0).val by omega)
    | ⟨1, _⟩ => e1.trans (show _ = (i 1).val by omega))
  exact (congrArg (dat.arrAt 8 cfg0.N : (⟨2, ![4096, 3072]⟩ : Shape).Idx → Elt Ideal .bf16) hi.symm).trans
    ((dat.arrAt_emb_eq_flushed 8 disj_8 t ((flush0_8 t).2 (by omega)) y).trans (cell_8 c dat t (X t) (h t) y _))

theorem cell_9 (dat : Pipeline.Dat τ (Elt Ideal) Unit ℕ (UR sig nD τ) ℕ cfg0 c) (t : Fin cfg0.N) (X : Vec Ideal ⟨2, ![2048, 128]⟩ .f32) (h : dat.after 9 t = X)
    (y : (⟨2, ![2048, 128]⟩ : Shape).Idx) (e) : (_root_.cast e (dat.flushed 9 t y) : Elt Ideal .f32) = X y := by
  subst h; rfl
theorem disj_9 : ∀ t t' : Fin cfg0.N, (cfg0.win 9).flush t = true → (cfg0.win 9).flush t' = true → t ≠ t' →
    Disjoint ((cfg0.win 9).blk t).view.set ((cfg0.win 9).blk t').view.set := fun t t' f f' hne =>
  (cfg0.win 9).disjoint_blk fun e => hne (by
  have e0 := (ix_9 t).1.symm.trans ((congrFun e 0).trans (ix_9 t').1)
  have e1 := (ix_9 t).2.symm.trans ((congrFun e 1).trans (ix_9 t').2)
  have l := lt48 t
  have l' := lt48 t'
  have ft : t.val % 2 = 1 := (flush0_9 t).1 f
  have ft' : t'.val % 2 = 1 := (flush0_9 t').1 f'
  exact Fin.ext (by omega))
theorem arr_9 (dat : Pipeline.Dat τ (Elt Ideal) Unit ℕ (UR sig nD τ) ℕ cfg0 c) (X : Fin cfg0.N → Vec Ideal ⟨2, ![2048, 128]⟩ .f32)
    (h : ∀ t : Fin cfg0.N, dat.after 9 t = X t) (i : (⟨2, ![4096, 1536]⟩ : Shape).Idx) :
    ∃ (t : Fin cfg0.N) (y : (⟨2, ![2048, 128]⟩ : Shape).Idx), t.val = ((i 0).val / 2048 * 12 + (i 1).val / 128) * 2 + 1 ∧ (y 0).val = (i 0).val % 2048 ∧ (y 1).val = (i 1).val % 128
      ∧ (dat.arrAt 9 cfg0.N : (⟨2, ![4096, 1536]⟩ : Shape).Idx → Elt Ideal .f32) i = X t y := by
  have h0 := ValueIdx.idx2_lt0 i
  have h1 := ValueIdx.idx2_lt1 i
  obtain ⟨t, et⟩ : ∃ t : Fin cfg0.N, t.val = ((i 0).val / 2048 * 12 + (i 1).val / 128) * 2 + 1 := ⟨⟨_, show _ < 48 by omega⟩, rfl⟩
  obtain ⟨y, y0, y1⟩ : ∃ y : (⟨2, ![2048, 128]⟩ : Shape).Idx, (y 0).val = (i 0).val % 2048 ∧ (y 1).val = (i 1).val % 128 :=
    ⟨ValueIdx.ix2 ⟨(i 0).val % 2048, by omega⟩ ⟨(i 1).val % 128, by omega⟩, rfl, rfl⟩
  refine ⟨t, y, et, y0, y1, ?_⟩
  obtain ⟨e0, e1⟩ := emb_9 t y
  have hi : (((cfg0.win 9).blk t).view.emb y : (⟨2, ![4096, 1536]⟩ : Shape).Idx) = i := funext fun ax => Fin.ext (match ax with
    | ⟨0, _⟩ => e0.trans (show _ = (i 0).val by omega)
    | ⟨1, _⟩ => e1.trans (show _ = (i 1).val by omega))
  exact (congrArg (dat.arrAt 9 cfg0.N : (⟨2, ![4096, 1536]⟩ : Shape).Idx → Elt Ideal .f32) hi.symm).trans
    ((dat.arrAt_emb_eq_flushed 9 disj_9 t ((flush0_9 t).2 (by omega)) y).trans (cell_9 c dat t (X t) (h t) y _))

theorem cell_10 (dat : Pipeline.Dat τ (Elt Ideal) Unit ℕ (UR sig nD τ) ℕ cfg0 c) (t : Fin cfg0.N) (X : Vec Ideal ⟨2, ![1024, 256]⟩ .bf16) (h : dat.after 10 t = X)
    (y : (⟨2, ![1024, 256]⟩ : Shape).Idx) (e) : (_root_.cast e (dat.flushed 10 t y) : Elt Ideal .bf16) = X y := by
  subst h; rfl
theorem disj_10 : ∀ t t' : Fin cfg0.N, (cfg0.win 10).flush t = true → (cfg0.win 10).flush t' = true → t ≠ t' →
    Disjoint ((cfg0.win 10).blk t).view.set ((cfg0.win 10).blk t').view.set := fun t t' f f' hne =>
  (cfg0.win 10).disjoint_blk fun e => hne (by
  have e0 := (ix_10 t).1.symm.trans ((congrFun e 0).trans (ix_10 t').1)
  have e1 := (ix_10 t).2.symm.trans ((congrFun e 1).trans (ix_10 t').2)
  have l := lt48 t
  have l' := lt48 t'
  exact Fin.ext (by omega))
theorem arr_10 (dat : Pipeline.Dat τ (Elt Ideal) Unit ℕ (UR sig nD τ) ℕ cfg0 c) (X : Fin cfg0.N → Vec Ideal ⟨2, ![1024, 256]⟩ .bf16)
    (h : ∀ t : Fin cfg0.N, dat.after 10 t = X t) (i : (⟨2, ![4096, 3072]⟩ : Shape).Idx) :
    ∃ (t : Fin cfg0.N) (y : (⟨2, ![1024, 256]⟩ : Shape).Idx), t.val = ((i 0).val / 2048 * 12 + (i 1).val / 256) * 2 + (i 0).val % 2048 / 1024 ∧ (y 0).val = (i 0).val % 1024 ∧ (y 1).val = (i 1).val % 256
      ∧ (dat.arrAt 10 cfg0.N : (⟨2, ![4096, 3072]⟩ : Shape).Idx → Elt Ideal .bf16) i = X t y := by
  have h0 := ValueIdx.idx2_lt0 i
  have h1 := ValueIdx.idx2_lt1 i
  obtain ⟨t, et⟩ : ∃ t : Fin cfg0.N, t.val = ((i 0).val / 2048 * 12 + (i 1).val / 256) * 2 + (i 0).val % 2048 / 1024 := ⟨⟨_, show _ < 48 by omega⟩, rfl⟩
  obtain ⟨y, y0, y1⟩ : ∃ y : (⟨2, ![1024, 256]⟩ : Shape).Idx, (y 0).val = (i 0).val % 1024 ∧ (y 1).val = (i 1).val % 256 :=
    ⟨ValueIdx.ix2 ⟨(i 0).val % 1024, by omega⟩ ⟨(i 1).val % 256, by omega⟩, rfl, rfl⟩
  refine ⟨t, y, et, y0, y1, ?_⟩
  obtain ⟨e0, e1⟩ := emb_10 t y
  have hi : (((cfg0.win 10).blk t).view.emb y : (⟨2, ![4096, 3072]⟩ : Shape).Idx) = i := funext fun ax => Fin.ext (match ax with
    | ⟨0, _⟩ => e0.trans (show _ = (i 0).val by omega)
    | ⟨1, _⟩ => e1.trans (show _ = (i 1).val by omega))
  exact (congrArg (dat.arrAt 10 cfg0.N : (⟨2, ![4096, 3072]⟩ : Shape).Idx → Elt Ideal .bf16) hi.symm).trans
    ((dat.arrAt_emb_eq_flushed 10 disj_10 t (flush0_10 t) y).trans (cell_10 c dat t (X t) (h t) y _))

theorem cell_11 (dat : Pipeline.Dat τ (Elt Ideal) Unit ℕ (UR sig nD τ) ℕ cfg0 c) (t : Fin cfg0.N) (X : Vec Ideal ⟨2, ![1024, 128]⟩ .f32) (h : dat.after 11 t = X)
    (y : (⟨2, ![1024, 128]⟩ : Shape).Idx) (e) : (_root_.cast e (dat.flushed 11 t y) : Elt Ideal .f32) = X y := by
  subst h; rfl
theorem disj_11 : ∀ t t' : Fin cfg0.N, (cfg0.win 11).flush t = true → (cfg0.win 11).flush t' = true → t ≠ t' →
    Disjoint ((cfg0.win 11).blk t).view.set ((cfg0.win 11).blk t').view.set := fun t t' f f' hne =>
  (cfg0.win 11).disjoint_blk fun e => hne (by
  have e0 := (ix_11 t).1.symm.trans ((congrFun e 0).trans (ix_11 t').1)
  have e1 := (ix_11 t).2.symm.trans ((congrFun e 1).trans (ix_11 t').2)
  have l := lt48 t
  have l' := lt48 t'
  exact Fin.ext (by omega))
theorem arr_11 (dat : Pipeline.Dat τ (Elt Ideal) Unit ℕ (UR sig nD τ) ℕ cfg0 c) (X : Fin cfg0.N → Vec Ideal ⟨2, ![1024, 128]⟩ .f32)
    (h : ∀ t : Fin cfg0.N, dat.after 11 t = X t) (i : (⟨2, ![4096, 1536]⟩ : Shape).Idx) :
    ∃ (t : Fin cfg0.N) (y : (⟨2, ![1024, 128]⟩ : Shape).Idx), t.val = ((i 0).val / 2048 * 12 + (i 1).val / 128) * 2 + (i 0).val % 2048 / 1024 ∧ (y 0).val = (i 0).val % 1024 ∧ (y 1).val = (i 1).val % 128
      ∧ (dat.arrAt 11 cfg0.N : (⟨2, ![4096, 1536]⟩ : Shape).Idx → Elt Ideal .f32) i = X t y := by
  have h0 := ValueIdx.idx2_lt0 i
  have h1 := ValueIdx.idx2_lt1 i
  obtain ⟨t, et⟩ : ∃ t : Fin cfg0.N, t.val = ((i 0).val / 2048 * 12 + (i 1).val / 128) * 2 + (i 0).val % 2048 / 1024 := ⟨⟨_, show _ < 48 by omega⟩, rfl⟩
  obtain ⟨y, y0, y1⟩ : ∃ y : (⟨2, ![1024, 128]⟩ : Shape).Idx, (y 0).val = (i 0).val % 1024 ∧ (y 1).val = (i 1).val % 128 :=
    ⟨ValueIdx.ix2 ⟨(i 0).val % 1024, by omega⟩ ⟨(i 1).val % 128, by omega⟩, rfl, rfl⟩
  refine ⟨t, y, et, y0, y1, ?_⟩
  obtain ⟨e0, e1⟩ := emb_11 t y
  have hi : (((cfg0.win 11).blk t).view.emb y : (⟨2, ![4096, 1536]⟩ : Shape).Idx) = i := funext fun ax => Fin.ext (match ax with
    | ⟨0, _⟩ => e0.trans (show _ = (i 0).val by omega)
    | ⟨1, _⟩ => e1.trans (show _ = (i 1).val by omega))
  exact (congrArg (dat.arrAt 11 cfg0.N : (⟨2, ![4096, 1536]⟩ : Shape).Idx → Elt Ideal .f32) hi.symm).trans
    ((dat.arrAt_emb_eq_flushed 11 disj_11 t (flush0_11 t) y).trans (cell_11 c dat t (X t) (h t) y _))

include H
theorem fin_8 (i : (⟨2, ![4096, 3072]⟩ : Shape).Idx) (hc : (i 1).val < 1536) :
    ((dats m 0 c).arrAt 8 cfg0.N : (⟨2, ![4096, 3072]⟩ : Shape).Idx → Elt Ideal .bf16) i = ((a.res0 (i 0) (i 1) : ℝ) : EReal) := by
  have h0 := ValueIdx.idx2_lt0 i
  have h1 := ValueIdx.idx2_lt1 i
  obtain ⟨t, y, et, y0, y1, e⟩ := arr_8 c (dats m 0 c) (oQn m c) (after0_8 m c) i hc
  refine e.trans ((congrFun (oQn_R2 m c a H t (by omega)) y).trans (congrArg (fun z : ℝ => (z : EReal)) ?_))
  unfold Args.res0
  rw [dif_pos hc]
  exact at4 (fun b i h x => a.dqn b h i x) (b' := ⟨(i 0).val / 2048, by omega⟩) (i' := ⟨(i 0).val % 2048, by omega⟩) (h' := ⟨(i 1).val / 128, by omega⟩) (x' := ⟨(i 1).val % 128, by omega⟩) (by show t.val / 24 = (i 0).val / 2048; omega) y0 (by show t.val / 2 % 12 = (i 1).val / 128; omega) y1
theorem fin_9 (i : (⟨2, ![4096, 1536]⟩ : Shape).Idx) :
    ((dats m 0 c).arrAt 9 cfg0.N : (⟨2, ![4096, 1536]⟩ : Shape).Idx → Elt Ideal .f32) i = ((a.res1 (i 0) (i 1) : ℝ) : EReal) := by
  have h0 := ValueIdx.idx2_lt0 i
  have h1 := ValueIdx.idx2_lt1 i
  obtain ⟨t, y, et, y0, y1, e⟩ := arr_9 c (dats m 0 c) (oQr m c) (after0_9 m c) i
  refine e.trans ((congrFun (oQr_R2 m c a H t (by omega)) y).trans (congrArg (fun z : ℝ => (z : EReal)) ?_))
  exact at4 (fun b i h x => Args.spread (a.dqr b h i) x) (b' := ⟨(i 0).val / 2048, by omega⟩) (i' := ⟨(i 0).val % 2048, by omega⟩) (h' := ⟨(i 1).val / 128, by omega⟩) (x' := ⟨(i 1).val % 128, by omega⟩) (by show t.val / 24 = (i 0).val / 2048; omega) y0 (by show t.val / 2 % 12 = (i 1).val / 128; omega) y1
theorem fin_10 (i : (⟨2, ![4096, 3072]⟩ : Shape).Idx) :
    ((dats m 0 c).arrAt 10 cfg0.N : (⟨2, ![4096, 3072]⟩ : Shape).Idx → Elt Ideal .bf16) i = ((a.res2 (i 0) (i 1) : ℝ) : EReal) := by
  have h0 := ValueIdx.idx2_lt0 i
  have h1 := ValueIdx.idx2_lt1 i
  obtain ⟨t, y, et, y0, y1, e⟩ := arr_10 c (dats m 0 c) (oKV m c) (after0_10 m c) i
  have hj : (kt t (y 0)).val = (i 0).val % 2048 := by
    show t.val % 2 * 1024 + (y 0).val = (i 0).val % 2048
    omega
  refine e.trans ((congrFun (oKV_R2 m c a H t) y).trans (congrArg (fun z : ℝ => (z : EReal)) ?_))
  unfold sbs Args.res2
  by_cases hl : (i 1).val % 256 < 128
  · rw [dif_pos hl, dif_pos (show (y 1).val < 128 by omega)]
    exact at4 (fun b i h x => a.dkn b h i x) (b' := ⟨(i 0).val / 2048, by omega⟩) (i' := ⟨(i 0).val % 2048, by omega⟩) (h' := ⟨(i 1).val / 256, by omega⟩) (x' := ⟨(i 1).val % 256, by omega⟩) (by show t.val / 24 = (i 0).val / 2048; omega) hj (by show t.val / 2 % 12 = (i 1).val / 256; omega) y1
  · rw [dif_neg hl, dif_neg (show ¬ (y 1).val < 128 by omega)]
    exact at4 (fun b i h x => a.dv b h i x) (b' := ⟨(i 0).val / 2048, by omega⟩) (i' := ⟨(i 0).val % 2048, by omega⟩) (h' := ⟨(i 1).val / 256, by omega⟩) (x' := ⟨(i 1).val % 256 - 128, by omega⟩) (by show t.val / 24 = (i 0).val / 2048; omega) hj (by show t.val / 2 % 12 = (i 1).val / 256; omega)
      (by show (y 1).val - 128 = (i 1).val % 256 - 128; omega)
theorem fin_11 (i : (⟨2, ![4096, 1536]⟩ : Shape).Idx) :
    ((dats m 0 c).arrAt 11 cfg0.N : (⟨2, ![4096, 1536]⟩ : Shape).Idx → Elt Ideal .f32) i = ((a.res3 (i 0) (i 1) : ℝ) : EReal) := by
  have h0 := ValueIdx.idx2_lt0 i
  have h1 := ValueIdx.idx2_lt1 i
  obtain ⟨t, y, et, y0, y1, e⟩ := arr_11 c (dats m 0 c) (oKr m c) (after0_11 m c) i
  have hj : (kt t (y 0)).val = (i 0).val % 2048 := by
    show t.val % 2 * 1024 + (y 0).val = (i 0).val % 2048
    omega
  refine e.trans ((congrFun (oKr_R2 m c a H t) y).trans (congrArg (fun z : ℝ => (z : EReal)) ?_))
  exact at4 (fun b i h x => Args.spread (a.dkr b h i) x) (b' := ⟨(i 0).val / 2048, by omega⟩) (i' := ⟨(i 0).val % 2048, by omega⟩) (h' := ⟨(i 1).val / 128, by omega⟩) (x' := ⟨(i 1).val % 128, by omega⟩) (by show t.val / 24 = (i 0).val / 2048; omega) hj (by show t.val / 2 % 12 = (i 1).val / 128; omega) y1

end Cert.KernelIdeal.Hand
-- ==== Proof.KI.Algebraic.lean ====
/-
  The value claim: the kernel's four results and the reference's are the same reals, wherever the kernel writes.
-/
module

public import proofs.«01_k».proof.Defs
public import proofs.«01_k».proof.Proof.KI.Cond
public import proofs.«01_k».proof.Proof.KI.Arr
public import proofs.«01_k».proof.Proof.Gen.ReferenceIdeal.Run

@[expose] public section
set_option maxRecDepth 100000
noncomputable section
namespace Cert.KernelIdeal.Hand
open Cert.KernelIdeal Cert.KernelIdeal.Gen
open Idealize.ShloMosaic Idealize.ShloMosaic.TcCoe

/-! ## The precondition and the mask -/

theorem real_el (x : Ideal .f32) (h : FloatOps.cmpf .olt (FloatOps.hostAbsf x) (FloatOps.ofBits (F := Ideal) .f32 0x7F800000#32) = 1#1) :
    x = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have h1 : x ≠ (⊤ : EReal) := by rintro rfl; simp at h'
  have h2 : x ≠ (⊥ : EReal) := by rintro rfl; simp at h'
  exact (EReal.coe_toReal h1 h2).symm
theorem real_of {s : Shape} (X : FVec Ideal s .f32) (hb : S_.BroadcastsInDim s (![] : Fin 0 → Fin s.rank))
    (h : cmpf .olt (Host.absf X) (broadcastInDim s ![] hb (constant S_ .f32 0x7F800000#32)) = fun _ => 1#1) (i : s.Idx) :
    X i = ((EReal.toReal (X i) : ℝ) : EReal) := real_el (X i) (congrFun h i)
theorem col_lt (n : ℕ) (hn : n < 3072) (h : BitVec.ofBool ((BitVec.ofNat 32 n).slt 1536#32) = 1#1) : n < 1536 := by
  have h1 : (BitVec.ofNat 32 n).slt 1536#32 = true := by
    cases hb : (BitVec.ofNat 32 n).slt 1536#32 with
    | true => rfl
    | false => rw [hb] at h; exact absurd h (by decide)
  rw [BitVec.slt, decide_eq_true_eq, BitVec.toInt_eq_toNat_of_lt (by rw [BitVec.toNat_ofNat]; omega), BitVec.toNat_ofNat] at h1
  have e : (1536#32 : BitVec 32).toInt = 1536 := by decide
  omega

/-- The reals the arguments hold. -/
def args (m : (ℓ : Loc nD τ sig) → Buf (Elt Ideal) ℓ) (c : Dev nD) : Args where
  qn b i h x := EReal.toReal ((m ((c : Thread nD τ).loc main_arg0) : FVec Ideal S2x2048x12x128 .f32) (ValueIdx.ix4 b i h x))
  qr b i h x := EReal.toReal ((m ((c : Thread nD τ).loc main_arg1) : FVec Ideal S2x2048x12x64 .f32) (ValueIdx.ix4 b i h x))
  kn b i h x := EReal.toReal ((m ((c : Thread nD τ).loc main_arg2) : FVec Ideal S2x2048x12x128 .f32) (ValueIdx.ix4 b i h x))
  kr b i x := EReal.toReal ((m ((c : Thread nD τ).loc main_arg3) : FVec Ideal S2x2048x64 .f32) (ValueIdx.ix3 b i x))
  v b i h x := EReal.toReal ((m ((c : Thread nD τ).loc main_arg4) : FVec Ideal S2x2048x12x128 .f32) (ValueIdx.ix4 b i h x))
  dy r x := EReal.toReal ((m ((c : Thread nD τ).loc main_arg5) : FVec Ideal S4096x2048 .f32) (ValueIdx.ix2 r x))

theorem arr4 {a b c d : ℕ} (X : FVec Ideal ⟨4, ![a, b, c, d]⟩ .f32) (h : ∀ i, X i = ((EReal.toReal (X i) : ℝ) : EReal)) :
    X = R4 .f32 fun b i h x => EReal.toReal (X (ValueIdx.ix4 b i h x)) :=
  funext fun i => (h i).trans (congrArg (fun j => ((EReal.toReal (X j) : ℝ) : EReal)) (ValueIdx.eq_ix4 i))
theorem arr3 {a b c : ℕ} (X : FVec Ideal ⟨3, ![a, b, c]⟩ .f32) (h : ∀ i, X i = ((EReal.toReal (X i) : ℝ) : EReal)) :
    X = R3 .f32 fun b i x => EReal.toReal (X (ValueIdx.ix3 b i x)) :=
  funext fun i => (h i).trans (congrArg (fun j => ((EReal.toReal (X j) : ℝ) : EReal)) (ValueIdx.eq_ix3 i))
theorem arr2 {a b : ℕ} (X : FVec Ideal ⟨2, ![a, b]⟩ .f32) (h : ∀ i, X i = ((EReal.toReal (X i) : ℝ) : EReal)) :
    X = R2 .f32 fun i x => EReal.toReal (X (ValueIdx.ix2 i x)) :=
  funext fun i => (h i).trans (congrArg (fun j => ((EReal.toReal (X j) : ℝ) : EReal)) (ValueIdx.eq_ix2 i))

theorem holds (m : (ℓ : Loc nD τ sig) → Buf (Elt Ideal) ℓ) (hp : Cert.Pre_KernelIdeal_finite m) (c : Dev nD) : Holds m c (args m c) where
  h0 := arr4 (a := 2) (b := 2048) (c := 12) (d := 128) _ (real_of _ preFacts.bcast_S_S2x2048x12x128 (hp c).1)
  h1 := arr4 (a := 2) (b := 2048) (c := 12) (d := 64) _ (real_of _ preFacts.bcast_S_S2x2048x12x64 (hp c).2.1)
  h2 := arr4 (a := 2) (b := 2048) (c := 12) (d := 128) _ (real_of _ preFacts.bcast_S_S2x2048x12x128 (hp c).2.2.1)
  h3 := arr3 (a := 2) (b := 2048) (c := 64) _ (real_of _ preFacts.bcast_S_S2x2048x64 (hp c).2.2.2.1)
  h4 := arr4 (a := 2) (b := 2048) (c := 12) (d := 128) _ (real_of _ preFacts.bcast_S_S2x2048x12x128 (hp c).2.2.2.2.1)
  h5 := arr2 (a := 4096) (b := 2048) _ (real_of _ preFacts.bcast_S_S4096x2048 (hp c).2.2.2.2.2)

theorem mask_col (x0 x1 x2 x3 x4 x5) (i : S4096x3072.Idx) (h : (Cert.On_written.fn (F := Ideal) x0 x1 x2 x3 x4 x5).1 i = 1#1) : (i 1).val < 1536 :=
  col_lt _ (ValueIdx.idx2_lt1 i) h

/-! ## The claim -/

/-- What both programs compute. -/
def w0 (a : Args) : S4096x3072.Idx → EReal := fun i => ((a.res0 (i 0) (i 1) : ℝ) : EReal)
def w1 (a : Args) : S4096x1536.Idx → EReal := fun i => ((a.res1 (i 0) (i 1) : ℝ) : EReal)
def w2 (a : Args) : S4096x3072.Idx → EReal := fun i => ((a.res2 (i 0) (i 1) : ℝ) : EReal)
def w3 (a : Args) : S4096x1536.Idx → EReal := fun i => ((a.res3 (i 0) (i 1) : ℝ) : EReal)

section
variable (m' : (ℓ : Loc Cert.ReferenceIdeal.nD Cert.ReferenceIdeal.τ Cert.ReferenceIdeal.sig) → Buf (Elt Ideal) ℓ) (c : Dev Cert.ReferenceIdeal.nD) (a : Args)
/-- The reference's arguments hold the reals `a`. -/
structure RHolds : Prop where
  h0 : m' ((c.tc : Thread Cert.ReferenceIdeal.nD Cert.ReferenceIdeal.τ).loc Cert.ReferenceIdeal.main_arg0) = R4 .f32 a.qn
  h1 : m' ((c.tc : Thread Cert.ReferenceIdeal.nD Cert.ReferenceIdeal.τ).loc Cert.ReferenceIdeal.main_arg1) = R4 .f32 a.qr
  h2 : m' ((c.tc : Thread Cert.ReferenceIdeal.nD Cert.ReferenceIdeal.τ).loc Cert.ReferenceIdeal.main_arg2) = R4 .f32 a.kn
  h3 : m' ((c.tc : Thread Cert.ReferenceIdeal.nD Cert.ReferenceIdeal.τ).loc Cert.ReferenceIdeal.main_arg3) = R3 .f32 a.kr
  h4 : m' ((c.tc : Thread Cert.ReferenceIdeal.nD Cert.ReferenceIdeal.τ).loc Cert.ReferenceIdeal.main_arg4) = R4 .f32 a.v
  h5 : m' ((c.tc : Thread Cert.ReferenceIdeal.nD Cert.ReferenceIdeal.τ).loc Cert.ReferenceIdeal.main_arg5) = R2 .f32 a.dy
variable (H : RHolds m' c a)
include H
theorem ref_0 : Cert.ReferenceIdeal.Value.res_main_v79 m' c = w0 a := by
  rw [Cert.ReferenceIdeal.Read.val_main_v79_eq, H.h0, H.h1, H.h2, H.h3, H.h4, H.h5]
  exact funext (Ref.s_v79 a)
theorem ref_1 : Cert.ReferenceIdeal.Value.res_main_v83 m' c = w1 a := by
  rw [Cert.ReferenceIdeal.Read.val_main_v83_eq, H.h0, H.h1, H.h2, H.h3, H.h4, H.h5]
  exact funext (Ref.s_v83 a)
theorem ref_2 : Cert.ReferenceIdeal.Value.res_main_v86 m' c = w2 a := by
  rw [Cert.ReferenceIdeal.Read.val_main_v86_eq, H.h0, H.h1, H.h2, H.h3, H.h4, H.h5]
  exact funext (Ref.s_v86 a)
theorem ref_3 : Cert.ReferenceIdeal.Value.res_main_v90 m' c = w3 a := by
  rw [Cert.ReferenceIdeal.Read.val_main_v90_eq, H.h0, H.h1, H.h2, H.h3, H.h4, H.h5]
  exact funext (Ref.s_v90 a)
end

/-- The kernel's run: the four results where it writes them, and the arguments. -/
theorem run_values (m : (ℓ : Loc nD τ sig) → Buf (Elt Ideal) ℓ) (ρ : Dev nD → PrngReg) (hp : Cert.Pre_KernelIdeal_finite m) :
    θ_run defs (onTc (τ := τ) (main (F := Ideal))) ⟨m, fun _ => 0, ρ⟩ (fun r => ∀ c : Dev nD,
      (∀ i : S4096x3072.Idx, (i 1).val < 1536 → r.2.mem ((c.tc : Thread nD τ).loc main_v57_0) i = w0 (args m c) i)
      ∧ (∀ i : S4096x1536.Idx, r.2.mem ((c.tc : Thread nD τ).loc main_v57_1) i = w1 (args m c) i)
      ∧ (∀ i : S4096x3072.Idx, r.2.mem ((c.tc : Thread nD τ).loc main_v57_2) i = w2 (args m c) i)
      ∧ (∀ i : S4096x1536.Idx, r.2.mem ((c.tc : Thread nD τ).loc main_v57_3) i = w3 (args m c) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨fun i hi => (congrFun ((h.1 c).1 8) i).trans (fin_8 m c (args m c) (holds m hp c) i hi),
      fun i => (congrFun ((h.1 c).1 9) i).trans (fin_9 m c (args m c) (holds m hp c) i),
      fun i => (congrFun ((h.1 c).1 10) i).trans (fin_10 m c (args m c) (holds m hp c) i),
      fun i => (congrFun ((h.1 c).1 11) i).trans (fin_11 m c (args m c) (holds m hp c) i),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 6).trans (((dats m 0 c).arrAt_in 6 rfl _).trans ((A_eq m c 6).trans (V_main_arg5 m c)))⟩) (run_main m ρ)

theorem algebraic : Cert.algebraic_KernelIdeal_ReferenceIdeal_on_written_pre_finite := by
  intro m g m' g' hp hag
  refine ⟨fun c => w0 (args m c), fun c => w1 (args m c), fun c => w2 (args m c), fun c => w3 (args m c), ?_, ?_⟩
  · refine (θ_run defs _ _).mono (fun r h c => ?_) (run_values m g hp)
    obtain ⟨k0, k1, k2, k3, k4⟩ := h c
    exact ⟨fun i hi => k0 i (mask_col _ _ _ _ _ _ i hi), fun i _ => k1 i, fun i _ => k2 i, fun i _ => k3 i, k4⟩
  · refine (θ_run Cert.ReferenceIdeal.defs _ _).mono (fun r h c => ?_) (Cert.ReferenceIdeal.Value.run (F := Ideal) m' g')
    have H := holds m hp c
    obtain ⟨e0, e1, e2, e3, e4, e5⟩ := hag c
    have R : RHolds m' c (args m c) := ⟨e0.trans H.h0, e1.trans H.h1, e2.trans H.h2, e3.trans H.h3, e4.trans H.h4, e5.trans H.h5⟩
    obtain ⟨k0, k1, k2, k3, k4⟩ := h c
    exact ⟨fun i _ => congrFun (k0.trans (ref_0 m' c _ R)) i, fun i _ => congrFun (k1.trans (ref_1 m' c _ R)) i,
      fun i _ => congrFun (k2.trans (ref_2 m' c _ R)) i, fun i _ => congrFun (k3.trans (ref_3 m' c _ R)) i, k4⟩

end Cert.KernelIdeal.Hand
-- ==== Proof.Norm.Row.lean ====
/-
  The gradient of a root-mean-square norm, row by row, and the vector operations it is made of, each
  read at an index.
-/
module

public import proofs.«01_k».proof.Proof.KI.Real

@[expose] public section
set_option maxRecDepth 100000
noncomputable section
namespace Cert.Norm
open Idealize.ShloMosaic Idealize.ShloMosaic.TcCoe

/-! ## One row -/

/-- A row of a matrix. -/
def row {n : ℕ} (f : FVec Ideal ⟨2, ![n, 1024]⟩ .f32) (r : Fin n) (x : Fin 1024) : EReal := f (ValueIdx.ix2 r x)

/-- The mean of the row's squares, plus the small constant. -/
def mean (X : Fin 1024 → EReal) : EReal := Ideal.div (∑ y, X y * X y) (Ideal.ofBits .f32 0x44800000#32) + Ideal.ofBits .f32 0x358637BD#32
/-- One over its square root. -/
def inv (X : Fin 1024 → EReal) : EReal := Ideal.rsqrt (mean X)
/-- The row's share of the weight's gradient, at lane `x`. -/
def share (X C : Fin 1024 → EReal) (x : Fin 1024) : EReal := X x * inv X * C x
/-- What the scaling's gradient adds to the row, per unit of the row, halved. -/
def pull (X C G : Fin 1024 → EReal) : EReal :=
  Ideal.div ((∑ y, X y * (C y * G y)) * (Ideal.ofBits .f32 0xBF000000#32 * Ideal.div (inv X) (mean X))) (Ideal.ofBits .f32 0x44800000#32)
/-- The row's gradient plus the incoming one. -/
def grad (X C G A : Fin 1024 → EReal) (x : Fin 1024) : EReal :=
  C x * G x * inv X + X x * pull X C G + pull X C G * X x + A x

/-! ## The operations, at an index -/

section
variable {a b k n m : ℕ} {φ φ₁ φ₂ : FTy}

theorem mm_at (D : DotDims ⟨2, ![a, k]⟩ ⟨2, ![b, k]⟩ ⟨2, ![a, b]⟩) (h1 : D.lhsContracting = [1]) (h2 : D.rhsContracting = [1])
    (h3 : D.lhsNonContracting = [0]) (h4 : D.rhsNonContracting = [0]) (h5 : D.lhsBatch = []) (h6 : D.rhsBatch = [])
    (f : FVec Ideal ⟨2, ![a, k]⟩ φ₁) (g : FVec Ideal ⟨2, ![b, k]⟩ φ₂) (i : (⟨2, ![a, b]⟩ : Shape).Idx) :
    matmul D none f g (constant ⟨2, ![a, b]⟩ .f32 0x00000000#32) i = ∑ x : Fin k, f (ValueIdx.ix2 (i 0) x) * g (ValueIdx.ix2 (i 1) x) := by
  obtain ⟨_, _, _, _, _, _, wf⟩ := D
  dsimp only at h1 h2 h3 h4 h5 h6
  subst h1 h2 h3 h4 h5 h6
  rw [show matmul _ none f g (constant ⟨2, ![a, b]⟩ .f32 0x00000000#32) i = _ from Ideal.matmul_constant_zero_apply _ none f g i,
    ← Equiv.sum_comp (ValueIdx.contrEquiv1 _ k rfl rfl).symm]
  refine Finset.sum_congr rfl fun x _ => ?_
  have hk := ValueIdx.contrEquiv1_symm_val (⟨[1], [1], [0], [0], [], [], wf⟩ : DotDims ⟨2, ![a, k]⟩ ⟨2, ![b, k]⟩ ⟨2, ![a, b]⟩) k rfl rfl x
  congr 2
  · funext y; apply Fin.ext
    match y with
    | ⟨0, _⟩ => rfl
    | ⟨1, _⟩ => exact hk
  · funext y; apply Fin.ext
    match y with
    | ⟨0, _⟩ => rfl
    | ⟨1, _⟩ => exact hk

theorem lanes_at (f : FVec Ideal ⟨2, ![n, m]⟩ .f32) (h : (⟨2, ![n, m]⟩ : Shape).Reduces [1] ⟨1, ![n]⟩) (hφ : FKind.Formats FTy.f32)
    (hacc : 0x00000000#32 = FKind.add.neutral .f32 hφ) (hc : (⟨1, ![n]⟩ : Shape).ShapeCasts ⟨2, ![n, 1]⟩) (i : (⟨2, ![n, 1]⟩ : Shape).Idx) :
    shapeCast ⟨2, ![n, 1]⟩ (multiReduction .add [1] ⟨1, ![n]⟩ f 0x00000000#32 h hφ hacc) hc i = ∑ x : Fin m, f (ValueIdx.ix2 (i 0) x) := by
  rw [shapeCast_apply _ hc i (ValueIdx.ix1 (i 0)) (by
    rw [Shape.rowMajor_val_two, Shape.rowMajor_val_one]
    have := ValueIdx.idx2_lt1 i
    show (i 0).val = (i 0).val * 1 + (i 1).val
    omega)]
  refine (Ideal.multiReduction_add_single f _ h _ _ (ValueIdx.ix1 (i 0))).trans ?_
  refine Finset.sum_congr rfl fun x _ => congrArg f ?_
  exact funext fun y => Fin.ext (by
    match y with
    | ⟨0, _⟩ => rfl
    | ⟨1, _⟩ => rfl)

theorem rows_at (f : FVec Ideal ⟨2, ![n, m]⟩ .f32) (h : (⟨2, ![n, m]⟩ : Shape).Reduces [0] ⟨1, ![m]⟩) (hφ : FKind.Formats FTy.f32)
    (hacc : 0x00000000#32 = FKind.add.neutral .f32 hφ) (hc : (⟨1, ![m]⟩ : Shape).ShapeCasts ⟨2, ![1, m]⟩) (i : (⟨2, ![1, m]⟩ : Shape).Idx) :
    shapeCast ⟨2, ![1, m]⟩ (multiReduction .add [0] ⟨1, ![m]⟩ f 0x00000000#32 h hφ hacc) hc i = ∑ r : Fin n, f (ValueIdx.ix2 r (i 1)) := by
  rw [shapeCast_apply _ hc i (ValueIdx.ix1 (i 1)) (by
    rw [Shape.rowMajor_val_two, Shape.rowMajor_val_one]
    have := ValueIdx.idx2_lt0 i
    have h0 : (i 0).val = 0 := by omega
    show (i 1).val = (i 0).val * m + (i 1).val
    rw [h0]; omega)]
  refine (Ideal.multiReduction_add_single f _ h _ _ (ValueIdx.ix1 (i 1))).trans ?_
  refine Finset.sum_congr rfl fun x _ => congrArg f ?_
  exact funext fun y => Fin.ext (by
    match y with
    | ⟨0, _⟩ => rfl
    | ⟨1, _⟩ => rfl)

theorem wide_at (f : FVec Ideal ⟨2, ![n, 1]⟩ φ) (h : (⟨2, ![n, 1]⟩ : Shape).Broadcasts ⟨2, ![n, m]⟩) (i : (⟨2, ![n, m]⟩ : Shape).Idx) :
    broadcastTo ⟨2, ![n, m]⟩ f h i = f (ValueIdx.ix2 (i 0) 0) :=
  broadcastTo_apply f h i (ValueIdx.ix2 (i 0) 0) (fun x => match x with
    | ⟨0, _⟩ => by
      show (i 0).val = if (n : Nat) = 1 then 0 else (i 0).val
      have := ValueIdx.idx2_lt0 i
      split_ifs <;> omega
    | ⟨1, _⟩ => by show 0 = if (1 : Nat) = 1 then 0 else _; rw [if_pos rfl])

theorem tall_at (f : FVec Ideal ⟨2, ![1, m]⟩ φ) (h : (⟨2, ![1, m]⟩ : Shape).Broadcasts ⟨2, ![n, m]⟩) (i : (⟨2, ![n, m]⟩ : Shape).Idx) :
    broadcastTo ⟨2, ![n, m]⟩ f h i = f (ValueIdx.ix2 0 (i 1)) :=
  broadcastTo_apply f h i (ValueIdx.ix2 0 (i 1)) (fun x => match x with
    | ⟨0, _⟩ => by show 0 = if (1 : Nat) = 1 then 0 else _; rw [if_pos rfl]
    | ⟨1, _⟩ => by
      show (i 1).val = if (m : Nat) = 1 then 0 else (i 1).val
      have := ValueIdx.idx2_lt1 i
      split_ifs <;> omega)

/-- A matrix at the index with these two coordinates. -/
theorem at_ix2 {α : Type} (f : (⟨2, ![n, m]⟩ : Shape).Idx → α) (i : (⟨2, ![n, m]⟩ : Shape).Idx) (r x : ℕ) (hr : r < n) (hx : x < m)
    (e0 : (i 0 : ℕ) = r) (e1 : (i 1 : ℕ) = x) : f i = f (ValueIdx.ix2 ⟨r, hr⟩ ⟨x, hx⟩) :=
  congrArg f (funext fun y => Fin.ext (by
    match y with
    | ⟨0, _⟩ => exact e0
    | ⟨1, _⟩ => exact e1))
end

/-! ## Sums over natural numbers -/

/-- The entries' product at column `k`, nothing past the last column. -/
def term {n m K : ℕ} (P : FVec Ideal ⟨2, ![n, K]⟩ .f32) (W : FVec Ideal ⟨2, ![m, K]⟩ .f32) (r : Fin n) (x : Fin m) (k : ℕ) : EReal :=
  if h : k < K then P (ValueIdx.ix2 r ⟨k, h⟩) * W (ValueIdx.ix2 x ⟨k, h⟩) else 0
/-- The product of row `r` with row `x`, over the first `k` columns. -/
def upTo {n m K : ℕ} (P : FVec Ideal ⟨2, ![n, K]⟩ .f32) (W : FVec Ideal ⟨2, ![m, K]⟩ .f32) (k : ℕ) (r : Fin n) (x : Fin m) : EReal :=
  ∑ j ∈ Finset.range k, term P W r x j
/-- The whole product of row `r` with row `x`. -/
def prod {n m K : ℕ} (P : FVec Ideal ⟨2, ![n, K]⟩ .f32) (W : FVec Ideal ⟨2, ![m, K]⟩ .f32) (r : Fin n) (x : Fin m) : EReal :=
  ∑ k : Fin K, P (ValueIdx.ix2 r k) * W (ValueIdx.ix2 x k)

section
variable {n m K : ℕ} (P : FVec Ideal ⟨2, ![n, K]⟩ .f32) (W : FVec Ideal ⟨2, ![m, K]⟩ .f32) (r : Fin n) (x : Fin m)
theorem upTo_all : upTo P W K r x = prod P W r x := by
  unfold upTo prod
  rw [Finset.sum_range]
  refine Finset.sum_congr rfl fun k _ => ?_
  unfold term
  rw [dif_pos k.isLt]
theorem upTo_zero : upTo P W 0 r x = 0 := Finset.sum_range_zero _
theorem upTo_add (k b : ℕ) (h : k + b ≤ K) :
    upTo P W (k + b) r x = upTo P W k r x + ∑ j : Fin b, P (ValueIdx.ix2 r ⟨k + j.val, by omega⟩) * W (ValueIdx.ix2 x ⟨k + j.val, by omega⟩) := by
  unfold upTo
  rw [Finset.sum_range_add, Finset.sum_range (n := b)]
  refine congrArg _ (Finset.sum_congr rfl fun j _ => ?_)
  unfold term
  rw [dif_pos (by omega)]
end

/-- The rows' shares summed over the first `k` rows. -/
def shares {n : ℕ} (H C : Fin n → Fin 1024 → EReal) (k : ℕ) (x : Fin 1024) : EReal :=
  ∑ j ∈ Finset.range k, if h : j < n then share (H ⟨j, h⟩) (C ⟨j, h⟩) x else 0
section
variable {n : ℕ} (H C : Fin n → Fin 1024 → EReal) (x : Fin 1024)
theorem shares_all : shares H C n x = ∑ r : Fin n, share (H r) (C r) x := by
  unfold shares
  rw [Finset.sum_range]
  exact Finset.sum_congr rfl fun k _ => dif_pos k.isLt
theorem shares_zero : shares H C 0 x = 0 := Finset.sum_range_zero _
theorem shares_add (k b : ℕ) (h : k + b ≤ n) :
    shares H C (k + b) x = shares H C k x + ∑ j : Fin b, share (H ⟨k + j.val, by omega⟩) (C ⟨k + j.val, by omega⟩) x := by
  unfold shares
  rw [Finset.sum_range_add, Finset.sum_range (n := b)]
  exact congrArg _ (Finset.sum_congr rfl fun j _ => dif_pos (by omega))
end

end Cert.Norm
-- ==== Proof.Gate.Point.lean ====
/-
  The gate's gradient at one element: the kernel's formulas and the reference's.
-/
module

public import proofs.«01_k».proof.Proof.Norm.Row
public import proofs.«01_k».proof.Proof.Gen.Kernel2Ideal.Frame

@[expose] public section
set_option maxRecDepth 100000
noncomputable section
namespace Cert.Kernel2Ideal.Hand
open Cert.Kernel2Ideal Cert.Kernel2Ideal.Gen Cert.Norm
open Idealize.ShloMosaic Idealize.ShloMosaic.TcCoe

/-- One, as the programs write it. -/
def one : EReal := Ideal.ofBits .f32 0x3F800000#32
theorem one_eq : one = 1 := by simp [one, Ideal.ofBits, Ideal.ieee]; rw [← EReal.coe_mul]; norm_num

/-- The logistic function. -/
def logi (z : EReal) : EReal := Ideal.div one (one + Ideal.exp (-z))
/-- The gradient of the gated values, from that of the product `D` and the gate `z`. -/
def gy (D z : EReal) : EReal := D * (z * logi z)
/-- The gradient of the gate, from that of the product `D`, the gated value `y` and the gate `z`. -/
def gz (D y z : EReal) : EReal := D * y * (logi z * (one + z * (one - logi z)))

theorem logi_bot : logi ⊥ = 0 := by
  unfold logi
  rw [one_eq, EReal.neg_bot]
  show Ideal.div 1 (1 + ⊤) = 0
  rw [EReal.add_top_of_ne_bot (by decide)]
  simp [Ideal.div]
theorem logi_top : logi ⊤ = 1 := by
  unfold logi
  rw [one_eq, EReal.neg_top]
  show Ideal.div 1 (1 + 0) = 1
  rw [add_zero]
  simp [Ideal.div]
theorem logi_coe (z : ℝ) : ∃ s : ℝ, logi z = s := by
  refine ⟨1 * (1 + Real.exp (-z))⁻¹, ?_⟩
  unfold logi
  rw [one_eq]
  show Ideal.div 1 (1 + ((Real.exp (-z) : ℝ) : EReal)) = _
  have h : (1 : EReal) + ((Real.exp (-z) : ℝ) : EReal) = ((1 + Real.exp (-z) : ℝ) : EReal) := by rw [EReal.coe_add, EReal.coe_one]
  have hp : (1 + Real.exp (-z) : ℝ) ≠ 0 := by positivity
  rw [h, Ideal.div, if_neg (by exact_mod_cast hp), EReal.coe_mul, EReal.coe_inv, EReal.coe_one]

/-- The reference's two summands make the kernel's product, where the product's gradient and the gated value are real. -/
theorem gz_eq (d y : ℝ) (z : EReal) :
    (y : EReal) * d * logi z + z * ((y : EReal) * d) * (logi z * (one - logi z)) = gz d y z := by
  unfold gz
  rw [one_eq]
  induction z with
  | bot => rw [logi_bot]; simp
  | top =>
    rw [logi_top]
    have h : (1 : EReal) - 1 = 0 := by rw [← EReal.coe_one, ← EReal.coe_sub]; simp
    rw [h]; simp [mul_comm]
  | coe z =>
    obtain ⟨s, hs⟩ := logi_coe z
    rw [hs, ← EReal.coe_one]
    norm_cast
    ring

/-! ## The stored values, at an index -/

section
variable (x0 : Vec Ideal S1024x1024 .f32) (x1 : Vec Ideal S512x1024 .bf16) (y z : Vec Ideal S1024x512 .f32) (r : Fin 1024) (x : Fin 512)

theorem pay1_at : k0_pay1 x0 x1 (ValueIdx.ix2 r x) = ∑ k : Fin 1024, x0 (ValueIdx.ix2 r k) * x1 (ValueIdx.ix2 x k) := by
  unfold k0_pay1
  rw [shapeCast_self]
  exact mm_at dot_S1024x1024_S512x1024_S1024x512_1_1_0_0_n_n rfl rfl rfl rfl rfl rfl _ x1 (ValueIdx.ix2 r x)
theorem pay2_at (i : S1024x512.Idx) : k0_pay2 (F := Ideal) z i = logi (z i) := by
  unfold k0_pay2
  show Ideal.div one (one + Ideal.exp (Ideal.ofBits .f32 0x00000000#32 - (z i : EReal))) = _
  rw [Ideal.ofBits_zero_f32, sub_eq_add_neg, zero_add]
  rfl
theorem pay3_at : k0_pay3 x0 x1 z (ValueIdx.ix2 r x)
    = gy (∑ k : Fin 1024, x0 (ValueIdx.ix2 r k) * x1 (ValueIdx.ix2 x k)) (z (ValueIdx.ix2 r x)) := by
  unfold k0_pay3
  show (k0_pay1 x0 x1 (ValueIdx.ix2 r x) : EReal) * (z (ValueIdx.ix2 r x) * k0_pay2 (F := Ideal) z (ValueIdx.ix2 r x)) = _
  rw [pay1_at, pay2_at]
  rfl
theorem pay4_at : k0_pay4 x0 x1 z y (ValueIdx.ix2 r x)
    = gz (∑ k : Fin 1024, x0 (ValueIdx.ix2 r k) * x1 (ValueIdx.ix2 x k)) (y (ValueIdx.ix2 r x)) (z (ValueIdx.ix2 r x)) := by
  unfold k0_pay4
  show (k0_pay1 x0 x1 (ValueIdx.ix2 r x) : EReal) * y (ValueIdx.ix2 r x) * (k0_pay2 (F := Ideal) z (ValueIdx.ix2 r x)
    * (one + z (ValueIdx.ix2 r x) * (one - k0_pay2 (F := Ideal) z (ValueIdx.ix2 r x)))) = _
  rw [pay1_at, pay2_at]
  rfl

theorem hz : (![0, 0] : Fin 2 → Nat) = fun _ => 0 := funext fun a => by fin_cases a <;> rfl
theorem out4_at : out0_4 x0 x1 y z (ValueIdx.ix2 r x)
    = gy (∑ k : Fin 1024, x0 (ValueIdx.ix2 r k) * x1 (ValueIdx.ix2 x k)) (z (ValueIdx.ix2 r x)) := by
  unfold out0_4
  rw [View.canon_unit_zero (S := S1024x512) hz, View.ld_unit_zero (S := S1024x1024) hz, View.ld_unit_zero (S := S512x1024) hz, View.ld_unit_zero (S := S1024x512) hz]
  exact pay3_at x0 x1 z r x
theorem out5_at : out0_5 x0 x1 y z (ValueIdx.ix2 r x)
    = gz (∑ k : Fin 1024, x0 (ValueIdx.ix2 r k) * x1 (ValueIdx.ix2 x k)) (y (ValueIdx.ix2 r x)) (z (ValueIdx.ix2 r x)) := by
  unfold out0_5
  rw [View.canon_unit_zero (S := S1024x512) hz, View.ld_unit_zero (S := S1024x1024) hz, View.ld_unit_zero (S := S512x1024) hz, View.ld_unit_zero (S := S1024x512) hz,
    View.ld_unit_zero (S := S1024x512) hz]
  exact pay4_at x0 x1 y z r x
end

end Cert.Kernel2Ideal.Hand
-- ==== Proof.Gate.Fold.lean ====
/-
  What the gate's kernel leaves in its two results, element by element.
-/
module

public import proofs.«01_k».proof.Proof.Gate.Point
public import proofs.«01_k».proof.Proof.Gen.Kernel2Ideal.Value
public import Idealize.ShloMosaic.Lib.Claim
public import Idealize.ShloMosaic.Lib.StableHlo.RunRead

@[expose] public section
set_option maxRecDepth 100000
noncomputable section
namespace Cert.Kernel2Ideal.Hand
open Cert.Kernel2Ideal Cert.Kernel2Ideal.Gen Cert.Kernel2Ideal.Value Cert.Norm
open Idealize.ShloMosaic Idealize.ShloMosaic.TcCoe Idealize.ShloMosaic.StableHlo

variable (m : (ℓ : Loc nD τ sig) → Buf (Elt Ideal) ℓ) (c : Dev nD)

/-- The cotangent. -/
def aD : FVec Ideal S4096x1024 .f32 := m ((c : Thread nD τ).loc main_arg0)
/-- The weight. -/
def aW : FVec Ideal S2048x1024 .f32 := m ((c : Thread nD τ).loc main_arg1)
/-- The gated values. -/
def aY : FVec Ideal S4096x2048 .f32 := m ((c : Thread nD τ).loc main_arg2)
/-- The projection, whose last columns are the gate. -/
def aZ : FVec Ideal S4096x5632 .f32 := m ((c : Thread nD τ).loc main_arg3)

set_option maxHeartbeats 4000000 in
theorem V_v0 : V m c main_v0 = aW m c := by
  entry_read
  rfl

theorem t_lt (t : Fin cfg0.N) : t.val < 16 := lt_of_lt_of_eq t.isLt N_0

theorem ix_0 : ∀ t : Fin cfg0.N, (cfg0.win 0).index t 0 = t.val / 4 ∧ (cfg0.win 0).index t 1 = 0 :=
  (by decide +kernel : ∀ t : Fin grid0.N, win0_0.index t 0 = t.val / 4 ∧ win0_0.index t 1 = 0)
theorem ix_1 : ∀ t : Fin cfg0.N, (cfg0.win 1).index t 0 = t.val % 4 ∧ (cfg0.win 1).index t 1 = 0 :=
  (by decide +kernel : ∀ t : Fin grid0.N, win0_1.index t 0 = t.val % 4 ∧ win0_1.index t 1 = 0)
theorem ix_2 : ∀ t : Fin cfg0.N, (cfg0.win 2).index t 0 = t.val / 4 ∧ (cfg0.win 2).index t 1 = t.val % 4 :=
  (by decide +kernel : ∀ t : Fin grid0.N, win0_2.index t 0 = t.val / 4 ∧ win0_2.index t 1 = t.val % 4)
theorem ix_3 : ∀ t : Fin cfg0.N, (cfg0.win 3).index t 0 = t.val / 4 ∧ (cfg0.win 3).index t 1 = t.val % 4 + 7 :=
  (by decide +kernel : ∀ t : Fin grid0.N, win0_3.index t 0 = t.val / 4 ∧ win0_3.index t 1 = t.val % 4 + 7)
theorem ix_4 : ∀ t : Fin cfg0.N, (cfg0.win 4).index t 0 = t.val / 4 ∧ (cfg0.win 4).index t 1 = t.val % 4 :=
  (by decide +kernel : ∀ t : Fin grid0.N, win0_4.index t 0 = t.val / 4 ∧ win0_4.index t 1 = t.val % 4)
theorem ix_5 : ∀ t : Fin cfg0.N, (cfg0.win 5).index t 0 = t.val / 4 ∧ (cfg0.win 5).index t 1 = t.val % 4 + 7 :=
  (by decide +kernel : ∀ t : Fin grid0.N, win0_5.index t 0 = t.val / 4 ∧ win0_5.index t 1 = t.val % 4 + 7)
theorem fl_4 : ∀ t : Fin cfg0.N, (cfg0.win 4).flush t = true :=
  (by decide +kernel : ∀ t : Fin grid0.N, win0_4.flush t = true)
theorem fl_5 : ∀ t : Fin cfg0.N, (cfg0.win 5).flush t = true :=
  (by decide +kernel : ∀ t : Fin grid0.N, win0_5.flush t = true)

def bD (t : Fin cfg0.N) : Vec Ideal S1024x1024 .f32 := iblk m c 0 t
def bW (t : Fin cfg0.N) : Vec Ideal S512x1024 .bf16 := iblk m c 1 t
def bY (t : Fin cfg0.N) : Vec Ideal S1024x512 .f32 := iblk m c 2 t
def bZ (t : Fin cfg0.N) : Vec Ideal S1024x512 .f32 := iblk m c 3 t

theorem bD_at (t : Fin cfg0.N) (r : Fin 1024) (x : Fin 1024) : bD m c t (ValueIdx.ix2 r x)
    = aD m c (ValueIdx.ix2 ⟨t.val / 4 * 1024 + r.val, by have := t_lt t; omega⟩ x) :=
  (congrFun (V_main_arg0 m c) (((cfg0.win 0).blk t).view.emb (ValueIdx.ix2 r x))).trans
    (at_ix2 (aD m c) (((cfg0.win 0).blk t).view.emb (ValueIdx.ix2 r x)) _ _ _ x.isLt
      ((Pipeline.Window.rect_emb_val (cfg0.win 0) t (ValueIdx.ix2 r x) 0).trans (congrArg (· * 1024 + r.val) (ix_0 t).1))
      ((Pipeline.Window.rect_emb_val (cfg0.win 0) t (ValueIdx.ix2 r x) 1).trans ((congrArg (· * 1024 + x.val) (ix_0 t).2).trans (by omega))))
theorem bW_at (t : Fin cfg0.N) (r : Fin 512) (x : Fin 1024) : bW m c t (ValueIdx.ix2 r x)
    = aW m c (ValueIdx.ix2 ⟨t.val % 4 * 512 + r.val, by omega⟩ x) :=
  (congrFun (V_v0 m c) (((cfg0.win 1).blk t).view.emb (ValueIdx.ix2 r x))).trans
    (at_ix2 (aW m c) (((cfg0.win 1).blk t).view.emb (ValueIdx.ix2 r x)) _ _ _ x.isLt
      ((Pipeline.Window.rect_emb_val (cfg0.win 1) t (ValueIdx.ix2 r x) 0).trans (congrArg (· * 512 + r.val) (ix_1 t).1))
      ((Pipeline.Window.rect_emb_val (cfg0.win 1) t (ValueIdx.ix2 r x) 1).trans ((congrArg (· * 1024 + x.val) (ix_1 t).2).trans (by omega))))
theorem bY_at (t : Fin cfg0.N) (r : Fin 1024) (x : Fin 512) : bY m c t (ValueIdx.ix2 r x)
    = aY m c (ValueIdx.ix2 ⟨t.val / 4 * 1024 + r.val, by have := t_lt t; omega⟩ ⟨t.val % 4 * 512 + x.val, by omega⟩) :=
  (congrFun (V_main_arg2 m c) (((cfg0.win 2).blk t).view.emb (ValueIdx.ix2 r x))).trans
    (at_ix2 (aY m c) (((cfg0.win 2).blk t).view.emb (ValueIdx.ix2 r x)) _ _ _ _
      ((Pipeline.Window.rect_emb_val (cfg0.win 2) t (ValueIdx.ix2 r x) 0).trans (congrArg (· * 1024 + r.val) (ix_2 t).1))
      ((Pipeline.Window.rect_emb_val (cfg0.win 2) t (ValueIdx.ix2 r x) 1).trans (congrArg (· * 512 + x.val) (ix_2 t).2)))
theorem bZ_at (t : Fin cfg0.N) (r : Fin 1024) (x : Fin 512) : bZ m c t (ValueIdx.ix2 r x)
    = aZ m c (ValueIdx.ix2 ⟨t.val / 4 * 1024 + r.val, by have := t_lt t; omega⟩ ⟨(t.val % 4 + 7) * 512 + x.val, by omega⟩) :=
  (congrFun (V_main_arg3 m c) (((cfg0.win 3).blk t).view.emb (ValueIdx.ix2 r x))).trans
    (at_ix2 (aZ m c) (((cfg0.win 3).blk t).view.emb (ValueIdx.ix2 r x)) _ _ _ _
      ((Pipeline.Window.rect_emb_val (cfg0.win 3) t (ValueIdx.ix2 r x) 0).trans (congrArg (· * 1024 + r.val) (ix_3 t).1))
      ((Pipeline.Window.rect_emb_val (cfg0.win 3) t (ValueIdx.ix2 r x) 1).trans (congrArg (· * 512 + x.val) (ix_3 t).2)))

/-- The product's gradient. -/
def pD (D : FVec Ideal S4096x1024 .f32) (W : FVec Ideal S2048x1024 .f32) (r : Fin 4096) (x : Fin 2048) : EReal :=
  ∑ k : Fin 1024, D (ValueIdx.ix2 r k) * W (ValueIdx.ix2 x k)

theorem sum_at (t : Fin cfg0.N) (r : Fin 1024) (x : Fin 512) :
    ∑ k : Fin 1024, bD m c t (ValueIdx.ix2 r k) * bW m c t (ValueIdx.ix2 x k)
      = pD (aD m c) (aW m c) ⟨t.val / 4 * 1024 + r.val, by have := t_lt t; omega⟩ ⟨t.val % 4 * 512 + x.val, by omega⟩ :=
  Finset.sum_congr rfl fun k _ => congrArg₂ (fun u v : EReal => u * v) (bD_at m c t r k) (bW_at m c t x k)

theorem blk4 (t : Fin cfg0.N) (r : Fin 1024) (x : Fin 512) :
    (dats m 0 c).arrAt 4 cfg0.N (((cfg0.win 4).blk t).view.emb (ValueIdx.ix2 r x))
      = out0_4 (bD m c t) (bW m c t) (bY m c t) (bZ m c t) (ValueIdx.ix2 r x) :=
  congrFun ((blocks4 m c t (fl_4 t)).trans (flushed4 m c t)) (ValueIdx.ix2 r x)
theorem blk5 (t : Fin cfg0.N) (r : Fin 1024) (x : Fin 512) :
    (dats m 0 c).arrAt 5 cfg0.N (((cfg0.win 5).blk t).view.emb (ValueIdx.ix2 r x))
      = out0_5 (bD m c t) (bW m c t) (bY m c t) (bZ m c t) (ValueIdx.ix2 r x) :=
  congrFun ((blocks5 m c t (fl_5 t)).trans (flushed5 m c t)) (ValueIdx.ix2 r x)

/-- The first result. -/
def f4 : FVec Ideal S4096x2048 .f32 := (dats m 0 c).arrAt 4 cfg0.N
/-- The second result. -/
def f5 : FVec Ideal S4096x5632 .bf16 := (dats m 0 c).arrAt 5 cfg0.N

theorem f4_blk (t : Fin cfg0.N) (r : Fin 1024) (x : Fin 512) :
    f4 m c (ValueIdx.ix2 ⟨t.val / 4 * 1024 + r.val, by have := t_lt t; omega⟩ ⟨t.val % 4 * 512 + x.val, by omega⟩)
      = gy (pD (aD m c) (aW m c) ⟨t.val / 4 * 1024 + r.val, by have := t_lt t; omega⟩ ⟨t.val % 4 * 512 + x.val, by omega⟩)
          (aZ m c (ValueIdx.ix2 ⟨t.val / 4 * 1024 + r.val, by have := t_lt t; omega⟩ ⟨(t.val % 4 + 7) * 512 + x.val, by omega⟩)) :=
  ((at_ix2 (f4 m c) (((cfg0.win 4).blk t).view.emb (ValueIdx.ix2 r x)) _ _ _ _
      ((Pipeline.Window.rect_emb_val (cfg0.win 4) t (ValueIdx.ix2 r x) 0).trans (congrArg (· * 1024 + r.val) (ix_4 t).1))
      ((Pipeline.Window.rect_emb_val (cfg0.win 4) t (ValueIdx.ix2 r x) 1).trans (congrArg (· * 512 + x.val) (ix_4 t).2))).symm.trans (blk4 m c t r x)).trans
    ((out4_at (bD m c t) (bW m c t) (bY m c t) (bZ m c t) r x).trans (congrArg₂ gy (sum_at m c t r x) (bZ_at m c t r x)))
theorem f5_blk (t : Fin cfg0.N) (r : Fin 1024) (x : Fin 512) :
    f5 m c (ValueIdx.ix2 ⟨t.val / 4 * 1024 + r.val, by have := t_lt t; omega⟩ ⟨(t.val % 4 + 7) * 512 + x.val, by omega⟩)
      = gz (pD (aD m c) (aW m c) ⟨t.val / 4 * 1024 + r.val, by have := t_lt t; omega⟩ ⟨t.val % 4 * 512 + x.val, by omega⟩)
          (aY m c (ValueIdx.ix2 ⟨t.val / 4 * 1024 + r.val, by have := t_lt t; omega⟩ ⟨t.val % 4 * 512 + x.val, by omega⟩))
          (aZ m c (ValueIdx.ix2 ⟨t.val / 4 * 1024 + r.val, by have := t_lt t; omega⟩ ⟨(t.val % 4 + 7) * 512 + x.val, by omega⟩)) :=
  ((at_ix2 (f5 m c) (((cfg0.win 5).blk t).view.emb (ValueIdx.ix2 r x)) _ _ _ _
      ((Pipeline.Window.rect_emb_val (cfg0.win 5) t (ValueIdx.ix2 r x) 0).trans (congrArg (· * 1024 + r.val) (ix_5 t).1))
      ((Pipeline.Window.rect_emb_val (cfg0.win 5) t (ValueIdx.ix2 r x) 1).trans (congrArg (· * 512 + x.val) (ix_5 t).2))).symm.trans (blk5 m c t r x)).trans
    ((out5_at (bD m c t) (bW m c t) (bY m c t) (bZ m c t) r x).trans
      ((congrArg₂ (fun D y => gz D y _) (sum_at m c t r x) (bY_at m c t r x)).trans (congrArg (gz _ _) (bZ_at m c t r x))))

/-- The first result, element by element. -/
theorem f4_at (r : Fin 4096) (x : Fin 2048) : f4 m c (ValueIdx.ix2 r x)
    = gy (pD (aD m c) (aW m c) r x) (aZ m c (ValueIdx.ix2 r ⟨3584 + x.val, by omega⟩)) := by
  have h := f4_blk m c ⟨r.val / 1024 * 4 + x.val / 512, lt_of_lt_of_eq (by omega) N_0.symm⟩ ⟨r.val % 1024, by omega⟩ ⟨x.val % 512, by omega⟩
  have e1 : (⟨(r.val / 1024 * 4 + x.val / 512) / 4 * 1024 + r.val % 1024, by omega⟩ : Fin 4096) = r := Fin.ext (by show _ / 4 * 1024 + _ = _; omega)
  have e2 : (⟨(r.val / 1024 * 4 + x.val / 512) % 4 * 512 + x.val % 512, by omega⟩ : Fin 2048) = x := Fin.ext (by show _ % 4 * 512 + _ = _; omega)
  have e3 : (⟨((r.val / 1024 * 4 + x.val / 512) % 4 + 7) * 512 + x.val % 512, by omega⟩ : Fin 5632) = ⟨3584 + x.val, by omega⟩ :=
    Fin.ext (by show (_ % 4 + 7) * 512 + _ = 3584 + x.val; omega)
  dsimp only at h
  rw [e1, e2, e3] at h
  exact h
/-- The gate's columns of the second result, element by element. -/
theorem f5_at (r : Fin 4096) (x : Fin 2048) : f5 m c (ValueIdx.ix2 r ⟨3584 + x.val, by omega⟩)
    = gz (pD (aD m c) (aW m c) r x) (aY m c (ValueIdx.ix2 r x)) (aZ m c (ValueIdx.ix2 r ⟨3584 + x.val, by omega⟩)) := by
  have h := f5_blk m c ⟨r.val / 1024 * 4 + x.val / 512, lt_of_lt_of_eq (by omega) N_0.symm⟩ ⟨r.val % 1024, by omega⟩ ⟨x.val % 512, by omega⟩
  have e1 : (⟨(r.val / 1024 * 4 + x.val / 512) / 4 * 1024 + r.val % 1024, by omega⟩ : Fin 4096) = r := Fin.ext (by show _ / 4 * 1024 + _ = _; omega)
  have e2 : (⟨(r.val / 1024 * 4 + x.val / 512) % 4 * 512 + x.val % 512, by omega⟩ : Fin 2048) = x := Fin.ext (by show _ % 4 * 512 + _ = _; omega)
  have e3 : (⟨((r.val / 1024 * 4 + x.val / 512) % 4 + 7) * 512 + x.val % 512, by omega⟩ : Fin 5632) = ⟨3584 + x.val, by omega⟩ :=
    Fin.ext (by show (_ % 4 + 7) * 512 + _ = 3584 + x.val; omega)
  dsimp only at h
  rw [e1, e2, e3] at h
  exact h

end Cert.Kernel2Ideal.Hand
-- ==== Proof.Gate.Ref.lean ====
/-
  The reference's two results, element by element: the same formulas where the arguments are real.
-/
module

public import proofs.«01_k».proof.Proof.Gate.Fold
public import proofs.«01_k».proof.Proof.KI.Real
public import proofs.«01_k».proof.Proof.Gen.Reference2Ideal.Read

@[expose] public section
set_option maxRecDepth 100000
noncomputable section
namespace Cert.Kernel2Ideal.Hand.Ref
open Cert.Norm Cert.Reference2Ideal Cert.Reference2Ideal.Gen Cert.Reference2Ideal.Read
open Idealize.ShloMosaic Idealize.ShloMosaic.TcCoe

variable (D : FVec Ideal S4096x1024 .f32) (W : FVec Ideal S2048x1024 .f32) (Y : FVec Ideal S4096x2048 .f32) (Z : FVec Ideal S4096x5632 .f32)
variable (r : Fin 4096) (x : Fin 2048)

theorem s_v4 : val_main_v4 (F := Ideal) D W (ValueIdx.ix2 r x) = pD D W r x := by
  rw [val_main_v4_apply]
  exact Finset.sum_congr rfl fun k _ => congrArg₂ (fun u v : EReal => u * v)
    (at_ix2 D (lidx_main_v4 (ValueIdx.ix2 r x) k) r.val k.val r.isLt k.isLt rfl rfl) (at_ix2 W (ridx_main_v4 (ValueIdx.ix2 r x) k) x.val k.val x.isLt k.isLt rfl rfl)
theorem s_v0 : val_main_v0 (F := Ideal) Z (ValueIdx.ix2 r x) = Z (ValueIdx.ix2 r ⟨3584 + x.val, by omega⟩) := by
  rw [val_main_v0_apply]
  exact at_ix2 Z (idx_main_v0 (ValueIdx.ix2 r x)) r.val (3584 + x.val) r.isLt _ rfl rfl
theorem s_logi (i : S4096x2048.Idx) : val_main_v1_2 (F := Ideal) Z i = logi (val_main_v0 (F := Ideal) Z i) := rfl
theorem s_v6 : val_main_v6 (F := Ideal) D W Z (ValueIdx.ix2 r x)
    = gy (pD D W r x) (Z (ValueIdx.ix2 r ⟨3584 + x.val, by omega⟩)) := by
  show (val_main_v4 (F := Ideal) D W (ValueIdx.ix2 r x) : EReal)
    * (val_main_v0 (F := Ideal) Z (ValueIdx.ix2 r x) * val_main_v1_2 (F := Ideal) Z (ValueIdx.ix2 r x)) = _
  rw [s_v4, s_logi, s_v0]
  rfl
theorem s_v7 (d y : ℝ) (hd : pD D W r x = d) (hy : Y (ValueIdx.ix2 r x) = (y : EReal)) : val_main_v7 (F := Ideal) D W Y Z (ValueIdx.ix2 r x)
    = gz (pD D W r x) (Y (ValueIdx.ix2 r x)) (Z (ValueIdx.ix2 r ⟨3584 + x.val, by omega⟩)) := by
  show (Y (ValueIdx.ix2 r x) : EReal) * val_main_v4 (F := Ideal) D W (ValueIdx.ix2 r x) * val_main_v1_2 (F := Ideal) Z (ValueIdx.ix2 r x)
    + val_main_v0 (F := Ideal) Z (ValueIdx.ix2 r x) * (Y (ValueIdx.ix2 r x) * val_main_v4 (F := Ideal) D W (ValueIdx.ix2 r x))
      * (val_main_v1_2 (F := Ideal) Z (ValueIdx.ix2 r x) * (one - val_main_v1_2 (F := Ideal) Z (ValueIdx.ix2 r x))) = _
  rw [s_v4, s_logi, s_v0, hd, hy]
  exact gz_eq d y _
theorem s_v9 : val_main_v9 (F := Ideal) D W Y Z (ValueIdx.ix2 r ⟨3584 + x.val, by omega⟩) = val_main_v7 (F := Ideal) D W Y Z (ValueIdx.ix2 r x) := by
  show val_main_v8 (F := Ideal) D W Y Z (ValueIdx.ix2 r ⟨3584 + x.val, by omega⟩) = _
  unfold val_main_v8
  have h : ∀ a : Fin 2, (![0, 3584] : Fin 2 → ℕ) a ≤ ((ValueIdx.ix2 r (⟨3584 + x.val, by omega⟩ : Fin 5632) : S4096x5632.Idx) a).val
      ∧ (((ValueIdx.ix2 r (⟨3584 + x.val, by omega⟩ : Fin 5632) : S4096x5632.Idx) a).val - (![0, 3584] : Fin 2 → ℕ) a) % ((![0, 0] : Fin 2 → ℕ) a + 1) = 0
      ∧ (((ValueIdx.ix2 r (⟨3584 + x.val, by omega⟩ : Fin 5632) : S4096x5632.Idx) a).val - (![0, 3584] : Fin 2 → ℕ) a) / ((![0, 0] : Fin 2 → ℕ) a + 1) < S4096x2048.size a := fun a => by
    match a with
    | ⟨0, _⟩ =>
      show 0 ≤ r.val ∧ (r.val - 0) % 1 = 0 ∧ (r.val - 0) / 1 < 4096
      have := r.isLt
      omega
    | ⟨1, _⟩ =>
      show 3584 ≤ 3584 + x.val ∧ (3584 + x.val - 3584) % 1 = 0 ∧ (3584 + x.val - 3584) / 1 < 2048
      have := x.isLt
      omega
  unfold pad
  refine (dif_pos h).trans ?_
  refine at_ix2 (val_main_v7 (F := Ideal) D W Y Z) _ r.val x.val r.isLt x.isLt ?_ ?_
  · show (r.val - 0) / 1 = r.val
    omega
  · show (3584 + x.val - 3584) / 1 = x.val
    omega

/-- A finite sum of products of reals is real. -/
theorem pD_real (hD : ∀ i, D i = ((EReal.toReal (D i) : ℝ) : EReal)) (hW : ∀ i, W i = ((EReal.toReal (W i) : ℝ) : EReal)) :
    ∃ d : ℝ, pD D W r x = d := by
  refine ⟨∑ k : Fin 1024, EReal.toReal (D (ValueIdx.ix2 r k)) * EReal.toReal (W (ValueIdx.ix2 x k)), ?_⟩
  unfold pD
  rw [Cert.KernelIdeal.Hand.coe_sum]
  exact Finset.sum_congr rfl fun k _ => (congrArg₂ (fun u v : EReal => u * v) (hD _) (hW _)).trans (EReal.coe_mul _ _).symm

end Cert.Kernel2Ideal.Hand.Ref
-- ==== Proof.Gate.Algebraic.lean ====
/-
  The gate's kernel writes the reference's gradients, wherever it writes.
-/
module

public import proofs.«01_k».proof.Proof.Gate.Ref
public import proofs.«01_k».proof.Proof.KI.Algebraic
public import proofs.«01_k».proof.Proof.Gen.Reference2Ideal.Run
public import proofs.«01_k».proof.Defs

@[expose] public section
set_option maxRecDepth 100000
noncomputable section
namespace Cert.Kernel2Ideal.Hand
open Cert.Kernel2Ideal Cert.Kernel2Ideal.Gen Cert.Norm
open Idealize.ShloMosaic Idealize.ShloMosaic.TcCoe

instance preFacts : Cert.Pre_finite_gate.Facts where
  bcast_S_S4096x1024 := by decide
  bcast_S_S2048x1024 := by decide
  bcast_S_S4096x2048 := by decide
instance onFacts : Cert.On_written_gate.Facts where
  bcast_S_S4096x2048 := by decide
  bcast_S_S4096x5632 := by decide

theorem gate_lt (x : Fin 2048) : 3584 + x.val < 5632 := by omega
theorem col_ge (n : ℕ) (hn : n < 5632) (h : BitVec.ofBool ((3584#32).sle (BitVec.ofNat 32 n)) = 1#1) : 3584 ≤ n := by
  have h1 : (3584#32).sle (BitVec.ofNat 32 n) = true := by
    cases hb : (3584#32).sle (BitVec.ofNat 32 n) with
    | true => rfl
    | false => rw [hb] at h; exact absurd h (by decide)
  rw [BitVec.sle, decide_eq_true_eq, BitVec.toInt_eq_toNat_of_lt (x := BitVec.ofNat 32 n) (by rw [BitVec.toNat_ofNat]; omega), BitVec.toNat_ofNat] at h1
  have e : (3584#32 : BitVec 32).toInt = 3584 := by decide
  omega
theorem mask_col (x0 x1 x2 x3) (i : S4096x5632.Idx) (h : (Cert.On_written_gate.fn (F := Ideal) x0 x1 x2 x3).2 i = 1#1) : 3584 ≤ (i 1).val :=
  col_ge _ (ValueIdx.idx2_lt1 i) h

section
variable (m : (ℓ : Loc nD τ sig) → Buf (Elt Ideal) ℓ) (c : Dev nD)

/-- The gradient of the gated values. -/
def w0 : FVec Ideal S4096x2048 .f32 := f4 m c
/-- The gradient of the projection. -/
def w1 : FVec Ideal S4096x5632 .bf16 := f5 m c

theorem w0_eq : w0 m c = Cert.Reference2Ideal.Read.val_main_v6 (F := Ideal) (aD m c) (aW m c) (aZ m c) := by
  funext i
  obtain ⟨r, x, rfl⟩ : ∃ (r : Fin 4096) (x : Fin 2048), i = ValueIdx.ix2 r x := ⟨i 0, i 1, ValueIdx.eq_ix2 i⟩
  exact (f4_at m c r x).trans (Ref.s_v6 (aD m c) (aW m c) (aZ m c) r x).symm

theorem w1_eq (hp : Cert.Pre_Kernel2Ideal_finite_gate m) (i : S4096x5632.Idx) (hi : 3584 ≤ (i 1).val) :
    w1 m c i = Cert.Reference2Ideal.Read.val_main_v9 (F := Ideal) (aD m c) (aW m c) (aY m c) (aZ m c) i := by
  have hD : ∀ i, aD m c i = ((EReal.toReal (aD m c i) : ℝ) : EReal) := Cert.KernelIdeal.Hand.real_of _ preFacts.bcast_S_S4096x1024 (hp c).1
  have hW : ∀ i, aW m c i = ((EReal.toReal (aW m c i) : ℝ) : EReal) := Cert.KernelIdeal.Hand.real_of _ preFacts.bcast_S_S2048x1024 (hp c).2.1
  have hY : ∀ i, aY m c i = ((EReal.toReal (aY m c i) : ℝ) : EReal) := Cert.KernelIdeal.Hand.real_of _ preFacts.bcast_S_S4096x2048 (hp c).2.2
  have hb := ValueIdx.idx2_lt1 i
  obtain ⟨r, x, rfl⟩ : ∃ (r : Fin 4096) (x : Fin 2048), i = ValueIdx.ix2 r ⟨3584 + x.val, gate_lt x⟩ :=
    ⟨i 0, ⟨(i 1).val - 3584, by omega⟩, (ValueIdx.eq_ix2 i).trans (congrArg (ValueIdx.ix2 (i 0)) (Fin.ext (by show (i 1).val = 3584 + ((i 1).val - 3584); omega)))⟩
  obtain ⟨d, hd⟩ := Ref.pD_real (aD m c) (aW m c) r x hD hW
  exact (f5_at m c r x).trans ((Ref.s_v9 (aD m c) (aW m c) (aY m c) (aZ m c) r x).trans
    (Ref.s_v7 (aD m c) (aW m c) (aY m c) (aZ m c) r x d _ hd (hY _))).symm
end

theorem algebraic : Cert.algebraic_Kernel2Ideal_Reference2Ideal_on_written_gate_pre_finite_gate := by
  intro m g m' g' hp hag
  refine ⟨fun c => w0 m c, fun c => w1 m c, ?_, ?_⟩
  · refine (θ_run defs _ _).mono (fun r h c => ?_) (Value.run_blocks (F := Ideal) m g)
    obtain ⟨k0, k1, k2⟩ := h c
    exact ⟨fun i _ => congrFun k0 i, fun i _ => congrFun k1 i, k2⟩
  · refine (θ_run Cert.Reference2Ideal.defs _ _).mono (fun r h c => ?_) (Cert.Reference2Ideal.Value.run (F := Ideal) m' g')
    obtain ⟨e0, e1, e2, e3⟩ := hag c
    obtain ⟨k0, k1, k2⟩ := h c
    refine ⟨fun i _ => ?_, fun i hi => ?_, k2⟩
    · refine (congrFun k0 i).trans ?_
      rw [Cert.Reference2Ideal.Read.val_main_v6_eq, e0, e1, e3]
      exact (congrFun (w0_eq m c) i).symm
    · refine (congrFun k1 i).trans ?_
      rw [Cert.Reference2Ideal.Read.val_main_v9_eq, e0, e1, e2, e3]
      exact (w1_eq m c hp i (mask_col _ _ _ _ i hi)).symm

end Cert.Kernel2Ideal.Hand
-- ==== Proof.N3.Pay.lean ====
/-
  The values the projection-and-norm kernel computes, each read at an index.
-/
module

public import proofs.«01_k».proof.Proof.Norm.Row
public import proofs.«01_k».proof.Proof.Gen.Kernel3Ideal.Value

@[expose] public section
set_option maxRecDepth 100000
noncomputable section
namespace Cert.Kernel3Ideal.Hand
open Cert.Kernel3Ideal Cert.Kernel3Ideal.Gen Cert.Norm
open Idealize.ShloMosaic Idealize.ShloMosaic.TcCoe

theorem pay1_at (p : Vec Ideal S512x1408 .bf16) (w : Vec Ideal S1024x1408 .bf16) (i : S512x1024.Idx) :
    k0_pay1 (F := Ideal) p w i = ∑ k : Fin 1408, p (ValueIdx.ix2 (i 0) k) * w (ValueIdx.ix2 (i 1) k) := by
  unfold k0_pay1
  rw [shapeCast_self, shapeCast_self]
  exact mm_at dot_S512x1408_S1024x1408_S512x1024_1_1_0_0_n_n rfl rfl rfl rfl rfl rfl p w i

theorem pay3_at (p : Vec Ideal S512x1408 .bf16) (w : Vec Ideal S1024x1408 .bf16) (i : S512x1024.Idx) :
    k0_pay3 (F := Ideal) p w i = ∑ k : Fin 1408, p (ValueIdx.ix2 (i 0) k) * w (ValueIdx.ix2 (i 1) k) := by
  unfold k0_pay3
  rw [shapeCast_self]
  exact pay1_at p w i

theorem pay4_at (p : Vec Ideal S512x1408 .bf16) (w : Vec Ideal S1024x1408 .bf16) (s : Vec Ideal S512x1024 .f32) (i : S512x1024.Idx) :
    k0_pay4 (F := Ideal) p w s i = s i + ∑ k : Fin 1408, p (ValueIdx.ix2 (i 0) k) * w (ValueIdx.ix2 (i 1) k) := by
  unfold k0_pay4
  rw [shapeCast_self]
  exact congrArg (s i + ·) (pay1_at p w i)

theorem pay2_at (i : S1x1024.Idx) : k0_pay2 (F := Ideal) i = (0 : EReal) := Ideal.ofBits_zero_f32

theorem pay5_at (d o : Vec Ideal S1x1024 .f32) (i : S1x1024.Idx) : k0_pay5 (F := Ideal) d o i = (o i + d i : EReal) := by
  unfold k0_pay5
  rw [shapeCast_self]
  rfl

theorem pay6_at (h : Vec Ideal S512x1024 .f32) (i : S512x1.Idx) : k0_pay6 (F := Ideal) h i = mean fun y => h (ValueIdx.ix2 (i 0) y) := by
  unfold k0_pay6
  exact congrArg (fun s : EReal => Ideal.div s (Ideal.ofBits .f32 0x44800000#32) + Ideal.ofBits .f32 0x358637BD#32)
    (lanes_at (mulf h h) reduces_S512x1024_S512 (.inl rfl) rfl shapeCasts_S512_S512x1 i)

theorem pay7_at (h : Vec Ideal S512x1024 .f32) (i : S512x1.Idx) : k0_pay7 (F := Ideal) h i = inv fun y => h (ValueIdx.ix2 (i 0) y) :=
  congrArg Ideal.rsqrt (pay6_at h i)

theorem pay8_at (h ct : Vec Ideal S512x1024 .f32) (i : S1x1024.Idx) :
    k0_pay8 (F := Ideal) h ct i = ∑ r : Fin 512, share (fun y => h (ValueIdx.ix2 r y)) (fun y => ct (ValueIdx.ix2 r y)) (i 1) := by
  unfold k0_pay8
  refine (rows_at _ reduces_S512x1024_S1024 (.inl rfl) rfl shapeCasts_S1024_S1x1024 i).trans (Finset.sum_congr rfl fun r _ => ?_)
  exact congrArg (fun s : EReal => h (ValueIdx.ix2 r (i 1)) * s * ct (ValueIdx.ix2 r (i 1)))
    ((wide_at (φ := .f32) (k0_pay7 (F := Ideal) h) broadcasts_S512x1_S512x1024 (ValueIdx.ix2 r (i 1))).trans (pay7_at h _))

theorem pay9_at (h : Vec Ideal S512x1024 .f32) (g : Vec Ideal S1x1024 .f32) (ct ad : Vec Ideal S512x1024 .f32) (i : S512x1024.Idx) :
    k0_pay9 (F := Ideal) h g ct ad i
      = grad (fun y => h (ValueIdx.ix2 (i 0) y)) (fun y => ct (ValueIdx.ix2 (i 0) y)) (fun y => g (ValueIdx.ix2 0 y)) (fun y => ad (ValueIdx.ix2 (i 0) y)) (i 1) := by
  obtain ⟨r, x, rfl⟩ : ∃ (r : Fin 512) (x : Fin 1024), i = ValueIdx.ix2 r x := ⟨i 0, i 1, ValueIdx.eq_ix2 i⟩
  have hg : ∀ j : S512x1024.Idx, broadcastTo S512x1024 g broadcasts_S1x1024_S512x1024 j = g (ValueIdx.ix2 0 (j 1)) := fun j =>
    tall_at (φ := .f32) g broadcasts_S1x1024_S512x1024 j
  have h7 : ∀ j : S512x1024.Idx, broadcastTo S512x1024 (k0_pay7 (F := Ideal) h) broadcasts_S512x1_S512x1024 j = inv fun y => h (ValueIdx.ix2 (j 0) y) := fun j =>
    (wide_at (φ := .f32) (k0_pay7 (F := Ideal) h) broadcasts_S512x1_S512x1024 j).trans (pay7_at h _)
  unfold k0_pay9
  generalize hG : broadcastTo S512x1024 g broadcasts_S1x1024_S512x1024 = gb at hg
  generalize hR : broadcastTo S512x1024 (k0_pay7 (F := Ideal) h) broadcasts_S512x1_S512x1024 = rb at h7
  have hs : ∀ j : S512x1.Idx, shapeCast S512x1 (multiReduction .add [1] S512 (mulf (F := Ideal) (φ := .f32) h (mulf ct gb)) 0x00000000#32 reduces_S512x1024_S512 (.inl rfl) rfl) shapeCasts_S512_S512x1 j
      = ∑ y : Fin 1024, (h (ValueIdx.ix2 (j 0) y) * (ct (ValueIdx.ix2 (j 0) y) * g (ValueIdx.ix2 0 y)) : EReal) := fun j =>
    (lanes_at (mulf (F := Ideal) (φ := .f32) h (mulf ct gb)) reduces_S512x1024_S512 (.inl rfl) rfl shapeCasts_S512_S512x1 j).trans
      (Finset.sum_congr rfl fun y _ => congrArg (fun s : EReal => h (ValueIdx.ix2 (j 0) y) * (ct (ValueIdx.ix2 (j 0) y) * s)) (hg _))
  generalize hS : shapeCast S512x1 (multiReduction .add [1] S512 (mulf (F := Ideal) (φ := .f32) h (mulf ct gb)) 0x00000000#32 reduces_S512x1024_S512 (.inl rfl) rfl) shapeCasts_S512_S512x1 = sb at hs
  generalize hQ : divf (mulf sb (mulf (broadcast S512x1 (Scalar.ofBits (F := Ideal) .f32 0xBF000000#32)) (divf (k0_pay7 h) (k0_pay6 h)))) (broadcast S512x1 (Scalar.ofBits (F := Ideal) .f32 0x44800000#32)) = qb
  have hq : ∀ j : S512x1.Idx, qb j = pull (fun y => h (ValueIdx.ix2 (j 0) y)) (fun y => ct (ValueIdx.ix2 (j 0) y)) (fun y => g (ValueIdx.ix2 0 y)) := by
    intro j
    rw [← hQ]
    show Ideal.div (sb j * (Ideal.ofBits .f32 0xBF000000#32 * Ideal.div (k0_pay7 (F := Ideal) h j) (k0_pay6 (F := Ideal) h j))) (Ideal.ofBits .f32 0x44800000#32) = _
    rw [hs, pay7_at, pay6_at]
    rfl
  have hw : ∀ j : S512x1024.Idx, broadcastTo S512x1024 (shapeCast S512x1 (multiReduction .add [1] S512 qb 0x00000000#32 reduces_S512x1_S512 (.inl rfl) rfl) shapeCasts_S512_S512x1) broadcasts_S512x1_S512x1024 j
      = pull (fun y => h (ValueIdx.ix2 (j 0) y)) (fun y => ct (ValueIdx.ix2 (j 0) y)) (fun y => g (ValueIdx.ix2 0 y)) := fun j =>
    (wide_at (φ := .f32) _ broadcasts_S512x1_S512x1024 j).trans ((lanes_at qb reduces_S512x1_S512 (.inl rfl) rfl shapeCasts_S512_S512x1 _).trans
      ((Fin.sum_univ_one _).trans (hq _)))
  generalize broadcastTo S512x1024 (shapeCast S512x1 (multiReduction .add [1] S512 qb 0x00000000#32 reduces_S512x1_S512 (.inl rfl) rfl) shapeCasts_S512_S512x1) broadcasts_S512x1_S512x1024 = wb at hw
  show ct (ValueIdx.ix2 r x) * gb (ValueIdx.ix2 r x) * rb (ValueIdx.ix2 r x) + h (ValueIdx.ix2 r x) * wb (ValueIdx.ix2 r x) + wb (ValueIdx.ix2 r x) * h (ValueIdx.ix2 r x) + ad (ValueIdx.ix2 r x) = _
  rw [hg, h7, hw]
  rfl

end Cert.Kernel3Ideal.Hand
-- ==== Proof.Norm.Tiles.lean ====
/-
  A matrix product formed tile by tile: the tiles of the result one after the other, each summed over
  its column blocks.
-/
module

public import proofs.«01_k».proof.Proof.Norm.Row

@[expose] public section
set_option maxRecDepth 100000
noncomputable section
namespace Cert.Norm
open Idealize.ShloMosaic Idealize.ShloMosaic.TcCoe

/-- A matrix, nothing outside it. -/
def ext {n m : ℕ} {φ : FTy} (f : FVec Ideal ⟨2, ![n, m]⟩ φ) (r x : ℕ) : EReal :=
  if h : r < n ∧ x < m then f (ValueIdx.ix2 ⟨r, h.1⟩ ⟨x, h.2⟩) else 0

theorem ext_emb {n m : ℕ} {φ : FTy} (f : FVec Ideal ⟨2, ![n, m]⟩ φ) (i : (⟨2, ![n, m]⟩ : Shape).Idx) (r x : ℕ)
    (e0 : (i 0 : ℕ) = r) (e1 : (i 1 : ℕ) = x) : f i = ext f r x := by
  have h : r < n ∧ x < m := ⟨lt_of_eq_of_lt e0.symm (ValueIdx.idx2_lt0 i), lt_of_eq_of_lt e1.symm (ValueIdx.idx2_lt1 i)⟩
  unfold ext
  rw [dif_pos h]
  exact at_ix2 f i r x h.1 h.2 e0 e1

/-- The product of row `r` with row `x`, over the first `k` columns. -/
def dot (A B : ℕ → ℕ → EReal) (k r x : ℕ) : EReal := ∑ j ∈ Finset.range k, A r j * B x j

section
variable (A B : ℕ → ℕ → EReal) (r x : ℕ)
theorem dot_zero : dot A B 0 r x = 0 := Finset.sum_range_zero _
theorem dot_add (k b : ℕ) : dot A B (k + b) r x = dot A B k r x + ∑ j : Fin b, A r (k + j.val) * B x (k + j.val) := by
  unfold dot
  rw [Finset.sum_range_add, Finset.sum_range (n := b)]
theorem dot_fin (k : ℕ) : dot A B k r x = ∑ j : Fin k, A r j.val * B x j.val := Finset.sum_range _
end

/-- One column block's share of tile `n`'s product. -/
def part (A B : ℕ → ℕ → EReal) (nk nj tm tn tk n r x : ℕ) : EReal :=
  ∑ y : Fin tk, A (n / nk / nj * tm + r) (n % nk * tk + y.val) * B (n / nk % nj * tn + x) (n % nk * tk + y.val)

/-- Point `n` is at column block `n % nk` of tile `n / nk`. What starts at a tile's first block and takes each later one in is the product so far. -/
theorem tiles {N tm tn : ℕ} (nk nj tk : ℕ) (A B : ℕ → ℕ → EReal) (s : (n : ℕ) → n < N → Fin tm → Fin tn → EReal)
    (first : ∀ n h r x, n % nk = 0 → s n h r x = part A B nk nj tm tn tk n r.val x.val)
    (next : ∀ n h r x, ¬(n + 1) % nk = 0 → s (n + 1) h r x = s n (Nat.lt_of_succ_lt h) r x + part A B nk nj tm tn tk (n + 1) r.val x.val)
    (n : ℕ) : ∀ (h : n < N) (r : Fin tm) (x : Fin tn),
      s n h r x = dot A B ((n % nk + 1) * tk) (n / nk / nj * tm + r.val) (n / nk % nj * tn + x.val) := by
  have start : ∀ n h r x, n % nk = 0 → s n h r x = dot A B ((n % nk + 1) * tk) (n / nk / nj * tm + r.val) (n / nk % nj * tn + x.val) := by
    intro n h r x h0
    rw [first n h r x h0, Nat.add_mul, Nat.one_mul, dot_add]
    have e : n % nk * tk = 0 := by rw [h0, Nat.zero_mul]
    unfold part
    rw [e, dot_zero, zero_add]
  induction n with
  | zero => intro h r x; exact start 0 h r x (Nat.zero_mod _)
  | succ n ih =>
    intro h r x
    by_cases h0 : (n + 1) % nk = 0
    · exact start (n + 1) h r x h0
    · have hd : (n + 1) / nk = n / nk := Nat.succ_div_of_not_dvd fun d => h0 (Nat.mod_eq_zero_of_dvd d)
      have hm : (n + 1) % nk = n % nk + 1 := by
        have a := Nat.div_add_mod (n + 1) nk
        have b := Nat.div_add_mod n nk
        rw [hd] at a
        omega
      rw [next n h r x h0, ih (Nat.lt_of_succ_lt h) r x, Nat.add_mul ((n + 1) % nk), Nat.one_mul, dot_add]
      unfold part
      rw [hd, hm]

/-- A matrix whose every tile is the product is the product. -/
theorem cover {n m : ℕ} {φ : FTy} (ni nj tm tn : ℕ) (hi : 0 < tm) (hj : 0 < tn) (f : FVec Ideal ⟨2, ![n, m]⟩ φ) (D : ℕ → ℕ → EReal)
    (h : ∀ t, t < ni * nj → ∀ (r : Fin tm) (x : Fin tn), ext f (t / nj * tm + r.val) (t % nj * tn + x.val) = D (t / nj * tm + r.val) (t % nj * tn + x.val))
    (hn : n = ni * tm) (hm : m = nj * tn) (R : Fin n) (X : Fin m) : f (ValueIdx.ix2 R X) = D R.val X.val := by
  have hR : R.val / tm < ni := Nat.div_lt_of_lt_mul (by rw [Nat.mul_comm]; exact lt_of_lt_of_eq R.isLt hn)
  have hX : X.val / tn < nj := Nat.div_lt_of_lt_mul (by rw [Nat.mul_comm]; exact lt_of_lt_of_eq X.isLt hm)
  have hj' : 0 < nj := Nat.zero_lt_of_lt hX
  have e := h (R.val / tm * nj + X.val / tn)
    (calc R.val / tm * nj + X.val / tn < R.val / tm * nj + nj := Nat.add_lt_add_left hX _
      _ = (R.val / tm + 1) * nj := (Nat.succ_mul _ _).symm
      _ ≤ ni * nj := Nat.mul_le_mul_right _ hR) ⟨R.val % tm, Nat.mod_lt _ hi⟩ ⟨X.val % tn, Nat.mod_lt _ hj⟩
  have e1 : (R.val / tm * nj + X.val / tn) / nj = R.val / tm := by
    rw [Nat.mul_comm, Nat.mul_add_div hj', Nat.div_eq_of_lt hX, Nat.add_zero]
  have e2 : (R.val / tm * nj + X.val / tn) % nj = X.val / tn := by
    rw [Nat.mul_comm, Nat.mul_add_mod, Nat.mod_eq_of_lt hX]
  dsimp only at e
  rw [e1, e2, Nat.mul_comm, Nat.div_add_mod, Nat.mul_comm, Nat.div_add_mod] at e
  exact (ext_emb f (ValueIdx.ix2 R X) R.val X.val rfl rfl).trans e

/-! ## A product, tile by tile -/

section
variable {N M K ni nj nk tm tn tk : ℕ} {φ : FTy} (A B : ℕ → ℕ → EReal)
  (bA : Fin N → Fin tm → Fin tk → EReal) (bB : Fin N → Fin tn → Fin tk → EReal)

/-- The tiles that point `t` reads are those of the factors at its place; so are the products over one column block. -/
theorem part_of (hA : ∀ t r k, bA t r k = A (t.val / nk / nj * tm + r.val) (t.val % nk * tk + k.val))
    (hB : ∀ t x k, bB t x k = B (t.val / nk % nj * tn + x.val) (t.val % nk * tk + k.val)) (t : Fin N) (r : Fin tm) (x : Fin tn) :
    ∑ k : Fin tk, bA t r k * bB t x k = part A B nk nj tm tn tk t.val r.val x.val :=
  Finset.sum_congr rfl fun k _ => congrArg₂ (fun a b : EReal => a * b) (hA t r k) (hB t x k)

/-- What is left in the scratch buffer at a tile's last column block is the product there. -/
theorem last_of (hk : 0 < nk) (hA : ∀ t r k, bA t r k = A (t.val / nk / nj * tm + r.val) (t.val % nk * tk + k.val))
    (hB : ∀ t x k, bB t x k = B (t.val / nk % nj * tn + x.val) (t.val % nk * tk + k.val))
    (s : (n : ℕ) → n < N → Fin tm → Fin tn → EReal)
    (first : ∀ n h r x, n % nk = 0 → s n h r x = ∑ k : Fin tk, bA ⟨n, h⟩ r k * bB ⟨n, h⟩ x k)
    (next : ∀ n h r x, ¬(n + 1) % nk = 0 → s (n + 1) h r x = s n (Nat.lt_of_succ_lt h) r x + ∑ k : Fin tk, bA ⟨n + 1, h⟩ r k * bB ⟨n + 1, h⟩ x k)
    (n : ℕ) (h : n < N) (hl : n % nk + 1 = nk) (r : Fin tm) (x : Fin tn) :
    s n h r x = dot A B (nk * tk) (n / nk / nj * tm + r.val) (n / nk % nj * tn + x.val) := by
  have e := tiles nk nj tk A B s (fun n h r x h0 => (first n h r x h0).trans (part_of A B bA bB hA hB ⟨n, h⟩ r x))
    (fun n h r x h0 => (next n h r x h0).trans (congrArg (_ + ·) (part_of A B bA bB hA hB ⟨n + 1, h⟩ r x))) n h r x
  rwa [hl] at e

/-- A result that holds, tile by tile, what the scratch buffer holds at the tile's last column block, is the product. -/
theorem product_at (hi : 0 < tm) (hj : 0 < tn) (hk : 0 < nk) (hN : N = ni * nj * nk) (hM : M = ni * tm) (hK : K = nj * tn)
    (hA : ∀ t r k, bA t r k = A (t.val / nk / nj * tm + r.val) (t.val % nk * tk + k.val))
    (hB : ∀ t x k, bB t x k = B (t.val / nk % nj * tn + x.val) (t.val % nk * tk + k.val))
    (s : (n : ℕ) → n < N → Fin tm → Fin tn → EReal)
    (first : ∀ n h r x, n % nk = 0 → s n h r x = ∑ k : Fin tk, bA ⟨n, h⟩ r k * bB ⟨n, h⟩ x k)
    (next : ∀ n h r x, ¬(n + 1) % nk = 0 → s (n + 1) h r x = s n (Nat.lt_of_succ_lt h) r x + ∑ k : Fin tk, bA ⟨n + 1, h⟩ r k * bB ⟨n + 1, h⟩ x k)
    (f : FVec Ideal ⟨2, ![M, K]⟩ φ)
    (read : ∀ (R : Fin M) (X : Fin K) (p : ℕ) (h : p < N), p % nk + 1 = nk → p / nk = R.val / tm * nj + X.val / tn →
      f (ValueIdx.ix2 R X) = s p h ⟨R.val % tm, Nat.mod_lt _ hi⟩ ⟨X.val % tn, Nat.mod_lt _ hj⟩)
    (R : Fin M) (X : Fin K) : f (ValueIdx.ix2 R X) = dot A B (nk * tk) R.val X.val := by
  have hR : R.val / tm < ni := Nat.div_lt_of_lt_mul (by rw [Nat.mul_comm]; exact lt_of_lt_of_eq R.isLt hM)
  have hX : X.val / tn < nj := Nat.div_lt_of_lt_mul (by rw [Nat.mul_comm]; exact lt_of_lt_of_eq X.isLt hK)
  obtain ⟨q, hq⟩ : ∃ q, q = R.val / tm * nj + X.val / tn := ⟨_, rfl⟩
  have hq1 : q / nj = R.val / tm := by
    rw [hq, Nat.mul_comm, Nat.mul_add_div (Nat.zero_lt_of_lt hX), Nat.div_eq_of_lt hX, Nat.add_zero]
  have hq2 : q % nj = X.val / tn := by rw [hq, Nat.mul_comm, Nat.mul_add_mod, Nat.mod_eq_of_lt hX]
  have hb : q < ni * nj := by
    rw [hq]
    calc R.val / tm * nj + X.val / tn < R.val / tm * nj + nj := Nat.add_lt_add_left hX _
      _ = (R.val / tm + 1) * nj := (Nat.succ_mul _ _).symm
      _ ≤ ni * nj := Nat.mul_le_mul_right _ hR
  have hk1 : nk - 1 < nk := Nat.sub_lt hk Nat.one_pos
  obtain ⟨p, hp⟩ : ∃ p, p = nk * q + (nk - 1) := ⟨_, rfl⟩
  have hp1 : p / nk = q := by rw [hp, Nat.mul_add_div hk, Nat.div_eq_of_lt hk1, Nat.add_zero]
  have hp2 : p % nk + 1 = nk := by rw [hp, Nat.mul_add_mod, Nat.mod_eq_of_lt hk1]; exact Nat.sub_add_cancel hk
  have hpN : p < N := by
    rw [hN, hp]
    calc nk * q + (nk - 1) < nk * q + nk := Nat.add_lt_add_left hk1 _
      _ = (q + 1) * nk := by rw [Nat.succ_mul, Nat.mul_comm]
      _ ≤ ni * nj * nk := Nat.mul_le_mul_right _ hb
  rw [read R X p hpN hp2 (hp1.trans hq), last_of A B bA bB hk hA hB s first next p hpN hp2, hp1, hq1, hq2]
  exact congrArg₂ (dot A B (nk * tk)) (by rw [Nat.mul_comm]; exact Nat.div_add_mod _ _) (by rw [Nat.mul_comm]; exact Nat.div_add_mod _ _)

/-- A result written tile by tile with no scratch buffer, the contracted axis in one block. -/
theorem product_blocks (hi : 0 < tm) (hj : 0 < tn) (hN : N = ni * nj) (hM : M = ni * tm) (hK : K = nj * tn)
    (hA : ∀ t r k, bA t r k = A (t.val / nj * tm + r.val) k.val) (hB : ∀ t x k, bB t x k = B (t.val % nj * tn + x.val) k.val)
    (f : FVec Ideal ⟨2, ![M, K]⟩ φ)
    (tile : ∀ (t : Fin N) r x, ext f (t.val / nj * tm + r.val) (t.val % nj * tn + x.val) = ∑ k : Fin tk, bA t r k * bB t x k)
    (R : Fin M) (X : Fin K) : f (ValueIdx.ix2 R X) = dot A B tk R.val X.val :=
  cover ni nj tm tn hi hj f (dot A B tk) (fun t ht r x => (tile ⟨t, lt_of_lt_of_eq ht hN.symm⟩ r x).trans
    ((Finset.sum_congr rfl fun k _ => congrArg₂ (fun a b : EReal => a * b) (hA _ r k) (hB _ x k)).trans (dot_fin A B _ _ tk).symm)) hM hK R X
end

/-- Two matrices with the same elements. -/
theorem same {n m : ℕ} (φ : FTy) (f g : FVec Ideal ⟨2, ![n, m]⟩ φ) (D : ℕ → ℕ → EReal)
    (hf : ∀ r x, f (ValueIdx.ix2 r x) = D r.val x.val) (hg : ∀ r x, g (ValueIdx.ix2 r x) = D r.val x.val) : f = g := by
  funext i
  obtain ⟨r, x, rfl⟩ : ∃ (r : Fin n) (x : Fin m), i = ValueIdx.ix2 r x := ⟨i 0, i 1, ValueIdx.eq_ix2 i⟩
  exact (hf r x).trans (hg r x).symm

/-! ## What a body reads and leaves -/

theorem hz : (![0, 0] : Fin 2 → Nat) = fun _ => 0 := funext fun a => by fin_cases a <;> rfl

section
variable {sig : RefSig} {κ : Kind} {sp : Space} {n m : ℕ} {e : EltTy} {Val : EltTy → Type}
/-- A load of a whole buffer. -/
theorem load_whole {a : Memref sig κ sp ⟨2, ![n, m]⟩ e} (h : a.IsWhole) (inb : ∀ d, (![0, 0] : Fin 2 → ℕ) d + (![n, m] : Fin 2 → ℕ) d ≤ (![n, m] : Fin 2 → ℕ) d)
    (X : (⟨2, ![n, m]⟩ : Shape).Idx → Val e) : a.view.readAt Val (Rect.unit (s := ⟨2, ![n, m]⟩) ![0, 0] ![n, m] inb).toLoadRect (h.unread X) = X := by
  rw [View.readAt_eq_ld, h.read_unread]
  exact View.ld_unit_zero hz inb X
/-- What one store over a whole buffer leaves. -/
theorem left_whole [∀ e, Nonempty (Val e)] (v : View sig κ sp ⟨2, ![n, m]⟩ e) (g : v.ty.Contents Val)
    (inb : ∀ d, (![0, 0] : Fin 2 → ℕ) d + (![n, m] : Fin 2 → ℕ) d ≤ (![n, m] : Fin 2 → ℕ) d) (w : (⟨2, ![n, m]⟩ : Shape).Idx → Val e) :
    v.read Val (v.writes Val g [(⟨Rect.unit (s := ⟨2, ![n, m]⟩) ![0, 0] ![n, m] inb, w⟩ : View.Piece Val ⟨2, ![n, m]⟩ e)]) = w := by
  rw [View.read_writes_eq_canon _ _ _ (fun y => ⟨_, List.mem_singleton_self _, View.mem_set_unit_zero hz inb y⟩)]
  exact View.canon_unit_zero hz inb w
end

/-! ## The operations, at an index -/

theorem transpose_at {n m : ℕ} {φ : FTy} (f : FVec Ideal ⟨2, ![n, m]⟩ φ) (h : (⟨2, ![n, m]⟩ : Shape).Transposes [1, 0] ⟨2, ![m, n]⟩) :
    transpose ⟨2, ![m, n]⟩ [1, 0] f h = fun i => f (ValueIdx.ix2 (i 1) (i 0)) :=
  funext fun i => transpose_apply [1, 0] f h i (ValueIdx.ix2 (i 1) (i 0)) (fun b => match b with
    | ⟨0, _⟩ => rfl
    | ⟨1, _⟩ => rfl)

section
variable {a b k n m : ℕ} {φ φ₁ φ₂ : FTy}
theorem mmn_at (D : DotDims ⟨2, ![a, k]⟩ ⟨2, ![k, b]⟩ ⟨2, ![a, b]⟩) (h1 : D.lhsContracting = [1]) (h2 : D.rhsContracting = [0])
    (h3 : D.lhsNonContracting = [0]) (h4 : D.rhsNonContracting = [1]) (h5 : D.lhsBatch = []) (h6 : D.rhsBatch = [])
    (f : FVec Ideal ⟨2, ![a, k]⟩ φ₁) (g : FVec Ideal ⟨2, ![k, b]⟩ φ₂) (i : (⟨2, ![a, b]⟩ : Shape).Idx) :
    matmul D none f g (constant ⟨2, ![a, b]⟩ .f32 0x00000000#32) i = ∑ x : Fin k, f (ValueIdx.ix2 (i 0) x) * g (ValueIdx.ix2 x (i 1)) := by
  obtain ⟨_, _, _, _, _, _, wf⟩ := D
  dsimp only at h1 h2 h3 h4 h5 h6
  subst h1 h2 h3 h4 h5 h6
  rw [show matmul _ none f g (constant ⟨2, ![a, b]⟩ .f32 0x00000000#32) i = _ from Ideal.matmul_constant_zero_apply _ none f g i,
    ← Equiv.sum_comp (ValueIdx.contrEquiv1 _ k rfl rfl).symm]
  refine Finset.sum_congr rfl fun x _ => ?_
  have hk := ValueIdx.contrEquiv1_symm_val (⟨[1], [0], [0], [1], [], [], wf⟩ : DotDims ⟨2, ![a, k]⟩ ⟨2, ![k, b]⟩ ⟨2, ![a, b]⟩) k rfl rfl x
  congr 2
  · funext y; apply Fin.ext
    match y with
    | ⟨0, _⟩ => rfl
    | ⟨1, _⟩ => exact hk
  · funext y; apply Fin.ext
    match y with
    | ⟨0, _⟩ => exact hk
    | ⟨1, _⟩ => rfl
end

end Cert.Norm
-- ==== Proof.Norm.Sweep.lean ====
/-
  A projection's gradient taken through a norm, point by point: the product adds up over the column
  blocks of a row block, and at the last one the rows' gradients and their share of the weight's
  gradient are formed.
-/
module

public import proofs.«01_k».proof.Proof.Norm.Tiles

@[expose] public section
set_option maxRecDepth 100000
noncomputable section
namespace Cert.Norm
open Idealize.ShloMosaic Idealize.ShloMosaic.TcCoe

/-- After a row block's last point the next row block begins. -/
theorem next_block (n nk : ℕ) (hk : 0 < nk) (h : n % nk + 1 = nk) : (n + 1) / nk = n / nk + 1 :=
  Nat.succ_div_of_dvd (Nat.dvd_of_mod_eq_zero (by
    have e := Nat.div_add_mod n nk
    rw [← e, Nat.add_assoc, h, ← Nat.mul_succ]
    exact Nat.mul_mod_right _ _))
/-- After any other point it goes on. -/
theorem same_block (n nk : ℕ) (hk : 0 < nk) (h : ¬n % nk + 1 = nk) : (n + 1) / nk = n / nk :=
  Nat.succ_div_of_not_dvd fun d => h (by
    have e := Nat.div_add_mod n nk
    have d' : nk ∣ n % nk + 1 := (Nat.dvd_add_right (Dvd.intro (n / nk) rfl)).1 (by rw [← Nat.add_assoc, e]; exact d)
    exact Nat.le_antisymm (Nat.mod_lt _ hk) (Nat.le_of_dvd (Nat.succ_pos _) d'))

section
variable {N K nk tk : ℕ} (P : FVec Ideal ⟨2, ![4096, K]⟩ .f32) (W : FVec Ideal ⟨2, ![1024, K]⟩ .f32)
  (H : FVec Ideal ⟨2, ![4096, 1024]⟩ .f32) (G : FVec Ideal ⟨2, ![1, 1024]⟩ .f32) (A : FVec Ideal ⟨2, ![4096, 1024]⟩ .f32)

/-- The blocks that a point reads and what it leaves. -/
structure Sweep (N nk tk : ℕ) where
  bP : Fin N → Fin 512 → Fin tk → EReal
  bW : Fin N → Fin 1024 → Fin tk → EReal
  bH : Fin N → Fin 512 → Fin 1024 → EReal
  bG : Fin N → Fin 1024 → EReal
  bA : Fin N → Fin 512 → Fin 1024 → EReal
  scr : (n : ℕ) → n < N → Fin 512 → Fin 1024 → EReal
  out : (n : ℕ) → n < N → Fin 1024 → EReal
  res : (n : ℕ) → n < N → Fin 512 → Fin 1024 → EReal
  hP : ∀ t r k, bP t r k = ext P (t.val / nk / 1 * 512 + r.val) (t.val % nk * tk + k.val)
  hW : ∀ t x k, bW t x k = ext W (t.val / nk % 1 * 1024 + x.val) (t.val % nk * tk + k.val)
  hH : ∀ t r x, bH t r x = ext H (t.val / nk * 512 + r.val) x.val
  hG : ∀ t x, bG t x = ext G 0 x.val
  hA : ∀ t r x, bA t r x = ext A (t.val / nk * 512 + r.val) x.val
  first : ∀ n h r x, n % nk = 0 → scr n h r x = ∑ k : Fin tk, bP ⟨n, h⟩ r k * bW ⟨n, h⟩ x k
  next : ∀ n h r x, ¬(n + 1) % nk = 0 → scr (n + 1) h r x = scr n (Nat.lt_of_succ_lt h) r x + ∑ k : Fin tk, bP ⟨n + 1, h⟩ r k * bW ⟨n + 1, h⟩ x k
  zero : ∀ h x, out 0 h x = 0
  keep : ∀ n h x, ¬(n + 1) % nk + 1 = nk → out (n + 1) h x = out n (Nat.lt_of_succ_lt h) x
  add : ∀ n h x, (n + 1) % nk + 1 = nk → out (n + 1) h x = out n (Nat.lt_of_succ_lt h) x + ∑ r : Fin 512, share (bH ⟨n + 1, h⟩ r) (scr (n + 1) h r) x
  last : ∀ n h r x, (n + 1) % nk + 1 = nk → res (n + 1) h r x = grad (bH ⟨n + 1, h⟩ r) (scr (n + 1) h r) (bG ⟨n + 1, h⟩) (bA ⟨n + 1, h⟩ r) x

variable {P W H G A} (q : Sweep P W H G A N nk tk)
include q

/-- At a row block's last point the running product is whole. -/
theorem Sweep.whole (hk : 0 < nk) (hK : K = nk * tk) (n : ℕ) (h : n < N) (hl : n % nk + 1 = nk) (r : Fin 512) (R : Fin 4096) (hR : n / nk * 512 + r.val = R.val) :
    q.scr n h r = prod P W R := by
  funext x
  rw [last_of (ext P) (ext W) q.bP q.bW hk q.hP q.hW q.scr q.first q.next n h hl r x, ← hK, dot_fin]
  refine Finset.sum_congr rfl fun k _ => congrArg₂ (fun a b : EReal => a * b) (ext_emb P (ValueIdx.ix2 R k) _ _ ?_ rfl).symm (ext_emb W (ValueIdx.ix2 x k) _ _ ?_ rfl).symm
  · show R.val = _
    rw [Nat.div_one]; exact hR.symm
  · show x.val = _
    rw [Nat.mod_one]; omega

/-- A row block's last point leaves the rows' gradients. -/
theorem Sweep.res_at (hk : 1 < nk) (hK : K = nk * tk) (n : ℕ) (h : n < N) (hl : n % nk + 1 = nk) (r : Fin 512) (R : Fin 4096) (hR : n / nk * 512 + r.val = R.val) (x : Fin 1024) :
    q.res n h r x = grad (row H R) (prod P W R) (row G 0) (row A R) x := by
  cases n with
  | zero => rw [Nat.zero_mod] at hl; omega
  | succ n =>
    have e1 : q.bH ⟨n + 1, h⟩ r = row H R := funext fun y => (q.hH _ r y).trans (ext_emb H (ValueIdx.ix2 R y) _ _ hR.symm rfl).symm
    have e2 : q.bG ⟨n + 1, h⟩ = row G 0 := funext fun y => (q.hG _ y).trans (ext_emb G (ValueIdx.ix2 0 y) _ _ rfl rfl).symm
    have e3 : q.bA ⟨n + 1, h⟩ r = row A R := funext fun y => (q.hA _ r y).trans (ext_emb A (ValueIdx.ix2 R y) _ _ hR.symm rfl).symm
    rw [q.last n h r x hl, q.whole (by omega) hK (n + 1) h hl r R hR, e1, e2, e3]

/-- The shares of the row blocks that are through. -/
theorem Sweep.out_at (hk : 1 < nk) (hK : K = nk * tk) (hN : N = 8 * nk) (n : ℕ) : ∀ (h : n < N) (x : Fin 1024),
    q.out n h x = shares (row H) (prod P W) ((n + 1) / nk * 512) x := by
  induction n with
  | zero =>
    intro h x
    rw [q.zero h x, Nat.div_eq_of_lt (show 0 + 1 < nk by omega), Nat.zero_mul, shares_zero]
  | succ n ih =>
    intro h x
    by_cases hl : (n + 1) % nk + 1 = nk
    · have hb : (n + 1) / nk < 8 := Nat.div_lt_of_lt_mul (by rw [Nat.mul_comm]; exact lt_of_lt_of_eq h hN)
      rw [q.add n h x hl, ih, next_block (n + 1) nk (by omega) hl, Nat.add_mul _ 1, Nat.one_mul, shares_add _ _ _ _ 512 (by omega)]
      refine congrArg _ (Finset.sum_congr rfl fun r _ => congrArg₂ (fun X C => share X C x) (funext fun y => ?_) (q.whole (by omega) hK (n + 1) h hl r _ rfl))
      exact (q.hH _ r y).trans (ext_emb H (ValueIdx.ix2 ⟨(n + 1) / nk * 512 + r.val, by omega⟩ y) _ _ rfl rfl).symm
    · rw [q.keep n h x hl, ih, same_block (n + 1) nk (by omega) hl]

/-- After the last point all rows' shares are in. -/
theorem Sweep.out_all (hk : 1 < nk) (hK : K = nk * tk) (hN : N = 8 * nk) (n : ℕ) (h : n < N) (hl : n + 1 = 8 * nk) (x : Fin 1024) :
    q.out n h x = ∑ r : Fin 4096, share (row H r) (prod P W r) x := by
  rw [q.out_at hk hK hN n h x, hl, Nat.mul_div_cancel _ (show 0 < nk by omega)]
  exact shares_all _ _ _
end

end Cert.Norm
-- ==== Proof.N3.Fold.lean ====
/-
  What the projection-and-norm kernel leaves in its two results: each row block's gradient, and the
  weight's gradient summed over the row blocks.
-/
module

public import proofs.«01_k».proof.Proof.N3.Pay
public import proofs.«01_k».proof.Proof.Norm.Sweep
public import Idealize.ShloMosaic.Lib.Claim
public import Idealize.ShloMosaic.Lib.StableHlo.RunRead

@[expose] public section
set_option maxRecDepth 100000
noncomputable section
namespace Cert.Kernel3Ideal.Hand
open Cert.Kernel3Ideal Cert.Kernel3Ideal.Gen Cert.Kernel3Ideal.Value Cert.Norm
open Idealize.ShloMosaic Idealize.ShloMosaic.TcCoe Idealize.ShloMosaic.StableHlo

variable (m : (ℓ : Loc nD τ sig) → Buf (Elt Ideal) ℓ) (c : Dev nD)

/-! ## The arguments and their blocks -/

/-- The projection's gradient. -/
def aP : FVec Ideal S4096x5632 .f32 := m ((c : Thread nD τ).loc main_arg0)
/-- The projection's weight. -/
def aW : FVec Ideal S1024x5632 .f32 := m ((c : Thread nD τ).loc main_arg1)
/-- The norm's input. -/
def aH : FVec Ideal S4096x1024 .f32 := m ((c : Thread nD τ).loc main_arg2)
/-- The norm's weight. -/
def aG : FVec Ideal S1x1024 .f32 := m ((c : Thread nD τ).loc main_arg3)
/-- The gradient added to the result. -/
def aA : FVec Ideal S4096x1024 .f32 := m ((c : Thread nD τ).loc main_arg4)

set_option maxHeartbeats 4000000 in
theorem V_v0 : V m c main_v0 = aP m c := by
  entry_read
  rfl
set_option maxHeartbeats 4000000 in
theorem V_v1 : V m c main_v1 = aW m c := by
  entry_read
  rfl

/-- The projection's block. -/
def bP (t : Fin cfg0.N) : Vec Ideal S512x1408 .bf16 := iblk m c 0 t
/-- The weight's block. -/
def bW (t : Fin cfg0.N) : Vec Ideal S1024x1408 .bf16 := iblk m c 1 t
/-- The norm's input's rows. -/
def bH (t : Fin cfg0.N) : Vec Ideal S512x1024 .f32 := iblk m c 2 t
/-- The norm's weight. -/
def bG (t : Fin cfg0.N) : Vec Ideal S1x1024 .f32 := iblk m c 3 t
/-- The rows added to the result. -/
def bA (t : Fin cfg0.N) : Vec Ideal S512x1024 .f32 := iblk m c 4 t

theorem ix : ∀ t : Fin cfg0.N, ((cfg0.win 0).index t 0 = t.val / 4 / 1 ∧ (cfg0.win 0).index t 1 = t.val % 4)
    ∧ ((cfg0.win 1).index t 0 = t.val / 4 % 1 ∧ (cfg0.win 1).index t 1 = t.val % 4) ∧ ((cfg0.win 2).index t 0 = t.val / 4 ∧ (cfg0.win 2).index t 1 = 0)
    ∧ ((cfg0.win 3).index t 0 = 0 ∧ (cfg0.win 3).index t 1 = 0) ∧ (cfg0.win 4).index t 0 = t.val / 4 ∧ (cfg0.win 4).index t 1 = 0 :=
  (by decide +kernel : ∀ t : Fin grid0.N, (win0_0.index t 0 = t.val / 4 / 1 ∧ win0_0.index t 1 = t.val % 4)
    ∧ (win0_1.index t 0 = t.val / 4 % 1 ∧ win0_1.index t 1 = t.val % 4) ∧ (win0_2.index t 0 = t.val / 4 ∧ win0_2.index t 1 = 0)
    ∧ (win0_3.index t 0 = 0 ∧ win0_3.index t 1 = 0) ∧ win0_4.index t 0 = t.val / 4 ∧ win0_4.index t 1 = 0)

theorem bP_at (t : Fin cfg0.N) (r : Fin 512) (k : Fin 1408) : bP m c t (ValueIdx.ix2 r k) = ext (aP m c) (t.val / 4 / 1 * 512 + r.val) (t.val % 4 * 1408 + k.val) :=
  (congrFun (V_v0 m c) (((cfg0.win 0).blk t).view.emb (ValueIdx.ix2 r k))).trans (ext_emb (aP m c) _ _ _
    ((Pipeline.Window.rect_emb_val (cfg0.win 0) t (ValueIdx.ix2 r k) 0).trans (congrArg (· * 512 + r.val) (ix t).1.1))
    ((Pipeline.Window.rect_emb_val (cfg0.win 0) t (ValueIdx.ix2 r k) 1).trans (congrArg (· * 1408 + k.val) (ix t).1.2)))
theorem bW_at (t : Fin cfg0.N) (x : Fin 1024) (k : Fin 1408) : bW m c t (ValueIdx.ix2 x k) = ext (aW m c) (t.val / 4 % 1 * 1024 + x.val) (t.val % 4 * 1408 + k.val) :=
  (congrFun (V_v1 m c) (((cfg0.win 1).blk t).view.emb (ValueIdx.ix2 x k))).trans (ext_emb (aW m c) _ _ _
    ((Pipeline.Window.rect_emb_val (cfg0.win 1) t (ValueIdx.ix2 x k) 0).trans (congrArg (· * 1024 + x.val) (ix t).2.1.1))
    ((Pipeline.Window.rect_emb_val (cfg0.win 1) t (ValueIdx.ix2 x k) 1).trans (congrArg (· * 1408 + k.val) (ix t).2.1.2)))
theorem bH_at (t : Fin cfg0.N) (r : Fin 512) (x : Fin 1024) : bH m c t (ValueIdx.ix2 r x) = ext (aH m c) (t.val / 4 * 512 + r.val) x.val :=
  (congrFun (V_main_arg2 m c) (((cfg0.win 2).blk t).view.emb (ValueIdx.ix2 r x))).trans (ext_emb (aH m c) _ _ _
    ((Pipeline.Window.rect_emb_val (cfg0.win 2) t (ValueIdx.ix2 r x) 0).trans (congrArg (· * 512 + r.val) (ix t).2.2.1.1))
    ((Pipeline.Window.rect_emb_val (cfg0.win 2) t (ValueIdx.ix2 r x) 1).trans ((congrArg (· * 1024 + x.val) (ix t).2.2.1.2).trans (by omega))))
theorem bG_at (t : Fin cfg0.N) (x : Fin 1024) : bG m c t (ValueIdx.ix2 0 x) = ext (aG m c) 0 x.val :=
  (congrFun (V_main_arg3 m c) (((cfg0.win 3).blk t).view.emb (ValueIdx.ix2 0 x))).trans (ext_emb (aG m c) _ _ _
    ((Pipeline.Window.rect_emb_val (cfg0.win 3) t (ValueIdx.ix2 0 x) 0).trans (congrArg (· * 1 + 0) (ix t).2.2.2.1.1))
    ((Pipeline.Window.rect_emb_val (cfg0.win 3) t (ValueIdx.ix2 0 x) 1).trans ((congrArg (· * 1024 + x.val) (ix t).2.2.2.1.2).trans (by omega))))
theorem bA_at (t : Fin cfg0.N) (r : Fin 512) (x : Fin 1024) : bA m c t (ValueIdx.ix2 r x) = ext (aA m c) (t.val / 4 * 512 + r.val) x.val :=
  (congrFun (V_main_arg4 m c) (((cfg0.win 4).blk t).view.emb (ValueIdx.ix2 r x))).trans (ext_emb (aA m c) _ _ _
    ((Pipeline.Window.rect_emb_val (cfg0.win 4) t (ValueIdx.ix2 r x) 0).trans (congrArg (· * 512 + r.val) (ix t).2.2.2.2.1))
    ((Pipeline.Window.rect_emb_val (cfg0.win 4) t (ValueIdx.ix2 r x) 1).trans ((congrArg (· * 1024 + x.val) (ix t).2.2.2.2.2).trans (by omega))))

/-! ## What one point leaves -/

section
variable (t : Fin cfg0.N)

theorem pt_first (h : t.val % 4 = 0) : (outsAt0 m c t.val t.isLt).2.2 = k0_pay3 (bP m c t) (bW m c t) := by
  by_cases h0 : t.val % 32 = 0
  · rw [outsAt0_A m c t h0 h (by omega) (by omega)]
    unfold sout0_A_0 kernelRun0_A
    dsimp only
    rw [left_whole, load_whole, load_whole]
    rfl
  · rw [outsAt0_D m c t h0 h (by omega) (by omega)]
    unfold sout0_D_0 kernelRun0_D
    dsimp only
    rw [left_whole, load_whole, load_whole]
    rfl
theorem pt_zero (h : t.val % 32 = 0) : (outsAt0 m c t.val t.isLt).2.1 = k0_pay2 (F := Ideal) := by
  rw [outsAt0_A m c t h (by omega) (by omega) (by omega)]
  unfold out0_A_6 kernelRun0_A
  dsimp only
  rw [left_whole]
theorem pt_next (h : ¬t.val % 4 = 0) : (outsAt0 m c t.val t.isLt).2.2
    = k0_pay4 (bP m c t) (bW m c t) (outsAt0 m c (t.val - 1) (Nat.lt_of_le_of_lt (Nat.sub_le _ _) t.isLt)).2.2 := by
  by_cases h3 : t.val % 4 = 3
  · rw [outsAt0_C m c t (by omega) h (by omega) h3]
    unfold sout0_C_0 kernelRun0_C
    dsimp only
    sl_unfold_words
    rw [left_whole, load_whole, load_whole, load_whole]
    rfl
  · rw [outsAt0_B m c t (by omega) h (by omega) h3]
    unfold sout0_B_0 kernelRun0_B
    dsimp only
    rw [left_whole, load_whole, load_whole]
    exact congrArg (k0_pay4 (bP m c t) (bW m c t)) (load_whole (a := scM0_0) _ _ _)
theorem pt_keep (h0 : ¬t.val % 32 = 0) (h3 : ¬t.val % 4 = 3) : (outsAt0 m c t.val t.isLt).2.1
    = (outsAt0 m c (t.val - 1) (Nat.lt_of_le_of_lt (Nat.sub_le _ _) t.isLt)).2.1 := by
  by_cases h : t.val % 4 = 0
  · rw [outsAt0_D m c t h0 h (by omega) h3]; dsimp only; unfold out0_D_6; rfl
  · rw [outsAt0_B m c t h0 h (by omega) h3]; dsimp only; unfold out0_B_6; rfl
theorem pt_add (h : t.val % 4 = 3) : (outsAt0 m c t.val t.isLt).2.1 = k0_pay5 (k0_pay8 (bH m c t) (outsAt0 m c t.val t.isLt).2.2)
    (outsAt0 m c (t.val - 1) (Nat.lt_of_le_of_lt (Nat.sub_le _ _) t.isLt)).2.1 := by
  rw [pt_next m c t (by omega), outsAt0_C m c t (by omega) (by omega) (by omega) h]
  unfold out0_C_6 kernelRun0_C
  dsimp only
  sl_unfold_words
  rw [left_whole, View.readCov_unit_zero _ hz, load_whole, load_whole, load_whole, load_whole, load_whole]
  rfl
theorem pt_last (h : t.val % 4 = 3) : (outsAt0 m c t.val t.isLt).1 = k0_pay9 (bH m c t) (bG m c t) (outsAt0 m c t.val t.isLt).2.2 (bA m c t) := by
  rw [pt_next m c t (by omega), outsAt0_C m c t (by omega) (by omega) (by omega) h]
  unfold out0_C_5 kernelRun0_C
  dsimp only
  sl_unfold_words
  rw [left_whole, View.readCov_unit_zero _ hz, load_whole, load_whole, load_whole, load_whole, load_whole, load_whole]
  rfl
end

/-! ## The two results -/

theorem start (n : ℕ) (h : n < cfg0.N) (hn : n % 4 + 1 = 4 ∨ ¬n % 4 = 0 ∨ 0 < n) : ¬n % 32 = 0 := by
  have hN : n < 32 := lt_of_lt_of_eq h N_0
  omega

/-- The points as one sweep. -/
def sweep : Sweep (aP m c) (aW m c) (aH m c) (aG m c) (aA m c) cfg0.N 4 1408 where
  bP t r k := bP m c t (ValueIdx.ix2 r k)
  bW t x k := bW m c t (ValueIdx.ix2 x k)
  bH t r x := bH m c t (ValueIdx.ix2 r x)
  bG t x := bG m c t (ValueIdx.ix2 0 x)
  bA t r x := bA m c t (ValueIdx.ix2 r x)
  scr n h r x := (outsAt0 m c n h).2.2 (ValueIdx.ix2 r x)
  out n h x := (outsAt0 m c n h).2.1 (ValueIdx.ix2 0 x)
  res n h r x := (outsAt0 m c n h).1 (ValueIdx.ix2 r x)
  hP := bP_at m c
  hW := bW_at m c
  hH := bH_at m c
  hG := bG_at m c
  hA := bA_at m c
  first n h r x h0 := (congrFun (pt_first m c ⟨n, h⟩ h0) _).trans (pay3_at _ _ _)
  next n h r x h0 := (congrFun (pt_next m c ⟨n + 1, h⟩ h0) _).trans (pay4_at _ _ _ _)
  zero h x := (congrFun (pt_zero m c ⟨0, h⟩ (Nat.zero_mod _)) _).trans (pay2_at _)
  keep n h x h3 := congrFun (pt_keep m c ⟨n + 1, h⟩ (start (n + 1) h (.inr (.inr n.succ_pos))) fun e => h3 (congrArg (· + 1) e)) _
  add n h x h3 := (congrFun (pt_add m c ⟨n + 1, h⟩ (Nat.succ.inj h3)) _).trans ((pay5_at _ _ _).trans (congrArg (_ + ·) (pay8_at _ _ _)))
  last n h r x h3 := (congrFun (pt_last m c ⟨n + 1, h⟩ (Nat.succ.inj h3)) _).trans (pay9_at _ _ _ _ _)

theorem G5_at (r : Fin 4096) (x : Fin 1024) :
    (G5 m c : FVec Ideal S4096x1024 .f32) (ValueIdx.ix2 r x) = grad (row (aH m c) r) (prod (aP m c) (aW m c) r) (row (aG m c) 0) (row (aA m c) r) x := by
  obtain ⟨p, hp⟩ : ∃ p, p = pt5Of (ValueIdx.ix2 r x) := ⟨_, rfl⟩
  have e : p = 4 * (1 * (r.val / 512 - 0) + 1 * (x.val / 1024 - 0)) + 3 := hp
  have h : pt5Of (ValueIdx.ix2 r x) < cfg0.N := lt_of_lt_of_eq (show _ < 32 by rw [← hp]; omega) N_0.symm
  have hl : pt5Of (ValueIdx.ix2 r x) % 4 + 1 = 4 := by rw [← hp]; omega
  have hr : pt5Of (ValueIdx.ix2 r x) / 4 * 512 + r.val % 512 = r.val := by rw [← hp]; omega
  unfold G5
  rw [dif_pos h, ← outsAt0_sweep m c _ h]
  exact (at_ix2 (outsAt0 m c _ h).1 _ (r.val % 512) x.val (Nat.mod_lt _ (by decide)) x.isLt rfl (Nat.mod_eq_of_lt x.isLt)).trans
    ((sweep m c).res_at (by decide) rfl _ h hl ⟨r.val % 512, Nat.mod_lt _ (by decide)⟩ r hr x)

theorem out_at (n : ℕ) (h : n < cfg0.N) (hl : n + 1 = 8 * 4) (x : Fin 1024) :
    (Pipeline.accAt (fun n h => stAt0 m c n h junk0) (stAt0 m c) 0 n (by omega)).2.1 (ValueIdx.ix2 0 x) = ∑ r : Fin 4096, share (row (aH m c) r) (prod (aP m c) (aW m c) r) x := by
  rw [← outsAt0_sweep m c n h]
  exact (sweep m c).out_all (by decide) rfl N_0 n h hl x
theorem G6_at (x : Fin 1024) :
    (G6 m c : FVec Ideal S1x1024 .f32) (ValueIdx.ix2 0 x) = ∑ r : Fin 4096, share (row (aH m c) r) (prod (aP m c) (aW m c) r) x :=
  (congrFun (G6_last m c) (ValueIdx.ix2 0 x)).trans (out_at m c 31 (lt_of_lt_of_eq (by decide) N_0.symm) rfl x)

end Cert.Kernel3Ideal.Hand
-- ==== Proof.N3.Ref.lean ====
/-
  The reference's two results, row by row: the same formulas.
-/
module

public import proofs.«01_k».proof.Proof.Norm.Row
public import proofs.«01_k».proof.Proof.Gen.Reference3Ideal.Read

@[expose] public section
set_option maxRecDepth 100000
noncomputable section
namespace Cert.Kernel3Ideal.Hand.Ref
open Cert.Norm Cert.Reference3Ideal Cert.Reference3Ideal.Gen Cert.Reference3Ideal.Read
open Idealize.ShloMosaic Idealize.ShloMosaic.TcCoe

variable (p : FVec Ideal S4096x5632 .f32) (w : FVec Ideal S1024x5632 .f32) (h : FVec Ideal S4096x1024 .f32) (g : FVec Ideal S1x1024 .f32) (a : FVec Ideal S4096x1024 .f32)

theorem s_v7 (i : S4096x1.Idx) : val_main_v7 (F := Ideal) h i = mean (row h (i 0)) := by
  rw [val_main_v7_apply, val_main_v5_apply, val_main_v3_apply, val_main_v2_apply, val_main_v4_apply, val_main_v6_apply]
  show Ideal.div (Ideal.ofBits .f32 0x00000000#32 + ∑ k : Fin 1024, val_main_v1 (F := Ideal) h (idx_main_v2 (idx_main_v3 i) k)) (Ideal.ofBits .f32 0x44800000#32) + Ideal.ofBits .f32 0x358637BD#32 = _
  rw [Ideal.ofBits_zero_f32, zero_add]
  refine congrArg (fun s : EReal => Ideal.div s (Ideal.ofBits .f32 0x44800000#32) + Ideal.ofBits .f32 0x358637BD#32) (Finset.sum_congr rfl fun k _ => ?_)
  exact congrArg (fun s : EReal => s * s) (at_ix2 h (idx_main_v2 (idx_main_v3 i) k) (i 0).val k.val (i 0).isLt k.isLt rfl rfl)
theorem s_v8 (i : S4096x1.Idx) : val_main_v8 (F := Ideal) h i = inv (row h (i 0)) := congrArg Ideal.rsqrt (s_v7 h i)
theorem s_v11 (i : S4096x1.Idx) : val_main_v11 (F := Ideal) h i = Ideal.ofBits .f32 0xBF000000#32 * Ideal.div (inv (row h (i 0))) (mean (row h (i 0))) := by
  rw [val_main_v11_apply, val_main_v9_apply, s_v8, s_v7, val_main_v10_apply]
  rfl
theorem s_v18 (i : S4096x1024.Idx) : val_main_v18 (F := Ideal) p w i = prod p w (i 0) (i 1) := by
  rw [val_main_v18_apply]
  exact Finset.sum_congr rfl fun k _ => congrArg₂ (fun u v : EReal => u * v)
    (at_ix2 p (lidx_main_v18 i k) (i 0).val k.val (i 0).isLt k.isLt rfl rfl) (at_ix2 w (ridx_main_v18 i k) (i 1).val k.val (i 1).isLt k.isLt rfl rfl)
theorem s_v19 (r : Fin 4096) (x : Fin 1024) : val_main_v19 (F := Ideal) p w h (ValueIdx.ix2 r x) = share (row h r) (prod p w r) x := by
  rw [val_main_v19_apply, val_main_v13_apply, val_main_v12_apply, s_v8, s_v18]
  rfl
theorem s_v20 (i : S1024.Idx) : val_main_v20 (F := Ideal) p w h i = ∑ r : Fin 4096, share (row h r) (prod p w r) (i 0) := by
  rw [val_main_v20_apply]
  show Ideal.ofBits .f32 0x00000000#32 + _ = _
  rw [Ideal.ofBits_zero_f32, zero_add]
  exact Finset.sum_congr rfl fun r _ => (at_ix2 (val_main_v19 (F := Ideal) p w h) (idx_main_v20 i r) r.val (i 0).val r.isLt (i 0).isLt rfl rfl).trans (s_v19 p w h r (i 0))
theorem s_v40 (x : Fin 1024) : val_main_v40 (F := Ideal) p w h (ValueIdx.ix2 0 x) = ∑ r : Fin 4096, share (row h r) (prod p w r) x := by
  rw [val_main_v40_apply, val_main_v24_apply]
  show Ideal.ofBits .f32 0x00000000#32 + _ = _
  rw [Ideal.ofBits_zero_f32, zero_add, Fin.sum_univ_one, val_main_v21_apply, s_v20]
  refine Finset.sum_congr rfl fun r _ => congrArg (share (row h r) (prod p w r)) (Fin.ext ?_)
  show 0 * 1024 + (0 * 1024 + x.val) = x.val
  omega
theorem s_v22 (i : S4096x1024.Idx) : val_main_v22 (F := Ideal) g i = row g 0 (i 1) := by
  rw [val_main_v22_apply, val_main_v14_apply, val_main_v0_apply]
  have h1 : (i 1).val < 1024 := (i 1).isLt
  exact at_ix2 g _ 0 (i 1).val (by omega) (i 1).isLt rfl (Nat.mod_eq_of_lt h1)
theorem s_v23 (r : Fin 4096) (x : Fin 1024) : val_main_v23 (F := Ideal) p w g (ValueIdx.ix2 r x) = prod p w r x * row g 0 x := by
  rw [val_main_v23_apply, s_v18, s_v22]
  rfl
theorem s_v26 (i : S4096.Idx) : val_main_v26 (F := Ideal) p w h g i = ∑ y : Fin 1024, row h (i 0) y * (prod p w (i 0) y * row g 0 y) := by
  rw [val_main_v26_apply]
  show Ideal.ofBits .f32 0x00000000#32 + _ = _
  rw [Ideal.ofBits_zero_f32, zero_add]
  refine Finset.sum_congr rfl fun y _ => (at_ix2 (val_main_v25 (F := Ideal) p w h g) (idx_main_v26 i y) (i 0).val y.val (i 0).isLt y.isLt rfl rfl).trans ?_
  rw [val_main_v25_apply, s_v23]
  rfl
theorem s_v32 (i : S4096x1.Idx) : val_main_v32 (F := Ideal) p w h g i = pull (row h (i 0)) (prod p w (i 0)) (row g 0) := by
  rw [val_main_v32_apply, val_main_v30_apply, val_main_v27_apply, s_v26, s_v11, val_main_v31_apply]
  have h0 : (i 0).val < 4096 := (i 0).isLt
  have h1 : (i 1).val < 1 := (i 1).isLt
  have e : (idx_main_v27 i) 0 = i 0 := Fin.ext (by
    show (i 0).val * 1 + (i 1).val = (i 0).val
    omega)
  rw [e]
  rfl
theorem s_v34 (r : Fin 4096) (x : Fin 1024) : val_main_v34 (F := Ideal) p w h g (ValueIdx.ix2 r x) = pull (row h r) (prod p w r) (row g 0) := by
  rw [val_main_v34_apply, val_main_v33_apply]
  show Ideal.ofBits .f32 0x00000000#32 + _ = _
  rw [Ideal.ofBits_zero_f32, zero_add, Fin.sum_univ_one, s_v32]
  rfl
theorem s_v39 (r : Fin 4096) (x : Fin 1024) : val_main_v39 (F := Ideal) p w h g a (ValueIdx.ix2 r x) = grad (row h r) (prod p w r) (row g 0) (row a r) x := by
  rw [val_main_v39_apply, val_main_v38_apply, val_main_v36_apply, val_main_v29_apply, val_main_v35_apply, val_main_v37_apply, s_v34, s_v23, val_main_v28_apply, s_v8]
  rfl

end Cert.Kernel3Ideal.Hand.Ref
-- ==== Proof.N3.Algebraic.lean ====
/-
  The projection-and-norm kernel writes the reference's gradients.
-/
module

public import proofs.«01_k».proof.Proof.N3.Fold
public import proofs.«01_k».proof.Proof.N3.Ref
public import proofs.«01_k».proof.Proof.Gen.Reference3Ideal.Run
public import proofs.«01_k».proof.Defs

@[expose] public section
set_option maxRecDepth 100000
noncomputable section
namespace Cert.Kernel3Ideal.Hand
open Cert.Kernel3Ideal Cert.Kernel3Ideal.Gen Cert.Norm
open Idealize.ShloMosaic Idealize.ShloMosaic.TcCoe

section
variable (m : (ℓ : Loc nD τ sig) → Buf (Elt Ideal) ℓ) (c : Dev nD)

/-- The input's gradient. -/
def w0 : FVec Ideal S4096x1024 .f32 := Value.G5 m c
/-- The norm's weight's gradient. -/
def w1 : FVec Ideal S1x1024 .f32 := Value.G6 m c

theorem w0_eq : w0 m c = Cert.Reference3Ideal.Read.val_main_v39 (F := Ideal) (aP m c) (aW m c) (aH m c) (aG m c) (aA m c) := by
  funext i
  obtain ⟨r, x, rfl⟩ : ∃ (r : Fin 4096) (x : Fin 1024), i = ValueIdx.ix2 r x := ⟨i 0, i 1, ValueIdx.eq_ix2 i⟩
  exact (G5_at m c r x).trans (Ref.s_v39 (aP m c) (aW m c) (aH m c) (aG m c) (aA m c) r x).symm

theorem w1_eq : w1 m c = Cert.Reference3Ideal.Read.val_main_v40 (F := Ideal) (aP m c) (aW m c) (aH m c) := by
  funext i
  obtain ⟨r, x, rfl⟩ : ∃ (r : Fin 1) (x : Fin 1024), i = ValueIdx.ix2 r x := ⟨i 0, i 1, ValueIdx.eq_ix2 i⟩
  obtain rfl : r = 0 := Subsingleton.elim _ _
  exact (G6_at m c x).trans (Ref.s_v40 (aP m c) (aW m c) (aH m c) x).symm
end

theorem algebraic : Cert.algebraic_Kernel3Ideal_Reference3Ideal := by
  intro m g m' g' _ hag
  refine ⟨fun c => w0 m c, fun c => w1 m c, Value.run (F := Ideal) m g, ?_⟩
  refine (θ_run Cert.Reference3Ideal.defs _ _).mono (fun r h c => ?_) (Cert.Reference3Ideal.Value.run (F := Ideal) m' g')
  obtain ⟨e0, e1, e2, e3, e4⟩ := hag c
  obtain ⟨k0, k1, k2⟩ := h c
  refine ⟨k0.trans ?_, k1.trans ?_, k2⟩
  · rw [Cert.Reference3Ideal.Read.val_main_v39_eq, e0, e1, e2, e3, e4]
    exact (w0_eq m c).symm
  · rw [Cert.Reference3Ideal.Read.val_main_v40_eq, e0, e1, e2]
    exact (w1_eq m c).symm

end Cert.Kernel3Ideal.Hand
-- ==== Proof.N4.Pay.lean ====
/-
  The values the second layer's projection-and-norm kernel computes, each read at an index. The norm's
  are the first layer's, at the same shapes.
-/
module

public import proofs.«01_k».proof.Proof.N3.Pay
public import proofs.«01_k».proof.Proof.Gen.Kernel4Ideal.Value

@[expose] public section
set_option maxRecDepth 100000
noncomputable section
namespace Cert.Kernel4Ideal.Hand
open Cert.Kernel4Ideal Cert.Kernel4Ideal.Gen Cert.Norm
open Idealize.ShloMosaic Idealize.ShloMosaic.TcCoe

theorem pay1_at (p : Vec Ideal S512x1152 .bf16) (w : Vec Ideal S1024x1152 .bf16) (i : S512x1024.Idx) :
    k0_pay1 (F := Ideal) p w i = ∑ k : Fin 1152, p (ValueIdx.ix2 (i 0) k) * w (ValueIdx.ix2 (i 1) k) := by
  unfold k0_pay1
  rw [shapeCast_self, shapeCast_self]
  exact mm_at dot_S512x1152_S1024x1152_S512x1024_1_1_0_0_n_n rfl rfl rfl rfl rfl rfl p w i

theorem pay3_at (p : Vec Ideal S512x1152 .bf16) (w : Vec Ideal S1024x1152 .bf16) (i : S512x1024.Idx) :
    k0_pay3 (F := Ideal) p w i = ∑ k : Fin 1152, p (ValueIdx.ix2 (i 0) k) * w (ValueIdx.ix2 (i 1) k) := by
  unfold k0_pay3
  rw [shapeCast_self]
  exact pay1_at p w i

theorem pay4_at (p : Vec Ideal S512x1152 .bf16) (w : Vec Ideal S1024x1152 .bf16) (s : Vec Ideal S512x1024 .f32) (i : S512x1024.Idx) :
    k0_pay4 (F := Ideal) p w s i = s i + ∑ k : Fin 1152, p (ValueIdx.ix2 (i 0) k) * w (ValueIdx.ix2 (i 1) k) := by
  unfold k0_pay4
  rw [shapeCast_self]
  exact congrArg (s i + ·) (pay1_at p w i)

theorem pay2_at (i : S1x1024.Idx) : k0_pay2 (F := Ideal) i = (0 : EReal) := Ideal.ofBits_zero_f32

theorem pay5_at (d o : Vec Ideal S1x1024 .f32) (i : S1x1024.Idx) : k0_pay5 (F := Ideal) d o i = (o i + d i : EReal) :=
  Kernel3Ideal.Hand.pay5_at d o i

theorem pay8_at (h ct : Vec Ideal S512x1024 .f32) (i : S1x1024.Idx) :
    k0_pay8 (F := Ideal) h ct i = ∑ r : Fin 512, share (fun y => h (ValueIdx.ix2 r y)) (fun y => ct (ValueIdx.ix2 r y)) (i 1) :=
  Kernel3Ideal.Hand.pay8_at h ct i

theorem pay9_at (h : Vec Ideal S512x1024 .f32) (g : Vec Ideal S1x1024 .f32) (ct ad : Vec Ideal S512x1024 .f32) (i : S512x1024.Idx) :
    k0_pay9 (F := Ideal) h g ct ad i
      = grad (fun y => h (ValueIdx.ix2 (i 0) y)) (fun y => ct (ValueIdx.ix2 (i 0) y)) (fun y => g (ValueIdx.ix2 0 y)) (fun y => ad (ValueIdx.ix2 (i 0) y)) (i 1) :=
  Kernel3Ideal.Hand.pay9_at h g ct ad i

end Cert.Kernel4Ideal.Hand
-- ==== Proof.N4.Fold.lean ====
/-
  What the projection-and-norm kernel leaves in its two results: each row block's gradient, and the
  weight's gradient summed over the row blocks.
-/
module

public import proofs.«01_k».proof.Proof.N4.Pay
public import proofs.«01_k».proof.Proof.Norm.Sweep
public import Idealize.ShloMosaic.Lib.Claim
public import Idealize.ShloMosaic.Lib.StableHlo.RunRead

@[expose] public section
set_option maxRecDepth 100000
noncomputable section
namespace Cert.Kernel4Ideal.Hand
open Cert.Kernel4Ideal Cert.Kernel4Ideal.Gen Cert.Kernel4Ideal.Value Cert.Norm
open Idealize.ShloMosaic Idealize.ShloMosaic.TcCoe Idealize.ShloMosaic.StableHlo

variable (m : (ℓ : Loc nD τ sig) → Buf (Elt Ideal) ℓ) (c : Dev nD)

/-! ## The arguments and their blocks -/

/-- The projection's gradient. -/
def aP : FVec Ideal S4096x3456 .f32 := m ((c : Thread nD τ).loc main_arg0)
/-- The projection's weight. -/
def aW : FVec Ideal S1024x3456 .f32 := m ((c : Thread nD τ).loc main_arg1)
/-- The norm's input. -/
def aH : FVec Ideal S4096x1024 .f32 := m ((c : Thread nD τ).loc main_arg2)
/-- The norm's weight. -/
def aG : FVec Ideal S1x1024 .f32 := m ((c : Thread nD τ).loc main_arg3)
/-- The gradient added to the result. -/
def aA : FVec Ideal S4096x1024 .f32 := m ((c : Thread nD τ).loc main_arg4)

set_option maxHeartbeats 4000000 in
theorem V_v0 : V m c main_v0 = aP m c := by
  entry_read
  rfl
set_option maxHeartbeats 4000000 in
theorem V_v1 : V m c main_v1 = aW m c := by
  entry_read
  rfl

/-- The projection's block. -/
def bP (t : Fin cfg0.N) : Vec Ideal S512x1152 .bf16 := iblk m c 0 t
/-- The weight's block. -/
def bW (t : Fin cfg0.N) : Vec Ideal S1024x1152 .bf16 := iblk m c 1 t
/-- The norm's input's rows. -/
def bH (t : Fin cfg0.N) : Vec Ideal S512x1024 .f32 := iblk m c 2 t
/-- The norm's weight. -/
def bG (t : Fin cfg0.N) : Vec Ideal S1x1024 .f32 := iblk m c 3 t
/-- The rows added to the result. -/
def bA (t : Fin cfg0.N) : Vec Ideal S512x1024 .f32 := iblk m c 4 t

theorem ix : ∀ t : Fin cfg0.N, ((cfg0.win 0).index t 0 = t.val / 3 / 1 ∧ (cfg0.win 0).index t 1 = t.val % 3)
    ∧ ((cfg0.win 1).index t 0 = t.val / 3 % 1 ∧ (cfg0.win 1).index t 1 = t.val % 3) ∧ ((cfg0.win 2).index t 0 = t.val / 3 ∧ (cfg0.win 2).index t 1 = 0)
    ∧ ((cfg0.win 3).index t 0 = 0 ∧ (cfg0.win 3).index t 1 = 0) ∧ (cfg0.win 4).index t 0 = t.val / 3 ∧ (cfg0.win 4).index t 1 = 0 :=
  (by decide +kernel : ∀ t : Fin grid0.N, (win0_0.index t 0 = t.val / 3 / 1 ∧ win0_0.index t 1 = t.val % 3)
    ∧ (win0_1.index t 0 = t.val / 3 % 1 ∧ win0_1.index t 1 = t.val % 3) ∧ (win0_2.index t 0 = t.val / 3 ∧ win0_2.index t 1 = 0)
    ∧ (win0_3.index t 0 = 0 ∧ win0_3.index t 1 = 0) ∧ win0_4.index t 0 = t.val / 3 ∧ win0_4.index t 1 = 0)

theorem bP_at (t : Fin cfg0.N) (r : Fin 512) (k : Fin 1152) : bP m c t (ValueIdx.ix2 r k) = ext (aP m c) (t.val / 3 / 1 * 512 + r.val) (t.val % 3 * 1152 + k.val) :=
  (congrFun (V_v0 m c) (((cfg0.win 0).blk t).view.emb (ValueIdx.ix2 r k))).trans (ext_emb (aP m c) _ _ _
    ((Pipeline.Window.rect_emb_val (cfg0.win 0) t (ValueIdx.ix2 r k) 0).trans (congrArg (· * 512 + r.val) (ix t).1.1))
    ((Pipeline.Window.rect_emb_val (cfg0.win 0) t (ValueIdx.ix2 r k) 1).trans (congrArg (· * 1152 + k.val) (ix t).1.2)))
theorem bW_at (t : Fin cfg0.N) (x : Fin 1024) (k : Fin 1152) : bW m c t (ValueIdx.ix2 x k) = ext (aW m c) (t.val / 3 % 1 * 1024 + x.val) (t.val % 3 * 1152 + k.val) :=
  (congrFun (V_v1 m c) (((cfg0.win 1).blk t).view.emb (ValueIdx.ix2 x k))).trans (ext_emb (aW m c) _ _ _
    ((Pipeline.Window.rect_emb_val (cfg0.win 1) t (ValueIdx.ix2 x k) 0).trans (congrArg (· * 1024 + x.val) (ix t).2.1.1))
    ((Pipeline.Window.rect_emb_val (cfg0.win 1) t (ValueIdx.ix2 x k) 1).trans (congrArg (· * 1152 + k.val) (ix t).2.1.2)))
theorem bH_at (t : Fin cfg0.N) (r : Fin 512) (x : Fin 1024) : bH m c t (ValueIdx.ix2 r x) = ext (aH m c) (t.val / 3 * 512 + r.val) x.val :=
  (congrFun (V_main_arg2 m c) (((cfg0.win 2).blk t).view.emb (ValueIdx.ix2 r x))).trans (ext_emb (aH m c) _ _ _
    ((Pipeline.Window.rect_emb_val (cfg0.win 2) t (ValueIdx.ix2 r x) 0).trans (congrArg (· * 512 + r.val) (ix t).2.2.1.1))
    ((Pipeline.Window.rect_emb_val (cfg0.win 2) t (ValueIdx.ix2 r x) 1).trans ((congrArg (· * 1024 + x.val) (ix t).2.2.1.2).trans (by omega))))
theorem bG_at (t : Fin cfg0.N) (x : Fin 1024) : bG m c t (ValueIdx.ix2 0 x) = ext (aG m c) 0 x.val :=
  (congrFun (V_main_arg3 m c) (((cfg0.win 3).blk t).view.emb (ValueIdx.ix2 0 x))).trans (ext_emb (aG m c) _ _ _
    ((Pipeline.Window.rect_emb_val (cfg0.win 3) t (ValueIdx.ix2 0 x) 0).trans (congrArg (· * 1 + 0) (ix t).2.2.2.1.1))
    ((Pipeline.Window.rect_emb_val (cfg0.win 3) t (ValueIdx.ix2 0 x) 1).trans ((congrArg (· * 1024 + x.val) (ix t).2.2.2.1.2).trans (by omega))))
theorem bA_at (t : Fin cfg0.N) (r : Fin 512) (x : Fin 1024) : bA m c t (ValueIdx.ix2 r x) = ext (aA m c) (t.val / 3 * 512 + r.val) x.val :=
  (congrFun (V_main_arg4 m c) (((cfg0.win 4).blk t).view.emb (ValueIdx.ix2 r x))).trans (ext_emb (aA m c) _ _ _
    ((Pipeline.Window.rect_emb_val (cfg0.win 4) t (ValueIdx.ix2 r x) 0).trans (congrArg (· * 512 + r.val) (ix t).2.2.2.2.1))
    ((Pipeline.Window.rect_emb_val (cfg0.win 4) t (ValueIdx.ix2 r x) 1).trans ((congrArg (· * 1024 + x.val) (ix t).2.2.2.2.2).trans (by omega))))

/-! ## What one point leaves -/

section
variable (t : Fin cfg0.N)

theorem pt_first (h : t.val % 3 = 0) : (outsAt0 m c t.val t.isLt).2.2 = k0_pay3 (bP m c t) (bW m c t) := by
  by_cases h0 : t.val % 24 = 0
  · rw [outsAt0_A m c t h0 h (by omega) (by omega)]
    unfold sout0_A_0 kernelRun0_A
    dsimp only
    rw [left_whole, load_whole, load_whole]
    rfl
  · rw [outsAt0_D m c t h0 h (by omega) (by omega)]
    unfold sout0_D_0 kernelRun0_D
    dsimp only
    rw [left_whole, load_whole, load_whole]
    rfl
theorem pt_zero (h : t.val % 24 = 0) : (outsAt0 m c t.val t.isLt).2.1 = k0_pay2 (F := Ideal) := by
  rw [outsAt0_A m c t h (by omega) (by omega) (by omega)]
  unfold out0_A_6 kernelRun0_A
  dsimp only
  rw [left_whole]
theorem pt_next (h : ¬t.val % 3 = 0) : (outsAt0 m c t.val t.isLt).2.2
    = k0_pay4 (bP m c t) (bW m c t) (outsAt0 m c (t.val - 1) (Nat.lt_of_le_of_lt (Nat.sub_le _ _) t.isLt)).2.2 := by
  by_cases h3 : t.val % 3 = 2
  · rw [outsAt0_C m c t (by omega) h (by omega) h3]
    unfold sout0_C_0 kernelRun0_C
    dsimp only
    sl_unfold_words
    rw [left_whole, load_whole, load_whole, load_whole]
    rfl
  · rw [outsAt0_B m c t (by omega) h (by omega) h3]
    unfold sout0_B_0 kernelRun0_B
    dsimp only
    rw [left_whole, load_whole, load_whole]
    exact congrArg (k0_pay4 (bP m c t) (bW m c t)) (load_whole (a := scM0_0) _ _ _)
theorem pt_keep (h0 : ¬t.val % 24 = 0) (h3 : ¬t.val % 3 = 2) : (outsAt0 m c t.val t.isLt).2.1
    = (outsAt0 m c (t.val - 1) (Nat.lt_of_le_of_lt (Nat.sub_le _ _) t.isLt)).2.1 := by
  by_cases h : t.val % 3 = 0
  · rw [outsAt0_D m c t h0 h (by omega) h3]; dsimp only; unfold out0_D_6; rfl
  · rw [outsAt0_B m c t h0 h (by omega) h3]; dsimp only; unfold out0_B_6; rfl
theorem pt_add (h : t.val % 3 = 2) : (outsAt0 m c t.val t.isLt).2.1 = k0_pay5 (k0_pay8 (bH m c t) (outsAt0 m c t.val t.isLt).2.2)
    (outsAt0 m c (t.val - 1) (Nat.lt_of_le_of_lt (Nat.sub_le _ _) t.isLt)).2.1 := by
  rw [pt_next m c t (by omega), outsAt0_C m c t (by omega) (by omega) (by omega) h]
  unfold out0_C_6 kernelRun0_C
  dsimp only
  sl_unfold_words
  rw [left_whole, View.readCov_unit_zero _ hz, load_whole, load_whole, load_whole, load_whole, load_whole]
  rfl
theorem pt_last (h : t.val % 3 = 2) : (outsAt0 m c t.val t.isLt).1 = k0_pay9 (bH m c t) (bG m c t) (outsAt0 m c t.val t.isLt).2.2 (bA m c t) := by
  rw [pt_next m c t (by omega), outsAt0_C m c t (by omega) (by omega) (by omega) h]
  unfold out0_C_5 kernelRun0_C
  dsimp only
  sl_unfold_words
  rw [left_whole, View.readCov_unit_zero _ hz, load_whole, load_whole, load_whole, load_whole, load_whole, load_whole]
  rfl
end

/-! ## The two results -/

theorem start (n : ℕ) (h : n < cfg0.N) (hn : n % 3 + 1 = 3 ∨ ¬n % 3 = 0 ∨ 0 < n) : ¬n % 24 = 0 := by
  have hN : n < 24 := lt_of_lt_of_eq h N_0
  omega

/-- The points as one sweep. -/
def sweep : Sweep (aP m c) (aW m c) (aH m c) (aG m c) (aA m c) cfg0.N 3 1152 where
  bP t r k := bP m c t (ValueIdx.ix2 r k)
  bW t x k := bW m c t (ValueIdx.ix2 x k)
  bH t r x := bH m c t (ValueIdx.ix2 r x)
  bG t x := bG m c t (ValueIdx.ix2 0 x)
  bA t r x := bA m c t (ValueIdx.ix2 r x)
  scr n h r x := (outsAt0 m c n h).2.2 (ValueIdx.ix2 r x)
  out n h x := (outsAt0 m c n h).2.1 (ValueIdx.ix2 0 x)
  res n h r x := (outsAt0 m c n h).1 (ValueIdx.ix2 r x)
  hP := bP_at m c
  hW := bW_at m c
  hH := bH_at m c
  hG := bG_at m c
  hA := bA_at m c
  first n h r x h0 := (congrFun (pt_first m c ⟨n, h⟩ h0) _).trans (pay3_at _ _ _)
  next n h r x h0 := (congrFun (pt_next m c ⟨n + 1, h⟩ h0) _).trans (pay4_at _ _ _ _)
  zero h x := (congrFun (pt_zero m c ⟨0, h⟩ (Nat.zero_mod _)) _).trans (pay2_at _)
  keep n h x h3 := congrFun (pt_keep m c ⟨n + 1, h⟩ (start (n + 1) h (.inr (.inr n.succ_pos))) fun e => h3 (congrArg (· + 1) e)) _
  add n h x h3 := (congrFun (pt_add m c ⟨n + 1, h⟩ (Nat.succ.inj h3)) _).trans ((pay5_at _ _ _).trans (congrArg (_ + ·) (pay8_at _ _ _)))
  last n h r x h3 := (congrFun (pt_last m c ⟨n + 1, h⟩ (Nat.succ.inj h3)) _).trans (pay9_at _ _ _ _ _)

theorem G5_at (r : Fin 4096) (x : Fin 1024) :
    (G5 m c : FVec Ideal S4096x1024 .f32) (ValueIdx.ix2 r x) = grad (row (aH m c) r) (prod (aP m c) (aW m c) r) (row (aG m c) 0) (row (aA m c) r) x := by
  obtain ⟨p, hp⟩ : ∃ p, p = pt5Of (ValueIdx.ix2 r x) := ⟨_, rfl⟩
  have e : p = 3 * (1 * (r.val / 512 - 0) + 1 * (x.val / 1024 - 0)) + 2 := hp
  have h : pt5Of (ValueIdx.ix2 r x) < cfg0.N := lt_of_lt_of_eq (show _ < 24 by rw [← hp]; omega) N_0.symm
  have hl : pt5Of (ValueIdx.ix2 r x) % 3 + 1 = 3 := by rw [← hp]; omega
  have hr : pt5Of (ValueIdx.ix2 r x) / 3 * 512 + r.val % 512 = r.val := by rw [← hp]; omega
  unfold G5
  rw [dif_pos h, ← outsAt0_sweep m c _ h]
  exact (at_ix2 (outsAt0 m c _ h).1 _ (r.val % 512) x.val (Nat.mod_lt _ (by decide)) x.isLt rfl (Nat.mod_eq_of_lt x.isLt)).trans
    ((sweep m c).res_at (by decide) rfl _ h hl ⟨r.val % 512, Nat.mod_lt _ (by decide)⟩ r hr x)

theorem out_at (n : ℕ) (h : n < cfg0.N) (hl : n + 1 = 8 * 3) (x : Fin 1024) :
    (Pipeline.accAt (fun n h => stAt0 m c n h junk0) (stAt0 m c) 0 n (by omega)).2.1 (ValueIdx.ix2 0 x) = ∑ r : Fin 4096, share (row (aH m c) r) (prod (aP m c) (aW m c) r) x := by
  rw [← outsAt0_sweep m c n h]
  exact (sweep m c).out_all (by decide) rfl N_0 n h hl x
theorem G6_at (x : Fin 1024) :
    (G6 m c : FVec Ideal S1x1024 .f32) (ValueIdx.ix2 0 x) = ∑ r : Fin 4096, share (row (aH m c) r) (prod (aP m c) (aW m c) r) x :=
  (congrFun (G6_last m c) (ValueIdx.ix2 0 x)).trans (out_at m c 23 (lt_of_lt_of_eq (by decide) N_0.symm) rfl x)

end Cert.Kernel4Ideal.Hand
-- ==== Proof.N4.Ref.lean ====
/-
  The second layer's reference's two results, row by row: the same formulas. What does not read the
  projection is the first layer's, at the same shapes.
-/
module

public import proofs.«01_k».proof.Proof.N3.Ref
public import proofs.«01_k».proof.Proof.Gen.Reference4Ideal.Read

@[expose] public section
set_option maxRecDepth 100000
noncomputable section
namespace Cert.Kernel4Ideal.Hand.Ref
open Cert.Norm Cert.Reference4Ideal Cert.Reference4Ideal.Gen Cert.Reference4Ideal.Read
open Idealize.ShloMosaic Idealize.ShloMosaic.TcCoe

variable (p : FVec Ideal S4096x3456 .f32) (w : FVec Ideal S1024x3456 .f32) (h : FVec Ideal S4096x1024 .f32) (g : FVec Ideal S1x1024 .f32) (a : FVec Ideal S4096x1024 .f32)

theorem s_v8 (i : S4096x1.Idx) : val_main_v8 (F := Ideal) h i = inv (row h (i 0)) := Kernel3Ideal.Hand.Ref.s_v8 h i
theorem s_v11 (i : S4096x1.Idx) : val_main_v11 (F := Ideal) h i = Ideal.ofBits .f32 0xBF000000#32 * Ideal.div (inv (row h (i 0))) (mean (row h (i 0))) :=
  Kernel3Ideal.Hand.Ref.s_v11 h i
theorem s_v18 (i : S4096x1024.Idx) : val_main_v18 (F := Ideal) p w i = prod p w (i 0) (i 1) := by
  rw [val_main_v18_apply]
  exact Finset.sum_congr rfl fun k _ => congrArg₂ (fun u v : EReal => u * v)
    (at_ix2 p (lidx_main_v18 i k) (i 0).val k.val (i 0).isLt k.isLt rfl rfl) (at_ix2 w (ridx_main_v18 i k) (i 1).val k.val (i 1).isLt k.isLt rfl rfl)
theorem s_v19 (r : Fin 4096) (x : Fin 1024) : val_main_v19 (F := Ideal) p w h (ValueIdx.ix2 r x) = share (row h r) (prod p w r) x := by
  rw [val_main_v19_apply, val_main_v13_apply, val_main_v12_apply, s_v8, s_v18]
  rfl
theorem s_v20 (i : S1024.Idx) : val_main_v20 (F := Ideal) p w h i = ∑ r : Fin 4096, share (row h r) (prod p w r) (i 0) := by
  rw [val_main_v20_apply]
  show Ideal.ofBits .f32 0x00000000#32 + _ = _
  rw [Ideal.ofBits_zero_f32, zero_add]
  exact Finset.sum_congr rfl fun r _ => (at_ix2 (val_main_v19 (F := Ideal) p w h) (idx_main_v20 i r) r.val (i 0).val r.isLt (i 0).isLt rfl rfl).trans (s_v19 p w h r (i 0))
theorem s_v40 (x : Fin 1024) : val_main_v40 (F := Ideal) p w h (ValueIdx.ix2 0 x) = ∑ r : Fin 4096, share (row h r) (prod p w r) x := by
  rw [val_main_v40_apply, val_main_v24_apply]
  show Ideal.ofBits .f32 0x00000000#32 + _ = _
  rw [Ideal.ofBits_zero_f32, zero_add, Fin.sum_univ_one, val_main_v21_apply, s_v20]
  refine Finset.sum_congr rfl fun r _ => congrArg (share (row h r) (prod p w r)) (Fin.ext ?_)
  show 0 * 1024 + (0 * 1024 + x.val) = x.val
  omega
theorem s_v22 (i : S4096x1024.Idx) : val_main_v22 (F := Ideal) g i = row g 0 (i 1) := Kernel3Ideal.Hand.Ref.s_v22 g i
theorem s_v23 (r : Fin 4096) (x : Fin 1024) : val_main_v23 (F := Ideal) p w g (ValueIdx.ix2 r x) = prod p w r x * row g 0 x := by
  rw [val_main_v23_apply, s_v18, s_v22]
  rfl
theorem s_v26 (i : S4096.Idx) : val_main_v26 (F := Ideal) p w h g i = ∑ y : Fin 1024, row h (i 0) y * (prod p w (i 0) y * row g 0 y) := by
  rw [val_main_v26_apply]
  show Ideal.ofBits .f32 0x00000000#32 + _ = _
  rw [Ideal.ofBits_zero_f32, zero_add]
  refine Finset.sum_congr rfl fun y _ => (at_ix2 (val_main_v25 (F := Ideal) p w h g) (idx_main_v26 i y) (i 0).val y.val (i 0).isLt y.isLt rfl rfl).trans ?_
  rw [val_main_v25_apply, s_v23]
  rfl
theorem s_v32 (i : S4096x1.Idx) : val_main_v32 (F := Ideal) p w h g i = pull (row h (i 0)) (prod p w (i 0)) (row g 0) := by
  rw [val_main_v32_apply, val_main_v30_apply, val_main_v27_apply, s_v26, s_v11, val_main_v31_apply]
  have h0 : (i 0).val < 4096 := (i 0).isLt
  have h1 : (i 1).val < 1 := (i 1).isLt
  have e : (idx_main_v27 i) 0 = i 0 := Fin.ext (by
    show (i 0).val * 1 + (i 1).val = (i 0).val
    omega)
  rw [e]
  rfl
theorem s_v34 (r : Fin 4096) (x : Fin 1024) : val_main_v34 (F := Ideal) p w h g (ValueIdx.ix2 r x) = pull (row h r) (prod p w r) (row g 0) := by
  rw [val_main_v34_apply, val_main_v33_apply]
  show Ideal.ofBits .f32 0x00000000#32 + _ = _
  rw [Ideal.ofBits_zero_f32, zero_add, Fin.sum_univ_one, s_v32]
  rfl
theorem s_v39 (r : Fin 4096) (x : Fin 1024) : val_main_v39 (F := Ideal) p w h g a (ValueIdx.ix2 r x) = grad (row h r) (prod p w r) (row g 0) (row a r) x := by
  rw [val_main_v39_apply, val_main_v38_apply, val_main_v36_apply, val_main_v29_apply, val_main_v35_apply, val_main_v37_apply, s_v34, s_v23, val_main_v28_apply, s_v8]
  rfl

end Cert.Kernel4Ideal.Hand.Ref
-- ==== Proof.N4.Algebraic.lean ====
/-
  The projection-and-norm kernel writes the reference's gradients.
-/
module

public import proofs.«01_k».proof.Proof.N4.Fold
public import proofs.«01_k».proof.Proof.N4.Ref
public import proofs.«01_k».proof.Proof.Gen.Reference4Ideal.Run
public import proofs.«01_k».proof.Defs

@[expose] public section
set_option maxRecDepth 100000
noncomputable section
namespace Cert.Kernel4Ideal.Hand
open Cert.Kernel4Ideal Cert.Kernel4Ideal.Gen Cert.Norm
open Idealize.ShloMosaic Idealize.ShloMosaic.TcCoe

section
variable (m : (ℓ : Loc nD τ sig) → Buf (Elt Ideal) ℓ) (c : Dev nD)

/-- The input's gradient. -/
def w0 : FVec Ideal S4096x1024 .f32 := Value.G5 m c
/-- The norm's weight's gradient. -/
def w1 : FVec Ideal S1x1024 .f32 := Value.G6 m c

theorem w0_eq : w0 m c = Cert.Reference4Ideal.Read.val_main_v39 (F := Ideal) (aP m c) (aW m c) (aH m c) (aG m c) (aA m c) := by
  funext i
  obtain ⟨r, x, rfl⟩ : ∃ (r : Fin 4096) (x : Fin 1024), i = ValueIdx.ix2 r x := ⟨i 0, i 1, ValueIdx.eq_ix2 i⟩
  exact (G5_at m c r x).trans (Ref.s_v39 (aP m c) (aW m c) (aH m c) (aG m c) (aA m c) r x).symm

theorem w1_eq : w1 m c = Cert.Reference4Ideal.Read.val_main_v40 (F := Ideal) (aP m c) (aW m c) (aH m c) := by
  funext i
  obtain ⟨r, x, rfl⟩ : ∃ (r : Fin 1) (x : Fin 1024), i = ValueIdx.ix2 r x := ⟨i 0, i 1, ValueIdx.eq_ix2 i⟩
  obtain rfl : r = 0 := Subsingleton.elim _ _
  exact (G6_at m c x).trans (Ref.s_v40 (aP m c) (aW m c) (aH m c) x).symm
end

theorem algebraic : Cert.algebraic_Kernel4Ideal_Reference4Ideal := by
  intro m g m' g' _ hag
  refine ⟨fun c => w0 m c, fun c => w1 m c, Value.run (F := Ideal) m g, ?_⟩
  refine (θ_run Cert.Reference4Ideal.defs _ _).mono (fun r h c => ?_) (Cert.Reference4Ideal.Value.run (F := Ideal) m' g')
  obtain ⟨e0, e1, e2, e3, e4⟩ := hag c
  obtain ⟨k0, k1, k2⟩ := h c
  refine ⟨k0.trans ?_, k1.trans ?_, k2⟩
  · rw [Cert.Reference4Ideal.Read.val_main_v39_eq, e0, e1, e2, e3, e4]
    exact (w0_eq m c).symm
  · rw [Cert.Reference4Ideal.Read.val_main_v40_eq, e0, e1, e2]
    exact (w1_eq m c).symm

end Cert.Kernel4Ideal.Hand
-- ==== Proof.Mm.M5.lean ====
/-
  The first layer's input product: what the kernel writes is the reference's product.
-/
module

public import proofs.«01_k».proof.Proof.Norm.Tiles
public import proofs.«01_k».proof.Proof.Gen.Kernel5Ideal.Value
public import proofs.«01_k».proof.Proof.Gen.Reference5Ideal.Read
public import proofs.«01_k».proof.Proof.Gen.Reference5Ideal.Run
public import proofs.«01_k».proof.Defs
public import Idealize.ShloMosaic.Lib.Claim
public import Idealize.ShloMosaic.Lib.StableHlo.RunRead

@[expose] public section
set_option maxRecDepth 100000
noncomputable section
namespace Cert.Kernel5Ideal.Hand
open Cert.Kernel5Ideal Cert.Kernel5Ideal.Gen Cert.Kernel5Ideal.Value Cert.Norm
open Idealize.ShloMosaic Idealize.ShloMosaic.TcCoe Idealize.ShloMosaic.StableHlo

/-- One tile's product. -/
theorem pay1_at (p : Vec Ideal S1024x1024 .bf16) (w : Vec Ideal S1024x1408 .bf16) (i : S1024x1408.Idx) :
    k0_pay1 (F := Ideal) p w i = ∑ k : Fin 1024, p (ValueIdx.ix2 (i 0) k) * w (ValueIdx.ix2 k (i 1)) := by
  unfold k0_pay1
  rw [shapeCast_self, shapeCast_self]
  exact mmn_at (φ₁ := .bf16) (φ₂ := .bf16) dot_S1024x1024_S1024x1408_S1024x1408_1_0_0_1_n_n rfl rfl rfl rfl rfl rfl p w i

variable (m : (ℓ : Loc nD τ sig) → Buf (Elt Ideal) ℓ) (c : Dev nD)

/-- The activations. -/
def aA : FVec Ideal S4096x1024 .f32 := m ((c : Thread nD τ).loc main_arg0)
/-- The weight. -/
def aB : FVec Ideal S1024x5632 .f32 := m ((c : Thread nD τ).loc main_arg1)

theorem V_a : V m c main_v0 = aA m c := by
  entry_read
  rfl
theorem V_b : V m c main_v1 = aB m c := by
  entry_read
  rfl

theorem ix : ∀ t : Fin cfg0.N, ((cfg0.win 0).index t 0 = t.val / 4 ∧ (cfg0.win 0).index t 1 = 0) ∧ ((cfg0.win 1).index t 0 = 0 ∧ (cfg0.win 1).index t 1 = t.val % 4)
    ∧ ((cfg0.win 2).index t 0 = t.val / 4 ∧ (cfg0.win 2).index t 1 = t.val % 4) ∧ (cfg0.win 2).flush t = true :=
  (by decide +kernel : ∀ t : Fin grid0.N, (win0_0.index t 0 = t.val / 4 ∧ win0_0.index t 1 = 0) ∧ (win0_1.index t 0 = 0 ∧ win0_1.index t 1 = t.val % 4)
    ∧ (win0_2.index t 0 = t.val / 4 ∧ win0_2.index t 1 = t.val % 4) ∧ win0_2.flush t = true)

/-- A tile of the first factor. -/
def bA (t : Fin cfg0.N) : Vec Ideal S1024x1024 .bf16 := iblk m c 0 t
/-- A tile of the second factor. -/
def bB (t : Fin cfg0.N) : Vec Ideal S1024x1408 .bf16 := iblk m c 1 t

theorem bA_at (t : Fin cfg0.N) (r k : Fin 1024) : bA m c t (ValueIdx.ix2 r k) = ext (aA m c) (t.val / 4 * 1024 + r.val) k.val :=
  (congrFun (V_a m c) (((cfg0.win 0).blk t).view.emb (ValueIdx.ix2 r k))).trans (ext_emb (aA m c) _ _ _
    ((Pipeline.Window.rect_emb_val (cfg0.win 0) t (ValueIdx.ix2 r k) 0).trans (congrArg (· * 1024 + r.val) (ix t).1.1))
    (Pipeline.Window.rect_emb_val_of_index_zero (cfg0.win 0) t 1 (ix t).1.2 (ValueIdx.ix2 r k)))
theorem bB_at (t : Fin cfg0.N) (x : Fin 1408) (k : Fin 1024) : bB m c t (ValueIdx.ix2 k x) = ext (aB m c) k.val (t.val % 4 * 1408 + x.val) :=
  (congrFun (V_b m c) (((cfg0.win 1).blk t).view.emb (ValueIdx.ix2 k x))).trans (ext_emb (aB m c) _ _ _
    (Pipeline.Window.rect_emb_val_of_index_zero (cfg0.win 1) t 0 (ix t).2.1.1 (ValueIdx.ix2 k x))
    ((Pipeline.Window.rect_emb_val (cfg0.win 1) t (ValueIdx.ix2 k x) 1).trans (congrArg (· * 1408 + x.val) (ix t).2.1.2)))

/-- The result. -/
def f2 : FVec Ideal S4096x5632 .f32 := (dats m 0 c).arrAt 2 cfg0.N

theorem pt_out (t : Fin cfg0.N) : (dats m 0 c).flushed 2 t = k0_pay1 (F := Ideal) (bA m c t) (bB m c t) := by
  refine (flushed2_A m c t).trans ?_
  unfold out0_A_2 kernelRun0_A
  dsimp only
  rw [left_whole, load_whole, load_whole]
  rfl

theorem tile_at (t : Fin cfg0.N) (r : Fin 1024) (x : Fin 1408) : ext (f2 m c) (t.val / 4 * 1024 + r.val) (t.val % 4 * 1408 + x.val)
    = ∑ k : Fin 1024, bA m c t (ValueIdx.ix2 r k) * bB m c t (ValueIdx.ix2 k x) :=
  (ext_emb (f2 m c) (((cfg0.win 2).blk t).view.emb (ValueIdx.ix2 r x)) _ _
    ((Pipeline.Window.rect_emb_val (cfg0.win 2) t (ValueIdx.ix2 r x) 0).trans (congrArg (· * 1024 + r.val) (ix t).2.2.1.1))
    ((Pipeline.Window.rect_emb_val (cfg0.win 2) t (ValueIdx.ix2 r x) 1).trans (congrArg (· * 1408 + x.val) (ix t).2.2.1.2))).symm.trans
    ((congrFun ((blocks2 m c t (ix t).2.2.2).trans (pt_out m c t)) (ValueIdx.ix2 r x)).trans (pay1_at _ _ _))

/-- The result is the product. -/
theorem result_at (r : Fin 4096) (x : Fin 5632) : f2 m c (ValueIdx.ix2 r x) = dot (ext (aA m c)) (fun x k => ext (aB m c) k x) 1024 r.val x.val :=
  product_blocks (φ := .f32) (ni := 4) (nj := 4) _ _ (fun t r k => bA m c t (ValueIdx.ix2 r k)) (fun t x k => bB m c t (ValueIdx.ix2 k x))
    (by decide) (by decide) N_0 rfl rfl (bA_at m c) (bB_at m c) (f2 m c) (tile_at m c) r x

theorem ref_at (r : Fin 4096) (x : Fin 5632) : Cert.Reference5Ideal.Read.val_main_v0 (F := Ideal) (aA m c) (aB m c) (ValueIdx.ix2 r x)
    = dot (ext (aA m c)) (fun x k => ext (aB m c) k x) 1024 r.val x.val := by
  rw [dot_fin, Cert.Reference5Ideal.Read.val_main_v0_apply]
  exact Finset.sum_congr rfl fun k _ => congrArg₂ (fun a b : EReal => a * b) (ext_emb (aA m c) _ _ _ rfl rfl) (ext_emb (aB m c) _ _ _ rfl rfl)

theorem algebraic : Cert.algebraic_Kernel5Ideal_Reference5Ideal := by
  intro m g m' g' _ hag
  refine ⟨fun c => f2 m c, run_blocks (F := Ideal) m g, ?_⟩
  refine (θ_run Cert.Reference5Ideal.defs _ _).mono (fun r h c => ⟨(h c).1.trans ?_, (h c).2⟩) (Cert.Reference5Ideal.Value.run (F := Ideal) m' g')
  rw [Cert.Reference5Ideal.Read.val_main_v0_eq, (hag c).1, (hag c).2]
  exact (same .f32 (f2 m c) _ _ (result_at m c) (ref_at m c)).symm

end Cert.Kernel5Ideal.Hand
-- ==== Proof.Mm.M6.lean ====
/-
  The second layer's input product: what the kernel writes is the reference's product.
-/
module

public import proofs.«01_k».proof.Proof.Norm.Tiles
public import proofs.«01_k».proof.Proof.Gen.Kernel6Ideal.Value
public import proofs.«01_k».proof.Proof.Gen.Reference6Ideal.Read
public import proofs.«01_k».proof.Proof.Gen.Reference6Ideal.Run
public import proofs.«01_k».proof.Defs
public import Idealize.ShloMosaic.Lib.Claim
public import Idealize.ShloMosaic.Lib.StableHlo.RunRead

@[expose] public section
set_option maxRecDepth 100000
noncomputable section
namespace Cert.Kernel6Ideal.Hand
open Cert.Kernel6Ideal Cert.Kernel6Ideal.Gen Cert.Kernel6Ideal.Value Cert.Norm
open Idealize.ShloMosaic Idealize.ShloMosaic.TcCoe Idealize.ShloMosaic.StableHlo

/-- One tile's product. -/
theorem pay1_at (p : Vec Ideal S1024x1024 .bf16) (w : Vec Ideal S1024x1152 .bf16) (i : S1024x1152.Idx) :
    k0_pay1 (F := Ideal) p w i = ∑ k : Fin 1024, p (ValueIdx.ix2 (i 0) k) * w (ValueIdx.ix2 k (i 1)) := by
  unfold k0_pay1
  rw [shapeCast_self, shapeCast_self]
  exact mmn_at (φ₁ := .bf16) (φ₂ := .bf16) dot_S1024x1024_S1024x1152_S1024x1152_1_0_0_1_n_n rfl rfl rfl rfl rfl rfl p w i

variable (m : (ℓ : Loc nD τ sig) → Buf (Elt Ideal) ℓ) (c : Dev nD)

/-- The activations. -/
def aA : FVec Ideal S4096x1024 .f32 := m ((c : Thread nD τ).loc main_arg0)
/-- The weight. -/
def aB : FVec Ideal S1024x3456 .f32 := m ((c : Thread nD τ).loc main_arg1)

theorem V_a : V m c main_v0 = aA m c := by
  entry_read
  rfl
theorem V_b : V m c main_v1 = aB m c := by
  entry_read
  rfl

theorem ix : ∀ t : Fin cfg0.N, ((cfg0.win 0).index t 0 = t.val / 3 ∧ (cfg0.win 0).index t 1 = 0) ∧ ((cfg0.win 1).index t 0 = 0 ∧ (cfg0.win 1).index t 1 = t.val % 3)
    ∧ ((cfg0.win 2).index t 0 = t.val / 3 ∧ (cfg0.win 2).index t 1 = t.val % 3) ∧ (cfg0.win 2).flush t = true :=
  (by decide +kernel : ∀ t : Fin grid0.N, (win0_0.index t 0 = t.val / 3 ∧ win0_0.index t 1 = 0) ∧ (win0_1.index t 0 = 0 ∧ win0_1.index t 1 = t.val % 3)
    ∧ (win0_2.index t 0 = t.val / 3 ∧ win0_2.index t 1 = t.val % 3) ∧ win0_2.flush t = true)

/-- A tile of the first factor. -/
def bA (t : Fin cfg0.N) : Vec Ideal S1024x1024 .bf16 := iblk m c 0 t
/-- A tile of the second factor. -/
def bB (t : Fin cfg0.N) : Vec Ideal S1024x1152 .bf16 := iblk m c 1 t

theorem bA_at (t : Fin cfg0.N) (r k : Fin 1024) : bA m c t (ValueIdx.ix2 r k) = ext (aA m c) (t.val / 3 * 1024 + r.val) k.val :=
  (congrFun (V_a m c) (((cfg0.win 0).blk t).view.emb (ValueIdx.ix2 r k))).trans (ext_emb (aA m c) _ _ _
    ((Pipeline.Window.rect_emb_val (cfg0.win 0) t (ValueIdx.ix2 r k) 0).trans (congrArg (· * 1024 + r.val) (ix t).1.1))
    (Pipeline.Window.rect_emb_val_of_index_zero (cfg0.win 0) t 1 (ix t).1.2 (ValueIdx.ix2 r k)))
theorem bB_at (t : Fin cfg0.N) (x : Fin 1152) (k : Fin 1024) : bB m c t (ValueIdx.ix2 k x) = ext (aB m c) k.val (t.val % 3 * 1152 + x.val) :=
  (congrFun (V_b m c) (((cfg0.win 1).blk t).view.emb (ValueIdx.ix2 k x))).trans (ext_emb (aB m c) _ _ _
    (Pipeline.Window.rect_emb_val_of_index_zero (cfg0.win 1) t 0 (ix t).2.1.1 (ValueIdx.ix2 k x))
    ((Pipeline.Window.rect_emb_val (cfg0.win 1) t (ValueIdx.ix2 k x) 1).trans (congrArg (· * 1152 + x.val) (ix t).2.1.2)))

/-- The result. -/
def f2 : FVec Ideal S4096x3456 .f32 := (dats m 0 c).arrAt 2 cfg0.N

theorem pt_out (t : Fin cfg0.N) : (dats m 0 c).flushed 2 t = k0_pay1 (F := Ideal) (bA m c t) (bB m c t) := by
  refine (flushed2_A m c t).trans ?_
  unfold out0_A_2 kernelRun0_A
  dsimp only
  rw [left_whole, load_whole, load_whole]
  rfl

theorem tile_at (t : Fin cfg0.N) (r : Fin 1024) (x : Fin 1152) : ext (f2 m c) (t.val / 3 * 1024 + r.val) (t.val % 3 * 1152 + x.val)
    = ∑ k : Fin 1024, bA m c t (ValueIdx.ix2 r k) * bB m c t (ValueIdx.ix2 k x) :=
  (ext_emb (f2 m c) (((cfg0.win 2).blk t).view.emb (ValueIdx.ix2 r x)) _ _
    ((Pipeline.Window.rect_emb_val (cfg0.win 2) t (ValueIdx.ix2 r x) 0).trans (congrArg (· * 1024 + r.val) (ix t).2.2.1.1))
    ((Pipeline.Window.rect_emb_val (cfg0.win 2) t (ValueIdx.ix2 r x) 1).trans (congrArg (· * 1152 + x.val) (ix t).2.2.1.2))).symm.trans
    ((congrFun ((blocks2 m c t (ix t).2.2.2).trans (pt_out m c t)) (ValueIdx.ix2 r x)).trans (pay1_at _ _ _))

/-- The result is the product. -/
theorem result_at (r : Fin 4096) (x : Fin 3456) : f2 m c (ValueIdx.ix2 r x) = dot (ext (aA m c)) (fun x k => ext (aB m c) k x) 1024 r.val x.val :=
  product_blocks (φ := .f32) (ni := 4) (nj := 3) _ _ (fun t r k => bA m c t (ValueIdx.ix2 r k)) (fun t x k => bB m c t (ValueIdx.ix2 k x))
    (by decide) (by decide) N_0 rfl rfl (bA_at m c) (bB_at m c) (f2 m c) (tile_at m c) r x

theorem ref_at (r : Fin 4096) (x : Fin 3456) : Cert.Reference6Ideal.Read.val_main_v0 (F := Ideal) (aA m c) (aB m c) (ValueIdx.ix2 r x)
    = dot (ext (aA m c)) (fun x k => ext (aB m c) k x) 1024 r.val x.val := by
  rw [dot_fin, Cert.Reference6Ideal.Read.val_main_v0_apply]
  exact Finset.sum_congr rfl fun k _ => congrArg₂ (fun a b : EReal => a * b) (ext_emb (aA m c) _ _ _ rfl rfl) (ext_emb (aB m c) _ _ _ rfl rfl)

theorem algebraic : Cert.algebraic_Kernel6Ideal_Reference6Ideal := by
  intro m g m' g' _ hag
  refine ⟨fun c => f2 m c, run_blocks (F := Ideal) m g, ?_⟩
  refine (θ_run Cert.Reference6Ideal.defs _ _).mono (fun r h c => ⟨(h c).1.trans ?_, (h c).2⟩) (Cert.Reference6Ideal.Value.run (F := Ideal) m' g')
  rw [Cert.Reference6Ideal.Read.val_main_v0_eq, (hag c).1, (hag c).2]
  exact (same .f32 (f2 m c) _ _ (result_at m c) (ref_at m c)).symm

end Cert.Kernel6Ideal.Hand
-- ==== Proof.Mm.M7.lean ====
/-
  The query product: what the kernel writes is the reference's product.
-/
module

public import proofs.«01_k».proof.Proof.Norm.Tiles
public import proofs.«01_k».proof.Proof.Gen.Kernel7Ideal.Value
public import proofs.«01_k».proof.Proof.Gen.Reference7Ideal.Read
public import proofs.«01_k».proof.Proof.Gen.Reference7Ideal.Run
public import proofs.«01_k».proof.Defs
public import Idealize.ShloMosaic.Lib.Claim
public import Idealize.ShloMosaic.Lib.StableHlo.RunRead

@[expose] public section
set_option maxRecDepth 100000
noncomputable section
namespace Cert.Kernel7Ideal.Hand
open Cert.Kernel7Ideal Cert.Kernel7Ideal.Gen Cert.Kernel7Ideal.Value Cert.Norm
open Idealize.ShloMosaic Idealize.ShloMosaic.TcCoe Idealize.ShloMosaic.StableHlo

/-- One tile's product. -/
theorem pay1_at (p : Vec Ideal S1024x512 .bf16) (w : Vec Ideal S512x1536 .bf16) (i : S1024x1536.Idx) :
    k0_pay1 (F := Ideal) p w i = ∑ k : Fin 512, p (ValueIdx.ix2 (i 0) k) * w (ValueIdx.ix2 k (i 1)) := by
  unfold k0_pay1
  rw [shapeCast_self, shapeCast_self]
  exact mmn_at (φ₁ := .bf16) (φ₂ := .bf16) dot_S1024x512_S512x1536_S1024x1536_1_0_0_1_n_n rfl rfl rfl rfl rfl rfl p w i

variable (m : (ℓ : Loc nD τ sig) → Buf (Elt Ideal) ℓ) (c : Dev nD)

/-- The latent. -/
def aA : FVec Ideal S4096x512 .f32 := m ((c : Thread nD τ).loc main_arg0)
/-- The weight. -/
def aB : FVec Ideal S512x3072 .f32 := m ((c : Thread nD τ).loc main_arg1)

theorem V_a : V m c main_v0 = aA m c := by
  entry_read
  rfl
theorem V_b : V m c main_v1 = aB m c := by
  entry_read
  rfl

theorem ix : ∀ t : Fin cfg0.N, ((cfg0.win 0).index t 0 = t.val / 2 ∧ (cfg0.win 0).index t 1 = 0) ∧ ((cfg0.win 1).index t 0 = 0 ∧ (cfg0.win 1).index t 1 = t.val % 2)
    ∧ ((cfg0.win 2).index t 0 = t.val / 2 ∧ (cfg0.win 2).index t 1 = t.val % 2) ∧ (cfg0.win 2).flush t = true :=
  (by decide +kernel : ∀ t : Fin grid0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) ∧ win0_2.flush t = true)

/-- A tile of the first factor. -/
def bA (t : Fin cfg0.N) : Vec Ideal S1024x512 .bf16 := iblk m c 0 t
/-- A tile of the second factor. -/
def bB (t : Fin cfg0.N) : Vec Ideal S512x1536 .bf16 := iblk m c 1 t

theorem bA_at (t : Fin cfg0.N) (r : Fin 1024) (k : Fin 512) : bA m c t (ValueIdx.ix2 r k) = ext (aA m c) (t.val / 2 * 1024 + r.val) k.val :=
  (congrFun (V_a m c) (((cfg0.win 0).blk t).view.emb (ValueIdx.ix2 r k))).trans (ext_emb (aA m c) _ _ _
    ((Pipeline.Window.rect_emb_val (cfg0.win 0) t (ValueIdx.ix2 r k) 0).trans (congrArg (· * 1024 + r.val) (ix t).1.1))
    (Pipeline.Window.rect_emb_val_of_index_zero (cfg0.win 0) t 1 (ix t).1.2 (ValueIdx.ix2 r k)))
theorem bB_at (t : Fin cfg0.N) (x : Fin 1536) (k : Fin 512) : bB m c t (ValueIdx.ix2 k x) = ext (aB m c) k.val (t.val % 2 * 1536 + x.val) :=
  (congrFun (V_b m c) (((cfg0.win 1).blk t).view.emb (ValueIdx.ix2 k x))).trans (ext_emb (aB m c) _ _ _
    (Pipeline.Window.rect_emb_val_of_index_zero (cfg0.win 1) t 0 (ix t).2.1.1 (ValueIdx.ix2 k x))
    ((Pipeline.Window.rect_emb_val (cfg0.win 1) t (ValueIdx.ix2 k x) 1).trans (congrArg (· * 1536 + x.val) (ix t).2.1.2)))

/-- The result. -/
def f2 : FVec Ideal S4096x3072 .f32 := (dats m 0 c).arrAt 2 cfg0.N

theorem pt_out (t : Fin cfg0.N) : (dats m 0 c).flushed 2 t = k0_pay1 (F := Ideal) (bA m c t) (bB m c t) := by
  refine (flushed2_A m c t).trans ?_
  unfold out0_A_2 kernelRun0_A
  dsimp only
  rw [left_whole, load_whole, load_whole]
  rfl

theorem tile_at (t : Fin cfg0.N) (r : Fin 1024) (x : Fin 1536) : ext (f2 m c) (t.val / 2 * 1024 + r.val) (t.val % 2 * 1536 + x.val)
    = ∑ k : Fin 512, bA m c t (ValueIdx.ix2 r k) * bB m c t (ValueIdx.ix2 k x) :=
  (ext_emb (f2 m c) (((cfg0.win 2).blk t).view.emb (ValueIdx.ix2 r x)) _ _
    ((Pipeline.Window.rect_emb_val (cfg0.win 2) t (ValueIdx.ix2 r x) 0).trans (congrArg (· * 1024 + r.val) (ix t).2.2.1.1))
    ((Pipeline.Window.rect_emb_val (cfg0.win 2) t (ValueIdx.ix2 r x) 1).trans (congrArg (· * 1536 + x.val) (ix t).2.2.1.2))).symm.trans
    ((congrFun ((blocks2 m c t (ix t).2.2.2).trans (pt_out m c t)) (ValueIdx.ix2 r x)).trans (pay1_at _ _ _))

/-- The result is the product. -/
theorem result_at (r : Fin 4096) (x : Fin 3072) : f2 m c (ValueIdx.ix2 r x) = dot (ext (aA m c)) (fun x k => ext (aB m c) k x) 512 r.val x.val :=
  product_blocks (φ := .f32) (ni := 4) (nj := 2) _ _ (fun t r k => bA m c t (ValueIdx.ix2 r k)) (fun t x k => bB m c t (ValueIdx.ix2 k x))
    (by decide) (by decide) N_0 rfl rfl (bA_at m c) (bB_at m c) (f2 m c) (tile_at m c) r x

theorem ref_at (r : Fin 4096) (x : Fin 3072) : Cert.Reference7Ideal.Read.val_main_v0 (F := Ideal) (aA m c) (aB m c) (ValueIdx.ix2 r x)
    = dot (ext (aA m c)) (fun x k => ext (aB m c) k x) 512 r.val x.val := by
  rw [dot_fin, Cert.Reference7Ideal.Read.val_main_v0_apply]
  exact Finset.sum_congr rfl fun k _ => congrArg₂ (fun a b : EReal => a * b) (ext_emb (aA m c) _ _ _ rfl rfl) (ext_emb (aB m c) _ _ _ rfl rfl)

theorem algebraic : Cert.algebraic_Kernel7Ideal_Reference7Ideal := by
  intro m g m' g' _ hag
  refine ⟨fun c => f2 m c, run_blocks (F := Ideal) m g, ?_⟩
  refine (θ_run Cert.Reference7Ideal.defs _ _).mono (fun r h c => ⟨(h c).1.trans ?_, (h c).2⟩) (Cert.Reference7Ideal.Value.run (F := Ideal) m' g')
  rw [Cert.Reference7Ideal.Read.val_main_v0_eq, (hag c).1, (hag c).2]
  exact (same .f32 (f2 m c) _ _ (result_at m c) (ref_at m c)).symm

end Cert.Kernel7Ideal.Hand
-- ==== Proof.Mm.M8.lean ====
/-
  The key and value product, whose result is bfloat16: what the kernel writes is the reference's product.
-/
module

public import proofs.«01_k».proof.Proof.Norm.Tiles
public import proofs.«01_k».proof.Proof.Gen.Kernel8Ideal.Value
public import proofs.«01_k».proof.Proof.Gen.Reference8Ideal.Read
public import proofs.«01_k».proof.Proof.Gen.Reference8Ideal.Run
public import proofs.«01_k».proof.Defs
public import Idealize.ShloMosaic.Lib.Claim
public import Idealize.ShloMosaic.Lib.StableHlo.RunRead

@[expose] public section
set_option maxRecDepth 100000
noncomputable section
namespace Cert.Kernel8Ideal.Hand
open Cert.Kernel8Ideal Cert.Kernel8Ideal.Gen Cert.Kernel8Ideal.Value Cert.Norm
open Idealize.ShloMosaic Idealize.ShloMosaic.TcCoe Idealize.ShloMosaic.StableHlo

/-- One tile's product. -/
theorem pay1_at (p : Vec Ideal S1024x256 .bf16) (w : Vec Ideal S256x1536 .bf16) (i : S1024x1536.Idx) :
    k0_pay1 (F := Ideal) p w i = ∑ k : Fin 256, p (ValueIdx.ix2 (i 0) k) * w (ValueIdx.ix2 k (i 1)) := by
  unfold k0_pay1
  rw [shapeCast_self, shapeCast_self]
  exact mmn_at (φ₁ := .bf16) (φ₂ := .bf16) dot_S1024x256_S256x1536_S1024x1536_1_0_0_1_n_n rfl rfl rfl rfl rfl rfl p w i

variable (m : (ℓ : Loc nD τ sig) → Buf (Elt Ideal) ℓ) (c : Dev nD)

/-- The latent. -/
def aA : FVec Ideal S4096x256 .f32 := m ((c : Thread nD τ).loc main_arg0)
/-- The weight. -/
def aB : FVec Ideal S256x3072 .f32 := m ((c : Thread nD τ).loc main_arg1)

theorem V_a : V m c main_v0 = aA m c := by
  entry_read
  rfl
theorem V_b : V m c main_v1 = aB m c := by
  entry_read
  rfl

theorem ix : ∀ t : Fin cfg0.N, ((cfg0.win 0).index t 0 = t.val / 2 ∧ (cfg0.win 0).index t 1 = 0) ∧ ((cfg0.win 1).index t 0 = 0 ∧ (cfg0.win 1).index t 1 = t.val % 2)
    ∧ ((cfg0.win 2).index t 0 = t.val / 2 ∧ (cfg0.win 2).index t 1 = t.val % 2) ∧ (cfg0.win 2).flush t = true :=
  (by decide +kernel : ∀ t : Fin grid0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) ∧ win0_2.flush t = true)

/-- A tile of the first factor. -/
def bA (t : Fin cfg0.N) : Vec Ideal S1024x256 .bf16 := iblk m c 0 t
/-- A tile of the second factor. -/
def bB (t : Fin cfg0.N) : Vec Ideal S256x1536 .bf16 := iblk m c 1 t

theorem bA_at (t : Fin cfg0.N) (r : Fin 1024) (k : Fin 256) : bA m c t (ValueIdx.ix2 r k) = ext (aA m c) (t.val / 2 * 1024 + r.val) k.val :=
  (congrFun (V_a m c) (((cfg0.win 0).blk t).view.emb (ValueIdx.ix2 r k))).trans (ext_emb (aA m c) _ _ _
    ((Pipeline.Window.rect_emb_val (cfg0.win 0) t (ValueIdx.ix2 r k) 0).trans (congrArg (· * 1024 + r.val) (ix t).1.1))
    (Pipeline.Window.rect_emb_val_of_index_zero (cfg0.win 0) t 1 (ix t).1.2 (ValueIdx.ix2 r k)))
theorem bB_at (t : Fin cfg0.N) (x : Fin 1536) (k : Fin 256) : bB m c t (ValueIdx.ix2 k x) = ext (aB m c) k.val (t.val % 2 * 1536 + x.val) :=
  (congrFun (V_b m c) (((cfg0.win 1).blk t).view.emb (ValueIdx.ix2 k x))).trans (ext_emb (aB m c) _ _ _
    (Pipeline.Window.rect_emb_val_of_index_zero (cfg0.win 1) t 0 (ix t).2.1.1 (ValueIdx.ix2 k x))
    ((Pipeline.Window.rect_emb_val (cfg0.win 1) t (ValueIdx.ix2 k x) 1).trans (congrArg (· * 1536 + x.val) (ix t).2.1.2)))

/-- The result. -/
def f2 : FVec Ideal S4096x3072 .bf16 := (dats m 0 c).arrAt 2 cfg0.N

theorem pt_out (t : Fin cfg0.N) : (dats m 0 c).flushed 2 t = k0_pay1 (F := Ideal) (bA m c t) (bB m c t) := by
  refine (flushed2_A m c t).trans ?_
  unfold out0_A_2 kernelRun0_A
  dsimp only
  rw [left_whole, load_whole, load_whole]
  rfl

theorem tile_at (t : Fin cfg0.N) (r : Fin 1024) (x : Fin 1536) : ext (f2 m c) (t.val / 2 * 1024 + r.val) (t.val % 2 * 1536 + x.val)
    = ∑ k : Fin 256, bA m c t (ValueIdx.ix2 r k) * bB m c t (ValueIdx.ix2 k x) :=
  (ext_emb (f2 m c) (((cfg0.win 2).blk t).view.emb (ValueIdx.ix2 r x)) _ _
    ((Pipeline.Window.rect_emb_val (cfg0.win 2) t (ValueIdx.ix2 r x) 0).trans (congrArg (· * 1024 + r.val) (ix t).2.2.1.1))
    ((Pipeline.Window.rect_emb_val (cfg0.win 2) t (ValueIdx.ix2 r x) 1).trans (congrArg (· * 1536 + x.val) (ix t).2.2.1.2))).symm.trans
    ((congrFun ((blocks2 m c t (ix t).2.2.2).trans (pt_out m c t)) (ValueIdx.ix2 r x)).trans (pay1_at _ _ _))

/-- The result is the product. -/
theorem result_at (r : Fin 4096) (x : Fin 3072) : f2 m c (ValueIdx.ix2 r x) = dot (ext (aA m c)) (fun x k => ext (aB m c) k x) 256 r.val x.val :=
  product_blocks (φ := .bf16) (ni := 4) (nj := 2) _ _ (fun t r k => bA m c t (ValueIdx.ix2 r k)) (fun t x k => bB m c t (ValueIdx.ix2 k x))
    (by decide) (by decide) N_0 rfl rfl (bA_at m c) (bB_at m c) (f2 m c) (tile_at m c) r x

theorem ref_at (r : Fin 4096) (x : Fin 3072) : Cert.Reference8Ideal.Read.val_main_v1 (F := Ideal) (aA m c) (aB m c) (ValueIdx.ix2 r x)
    = dot (ext (aA m c)) (fun x k => ext (aB m c) k x) 256 r.val x.val := by
  rw [dot_fin]
  refine (Cert.Reference8Ideal.Read.val_main_v0_apply (aA m c) (aB m c) (ValueIdx.ix2 r x)).trans ?_
  exact Finset.sum_congr rfl fun k _ => congrArg₂ (fun a b : EReal => a * b) (ext_emb (aA m c) _ _ _ rfl rfl) (ext_emb (aB m c) _ _ _ rfl rfl)

theorem algebraic : Cert.algebraic_Kernel8Ideal_Reference8Ideal := by
  intro m g m' g' _ hag
  refine ⟨fun c => f2 m c, run_blocks (F := Ideal) m g, ?_⟩
  refine (θ_run Cert.Reference8Ideal.defs _ _).mono (fun r h c => ⟨(h c).1.trans ?_, (h c).2⟩) (Cert.Reference8Ideal.Value.run (F := Ideal) m' g')
  rw [Cert.Reference8Ideal.Read.val_main_v1_eq, (hag c).1, (hag c).2]
  exact (same .bf16 (f2 m c) _ _ (result_at m c) (ref_at m c)).symm

end Cert.Kernel8Ideal.Hand
-- ==== Proof.Mm.M9.lean ====
/-
  The gradient through the query product: what the kernel writes, over two blocks of columns, is the reference's product with the transposed weight.
-/
module

public import proofs.«01_k».proof.Proof.Norm.Tiles
public import proofs.«01_k».proof.Proof.Gen.Kernel9Ideal.Value
public import proofs.«01_k».proof.Proof.Gen.Reference9Ideal.Read
public import proofs.«01_k».proof.Proof.Gen.Reference9Ideal.Run
public import proofs.«01_k».proof.Defs
public import Idealize.ShloMosaic.Lib.Claim
public import Idealize.ShloMosaic.Lib.StableHlo.RunRead

@[expose] public section
set_option maxRecDepth 100000
noncomputable section
namespace Cert.Kernel9Ideal.Hand
open Cert.Kernel9Ideal Cert.Kernel9Ideal.Gen Cert.Kernel9Ideal.Value Cert.Norm
open Idealize.ShloMosaic Idealize.ShloMosaic.TcCoe Idealize.ShloMosaic.StableHlo

/-- One tile's product over one block of columns. -/
theorem pay1_at (p : Vec Ideal S1024x1536 .bf16) (w : Vec Ideal S512x1536 .bf16) (i : S1024x512.Idx) :
    k0_pay1 (F := Ideal) p w i = ∑ k : Fin 1536, p (ValueIdx.ix2 (i 0) k) * w (ValueIdx.ix2 (i 1) k) := by
  unfold k0_pay1
  rw [shapeCast_self, shapeCast_self]
  exact mm_at (φ₁ := .bf16) (φ₂ := .bf16) dot_S1024x1536_S512x1536_S1024x512_1_1_0_0_n_n rfl rfl rfl rfl rfl rfl p w i
theorem pay2_at (p : Vec Ideal S1024x1536 .bf16) (w : Vec Ideal S512x1536 .bf16) : k0_pay2 (F := Ideal) p w = k0_pay1 p w := shapeCast_self _ _
theorem pay3_at (p : Vec Ideal S1024x1536 .bf16) (w : Vec Ideal S512x1536 .bf16) (s : Vec Ideal S1024x512 .f32) (i : S1024x512.Idx) :
    k0_pay3 (F := Ideal) p w s i = s i + k0_pay1 (F := Ideal) p w i := by
  unfold k0_pay3
  rw [shapeCast_self]
  rfl

variable (m : (ℓ : Loc nD τ sig) → Buf (Elt Ideal) ℓ) (c : Dev nD)

/-- The cotangent. -/
def aA : FVec Ideal S4096x3072 .f32 := m ((c : Thread nD τ).loc main_arg0)
/-- The weight. -/
def aB : FVec Ideal S512x3072 .f32 := m ((c : Thread nD τ).loc main_arg1)

theorem V_a : V m c main_v0 = aA m c := by
  entry_read
  rfl
theorem V_b : V m c main_v1 = aB m c := by
  entry_read
  rfl

theorem ix : ∀ t : Fin cfg0.N, ((cfg0.win 0).index t 0 = t.val / 2 / 1 ∧ (cfg0.win 0).index t 1 = t.val % 2)
    ∧ (cfg0.win 1).index t 0 = t.val / 2 % 1 ∧ (cfg0.win 1).index t 1 = t.val % 2 :=
  (by decide +kernel : ∀ t : Fin grid0.N, (win0_0.index t 0 = t.val / 2 / 1 ∧ win0_0.index t 1 = t.val % 2)
    ∧ win0_1.index t 0 = t.val / 2 % 1 ∧ win0_1.index t 1 = t.val % 2)

/-- A tile of the first factor. -/
def bA (t : Fin cfg0.N) : Vec Ideal S1024x1536 .bf16 := iblk m c 0 t
/-- A tile of the second factor. -/
def bB (t : Fin cfg0.N) : Vec Ideal S512x1536 .bf16 := iblk m c 1 t

theorem bA_at (t : Fin cfg0.N) (r : Fin 1024) (k : Fin 1536) : bA m c t (ValueIdx.ix2 r k) = ext (aA m c) (t.val / 2 / 1 * 1024 + r.val) (t.val % 2 * 1536 + k.val) :=
  (congrFun (V_a m c) (((cfg0.win 0).blk t).view.emb (ValueIdx.ix2 r k))).trans (ext_emb (aA m c) _ _ _
    ((Pipeline.Window.rect_emb_val (cfg0.win 0) t (ValueIdx.ix2 r k) 0).trans (congrArg (· * 1024 + r.val) (ix t).1.1))
    ((Pipeline.Window.rect_emb_val (cfg0.win 0) t (ValueIdx.ix2 r k) 1).trans (congrArg (· * 1536 + k.val) (ix t).1.2)))
theorem bB_at (t : Fin cfg0.N) (x : Fin 512) (k : Fin 1536) : bB m c t (ValueIdx.ix2 x k) = ext (aB m c) (t.val / 2 % 1 * 512 + x.val) (t.val % 2 * 1536 + k.val) :=
  (congrFun (V_b m c) (((cfg0.win 1).blk t).view.emb (ValueIdx.ix2 x k))).trans (ext_emb (aB m c) _ _ _
    ((Pipeline.Window.rect_emb_val (cfg0.win 1) t (ValueIdx.ix2 x k) 0).trans (congrArg (· * 512 + x.val) (ix t).2.1))
    ((Pipeline.Window.rect_emb_val (cfg0.win 1) t (ValueIdx.ix2 x k) 1).trans (congrArg (· * 1536 + k.val) (ix t).2.2)))

section
variable (t : Fin cfg0.N)
theorem pt_first (h0 : t.val % 2 = 0) : (outsAt0 m c t.val t.isLt).2 = k0_pay2 (bA m c t) (bB m c t) := by
  rw [outsAt0_A m c t h0 (by omega) (by omega)]
  unfold sout0_A_0 kernelRun0_A
  dsimp only
  rw [left_whole, load_whole, load_whole]
  rfl
theorem pt_next (h0 : ¬t.val % 2 = 0) : (outsAt0 m c t.val t.isLt).2
    = k0_pay3 (bA m c t) (bB m c t) (outsAt0 m c (t.val - 1) (Nat.lt_of_le_of_lt (Nat.sub_le _ _) t.isLt)).2 := by
  rw [outsAt0_B m c t h0 (by omega) (by omega)]
  unfold sout0_B_0 kernelRun0_B
  dsimp only
  sl_unfold_words
  rw [left_whole, load_whole, load_whole, load_whole]
  rfl
theorem pt_out (h2 : t.val % 2 = 1) : (outsAt0 m c t.val t.isLt).1 = (outsAt0 m c t.val t.isLt).2 := by
  rw [outsAt0_B m c t (by omega) (by omega) h2]
  unfold sout0_B_0 out0_B_2 kernelRun0_B
  dsimp only
  sl_unfold_words
  rw [left_whole, left_whole, View.readCov_unit_zero _ hz]
end

theorem result_read (r : Fin 4096) (x : Fin 512) (p : ℕ) (h : p < cfg0.N) (hl : p % 2 + 1 = 2) (hp : p / 2 = r.val / 1024 * 1 + x.val / 512) :
    G2 m c (ValueIdx.ix2 r x) = (outsAt0 m c p h).2 (ValueIdx.ix2 ⟨r.val % 1024, Nat.mod_lt _ (by decide)⟩ ⟨x.val % 512, Nat.mod_lt _ (by decide)⟩) := by
  have e : pt2Of (ValueIdx.ix2 r x) = p := by
    show 2 * (1 * (r.val / 1024 - 0) + 1 * (x.val / 512 - 0)) + 1 = p
    omega
  subst e
  unfold G2
  rw [dif_pos h, ← outsAt0_sweep m c _ h]
  exact (at_ix2 (outsAt0 m c _ h).1 _ _ _ _ _ rfl rfl).trans (congrFun (pt_out m c ⟨_, h⟩ (Nat.succ.inj hl)) _)

/-- The result is the product. -/
theorem result_at (r : Fin 4096) (x : Fin 512) : G2 m c (ValueIdx.ix2 r x) = dot (ext (aA m c)) (ext (aB m c)) 3072 r.val x.val :=
  product_at (φ := .f32) (ni := 4) (nj := 1) (nk := 2) (tk := 1536) _ _ (fun t r k => bA m c t (ValueIdx.ix2 r k)) (fun t x k => bB m c t (ValueIdx.ix2 x k))
    (by decide) (by decide) (by decide) N_0 rfl rfl (bA_at m c) (bB_at m c) (fun n h r x => (outsAt0 m c n h).2 (ValueIdx.ix2 r x))
    (fun n h r x h0 => (congrFun (pt_first m c ⟨n, h⟩ h0) _).trans ((congrFun (pay2_at _ _) _).trans (pay1_at _ _ _)))
    (fun n h r x h0 => (congrFun (pt_next m c ⟨n + 1, h⟩ h0) _).trans ((pay3_at _ _ _ _).trans (congrArg (_ + ·) (pay1_at _ _ _))))
    (G2 m c) (result_read m c) r x

theorem ref_at (r : Fin 4096) (x : Fin 512) : Cert.Reference9Ideal.Read.val_main_v2 (F := Ideal) (aA m c) (aB m c) (ValueIdx.ix2 r x)
    = dot (ext (aA m c)) (ext (aB m c)) 3072 r.val x.val := by
  rw [dot_fin, Cert.Reference9Ideal.Read.val_main_v2_apply]
  exact Finset.sum_congr rfl fun k _ => congrArg₂ (fun a b : EReal => a * b) (ext_emb (aA m c) _ _ _ rfl rfl) (ext_emb (aB m c) _ _ _ rfl rfl)

theorem algebraic : Cert.algebraic_Kernel9Ideal_Reference9Ideal := by
  intro m g m' g' _ hag
  refine ⟨fun c => G2 m c, Value.run (F := Ideal) m g, ?_⟩
  refine (θ_run Cert.Reference9Ideal.defs _ _).mono (fun r h c => ⟨(h c).1.trans ?_, (h c).2⟩) (Cert.Reference9Ideal.Value.run (F := Ideal) m' g')
  rw [Cert.Reference9Ideal.Read.val_main_v2_eq, (hag c).1, (hag c).2]
  exact (same .f32 (G2 m c) _ _ (result_at m c) (ref_at m c)).symm

end Cert.Kernel9Ideal.Hand
-- ==== Proof.Mm.M10.lean ====
/-
  The gradient through the key and value product: what the kernel writes, over two blocks of columns, is the reference's product with the
  transposed weight.
-/
module

public import proofs.«01_k».proof.Proof.Norm.Tiles
public import proofs.«01_k».proof.Proof.Gen.Kernel10Ideal.Value
public import proofs.«01_k».proof.Proof.Gen.Reference10Ideal.Read
public import proofs.«01_k».proof.Proof.Gen.Reference10Ideal.Run
public import proofs.«01_k».proof.Defs
public import Idealize.ShloMosaic.Lib.Claim
public import Idealize.ShloMosaic.Lib.StableHlo.RunRead

@[expose] public section
set_option maxRecDepth 100000
noncomputable section
namespace Cert.Kernel10Ideal.Hand
open Cert.Kernel10Ideal Cert.Kernel10Ideal.Gen Cert.Kernel10Ideal.Value Cert.Norm
open Idealize.ShloMosaic Idealize.ShloMosaic.TcCoe Idealize.ShloMosaic.StableHlo

/-- One tile's product over one block of columns. -/
theorem pay1_at (p : Vec Ideal S1024x1536 .bf16) (w : Vec Ideal S256x1536 .bf16) (i : S1024x256.Idx) :
    k0_pay1 (F := Ideal) p w i = ∑ k : Fin 1536, p (ValueIdx.ix2 (i 0) k) * w (ValueIdx.ix2 (i 1) k) := by
  unfold k0_pay1
  rw [shapeCast_self, shapeCast_self]
  exact mm_at (φ₁ := .bf16) (φ₂ := .bf16) dot_S1024x1536_S256x1536_S1024x256_1_1_0_0_n_n rfl rfl rfl rfl rfl rfl p w i
theorem pay2_at (p : Vec Ideal S1024x1536 .bf16) (w : Vec Ideal S256x1536 .bf16) : k0_pay2 (F := Ideal) p w = k0_pay1 p w := shapeCast_self _ _
theorem pay3_at (p : Vec Ideal S1024x1536 .bf16) (w : Vec Ideal S256x1536 .bf16) (s : Vec Ideal S1024x256 .f32) (i : S1024x256.Idx) :
    k0_pay3 (F := Ideal) p w s i = s i + k0_pay1 (F := Ideal) p w i := by
  unfold k0_pay3
  rw [shapeCast_self]
  rfl

variable (m : (ℓ : Loc nD τ sig) → Buf (Elt Ideal) ℓ) (c : Dev nD)

/-- The cotangent. -/
def aA : FVec Ideal S4096x3072 .f32 := m ((c : Thread nD τ).loc main_arg0)
/-- The weight. -/
def aB : FVec Ideal S256x3072 .f32 := m ((c : Thread nD τ).loc main_arg1)

theorem V_a : V m c main_v0 = aA m c := by
  entry_read
  rfl
theorem V_b : V m c main_v1 = aB m c := by
  entry_read
  rfl

theorem ix : ∀ t : Fin cfg0.N, ((cfg0.win 0).index t 0 = t.val / 2 / 1 ∧ (cfg0.win 0).index t 1 = t.val % 2)
    ∧ (cfg0.win 1).index t 0 = t.val / 2 % 1 ∧ (cfg0.win 1).index t 1 = t.val % 2 :=
  (by decide +kernel : ∀ t : Fin grid0.N, (win0_0.index t 0 = t.val / 2 / 1 ∧ win0_0.index t 1 = t.val % 2)
    ∧ win0_1.index t 0 = t.val / 2 % 1 ∧ win0_1.index t 1 = t.val % 2)

/-- A tile of the first factor. -/
def bA (t : Fin cfg0.N) : Vec Ideal S1024x1536 .bf16 := iblk m c 0 t
/-- A tile of the second factor. -/
def bB (t : Fin cfg0.N) : Vec Ideal S256x1536 .bf16 := iblk m c 1 t

theorem bA_at (t : Fin cfg0.N) (r : Fin 1024) (k : Fin 1536) : bA m c t (ValueIdx.ix2 r k) = ext (aA m c) (t.val / 2 / 1 * 1024 + r.val) (t.val % 2 * 1536 + k.val) :=
  (congrFun (V_a m c) (((cfg0.win 0).blk t).view.emb (ValueIdx.ix2 r k))).trans (ext_emb (aA m c) _ _ _
    ((Pipeline.Window.rect_emb_val (cfg0.win 0) t (ValueIdx.ix2 r k) 0).trans (congrArg (· * 1024 + r.val) (ix t).1.1))
    ((Pipeline.Window.rect_emb_val (cfg0.win 0) t (ValueIdx.ix2 r k) 1).trans (congrArg (· * 1536 + k.val) (ix t).1.2)))
theorem bB_at (t : Fin cfg0.N) (x : Fin 256) (k : Fin 1536) : bB m c t (ValueIdx.ix2 x k) = ext (aB m c) (t.val / 2 % 1 * 256 + x.val) (t.val % 2 * 1536 + k.val) :=
  (congrFun (V_b m c) (((cfg0.win 1).blk t).view.emb (ValueIdx.ix2 x k))).trans (ext_emb (aB m c) _ _ _
    ((Pipeline.Window.rect_emb_val (cfg0.win 1) t (ValueIdx.ix2 x k) 0).trans (congrArg (· * 256 + x.val) (ix t).2.1))
    ((Pipeline.Window.rect_emb_val (cfg0.win 1) t (ValueIdx.ix2 x k) 1).trans (congrArg (· * 1536 + k.val) (ix t).2.2)))

section
variable (t : Fin cfg0.N)
theorem pt_first (h0 : t.val % 2 = 0) : (outsAt0 m c t.val t.isLt).2 = k0_pay2 (bA m c t) (bB m c t) := by
  rw [outsAt0_A m c t h0 (by omega) (by omega)]
  unfold sout0_A_0 kernelRun0_A
  dsimp only
  rw [left_whole, load_whole, load_whole]
  rfl
theorem pt_next (h0 : ¬t.val % 2 = 0) : (outsAt0 m c t.val t.isLt).2
    = k0_pay3 (bA m c t) (bB m c t) (outsAt0 m c (t.val - 1) (Nat.lt_of_le_of_lt (Nat.sub_le _ _) t.isLt)).2 := by
  rw [outsAt0_B m c t h0 (by omega) (by omega)]
  unfold sout0_B_0 kernelRun0_B
  dsimp only
  sl_unfold_words
  rw [left_whole, load_whole, load_whole, load_whole]
  rfl
theorem pt_out (h2 : t.val % 2 = 1) : (outsAt0 m c t.val t.isLt).1 = (outsAt0 m c t.val t.isLt).2 := by
  rw [outsAt0_B m c t (by omega) (by omega) h2]
  unfold sout0_B_0 out0_B_2 kernelRun0_B
  dsimp only
  sl_unfold_words
  rw [left_whole, left_whole, View.readCov_unit_zero _ hz]
end

theorem result_read (r : Fin 4096) (x : Fin 256) (p : ℕ) (h : p < cfg0.N) (hl : p % 2 + 1 = 2) (hp : p / 2 = r.val / 1024 * 1 + x.val / 256) :
    G2 m c (ValueIdx.ix2 r x) = (outsAt0 m c p h).2 (ValueIdx.ix2 ⟨r.val % 1024, Nat.mod_lt _ (by decide)⟩ ⟨x.val % 256, Nat.mod_lt _ (by decide)⟩) := by
  have e : pt2Of (ValueIdx.ix2 r x) = p := by
    show 2 * (1 * (r.val / 1024 - 0) + 1 * (x.val / 256 - 0)) + 1 = p
    omega
  subst e
  unfold G2
  rw [dif_pos h, ← outsAt0_sweep m c _ h]
  exact (at_ix2 (outsAt0 m c _ h).1 _ _ _ _ _ rfl rfl).trans (congrFun (pt_out m c ⟨_, h⟩ (Nat.succ.inj hl)) _)

/-- The result is the product. -/
theorem result_at (r : Fin 4096) (x : Fin 256) : G2 m c (ValueIdx.ix2 r x) = dot (ext (aA m c)) (ext (aB m c)) 3072 r.val x.val :=
  product_at (φ := .f32) (ni := 4) (nj := 1) (nk := 2) (tk := 1536) _ _ (fun t r k => bA m c t (ValueIdx.ix2 r k)) (fun t x k => bB m c t (ValueIdx.ix2 x k))
    (by decide) (by decide) (by decide) N_0 rfl rfl (bA_at m c) (bB_at m c) (fun n h r x => (outsAt0 m c n h).2 (ValueIdx.ix2 r x))
    (fun n h r x h0 => (congrFun (pt_first m c ⟨n, h⟩ h0) _).trans ((congrFun (pay2_at _ _) _).trans (pay1_at _ _ _)))
    (fun n h r x h0 => (congrFun (pt_next m c ⟨n + 1, h⟩ h0) _).trans ((pay3_at _ _ _ _).trans (congrArg (_ + ·) (pay1_at _ _ _))))
    (G2 m c) (result_read m c) r x

theorem ref_at (r : Fin 4096) (x : Fin 256) : Cert.Reference10Ideal.Read.val_main_v2 (F := Ideal) (aA m c) (aB m c) (ValueIdx.ix2 r x)
    = dot (ext (aA m c)) (ext (aB m c)) 3072 r.val x.val := by
  rw [dot_fin, Cert.Reference10Ideal.Read.val_main_v2_apply]
  exact Finset.sum_congr rfl fun k _ => congrArg₂ (fun a b : EReal => a * b) (ext_emb (aA m c) _ _ _ rfl rfl) (ext_emb (aB m c) _ _ _ rfl rfl)

theorem algebraic : Cert.algebraic_Kernel10Ideal_Reference10Ideal := by
  intro m g m' g' _ hag
  refine ⟨fun c => G2 m c, Value.run (F := Ideal) m g, ?_⟩
  refine (θ_run Cert.Reference10Ideal.defs _ _).mono (fun r h c => ⟨(h c).1.trans ?_, (h c).2⟩) (Cert.Reference10Ideal.Value.run (F := Ideal) m' g')
  rw [Cert.Reference10Ideal.Read.val_main_v2_eq, (hag c).1, (hag c).2]
  exact (same .f32 (G2 m c) _ _ (result_at m c) (ref_at m c)).symm

end Cert.Kernel10Ideal.Hand
-- ==== Proof.Mm.M11.lean ====
/-
  The first layer's input weight gradient, over four blocks of tokens: what the kernel writes is the reference's product.
-/
module

public import proofs.«01_k».proof.Proof.Norm.Tiles
public import proofs.«01_k».proof.Proof.Gen.Kernel11Ideal.Value
public import proofs.«01_k».proof.Proof.Gen.Reference11Ideal.Read
public import proofs.«01_k».proof.Proof.Gen.Reference11Ideal.Run
public import proofs.«01_k».proof.Defs
public import Idealize.ShloMosaic.Lib.Claim
public import Idealize.ShloMosaic.Lib.StableHlo.RunRead

@[expose] public section
set_option maxRecDepth 100000
noncomputable section
namespace Cert.Kernel11Ideal.Hand
open Cert.Kernel11Ideal Cert.Kernel11Ideal.Gen Cert.Kernel11Ideal.Value Cert.Norm
open Idealize.ShloMosaic Idealize.ShloMosaic.TcCoe Idealize.ShloMosaic.StableHlo

/-- One tile's product over one block of tokens. -/
theorem pay1_at (p : Vec Ideal S1024x1024 .bf16) (w : Vec Ideal S1024x1408 .bf16) (i : S1024x1408.Idx) :
    k0_pay1 (F := Ideal) p w i = ∑ k : Fin 1024, p (ValueIdx.ix2 (i 0) k) * w (ValueIdx.ix2 k (i 1)) := by
  unfold k0_pay1
  rw [shapeCast_self, shapeCast_self]
  exact mmn_at (φ₁ := .bf16) (φ₂ := .bf16) dot_S1024x1024_S1024x1408_S1024x1408_1_0_0_1_n_n rfl rfl rfl rfl rfl rfl p w i

theorem pay2_at (p : Vec Ideal S1024x1024 .bf16) (w : Vec Ideal S1024x1408 .bf16) : k0_pay2 (F := Ideal) p w = k0_pay1 p w := shapeCast_self _ _
theorem pay3_at (p : Vec Ideal S1024x1024 .bf16) (w : Vec Ideal S1024x1408 .bf16) (s : Vec Ideal S1024x1408 .f32) (i : S1024x1408.Idx) :
    k0_pay3 (F := Ideal) p w s i = s i + k0_pay1 (F := Ideal) p w i := by
  unfold k0_pay3
  rw [shapeCast_self]
  rfl

variable (m : (ℓ : Loc nD τ sig) → Buf (Elt Ideal) ℓ) (c : Dev nD)

/-- The tokens' activations. -/
def aA : FVec Ideal S4096x1024 .f32 := m ((c : Thread nD τ).loc main_arg0)
/-- The cotangent. -/
def aB : FVec Ideal S4096x5632 .f32 := m ((c : Thread nD τ).loc main_arg1)

set_option maxHeartbeats 4000000 in
theorem V_a : V m c main_v2 = fun i => aA m c (ValueIdx.ix2 (i 1) (i 0)) := by
  entry_read
  exact transpose_at (aA m c) _
set_option maxHeartbeats 4000000 in
theorem V_b : V m c main_v1 = aB m c := by
  entry_read
  rfl

theorem ix : ∀ t : Fin cfg0.N, ((cfg0.win 0).index t 0 = t.val / 4 / 4 ∧ (cfg0.win 0).index t 1 = t.val % 4)
    ∧ (cfg0.win 1).index t 0 = t.val % 4 ∧ (cfg0.win 1).index t 1 = t.val / 4 % 4 :=
  (by decide +kernel : ∀ t : Fin grid0.N, (win0_0.index t 0 = t.val / 4 / 4 ∧ win0_0.index t 1 = t.val % 4)
    ∧ win0_1.index t 0 = t.val % 4 ∧ win0_1.index t 1 = t.val / 4 % 4)

/-- A tile of the first factor. -/
def bA (t : Fin cfg0.N) : Vec Ideal S1024x1024 .bf16 := iblk m c 0 t
/-- A tile of the second factor. -/
def bB (t : Fin cfg0.N) : Vec Ideal S1024x1408 .bf16 := iblk m c 1 t

theorem bA_at (t : Fin cfg0.N) (r k : Fin 1024) : bA m c t (ValueIdx.ix2 r k) = ext (aA m c) (t.val % 4 * 1024 + k.val) (t.val / 4 / 4 * 1024 + r.val) :=
  (congrFun (V_a m c) (((cfg0.win 0).blk t).view.emb (ValueIdx.ix2 r k))).trans (ext_emb (aA m c) (ValueIdx.ix2 _ _) _ _
    ((Pipeline.Window.rect_emb_val (cfg0.win 0) t (ValueIdx.ix2 r k) 1).trans (congrArg (· * 1024 + k.val) (ix t).1.2))
    ((Pipeline.Window.rect_emb_val (cfg0.win 0) t (ValueIdx.ix2 r k) 0).trans (congrArg (· * 1024 + r.val) (ix t).1.1)))
theorem bB_at (t : Fin cfg0.N) (x : Fin 1408) (k : Fin 1024) : bB m c t (ValueIdx.ix2 k x) = ext (aB m c) (t.val % 4 * 1024 + k.val) (t.val / 4 % 4 * 1408 + x.val) :=
  (congrFun (V_b m c) (((cfg0.win 1).blk t).view.emb (ValueIdx.ix2 k x))).trans (ext_emb (aB m c) _ _ _
    ((Pipeline.Window.rect_emb_val (cfg0.win 1) t (ValueIdx.ix2 k x) 0).trans (congrArg (· * 1024 + k.val) (ix t).2.1))
    ((Pipeline.Window.rect_emb_val (cfg0.win 1) t (ValueIdx.ix2 k x) 1).trans (congrArg (· * 1408 + x.val) (ix t).2.2)))

section
variable (t : Fin cfg0.N)
theorem pt_first (h0 : t.val % 4 = 0) : (outsAt0 m c t.val t.isLt).2 = k0_pay2 (bA m c t) (bB m c t) := by
  rw [outsAt0_A m c t h0 (by omega) (by omega)]
  unfold sout0_A_0 kernelRun0_A
  dsimp only
  rw [left_whole, load_whole, load_whole]
  rfl
theorem pt_next (h0 : ¬t.val % 4 = 0) : (outsAt0 m c t.val t.isLt).2
    = k0_pay3 (bA m c t) (bB m c t) (outsAt0 m c (t.val - 1) (Nat.lt_of_le_of_lt (Nat.sub_le _ _) t.isLt)).2 := by
  by_cases h2 : t.val % 4 = 3
  · rw [outsAt0_C m c t h0 (by omega) h2]
    unfold sout0_C_0 kernelRun0_C
    dsimp only
    sl_unfold_words
    rw [left_whole, load_whole, load_whole, load_whole]
    rfl
  · rw [outsAt0_B m c t h0 (by omega) h2]
    unfold sout0_B_0 kernelRun0_B
    dsimp only
    rw [left_whole, load_whole, load_whole]
    exact congrArg (k0_pay3 (bA m c t) (bB m c t)) (load_whole (a := scM0_0) _ _ _)
theorem pt_out (h2 : t.val % 4 = 3) : (outsAt0 m c t.val t.isLt).1 = (outsAt0 m c t.val t.isLt).2 := by
  rw [outsAt0_C m c t (by omega) (by omega) h2]
  unfold sout0_C_0 out0_C_2 kernelRun0_C
  dsimp only
  sl_unfold_words
  rw [left_whole, left_whole, View.readCov_unit_zero _ hz]
end

theorem result_read (r : Fin 1024) (x : Fin 5632) (p : ℕ) (h : p < cfg0.N) (hl : p % 4 + 1 = 4) (hp : p / 4 = r.val / 1024 * 4 + x.val / 1408) :
    G2 m c (ValueIdx.ix2 r x) = (outsAt0 m c p h).2 (ValueIdx.ix2 ⟨r.val % 1024, Nat.mod_lt _ (by decide)⟩ ⟨x.val % 1408, Nat.mod_lt _ (by decide)⟩) := by
  have e : pt2Of (ValueIdx.ix2 r x) = p := by
    show 4 * (4 * (r.val / 1024 - 0) + 1 * (x.val / 1408 - 0)) + 3 = p
    omega
  subst e
  unfold G2
  rw [dif_pos h, ← outsAt0_sweep m c _ h]
  exact (at_ix2 (outsAt0 m c _ h).1 _ _ _ _ _ rfl rfl).trans (congrFun (pt_out m c ⟨_, h⟩ (Nat.succ.inj hl)) _)

/-- The result is the product. -/
theorem result_at (r : Fin 1024) (x : Fin 5632) : G2 m c (ValueIdx.ix2 r x)
    = dot (fun r k => ext (aA m c) k r) (fun x k => ext (aB m c) k x) 4096 r.val x.val :=
  product_at (φ := .f32) (ni := 1) (nj := 4) (nk := 4) (tk := 1024) _ _ (fun t r k => bA m c t (ValueIdx.ix2 r k)) (fun t x k => bB m c t (ValueIdx.ix2 k x))
    (by decide) (by decide) (by decide) N_0 rfl rfl (bA_at m c) (bB_at m c) (fun n h r x => (outsAt0 m c n h).2 (ValueIdx.ix2 r x))
    (fun n h r x h0 => (congrFun (pt_first m c ⟨n, h⟩ h0) _).trans ((congrFun (pay2_at _ _) _).trans (pay1_at _ _ _)))
    (fun n h r x h0 => (congrFun (pt_next m c ⟨n + 1, h⟩ h0) _).trans ((pay3_at _ _ _ _).trans (congrArg (_ + ·) (pay1_at _ _ _))))
    (G2 m c) (result_read m c) r x

theorem ref_at (r : Fin 1024) (x : Fin 5632) : Cert.Reference11Ideal.Read.val_main_v3 (F := Ideal) (aA m c) (aB m c) (ValueIdx.ix2 r x)
    = dot (fun r k => ext (aA m c) k r) (fun x k => ext (aB m c) k x) 4096 r.val x.val := by
  rw [dot_fin, Cert.Reference11Ideal.Read.val_main_v3_apply, Cert.Reference11Ideal.Read.val_main_v2_apply]
  exact Finset.sum_congr rfl fun k _ => (mul_comm (G := EReal) _ _).trans (congrArg₂ (fun a b : EReal => a * b)
    (ext_emb (aA m c) (Cert.Reference11Ideal.Read.ridx_main_v2 (Cert.Reference11Ideal.Read.idx_main_v3 (ValueIdx.ix2 r x)) k) k.val r.val rfl rfl)
    (ext_emb (aB m c) (Cert.Reference11Ideal.Read.lidx_main_v2 (Cert.Reference11Ideal.Read.idx_main_v3 (ValueIdx.ix2 r x)) k) k.val x.val rfl rfl))

theorem algebraic : Cert.algebraic_Kernel11Ideal_Reference11Ideal := by
  intro m g m' g' _ hag
  refine ⟨fun c => G2 m c, Value.run (F := Ideal) m g, ?_⟩
  refine (θ_run Cert.Reference11Ideal.defs _ _).mono (fun r h c => ⟨(h c).1.trans ?_, (h c).2⟩) (Cert.Reference11Ideal.Value.run (F := Ideal) m' g')
  rw [Cert.Reference11Ideal.Read.val_main_v3_eq, (hag c).1, (hag c).2]
  exact (same .f32 (G2 m c) _ _ (result_at m c) (ref_at m c)).symm

end Cert.Kernel11Ideal.Hand
-- ==== Proof.Mm.M12.lean ====
/-
  The second layer's input weight gradient, over four blocks of tokens: what the kernel writes is the reference's product.
-/
module

public import proofs.«01_k».proof.Proof.Norm.Tiles
public import proofs.«01_k».proof.Proof.Gen.Kernel12Ideal.Value
public import proofs.«01_k».proof.Proof.Gen.Reference12Ideal.Read
public import proofs.«01_k».proof.Proof.Gen.Reference12Ideal.Run
public import proofs.«01_k».proof.Defs
public import Idealize.ShloMosaic.Lib.Claim
public import Idealize.ShloMosaic.Lib.StableHlo.RunRead

@[expose] public section
set_option maxRecDepth 100000
noncomputable section
namespace Cert.Kernel12Ideal.Hand
open Cert.Kernel12Ideal Cert.Kernel12Ideal.Gen Cert.Kernel12Ideal.Value Cert.Norm
open Idealize.ShloMosaic Idealize.ShloMosaic.TcCoe Idealize.ShloMosaic.StableHlo

/-- One tile's product over one block of tokens. -/
theorem pay1_at (p : Vec Ideal S1024x1024 .bf16) (w : Vec Ideal S1024x1152 .bf16) (i : S1024x1152.Idx) :
    k0_pay1 (F := Ideal) p w i = ∑ k : Fin 1024, p (ValueIdx.ix2 (i 0) k) * w (ValueIdx.ix2 k (i 1)) := by
  unfold k0_pay1
  rw [shapeCast_self, shapeCast_self]
  exact mmn_at (φ₁ := .bf16) (φ₂ := .bf16) dot_S1024x1024_S1024x1152_S1024x1152_1_0_0_1_n_n rfl rfl rfl rfl rfl rfl p w i
theorem pay2_at (p : Vec Ideal S1024x1024 .bf16) (w : Vec Ideal S1024x1152 .bf16) : k0_pay2 (F := Ideal) p w = k0_pay1 p w := shapeCast_self _ _
theorem pay3_at (p : Vec Ideal S1024x1024 .bf16) (w : Vec Ideal S1024x1152 .bf16) (s : Vec Ideal S1024x1152 .f32) (i : S1024x1152.Idx) :
    k0_pay3 (F := Ideal) p w s i = s i + k0_pay1 (F := Ideal) p w i := by
  unfold k0_pay3
  rw [shapeCast_self]
  rfl

variable (m : (ℓ : Loc nD τ sig) → Buf (Elt Ideal) ℓ) (c : Dev nD)

/-- The tokens' activations. -/
def aA : FVec Ideal S4096x1024 .f32 := m ((c : Thread nD τ).loc main_arg0)
/-- The cotangent. -/
def aB : FVec Ideal S4096x3456 .f32 := m ((c : Thread nD τ).loc main_arg1)

set_option maxHeartbeats 4000000 in
theorem V_a : V m c main_v2 = fun i => aA m c (ValueIdx.ix2 (i 1) (i 0)) := by
  entry_read
  exact transpose_at (aA m c) _
set_option maxHeartbeats 4000000 in
theorem V_b : V m c main_v1 = aB m c := by
  entry_read
  rfl

theorem ix : ∀ t : Fin cfg0.N, ((cfg0.win 0).index t 0 = t.val / 4 / 3 ∧ (cfg0.win 0).index t 1 = t.val % 4)
    ∧ (cfg0.win 1).index t 0 = t.val % 4 ∧ (cfg0.win 1).index t 1 = t.val / 4 % 3 :=
  (by decide +kernel : ∀ t : Fin grid0.N, (win0_0.index t 0 = t.val / 4 / 3 ∧ win0_0.index t 1 = t.val % 4)
    ∧ win0_1.index t 0 = t.val % 4 ∧ win0_1.index t 1 = t.val / 4 % 3)

/-- A tile of the first factor. -/
def bA (t : Fin cfg0.N) : Vec Ideal S1024x1024 .bf16 := iblk m c 0 t
/-- A tile of the second factor. -/
def bB (t : Fin cfg0.N) : Vec Ideal S1024x1152 .bf16 := iblk m c 1 t

theorem bA_at (t : Fin cfg0.N) (r k : Fin 1024) : bA m c t (ValueIdx.ix2 r k) = ext (aA m c) (t.val % 4 * 1024 + k.val) (t.val / 4 / 3 * 1024 + r.val) :=
  (congrFun (V_a m c) (((cfg0.win 0).blk t).view.emb (ValueIdx.ix2 r k))).trans (ext_emb (aA m c) (ValueIdx.ix2 _ _) _ _
    ((Pipeline.Window.rect_emb_val (cfg0.win 0) t (ValueIdx.ix2 r k) 1).trans (congrArg (· * 1024 + k.val) (ix t).1.2))
    ((Pipeline.Window.rect_emb_val (cfg0.win 0) t (ValueIdx.ix2 r k) 0).trans (congrArg (· * 1024 + r.val) (ix t).1.1)))
theorem bB_at (t : Fin cfg0.N) (x : Fin 1152) (k : Fin 1024) : bB m c t (ValueIdx.ix2 k x) = ext (aB m c) (t.val % 4 * 1024 + k.val) (t.val / 4 % 3 * 1152 + x.val) :=
  (congrFun (V_b m c) (((cfg0.win 1).blk t).view.emb (ValueIdx.ix2 k x))).trans (ext_emb (aB m c) _ _ _
    ((Pipeline.Window.rect_emb_val (cfg0.win 1) t (ValueIdx.ix2 k x) 0).trans (congrArg (· * 1024 + k.val) (ix t).2.1))
    ((Pipeline.Window.rect_emb_val (cfg0.win 1) t (ValueIdx.ix2 k x) 1).trans (congrArg (· * 1152 + x.val) (ix t).2.2)))

section
variable (t : Fin cfg0.N)
theorem pt_first (h0 : t.val % 4 = 0) : (outsAt0 m c t.val t.isLt).2 = k0_pay2 (bA m c t) (bB m c t) := by
  rw [outsAt0_A m c t h0 (by omega) (by omega)]
  unfold sout0_A_0 kernelRun0_A
  dsimp only
  rw [left_whole, load_whole, load_whole]
  rfl
theorem pt_next (h0 : ¬t.val % 4 = 0) : (outsAt0 m c t.val t.isLt).2
    = k0_pay3 (bA m c t) (bB m c t) (outsAt0 m c (t.val - 1) (Nat.lt_of_le_of_lt (Nat.sub_le _ _) t.isLt)).2 := by
  by_cases h2 : t.val % 4 = 3
  · rw [outsAt0_C m c t h0 (by omega) h2]
    unfold sout0_C_0 kernelRun0_C
    dsimp only
    sl_unfold_words
    rw [left_whole, load_whole, load_whole, load_whole]
    rfl
  · rw [outsAt0_B m c t h0 (by omega) h2]
    unfold sout0_B_0 kernelRun0_B
    dsimp only
    rw [left_whole, load_whole, load_whole]
    exact congrArg (k0_pay3 (bA m c t) (bB m c t)) (load_whole (a := scM0_0) _ _ _)
theorem pt_out (h2 : t.val % 4 = 3) : (outsAt0 m c t.val t.isLt).1 = (outsAt0 m c t.val t.isLt).2 := by
  rw [outsAt0_C m c t (by omega) (by omega) h2]
  unfold sout0_C_0 out0_C_2 kernelRun0_C
  dsimp only
  sl_unfold_words
  rw [left_whole, left_whole, View.readCov_unit_zero _ hz]
end

theorem result_read (r : Fin 1024) (x : Fin 3456) (p : ℕ) (h : p < cfg0.N) (hl : p % 4 + 1 = 4) (hp : p / 4 = r.val / 1024 * 3 + x.val / 1152) :
    G2 m c (ValueIdx.ix2 r x) = (outsAt0 m c p h).2 (ValueIdx.ix2 ⟨r.val % 1024, Nat.mod_lt _ (by decide)⟩ ⟨x.val % 1152, Nat.mod_lt _ (by decide)⟩) := by
  have e : pt2Of (ValueIdx.ix2 r x) = p := by
    show 4 * (3 * (r.val / 1024 - 0) + 1 * (x.val / 1152 - 0)) + 3 = p
    omega
  subst e
  unfold G2
  rw [dif_pos h, ← outsAt0_sweep m c _ h]
  exact (at_ix2 (outsAt0 m c _ h).1 _ _ _ _ _ rfl rfl).trans (congrFun (pt_out m c ⟨_, h⟩ (Nat.succ.inj hl)) _)

/-- The result is the product. -/
theorem result_at (r : Fin 1024) (x : Fin 3456) : G2 m c (ValueIdx.ix2 r x)
    = dot (fun r k => ext (aA m c) k r) (fun x k => ext (aB m c) k x) 4096 r.val x.val :=
  product_at (φ := .f32) (ni := 1) (nj := 3) (nk := 4) (tk := 1024) _ _ (fun t r k => bA m c t (ValueIdx.ix2 r k)) (fun t x k => bB m c t (ValueIdx.ix2 k x))
    (by decide) (by decide) (by decide) N_0 rfl rfl (bA_at m c) (bB_at m c) (fun n h r x => (outsAt0 m c n h).2 (ValueIdx.ix2 r x))
    (fun n h r x h0 => (congrFun (pt_first m c ⟨n, h⟩ h0) _).trans ((congrFun (pay2_at _ _) _).trans (pay1_at _ _ _)))
    (fun n h r x h0 => (congrFun (pt_next m c ⟨n + 1, h⟩ h0) _).trans ((pay3_at _ _ _ _).trans (congrArg (_ + ·) (pay1_at _ _ _))))
    (G2 m c) (result_read m c) r x

theorem ref_at (r : Fin 1024) (x : Fin 3456) : Cert.Reference12Ideal.Read.val_main_v3 (F := Ideal) (aA m c) (aB m c) (ValueIdx.ix2 r x)
    = dot (fun r k => ext (aA m c) k r) (fun x k => ext (aB m c) k x) 4096 r.val x.val := by
  rw [dot_fin, Cert.Reference12Ideal.Read.val_main_v3_apply, Cert.Reference12Ideal.Read.val_main_v2_apply]
  exact Finset.sum_congr rfl fun k _ => (mul_comm (G := EReal) _ _).trans (congrArg₂ (fun a b : EReal => a * b)
    (ext_emb (aA m c) _ k.val r.val rfl rfl) (ext_emb (aB m c) _ k.val x.val rfl rfl))

theorem algebraic : Cert.algebraic_Kernel12Ideal_Reference12Ideal := by
  intro m g m' g' _ hag
  refine ⟨fun c => G2 m c, Value.run (F := Ideal) m g, ?_⟩
  refine (θ_run Cert.Reference12Ideal.defs _ _).mono (fun r h c => ⟨(h c).1.trans ?_, (h c).2⟩) (Cert.Reference12Ideal.Value.run (F := Ideal) m' g')
  rw [Cert.Reference12Ideal.Read.val_main_v3_eq, (hag c).1, (hag c).2]
  exact (same .f32 (G2 m c) _ _ (result_at m c) (ref_at m c)).symm

end Cert.Kernel12Ideal.Hand
-- ==== Proof.Mm.M13.lean ====
/-
  The query weight's gradient, over four blocks of tokens: what the kernel writes is the reference's product.
-/
module

public import proofs.«01_k».proof.Proof.Norm.Tiles
public import proofs.«01_k».proof.Proof.Gen.Kernel13Ideal.Value
public import proofs.«01_k».proof.Proof.Gen.Reference13Ideal.Read
public import proofs.«01_k».proof.Proof.Gen.Reference13Ideal.Run
public import proofs.«01_k».proof.Defs
public import Idealize.ShloMosaic.Lib.Claim
public import Idealize.ShloMosaic.Lib.StableHlo.RunRead

@[expose] public section
set_option maxRecDepth 100000
noncomputable section
namespace Cert.Kernel13Ideal.Hand
open Cert.Kernel13Ideal Cert.Kernel13Ideal.Gen Cert.Kernel13Ideal.Value Cert.Norm
open Idealize.ShloMosaic Idealize.ShloMosaic.TcCoe Idealize.ShloMosaic.StableHlo

/-- One tile's product over one block of tokens. -/
theorem pay1_at (p : Vec Ideal S512x1024 .bf16) (w : Vec Ideal S1024x1536 .bf16) (i : S512x1536.Idx) :
    k0_pay1 (F := Ideal) p w i = ∑ k : Fin 1024, p (ValueIdx.ix2 (i 0) k) * w (ValueIdx.ix2 k (i 1)) := by
  unfold k0_pay1
  rw [shapeCast_self, shapeCast_self]
  exact mmn_at (φ₁ := .bf16) (φ₂ := .bf16) dot_S512x1024_S1024x1536_S512x1536_1_0_0_1_n_n rfl rfl rfl rfl rfl rfl p w i
theorem pay2_at (p : Vec Ideal S512x1024 .bf16) (w : Vec Ideal S1024x1536 .bf16) : k0_pay2 (F := Ideal) p w = k0_pay1 p w := shapeCast_self _ _
theorem pay3_at (p : Vec Ideal S512x1024 .bf16) (w : Vec Ideal S1024x1536 .bf16) (s : Vec Ideal S512x1536 .f32) (i : S512x1536.Idx) :
    k0_pay3 (F := Ideal) p w s i = s i + k0_pay1 (F := Ideal) p w i := by
  unfold k0_pay3
  rw [shapeCast_self]
  rfl

variable (m : (ℓ : Loc nD τ sig) → Buf (Elt Ideal) ℓ) (c : Dev nD)

/-- The latent. -/
def aA : FVec Ideal S4096x512 .f32 := m ((c : Thread nD τ).loc main_arg0)
/-- The cotangent. -/
def aB : FVec Ideal S4096x3072 .f32 := m ((c : Thread nD τ).loc main_arg1)

set_option maxHeartbeats 4000000 in
theorem V_a : V m c main_v2 = fun i => aA m c (ValueIdx.ix2 (i 1) (i 0)) := by
  entry_read
  exact transpose_at (aA m c) _
set_option maxHeartbeats 4000000 in
theorem V_b : V m c main_v1 = aB m c := by
  entry_read
  rfl

theorem ix : ∀ t : Fin cfg0.N, ((cfg0.win 0).index t 0 = t.val / 4 / 2 ∧ (cfg0.win 0).index t 1 = t.val % 4)
    ∧ (cfg0.win 1).index t 0 = t.val % 4 ∧ (cfg0.win 1).index t 1 = t.val / 4 % 2 :=
  (by decide +kernel : ∀ t : Fin grid0.N, (win0_0.index t 0 = t.val / 4 / 2 ∧ win0_0.index t 1 = t.val % 4)
    ∧ win0_1.index t 0 = t.val % 4 ∧ win0_1.index t 1 = t.val / 4 % 2)

/-- A tile of the first factor. -/
def bA (t : Fin cfg0.N) : Vec Ideal S512x1024 .bf16 := iblk m c 0 t
/-- A tile of the second factor. -/
def bB (t : Fin cfg0.N) : Vec Ideal S1024x1536 .bf16 := iblk m c 1 t

theorem bA_at (t : Fin cfg0.N) (r : Fin 512) (k : Fin 1024) : bA m c t (ValueIdx.ix2 r k) = ext (aA m c) (t.val % 4 * 1024 + k.val) (t.val / 4 / 2 * 512 + r.val) :=
  (congrFun (V_a m c) (((cfg0.win 0).blk t).view.emb (ValueIdx.ix2 r k))).trans (ext_emb (aA m c) (ValueIdx.ix2 _ _) _ _
    ((Pipeline.Window.rect_emb_val (cfg0.win 0) t (ValueIdx.ix2 r k) 1).trans (congrArg (· * 1024 + k.val) (ix t).1.2))
    ((Pipeline.Window.rect_emb_val (cfg0.win 0) t (ValueIdx.ix2 r k) 0).trans (congrArg (· * 512 + r.val) (ix t).1.1)))
theorem bB_at (t : Fin cfg0.N) (x : Fin 1536) (k : Fin 1024) : bB m c t (ValueIdx.ix2 k x) = ext (aB m c) (t.val % 4 * 1024 + k.val) (t.val / 4 % 2 * 1536 + x.val) :=
  (congrFun (V_b m c) (((cfg0.win 1).blk t).view.emb (ValueIdx.ix2 k x))).trans (ext_emb (aB m c) _ _ _
    ((Pipeline.Window.rect_emb_val (cfg0.win 1) t (ValueIdx.ix2 k x) 0).trans (congrArg (· * 1024 + k.val) (ix t).2.1))
    ((Pipeline.Window.rect_emb_val (cfg0.win 1) t (ValueIdx.ix2 k x) 1).trans (congrArg (· * 1536 + x.val) (ix t).2.2)))

section
variable (t : Fin cfg0.N)
theorem pt_first (h0 : t.val % 4 = 0) : (outsAt0 m c t.val t.isLt).2 = k0_pay2 (bA m c t) (bB m c t) := by
  rw [outsAt0_A m c t h0 (by omega) (by omega)]
  unfold sout0_A_0 kernelRun0_A
  dsimp only
  rw [left_whole, load_whole, load_whole]
  rfl
theorem pt_next (h0 : ¬t.val % 4 = 0) : (outsAt0 m c t.val t.isLt).2
    = k0_pay3 (bA m c t) (bB m c t) (outsAt0 m c (t.val - 1) (Nat.lt_of_le_of_lt (Nat.sub_le _ _) t.isLt)).2 := by
  by_cases h2 : t.val % 4 = 3
  · rw [outsAt0_C m c t h0 (by omega) h2]
    unfold sout0_C_0 kernelRun0_C
    dsimp only
    sl_unfold_words
    rw [left_whole, load_whole, load_whole, load_whole]
    rfl
  · rw [outsAt0_B m c t h0 (by omega) h2]
    unfold sout0_B_0 kernelRun0_B
    dsimp only
    rw [left_whole, load_whole, load_whole]
    exact congrArg (k0_pay3 (bA m c t) (bB m c t)) (load_whole (a := scM0_0) _ _ _)
theorem pt_out (h2 : t.val % 4 = 3) : (outsAt0 m c t.val t.isLt).1 = (outsAt0 m c t.val t.isLt).2 := by
  rw [outsAt0_C m c t (by omega) (by omega) h2]
  unfold sout0_C_0 out0_C_2 kernelRun0_C
  dsimp only
  sl_unfold_words
  rw [left_whole, left_whole, View.readCov_unit_zero _ hz]
end

theorem result_read (r : Fin 512) (x : Fin 3072) (p : ℕ) (h : p < cfg0.N) (hl : p % 4 + 1 = 4) (hp : p / 4 = r.val / 512 * 2 + x.val / 1536) :
    G2 m c (ValueIdx.ix2 r x) = (outsAt0 m c p h).2 (ValueIdx.ix2 ⟨r.val % 512, Nat.mod_lt _ (by decide)⟩ ⟨x.val % 1536, Nat.mod_lt _ (by decide)⟩) := by
  have e : pt2Of (ValueIdx.ix2 r x) = p := by
    show 4 * (2 * (r.val / 512 - 0) + 1 * (x.val / 1536 - 0)) + 3 = p
    omega
  subst e
  unfold G2
  rw [dif_pos h, ← outsAt0_sweep m c _ h]
  exact (at_ix2 (outsAt0 m c _ h).1 _ _ _ _ _ rfl rfl).trans (congrFun (pt_out m c ⟨_, h⟩ (Nat.succ.inj hl)) _)

/-- The result is the product. -/
theorem result_at (r : Fin 512) (x : Fin 3072) : G2 m c (ValueIdx.ix2 r x)
    = dot (fun r k => ext (aA m c) k r) (fun x k => ext (aB m c) k x) 4096 r.val x.val :=
  product_at (φ := .f32) (ni := 1) (nj := 2) (nk := 4) (tk := 1024) _ _ (fun t r k => bA m c t (ValueIdx.ix2 r k)) (fun t x k => bB m c t (ValueIdx.ix2 k x))
    (by decide) (by decide) (by decide) N_0 rfl rfl (bA_at m c) (bB_at m c) (fun n h r x => (outsAt0 m c n h).2 (ValueIdx.ix2 r x))
    (fun n h r x h0 => (congrFun (pt_first m c ⟨n, h⟩ h0) _).trans ((congrFun (pay2_at _ _) _).trans (pay1_at _ _ _)))
    (fun n h r x h0 => (congrFun (pt_next m c ⟨n + 1, h⟩ h0) _).trans ((pay3_at _ _ _ _).trans (congrArg (_ + ·) (pay1_at _ _ _))))
    (G2 m c) (result_read m c) r x

theorem ref_at (r : Fin 512) (x : Fin 3072) : Cert.Reference13Ideal.Read.val_main_v3 (F := Ideal) (aA m c) (aB m c) (ValueIdx.ix2 r x)
    = dot (fun r k => ext (aA m c) k r) (fun x k => ext (aB m c) k x) 4096 r.val x.val := by
  rw [dot_fin, Cert.Reference13Ideal.Read.val_main_v3_apply, Cert.Reference13Ideal.Read.val_main_v2_apply]
  exact Finset.sum_congr rfl fun k _ => (mul_comm (G := EReal) _ _).trans (congrArg₂ (fun a b : EReal => a * b)
    (ext_emb (aA m c) _ k.val r.val rfl rfl) (ext_emb (aB m c) _ k.val x.val rfl rfl))

theorem algebraic : Cert.algebraic_Kernel13Ideal_Reference13Ideal := by
  intro m g m' g' _ hag
  refine ⟨fun c => G2 m c, Value.run (F := Ideal) m g, ?_⟩
  refine (θ_run Cert.Reference13Ideal.defs _ _).mono (fun r h c => ⟨(h c).1.trans ?_, (h c).2⟩) (Cert.Reference13Ideal.Value.run (F := Ideal) m' g')
  rw [Cert.Reference13Ideal.Read.val_main_v3_eq, (hag c).1, (hag c).2]
  exact (same .f32 (G2 m c) _ _ (result_at m c) (ref_at m c)).symm

end Cert.Kernel13Ideal.Hand
-- ==== Proof.Mm.M14.lean ====
/-
  The key and value weight's gradient, over four blocks of tokens: what the kernel writes is the reference's product.
-/
module

public import proofs.«01_k».proof.Proof.Norm.Tiles
public import proofs.«01_k».proof.Proof.Gen.Kernel14Ideal.Value
public import proofs.«01_k».proof.Proof.Gen.Reference14Ideal.Read
public import proofs.«01_k».proof.Proof.Gen.Reference14Ideal.Run
public import proofs.«01_k».proof.Defs
public import Idealize.ShloMosaic.Lib.Claim
public import Idealize.ShloMosaic.Lib.StableHlo.RunRead

@[expose] public section
set_option maxRecDepth 100000
noncomputable section
namespace Cert.Kernel14Ideal.Hand
open Cert.Kernel14Ideal Cert.Kernel14Ideal.Gen Cert.Kernel14Ideal.Value Cert.Norm
open Idealize.ShloMosaic Idealize.ShloMosaic.TcCoe Idealize.ShloMosaic.StableHlo

/-- One tile's product over one block of tokens. -/
theorem pay1_at (p : Vec Ideal S256x1024 .bf16) (w : Vec Ideal S1024x1536 .bf16) (i : S256x1536.Idx) :
    k0_pay1 (F := Ideal) p w i = ∑ k : Fin 1024, p (ValueIdx.ix2 (i 0) k) * w (ValueIdx.ix2 k (i 1)) := by
  unfold k0_pay1
  rw [shapeCast_self, shapeCast_self]
  exact mmn_at (φ₁ := .bf16) (φ₂ := .bf16) dot_S256x1024_S1024x1536_S256x1536_1_0_0_1_n_n rfl rfl rfl rfl rfl rfl p w i
theorem pay2_at (p : Vec Ideal S256x1024 .bf16) (w : Vec Ideal S1024x1536 .bf16) : k0_pay2 (F := Ideal) p w = k0_pay1 p w := shapeCast_self _ _
theorem pay3_at (p : Vec Ideal S256x1024 .bf16) (w : Vec Ideal S1024x1536 .bf16) (s : Vec Ideal S256x1536 .f32) (i : S256x1536.Idx) :
    k0_pay3 (F := Ideal) p w s i = s i + k0_pay1 (F := Ideal) p w i := by
  unfold k0_pay3
  rw [shapeCast_self]
  rfl

variable (m : (ℓ : Loc nD τ sig) → Buf (Elt Ideal) ℓ) (c : Dev nD)

/-- The latent. -/
def aA : FVec Ideal S4096x256 .f32 := m ((c : Thread nD τ).loc main_arg0)
/-- The cotangent. -/
def aB : FVec Ideal S4096x3072 .f32 := m ((c : Thread nD τ).loc main_arg1)

set_option maxHeartbeats 4000000 in
theorem V_a : V m c main_v2 = fun i => aA m c (ValueIdx.ix2 (i 1) (i 0)) := by
  entry_read
  exact transpose_at (aA m c) _
set_option maxHeartbeats 4000000 in
theorem V_b : V m c main_v1 = aB m c := by
  entry_read
  rfl

theorem ix : ∀ t : Fin cfg0.N, ((cfg0.win 0).index t 0 = t.val / 4 / 2 ∧ (cfg0.win 0).index t 1 = t.val % 4)
    ∧ (cfg0.win 1).index t 0 = t.val % 4 ∧ (cfg0.win 1).index t 1 = t.val / 4 % 2 :=
  (by decide +kernel : ∀ t : Fin grid0.N, (win0_0.index t 0 = t.val / 4 / 2 ∧ win0_0.index t 1 = t.val % 4)
    ∧ win0_1.index t 0 = t.val % 4 ∧ win0_1.index t 1 = t.val / 4 % 2)

/-- A tile of the first factor. -/
def bA (t : Fin cfg0.N) : Vec Ideal S256x1024 .bf16 := iblk m c 0 t
/-- A tile of the second factor. -/
def bB (t : Fin cfg0.N) : Vec Ideal S1024x1536 .bf16 := iblk m c 1 t

theorem bA_at (t : Fin cfg0.N) (r : Fin 256) (k : Fin 1024) : bA m c t (ValueIdx.ix2 r k) = ext (aA m c) (t.val % 4 * 1024 + k.val) (t.val / 4 / 2 * 256 + r.val) :=
  (congrFun (V_a m c) (((cfg0.win 0).blk t).view.emb (ValueIdx.ix2 r k))).trans (ext_emb (aA m c) (ValueIdx.ix2 _ _) _ _
    ((Pipeline.Window.rect_emb_val (cfg0.win 0) t (ValueIdx.ix2 r k) 1).trans (congrArg (· * 1024 + k.val) (ix t).1.2))
    ((Pipeline.Window.rect_emb_val (cfg0.win 0) t (ValueIdx.ix2 r k) 0).trans (congrArg (· * 256 + r.val) (ix t).1.1)))
theorem bB_at (t : Fin cfg0.N) (x : Fin 1536) (k : Fin 1024) : bB m c t (ValueIdx.ix2 k x) = ext (aB m c) (t.val % 4 * 1024 + k.val) (t.val / 4 % 2 * 1536 + x.val) :=
  (congrFun (V_b m c) (((cfg0.win 1).blk t).view.emb (ValueIdx.ix2 k x))).trans (ext_emb (aB m c) _ _ _
    ((Pipeline.Window.rect_emb_val (cfg0.win 1) t (ValueIdx.ix2 k x) 0).trans (congrArg (· * 1024 + k.val) (ix t).2.1))
    ((Pipeline.Window.rect_emb_val (cfg0.win 1) t (ValueIdx.ix2 k x) 1).trans (congrArg (· * 1536 + x.val) (ix t).2.2)))

section
variable (t : Fin cfg0.N)
theorem pt_first (h0 : t.val % 4 = 0) : (outsAt0 m c t.val t.isLt).2 = k0_pay2 (bA m c t) (bB m c t) := by
  rw [outsAt0_A m c t h0 (by omega) (by omega)]
  unfold sout0_A_0 kernelRun0_A
  dsimp only
  rw [left_whole, load_whole, load_whole]
  rfl
theorem pt_next (h0 : ¬t.val % 4 = 0) : (outsAt0 m c t.val t.isLt).2
    = k0_pay3 (bA m c t) (bB m c t) (outsAt0 m c (t.val - 1) (Nat.lt_of_le_of_lt (Nat.sub_le _ _) t.isLt)).2 := by
  by_cases h2 : t.val % 4 = 3
  · rw [outsAt0_C m c t h0 (by omega) h2]
    unfold sout0_C_0 kernelRun0_C
    dsimp only
    sl_unfold_words
    rw [left_whole, load_whole, load_whole, load_whole]
    rfl
  · rw [outsAt0_B m c t h0 (by omega) h2]
    unfold sout0_B_0 kernelRun0_B
    dsimp only
    rw [left_whole, load_whole, load_whole]
    exact congrArg (k0_pay3 (bA m c t) (bB m c t)) (load_whole (a := scM0_0) _ _ _)
theorem pt_out (h2 : t.val % 4 = 3) : (outsAt0 m c t.val t.isLt).1 = (outsAt0 m c t.val t.isLt).2 := by
  rw [outsAt0_C m c t (by omega) (by omega) h2]
  unfold sout0_C_0 out0_C_2 kernelRun0_C
  dsimp only
  sl_unfold_words
  rw [left_whole, left_whole, View.readCov_unit_zero _ hz]
end

theorem result_read (r : Fin 256) (x : Fin 3072) (p : ℕ) (h : p < cfg0.N) (hl : p % 4 + 1 = 4) (hp : p / 4 = r.val / 256 * 2 + x.val / 1536) :
    G2 m c (ValueIdx.ix2 r x) = (outsAt0 m c p h).2 (ValueIdx.ix2 ⟨r.val % 256, Nat.mod_lt _ (by decide)⟩ ⟨x.val % 1536, Nat.mod_lt _ (by decide)⟩) := by
  have e : pt2Of (ValueIdx.ix2 r x) = p := by
    show 4 * (2 * (r.val / 256 - 0) + 1 * (x.val / 1536 - 0)) + 3 = p
    omega
  subst e
  unfold G2
  rw [dif_pos h, ← outsAt0_sweep m c _ h]
  exact (at_ix2 (outsAt0 m c _ h).1 _ _ _ _ _ rfl rfl).trans (congrFun (pt_out m c ⟨_, h⟩ (Nat.succ.inj hl)) _)

/-- The result is the product. -/
theorem result_at (r : Fin 256) (x : Fin 3072) : G2 m c (ValueIdx.ix2 r x)
    = dot (fun r k => ext (aA m c) k r) (fun x k => ext (aB m c) k x) 4096 r.val x.val :=
  product_at (φ := .f32) (ni := 1) (nj := 2) (nk := 4) (tk := 1024) _ _ (fun t r k => bA m c t (ValueIdx.ix2 r k)) (fun t x k => bB m c t (ValueIdx.ix2 k x))
    (by decide) (by decide) (by decide) N_0 rfl rfl (bA_at m c) (bB_at m c) (fun n h r x => (outsAt0 m c n h).2 (ValueIdx.ix2 r x))
    (fun n h r x h0 => (congrFun (pt_first m c ⟨n, h⟩ h0) _).trans ((congrFun (pay2_at _ _) _).trans (pay1_at _ _ _)))
    (fun n h r x h0 => (congrFun (pt_next m c ⟨n + 1, h⟩ h0) _).trans ((pay3_at _ _ _ _).trans (congrArg (_ + ·) (pay1_at _ _ _))))
    (G2 m c) (result_read m c) r x

theorem ref_at (r : Fin 256) (x : Fin 3072) : Cert.Reference14Ideal.Read.val_main_v3 (F := Ideal) (aA m c) (aB m c) (ValueIdx.ix2 r x)
    = dot (fun r k => ext (aA m c) k r) (fun x k => ext (aB m c) k x) 4096 r.val x.val := by
  rw [dot_fin, Cert.Reference14Ideal.Read.val_main_v3_apply, Cert.Reference14Ideal.Read.val_main_v2_apply]
  exact Finset.sum_congr rfl fun k _ => (mul_comm (G := EReal) _ _).trans (congrArg₂ (fun a b : EReal => a * b)
    (ext_emb (aA m c) _ k.val r.val rfl rfl) (ext_emb (aB m c) _ k.val x.val rfl rfl))

theorem algebraic : Cert.algebraic_Kernel14Ideal_Reference14Ideal := by
  intro m g m' g' _ hag
  refine ⟨fun c => G2 m c, Value.run (F := Ideal) m g, ?_⟩
  refine (θ_run Cert.Reference14Ideal.defs _ _).mono (fun r h c => ⟨(h c).1.trans ?_, (h c).2⟩) (Cert.Reference14Ideal.Value.run (F := Ideal) m' g')
  rw [Cert.Reference14Ideal.Read.val_main_v3_eq, (hag c).1, (hag c).2]
  exact (same .f32 (G2 m c) _ _ (result_at m c) (ref_at m c)).symm

end Cert.Kernel14Ideal.Hand
-- ==== Proof.Mm.M15.lean ====
/-
  The output weights' gradient, over four blocks of tokens: what the kernel writes is the reference's product.
-/
module

public import proofs.«01_k».proof.Proof.Norm.Tiles
public import proofs.«01_k».proof.Proof.Gen.Kernel15Ideal.Value
public import proofs.«01_k».proof.Proof.Gen.Reference15Ideal.Read
public import proofs.«01_k».proof.Proof.Gen.Reference15Ideal.Run
public import proofs.«01_k».proof.Defs
public import Idealize.ShloMosaic.Lib.Claim
public import Idealize.ShloMosaic.Lib.StableHlo.RunRead

@[expose] public section
set_option maxRecDepth 100000
noncomputable section
namespace Cert.Kernel15Ideal.Hand
open Cert.Kernel15Ideal Cert.Kernel15Ideal.Gen Cert.Kernel15Ideal.Value Cert.Norm
open Idealize.ShloMosaic Idealize.ShloMosaic.TcCoe Idealize.ShloMosaic.StableHlo

/-- One tile's product over one block of tokens; the second factor is cast in the body. -/
theorem pay1_at (p : Vec Ideal S1024x1024 .bf16) (w : Vec Ideal S1024x1024 .f32) (i : S1024x1024.Idx) :
    k0_pay1 (F := Ideal) p w i = ∑ k : Fin 1024, p (ValueIdx.ix2 (i 0) k) * w (ValueIdx.ix2 k (i 1)) := by
  unfold k0_pay1
  rw [shapeCast_self]
  exact mmn_at (φ₁ := .bf16) (φ₂ := .bf16) dot_S1024x1024_S1024x1024_S1024x1024_1_0_0_1_n_n rfl rfl rfl rfl rfl rfl p w i
theorem pay2_at (p : Vec Ideal S1024x1024 .bf16) (w : Vec Ideal S1024x1024 .f32) : k0_pay2 (F := Ideal) p w = k0_pay1 p w := shapeCast_self _ _
theorem pay3_at (p : Vec Ideal S1024x1024 .bf16) (w : Vec Ideal S1024x1024 .f32) (s : Vec Ideal S1024x1024 .f32) (i : S1024x1024.Idx) :
    k0_pay3 (F := Ideal) p w s i = s i + k0_pay1 (F := Ideal) p w i := by
  unfold k0_pay3
  rw [shapeCast_self]
  rfl

variable (m : (ℓ : Loc nD τ sig) → Buf (Elt Ideal) ℓ) (c : Dev nD)

/-- The gated values. -/
def aA : FVec Ideal S4096x2048 .f32 := m ((c : Thread nD τ).loc main_arg0)
/-- The cotangent. -/
def aB : FVec Ideal S4096x1024 .f32 := m ((c : Thread nD τ).loc main_arg1)

set_option maxHeartbeats 4000000 in
theorem V_a : V m c main_v1 = fun i => aA m c (ValueIdx.ix2 (i 1) (i 0)) := by
  entry_read
  exact transpose_at (aA m c) _

theorem ix : ∀ t : Fin cfg0.N, ((cfg0.win 0).index t 0 = t.val / 4 / 1 ∧ (cfg0.win 0).index t 1 = t.val % 4)
    ∧ (cfg0.win 1).index t 0 = t.val % 4 ∧ (cfg0.win 1).index t 1 = t.val / 4 % 1 :=
  (by decide +kernel : ∀ t : Fin grid0.N, (win0_0.index t 0 = t.val / 4 / 1 ∧ win0_0.index t 1 = t.val % 4)
    ∧ win0_1.index t 0 = t.val % 4 ∧ win0_1.index t 1 = t.val / 4 % 1)

/-- A tile of the first factor. -/
def bA (t : Fin cfg0.N) : Vec Ideal S1024x1024 .bf16 := iblk m c 0 t
/-- A tile of the second factor. -/
def bB (t : Fin cfg0.N) : Vec Ideal S1024x1024 .f32 := iblk m c 1 t

theorem bA_at (t : Fin cfg0.N) (r k : Fin 1024) : bA m c t (ValueIdx.ix2 r k) = ext (aA m c) (t.val % 4 * 1024 + k.val) (t.val / 4 / 1 * 1024 + r.val) :=
  (congrFun (V_a m c) (((cfg0.win 0).blk t).view.emb (ValueIdx.ix2 r k))).trans (ext_emb (aA m c) (ValueIdx.ix2 _ _) _ _
    ((Pipeline.Window.rect_emb_val (cfg0.win 0) t (ValueIdx.ix2 r k) 1).trans (congrArg (· * 1024 + k.val) (ix t).1.2))
    ((Pipeline.Window.rect_emb_val (cfg0.win 0) t (ValueIdx.ix2 r k) 0).trans (congrArg (· * 1024 + r.val) (ix t).1.1)))
theorem bB_at (t : Fin cfg0.N) (x k : Fin 1024) : bB m c t (ValueIdx.ix2 k x) = ext (aB m c) (t.val % 4 * 1024 + k.val) (t.val / 4 % 1 * 1024 + x.val) :=
  (congrFun (V_main_arg1 m c) (((cfg0.win 1).blk t).view.emb (ValueIdx.ix2 k x))).trans (ext_emb (aB m c) _ _ _
    ((Pipeline.Window.rect_emb_val (cfg0.win 1) t (ValueIdx.ix2 k x) 0).trans (congrArg (· * 1024 + k.val) (ix t).2.1))
    ((Pipeline.Window.rect_emb_val (cfg0.win 1) t (ValueIdx.ix2 k x) 1).trans (congrArg (· * 1024 + x.val) (ix t).2.2)))

section
variable (t : Fin cfg0.N)
theorem pt_first (h0 : t.val % 4 = 0) : (outsAt0 m c t.val t.isLt).2 = k0_pay2 (bA m c t) (bB m c t) := by
  rw [outsAt0_A m c t h0 (by omega) (by omega)]
  unfold sout0_A_0 kernelRun0_A
  dsimp only
  rw [left_whole, load_whole, load_whole]
  rfl
theorem pt_next (h0 : ¬t.val % 4 = 0) : (outsAt0 m c t.val t.isLt).2
    = k0_pay3 (bA m c t) (bB m c t) (outsAt0 m c (t.val - 1) (Nat.lt_of_le_of_lt (Nat.sub_le _ _) t.isLt)).2 := by
  by_cases h2 : t.val % 4 = 3
  · rw [outsAt0_C m c t h0 (by omega) h2]
    unfold sout0_C_0 kernelRun0_C
    dsimp only
    sl_unfold_words
    rw [left_whole, load_whole, load_whole, load_whole]
    rfl
  · rw [outsAt0_B m c t h0 (by omega) h2]
    unfold sout0_B_0 kernelRun0_B
    dsimp only
    rw [left_whole, load_whole, load_whole]
    exact congrArg (k0_pay3 (bA m c t) (bB m c t)) (load_whole (a := scM0_0) _ _ _)
theorem pt_out (h2 : t.val % 4 = 3) : (outsAt0 m c t.val t.isLt).1 = (outsAt0 m c t.val t.isLt).2 := by
  rw [outsAt0_C m c t (by omega) (by omega) h2]
  unfold sout0_C_0 out0_C_2 kernelRun0_C
  dsimp only
  sl_unfold_words
  rw [left_whole, left_whole, View.readCov_unit_zero _ hz]
end

theorem result_read (r : Fin 2048) (x : Fin 1024) (p : ℕ) (h : p < cfg0.N) (hl : p % 4 + 1 = 4) (hp : p / 4 = r.val / 1024 * 1 + x.val / 1024) :
    G2 m c (ValueIdx.ix2 r x) = (outsAt0 m c p h).2 (ValueIdx.ix2 ⟨r.val % 1024, Nat.mod_lt _ (by decide)⟩ ⟨x.val % 1024, Nat.mod_lt _ (by decide)⟩) := by
  have e : pt2Of (ValueIdx.ix2 r x) = p := by
    show 4 * (1 * (r.val / 1024 - 0) + 1 * (x.val / 1024 - 0)) + 3 = p
    omega
  subst e
  unfold G2
  rw [dif_pos h, ← outsAt0_sweep m c _ h]
  exact (at_ix2 (outsAt0 m c _ h).1 _ _ _ _ _ rfl rfl).trans (congrFun (pt_out m c ⟨_, h⟩ (Nat.succ.inj hl)) _)

/-- The result is the product. -/
theorem result_at (r : Fin 2048) (x : Fin 1024) : G2 m c (ValueIdx.ix2 r x)
    = dot (fun r k => ext (aA m c) k r) (fun x k => ext (aB m c) k x) 4096 r.val x.val :=
  product_at (φ := .f32) (ni := 2) (nj := 1) (nk := 4) (tk := 1024) _ _ (fun t r k => bA m c t (ValueIdx.ix2 r k)) (fun t x k => bB m c t (ValueIdx.ix2 k x))
    (by decide) (by decide) (by decide) N_0 rfl rfl (bA_at m c) (bB_at m c) (fun n h r x => (outsAt0 m c n h).2 (ValueIdx.ix2 r x))
    (fun n h r x h0 => (congrFun (pt_first m c ⟨n, h⟩ h0) _).trans ((congrFun (pay2_at _ _) _).trans (pay1_at _ _ _)))
    (fun n h r x h0 => (congrFun (pt_next m c ⟨n + 1, h⟩ h0) _).trans ((pay3_at _ _ _ _).trans (congrArg (_ + ·) (pay1_at _ _ _))))
    (G2 m c) (result_read m c) r x

theorem ref_at (r : Fin 2048) (x : Fin 1024) : Cert.Reference15Ideal.Read.val_main_v3 (F := Ideal) (aA m c) (aB m c) (ValueIdx.ix2 r x)
    = dot (fun r k => ext (aA m c) k r) (fun x k => ext (aB m c) k x) 4096 r.val x.val := by
  rw [dot_fin, Cert.Reference15Ideal.Read.val_main_v3_apply, Cert.Reference15Ideal.Read.val_main_v2_apply]
  exact Finset.sum_congr rfl fun k _ => (mul_comm (G := EReal) _ _).trans (congrArg₂ (fun a b : EReal => a * b)
    (ext_emb (aA m c) _ k.val r.val rfl rfl) (ext_emb (aB m c) _ k.val x.val rfl rfl))

theorem algebraic : Cert.algebraic_Kernel15Ideal_Reference15Ideal := by
  intro m g m' g' _ hag
  refine ⟨fun c => G2 m c, Value.run (F := Ideal) m g, ?_⟩
  refine (θ_run Cert.Reference15Ideal.defs _ _).mono (fun r h c => ⟨(h c).1.trans ?_, (h c).2⟩) (Cert.Reference15Ideal.Value.run (F := Ideal) m' g')
  rw [Cert.Reference15Ideal.Read.val_main_v3_eq, (hag c).1, (hag c).2]
  exact (same .f32 (G2 m c) _ _ (result_at m c) (ref_at m c)).symm

end Cert.Kernel15Ideal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.K.Frame
public import proofs.«01_k».proof.Proof.KI.Frame
public import proofs.«01_k».proof.Proof.KI.Cond
public import proofs.«01_k».proof.Proof.KI.Algebraic
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gate.Algebraic
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.N3.Algebraic
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.N4.Algebraic
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Mm.M5
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Mm.M6
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Mm.M7
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Mm.M8
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Mm.M9
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Mm.M10
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Mm.M11
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Mm.M12
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Mm.M13
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Mm.M14
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Mm.M15
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Hand.frame_all (F := Bits) m ρ
theorem frame_ideal : Cert.quiescent_KernelIdeal := fun m ρ _ => Cert.KernelIdeal.Hand.frame_all (F := Ideal) m ρ
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)
theorem frame_ideal_finite : Cert.quiescent_KernelIdeal_pre_finite := fun m ρ _ => Cert.KernelIdeal.Hand.frame_all (F := Ideal) m ρ
theorem frame_reference_finite : Cert.quiescent_ReferenceIdeal_pre_finite := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)
theorem named_mask : Cert.preserves_Kernel_KernelIdeal := IdealRules.named_const.statement Cert.KernelIdeal.κ "mask" .f32 0xF149F2CA#32 ⊥ rfl

/-- The two body tables are the same. -/
theorem bodies2 : Cert.Kernel2.defs₀ (F := Bits) = Cert.Kernel2Ideal.defs₀ (F := Bits) := by
  unfold Cert.Kernel2.defs₀ Cert.Kernel2Ideal.defs₀
  congr 1
  funext l x
  match l, x with
  | 0, (t, s) => rfl
  | ⟨n + 1, h⟩, _ => exact absurd h (by omega)
theorem frame_kernel2 : Cert.quiescent_Kernel2 := fun m ρ _ => by
  have e : Cert.Kernel2.defs (F := Bits) = Cert.Kernel2Ideal.defs (F := Bits) := congrArg (Pipeline.defs Cert.Kernel2.pcfgs) bodies2
  rw [e]
  exact Cert.Kernel2Ideal.Gen.frame (F := Bits) m ρ
theorem frame_ideal2 : Cert.quiescent_Kernel2Ideal := fun m ρ _ => Cert.Kernel2Ideal.Gen.frame (F := Ideal) m ρ
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)
theorem frame_ideal2_pre : Cert.quiescent_Kernel2Ideal_pre_finite_gate := fun m ρ _ => Cert.Kernel2Ideal.Gen.frame (F := Ideal) m ρ
theorem frame_reference2_pre : Cert.quiescent_Reference2Ideal_pre_finite_gate := fun m ρ _ =>
  (θ_run Cert.Reference2Ideal.defs _ _).mono (fun r h => ⟨fun c => (h c).2.2, sem_eq_zero_of_no_sems (by decide) r.2⟩)
    (Cert.Reference2Ideal.Value.run (F := Ideal) m ρ)
/-- The two body tables are the same. -/
theorem bodies3 : Cert.Kernel3.defs₀ (F := Bits) = Cert.Kernel3Ideal.defs₀ (F := Bits) := by
  unfold Cert.Kernel3.defs₀ Cert.Kernel3Ideal.defs₀
  congr 1
  funext l x
  match l, x with
  | 0, (t, s) => rfl
  | ⟨n + 1, h⟩, _ => exact absurd h (by omega)
theorem frame_kernel3 : Cert.quiescent_Kernel3 := fun m ρ _ => by
  have e : Cert.Kernel3.defs (F := Bits) = Cert.Kernel3Ideal.defs (F := Bits) := congrArg (Pipeline.defs Cert.Kernel3.pcfgs) bodies3
  rw [e]
  exact Cert.Kernel3Ideal.Gen.frame (F := Bits) m ρ
theorem frame_ideal3 : Cert.quiescent_Kernel3Ideal := fun m ρ _ => Cert.Kernel3Ideal.Gen.frame (F := Ideal) m ρ
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)
/-- The two body tables are the same. -/
theorem bodies4 : Cert.Kernel4.defs₀ (F := Bits) = Cert.Kernel4Ideal.defs₀ (F := Bits) := by
  unfold Cert.Kernel4.defs₀ Cert.Kernel4Ideal.defs₀
  congr 1
  funext l x
  match l, x with
  | 0, (t, s) => rfl
  | ⟨n + 1, h⟩, _ => exact absurd h (by omega)
theorem frame_kernel4 : Cert.quiescent_Kernel4 := fun m ρ _ => by
  have e : Cert.Kernel4.defs (F := Bits) = Cert.Kernel4Ideal.defs (F := Bits) := congrArg (Pipeline.defs Cert.Kernel4.pcfgs) bodies4
  rw [e]
  exact Cert.Kernel4Ideal.Gen.frame (F := Bits) m ρ
theorem frame_ideal4 : Cert.quiescent_Kernel4Ideal := fun m ρ _ => Cert.Kernel4Ideal.Gen.frame (F := Ideal) m ρ
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)
/-- The two body tables are the same. -/
theorem bodies5 : Cert.Kernel5.defs₀ (F := Bits) = Cert.Kernel5Ideal.defs₀ (F := Bits) := by
  unfold Cert.Kernel5.defs₀ Cert.Kernel5Ideal.defs₀
  congr 1
  funext l x
  match l, x with
  | 0, (t, s) => rfl
  | ⟨n + 1, h⟩, _ => exact absurd h (by omega)
theorem frame_kernel5 : Cert.quiescent_Kernel5 := fun m ρ _ => by
  have e : Cert.Kernel5.defs (F := Bits) = Cert.Kernel5Ideal.defs (F := Bits) := congrArg (Pipeline.defs Cert.Kernel5.pcfgs) bodies5
  rw [e]
  exact Cert.Kernel5Ideal.Gen.frame (F := Bits) m ρ
theorem frame_ideal5 : Cert.quiescent_Kernel5Ideal := fun m ρ _ => Cert.Kernel5Ideal.Gen.frame (F := Ideal) m ρ
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
/-- The two body tables are the same. -/
theorem bodies6 : Cert.Kernel6.defs₀ (F := Bits) = Cert.Kernel6Ideal.defs₀ (F := Bits) := by
  unfold Cert.Kernel6.defs₀ Cert.Kernel6Ideal.defs₀
  congr 1
  funext l x
  match l, x with
  | 0, (t, s) => rfl
  | ⟨n + 1, h⟩, _ => exact absurd h (by omega)
theorem frame_kernel6 : Cert.quiescent_Kernel6 := fun m ρ _ => by
  have e : Cert.Kernel6.defs (F := Bits) = Cert.Kernel6Ideal.defs (F := Bits) := congrArg (Pipeline.defs Cert.Kernel6.pcfgs) bodies6
  rw [e]
  exact Cert.Kernel6Ideal.Gen.frame (F := Bits) m ρ
theorem frame_ideal6 : Cert.quiescent_Kernel6Ideal := fun m ρ _ => Cert.Kernel6Ideal.Gen.frame (F := Ideal) m ρ
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
/-- The two body tables are the same. -/
theorem bodies7 : Cert.Kernel7.defs₀ (F := Bits) = Cert.Kernel7Ideal.defs₀ (F := Bits) := by
  unfold Cert.Kernel7.defs₀ Cert.Kernel7Ideal.defs₀
  congr 1
  funext l x
  match l, x with
  | 0, (t, s) => rfl
  | ⟨n + 1, h⟩, _ => exact absurd h (by omega)
theorem frame_kernel7 : Cert.quiescent_Kernel7 := fun m ρ _ => by
  have e : Cert.Kernel7.defs (F := Bits) = Cert.Kernel7Ideal.defs (F := Bits) := congrArg (Pipeline.defs Cert.Kernel7.pcfgs) bodies7
  rw [e]
  exact Cert.Kernel7Ideal.Gen.frame (F := Bits) m ρ
theorem frame_ideal7 : Cert.quiescent_Kernel7Ideal := fun m ρ _ => Cert.Kernel7Ideal.Gen.frame (F := Ideal) m ρ
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
/-- The two body tables are the same. -/
theorem bodies8 : Cert.Kernel8.defs₀ (F := Bits) = Cert.Kernel8Ideal.defs₀ (F := Bits) := by
  unfold Cert.Kernel8.defs₀ Cert.Kernel8Ideal.defs₀
  congr 1
  funext l x
  match l, x with
  | 0, (t, s) => rfl
  | ⟨n + 1, h⟩, _ => exact absurd h (by omega)
theorem frame_kernel8 : Cert.quiescent_Kernel8 := fun m ρ _ => by
  have e : Cert.Kernel8.defs (F := Bits) = Cert.Kernel8Ideal.defs (F := Bits) := congrArg (Pipeline.defs Cert.Kernel8.pcfgs) bodies8
  rw [e]
  exact Cert.Kernel8Ideal.Gen.frame (F := Bits) m ρ
theorem frame_ideal8 : Cert.quiescent_Kernel8Ideal := fun m ρ _ => Cert.Kernel8Ideal.Gen.frame (F := Ideal) m ρ
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
/-- The two body tables are the same. -/
theorem bodies9 : Cert.Kernel9.defs₀ (F := Bits) = Cert.Kernel9Ideal.defs₀ (F := Bits) := by
  unfold Cert.Kernel9.defs₀ Cert.Kernel9Ideal.defs₀
  congr 1
  funext l x
  match l, x with
  | 0, (t, s) => rfl
  | ⟨n + 1, h⟩, _ => exact absurd h (by omega)
theorem frame_kernel9 : Cert.quiescent_Kernel9 := fun m ρ _ => by
  have e : Cert.Kernel9.defs (F := Bits) = Cert.Kernel9Ideal.defs (F := Bits) := congrArg (Pipeline.defs Cert.Kernel9.pcfgs) bodies9
  rw [e]
  exact Cert.Kernel9Ideal.Gen.frame (F := Bits) m ρ
theorem frame_ideal9 : Cert.quiescent_Kernel9Ideal := fun m ρ _ => Cert.Kernel9Ideal.Gen.frame (F := Ideal) m ρ
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)
/-- The two body tables are the same. -/
theorem bodies10 : Cert.Kernel10.defs₀ (F := Bits) = Cert.Kernel10Ideal.defs₀ (F := Bits) := by
  unfold Cert.Kernel10.defs₀ Cert.Kernel10Ideal.defs₀
  congr 1
  funext l x
  match l, x with
  | 0, (t, s) => rfl
  | ⟨n + 1, h⟩, _ => exact absurd h (by omega)
theorem frame_kernel10 : Cert.quiescent_Kernel10 := fun m ρ _ => by
  have e : Cert.Kernel10.defs (F := Bits) = Cert.Kernel10Ideal.defs (F := Bits) := congrArg (Pipeline.defs Cert.Kernel10.pcfgs) bodies10
  rw [e]
  exact Cert.Kernel10Ideal.Gen.frame (F := Bits) m ρ
theorem frame_ideal10 : Cert.quiescent_Kernel10Ideal := fun m ρ _ => Cert.Kernel10Ideal.Gen.frame (F := Ideal) m ρ
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)
/-- The two body tables are the same. -/
theorem bodies11 : Cert.Kernel11.defs₀ (F := Bits) = Cert.Kernel11Ideal.defs₀ (F := Bits) := by
  unfold Cert.Kernel11.defs₀ Cert.Kernel11Ideal.defs₀
  congr 1
  funext l x
  match l, x with
  | 0, (t, s) => rfl
  | ⟨n + 1, h⟩, _ => exact absurd h (by omega)
theorem frame_kernel11 : Cert.quiescent_Kernel11 := fun m ρ _ => by
  have e : Cert.Kernel11.defs (F := Bits) = Cert.Kernel11Ideal.defs (F := Bits) := congrArg (Pipeline.defs Cert.Kernel11.pcfgs) bodies11
  rw [e]
  exact Cert.Kernel11Ideal.Gen.frame (F := Bits) m ρ
theorem frame_ideal11 : Cert.quiescent_Kernel11Ideal := fun m ρ _ => Cert.Kernel11Ideal.Gen.frame (F := Ideal) m ρ
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
/-- The two body tables are the same. -/
theorem bodies12 : Cert.Kernel12.defs₀ (F := Bits) = Cert.Kernel12Ideal.defs₀ (F := Bits) := by
  unfold Cert.Kernel12.defs₀ Cert.Kernel12Ideal.defs₀
  congr 1
  funext l x
  match l, x with
  | 0, (t, s) => rfl
  | ⟨n + 1, h⟩, _ => exact absurd h (by omega)
theorem frame_kernel12 : Cert.quiescent_Kernel12 := fun m ρ _ => by
  have e : Cert.Kernel12.defs (F := Bits) = Cert.Kernel12Ideal.defs (F := Bits) := congrArg (Pipeline.defs Cert.Kernel12.pcfgs) bodies12
  rw [e]
  exact Cert.Kernel12Ideal.Gen.frame (F := Bits) m ρ
theorem frame_ideal12 : Cert.quiescent_Kernel12Ideal := fun m ρ _ => Cert.Kernel12Ideal.Gen.frame (F := Ideal) m ρ
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)
/-- The two body tables are the same. -/
theorem bodies13 : Cert.Kernel13.defs₀ (F := Bits) = Cert.Kernel13Ideal.defs₀ (F := Bits) := by
  unfold Cert.Kernel13.defs₀ Cert.Kernel13Ideal.defs₀
  congr 1
  funext l x
  match l, x with
  | 0, (t, s) => rfl
  | ⟨n + 1, h⟩, _ => exact absurd h (by omega)
theorem frame_kernel13 : Cert.quiescent_Kernel13 := fun m ρ _ => by
  have e : Cert.Kernel13.defs (F := Bits) = Cert.Kernel13Ideal.defs (F := Bits) := congrArg (Pipeline.defs Cert.Kernel13.pcfgs) bodies13
  rw [e]
  exact Cert.Kernel13Ideal.Gen.frame (F := Bits) m ρ
theorem frame_ideal13 : Cert.quiescent_Kernel13Ideal := fun m ρ _ => Cert.Kernel13Ideal.Gen.frame (F := Ideal) m ρ
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)
/-- The two body tables are the same. -/
theorem bodies14 : Cert.Kernel14.defs₀ (F := Bits) = Cert.Kernel14Ideal.defs₀ (F := Bits) := by
  unfold Cert.Kernel14.defs₀ Cert.Kernel14Ideal.defs₀
  congr 1
  funext l x
  match l, x with
  | 0, (t, s) => rfl
  | ⟨n + 1, h⟩, _ => exact absurd h (by omega)
theorem frame_kernel14 : Cert.quiescent_Kernel14 := fun m ρ _ => by
  have e : Cert.Kernel14.defs (F := Bits) = Cert.Kernel14Ideal.defs (F := Bits) := congrArg (Pipeline.defs Cert.Kernel14.pcfgs) bodies14
  rw [e]
  exact Cert.Kernel14Ideal.Gen.frame (F := Bits) m ρ
theorem frame_ideal14 : Cert.quiescent_Kernel14Ideal := fun m ρ _ => Cert.Kernel14Ideal.Gen.frame (F := Ideal) m ρ
theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)
/-- The two body tables are the same. -/
theorem bodies15 : Cert.Kernel15.defs₀ (F := Bits) = Cert.Kernel15Ideal.defs₀ (F := Bits) := by
  unfold Cert.Kernel15.defs₀ Cert.Kernel15Ideal.defs₀
  congr 1
  funext l x
  match l, x with
  | 0, (t, s) => rfl
  | ⟨n + 1, h⟩, _ => exact absurd h (by omega)
theorem frame_kernel15 : Cert.quiescent_Kernel15 := fun m ρ _ => by
  have e : Cert.Kernel15.defs (F := Bits) = Cert.Kernel15Ideal.defs (F := Bits) := congrArg (Pipeline.defs Cert.Kernel15.pcfgs) bodies15
  rw [e]
  exact Cert.Kernel15Ideal.Gen.frame (F := Bits) m ρ
theorem frame_ideal15 : Cert.quiescent_Kernel15Ideal := fun m ρ _ => Cert.Kernel15Ideal.Gen.frame (F := Ideal) m ρ
theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem claim : Cert.Claim := ⟨
  Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Kernel11.Gen.facts,
  Cert.Kernel11Ideal.Gen.facts, Cert.Reference11Ideal.Gen.facts, Cert.Kernel12.Gen.facts, Cert.Kernel12Ideal.Gen.facts,
  Cert.Reference12Ideal.Gen.facts, Cert.Kernel13.Gen.facts, Cert.Kernel13Ideal.Gen.facts, Cert.Reference13Ideal.Gen.facts,
  Cert.Kernel14.Gen.facts, Cert.Kernel14Ideal.Gen.facts, Cert.Reference14Ideal.Gen.facts, Cert.Kernel15.Gen.facts,
  Cert.Kernel15Ideal.Gen.facts, Cert.Reference15Ideal.Gen.facts, Cert.KernelIdeal.Hand.preFacts, Cert.Kernel2Ideal.Hand.preFacts,
  Cert.KernelIdeal.Hand.onFacts, Cert.Kernel2Ideal.Hand.onFacts, frame_kernel, frame_ideal, frame_ideal_finite, frame_reference,
  frame_reference_finite, frame_kernel2, frame_ideal2, frame_ideal2_pre, frame_reference2, frame_reference2_pre, frame_kernel3,
  frame_ideal3, frame_reference3, frame_kernel4, frame_ideal4, frame_reference4, frame_kernel5, frame_ideal5, frame_reference5,
  frame_kernel6, frame_ideal6, frame_reference6, frame_kernel7, frame_ideal7, frame_reference7, frame_kernel8, frame_ideal8,
  frame_reference8, frame_kernel9, frame_ideal9, frame_reference9, frame_kernel10, frame_ideal10, frame_reference10, frame_kernel11,
  frame_ideal11, frame_reference11, frame_kernel12, frame_ideal12, frame_reference12, frame_kernel13, frame_ideal13, frame_reference13,
  frame_kernel14, frame_ideal14, frame_reference14, frame_kernel15, frame_ideal15, frame_reference15, named_mask,
  Cert.KernelIdeal.Hand.algebraic, trivial, Cert.Kernel2Ideal.Hand.algebraic, trivial, Cert.Kernel3Ideal.Hand.algebraic, trivial,
  Cert.Kernel4Ideal.Hand.algebraic, trivial, Cert.Kernel5Ideal.Hand.algebraic, trivial, Cert.Kernel6Ideal.Hand.algebraic, trivial,
  Cert.Kernel7Ideal.Hand.algebraic, trivial, Cert.Kernel8Ideal.Hand.algebraic, trivial, Cert.Kernel9Ideal.Hand.algebraic, trivial,
  Cert.Kernel10Ideal.Hand.algebraic, trivial, Cert.Kernel11Ideal.Hand.algebraic, trivial, Cert.Kernel12Ideal.Hand.algebraic, trivial,
  Cert.Kernel13Ideal.Hand.algebraic, trivial, Cert.Kernel14Ideal.Hand.algebraic, trivial, Cert.Kernel15Ideal.Hand.algebraic⟩

end Cert.Proof

end
